-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_FfnDwUp (m : (ℓ : Loc Cert.FfnDwUp.nD Cert.FfnDwUp.τ Cert.FfnDwUp.sig) → Buf (Elt Bits) ℓ) : Prop :=
  True

def Pre_FfnDwUpIdeal (m : (ℓ : Loc Cert.FfnDwUpIdeal.nD Cert.FfnDwUpIdeal.τ Cert.FfnDwUpIdeal.sig) → Buf (Elt Ideal) ℓ) : Prop :=
  True

def Pre_FfnDwUpRefIdeal (m : (ℓ : Loc Cert.FfnDwUpRefIdeal.nD Cert.FfnDwUpRefIdeal.τ Cert.FfnDwUpRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactRefIdeal (m : (ℓ : Loc Cert.FfnDactRefIdeal.nD Cert.FfnDactRefIdeal.τ Cert.FfnDactRefIdeal.sig) → Buf (Elt Ideal) ℓ) : Prop :=
  True

def Pre_EvenDx (m : (ℓ : Loc Cert.EvenDx.nD Cert.EvenDx.τ Cert.EvenDx.sig) → Buf (Elt Bits) ℓ) : Prop :=
  True

def Pre_EvenDxIdeal (m : (ℓ : Loc Cert.EvenDxIdeal.nD Cert.EvenDxIdeal.τ Cert.EvenDxIdeal.sig) → Buf (Elt Ideal) ℓ) : Prop :=
  True

def Pre_EvenDxRefIdeal (m : (ℓ : Loc Cert.EvenDxRefIdeal.nD Cert.EvenDxRefIdeal.τ Cert.EvenDxRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_OddDx (m : (ℓ : Loc Cert.OddDx.nD Cert.OddDx.τ Cert.OddDx.sig) → Buf (Elt Bits) ℓ) : Prop :=
  True

def Pre_OddDxIdeal (m : (ℓ : Loc Cert.OddDxIdeal.nD Cert.OddDxIdeal.τ Cert.OddDxIdeal.sig) → Buf (Elt Ideal) ℓ) : Prop :=
  True

def Pre_OddDxRefIdeal (m : (ℓ : Loc Cert.OddDxRefIdeal.nD Cert.OddDxRefIdeal.τ Cert.OddDxRefIdeal.sig) → Buf (Elt Ideal) ℓ) : Prop :=
  True

def Pre_EvenDwIn (m : (ℓ : Loc Cert.EvenDwIn.nD Cert.EvenDwIn.τ Cert.EvenDwIn.sig) → Buf (Elt Bits) ℓ) : Prop :=
  True

def Pre_EvenDwInIdeal (m : (ℓ : Loc Cert.EvenDwInIdeal.nD Cert.EvenDwInIdeal.τ Cert.EvenDwInIdeal.sig) → Buf (Elt Ideal) ℓ) : Prop :=
  True

def Pre_EvenDwInRefIdeal (m : (ℓ : Loc Cert.EvenDwInRefIdeal.nD Cert.EvenDwInRefIdeal.τ Cert.EvenDwInRefIdeal.sig) → Buf (Elt Ideal) ℓ) : Prop :=
  True

def Pre_OddDwQkv (m : (ℓ : Loc Cert.OddDwQkv.nD Cert.OddDwQkv.τ Cert.OddDwQkv.sig) → Buf (Elt Bits) ℓ) : Prop :=
  True

def Pre_OddDwQkvIdeal (m : (ℓ : Loc Cert.OddDwQkvIdeal.nD Cert.OddDwQkvIdeal.τ Cert.OddDwQkvIdeal.sig) → Buf (Elt Ideal) ℓ) : Prop :=
  True

def Pre_OddDwQkvRefIdeal (m : (ℓ : Loc Cert.OddDwQkvRefIdeal.nD Cert.OddDwQkvRefIdeal.τ Cert.OddDwQkvRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_EvenDmix (m : (ℓ : Loc Cert.EvenDmix.nD Cert.EvenDmix.τ Cert.EvenDmix.sig) → Buf (Elt Bits) ℓ) : Prop :=
  True

def Pre_EvenDmixIdeal (m : (ℓ : Loc Cert.EvenDmixIdeal.nD Cert.EvenDmixIdeal.τ Cert.EvenDmixIdeal.sig) → Buf (Elt Ideal) ℓ) : Prop :=
  True

def Pre_EvenDmixRefIdeal (m : (ℓ : Loc Cert.EvenDmixRefIdeal.nD Cert.EvenDmixRefIdeal.τ Cert.EvenDmixRefIdeal.sig) → Buf (Elt Ideal) ℓ) : Prop :=
  True

def Pre_OddDatt (m : (ℓ : Loc Cert.OddDatt.nD Cert.OddDatt.τ Cert.OddDatt.sig) → Buf (Elt Bits) ℓ) : Prop :=
  True

def Pre_OddDattIdeal (m : (ℓ : Loc Cert.OddDattIdeal.nD Cert.OddDattIdeal.τ Cert.OddDattIdeal.sig) → Buf (Elt Ideal) ℓ) : Prop :=
  True

def Pre_OddDattRefIdeal (m : (ℓ : Loc Cert.OddDattRefIdeal.nD Cert.OddDattRefIdeal.τ Cert.OddDattRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_OddQkv (m : (ℓ : Loc Cert.OddQkv.nD Cert.OddQkv.τ Cert.OddQkv.sig) → Buf (Elt Bits) ℓ) : Prop :=
  True

def Pre_OddQkvIdeal (m : (ℓ : Loc Cert.OddQkvIdeal.nD Cert.OddQkvIdeal.τ Cert.OddQkvIdeal.sig) → Buf (Elt Ideal) ℓ) : Prop :=
  True

def Pre_OddQkvRefIdeal (m : (ℓ : Loc Cert.OddQkvRefIdeal.nD Cert.OddQkvRefIdeal.τ Cert.OddQkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_FfnDwUp [hFfnDwUp : Cert.FfnDwUp.Facts] : Prop :=
  ∀ (m : (ℓ : Loc Cert.FfnDwUp.nD Cert.FfnDwUp.τ Cert.FfnDwUp.sig) → Buf (Elt Bits) ℓ) (g : Dev Cert.FfnDwUp.nD → PrngReg), Pre_FfnDwUp m →
    θ_run (Cert.FfnDwUp.defs (F := Bits)) (onTc (τ := Cert.FfnDwUp.τ) (Cert.FfnDwUp.main (F := Bits))) ⟨m, fun _ => 0, g⟩ (fun r => (∀ c : Dev Cert.FfnDwUp.nD,
      r.2.mem ((c.tc : Thread Cert.FfnDwUp.nD Cert.FfnDwUp.τ).loc Cert.FfnDwUp.main_arg0) = m ((c.tc : Thread Cert.FfnDwUp.nD Cert.FfnDwUp.τ).loc Cert.FfnDwUp.main_arg0)
      ∧ r.2.mem ((c.tc : Thread Cert.FfnDwUp.nD Cert.FfnDwUp.τ).loc Cert.FfnDwUp.main_arg1) = m ((c.tc : Thread Cert.FfnDwUp.nD Cert.FfnDwUp.τ).loc Cert.FfnDwUp.main_arg1))
      ∧ r.2.sem = fun _ => 0)

def quiescent_FfnDwUpIdeal [hFfnDwUpIdeal : Cert.FfnDwUpIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg), Pre_FfnDwUpIdeal m →
    θ_run (Cert.FfnDwUpIdeal.defs (F := Ideal)) (onTc (τ := Cert.FfnDwUpIdeal.τ) (Cert.FfnDwUpIdeal.main (F := Ideal))) ⟨m, fun _ => 0, g⟩ (fun r => (∀ c : Dev Cert.FfnDwUpIdeal.nD,
      r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
      ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1))
      ∧ r.2.sem = fun _ => 0)

def quiescent_FfnDwUpRefIdeal [hFfnDwUpRefIdeal : Cert.FfnDwUpRefIdeal.Facts] : Prop :=
  ∀ (m : (ℓ : Loc Cert.FfnDwUpRefIdeal.nD Cert.FfnDwUpRefIdeal.τ Cert.FfnDwUpRefIdeal.sig) → Buf (Elt Ideal) ℓ) (g : Dev Cert.FfnDwUpRefIdeal.nD → PrngReg), Pre_FfnDwUpRefIdeal m →
    θ_run (Cert.FfnDwUpRefIdeal.defs (F := Ideal)) (onTc (τ := Cert.FfnDwUpRefIdeal.τ) (Cert.FfnDwUpRefIdeal.main (F := Ideal))) ⟨m, fun _ => 0, g⟩ (fun r => (∀ c : Dev Cert.FfnDwUpRefIdeal.nD,
      r.2.mem ((c.tc : Thread Cert.FfnDwUpRefIdeal.nD Cert.FfnDwUpRefIdeal.τ).loc Cert.FfnDwUpRefIdeal.main_arg0) = m ((c.tc : Thread Cert.FfnDwUpRefIdeal.nD Cert.FfnDwUpRefIdeal.τ).loc Cert.FfnDwUpRefIdeal.main_arg0)
      ∧ r.2.mem ((c.tc : Thread Cert.FfnDwUpRefIdeal.nD Cert.FfnDwUpRefIdeal.τ).loc Cert.FfnDwUpRefIdeal.main_arg1) = m ((c.tc : Thread Cert.FfnDwUpRefIdeal.nD Cert.FfnDwUpRefIdeal.τ).loc Cert.FfnDwUpRefIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1))
      ∧ r.2.sem = fun _ => 0)

def quiescent_EvenDx [hEvenDx : Cert.EvenDx.Facts] : Prop :=
  ∀ (m : (ℓ : Loc Cert.EvenDx.nD Cert.EvenDx.τ Cert.EvenDx.sig) → Buf (Elt Bits) ℓ) (g : Dev Cert.EvenDx.nD → PrngReg), Pre_EvenDx m →
    θ_run (Cert.EvenDx.defs (F := Bits)) (onTc (τ := Cert.EvenDx.τ) (Cert.EvenDx.main (F := Bits))) ⟨m, fun _ => 0, g⟩ (fun r => (∀ c : Dev Cert.EvenDx.nD,
      r.2.mem ((c.tc : Thread Cert.EvenDx.nD Cert.EvenDx.τ).loc Cert.EvenDx.main_arg0) = m ((c.tc : Thread Cert.EvenDx.nD Cert.EvenDx.τ).loc Cert.EvenDx.main_arg0)
      ∧ r.2.mem ((c.tc : Thread Cert.EvenDx.nD Cert.EvenDx.τ).loc Cert.EvenDx.main_arg1) = m ((c.tc : Thread Cert.EvenDx.nD Cert.EvenDx.τ).loc Cert.EvenDx.main_arg1)
      ∧ r.2.mem ((c.tc : Thread Cert.EvenDx.nD Cert.EvenDx.τ).loc Cert.EvenDx.main_arg2) = m ((c.tc : Thread Cert.EvenDx.nD Cert.EvenDx.τ).loc Cert.EvenDx.main_arg2)
      ∧ r.2.mem ((c.tc : Thread Cert.EvenDx.nD Cert.EvenDx.τ).loc Cert.EvenDx.main_arg3) = m ((c.tc : Thread Cert.EvenDx.nD Cert.EvenDx.τ).loc Cert.EvenDx.main_arg3)
      ∧ r.2.mem ((c.tc : Thread Cert.EvenDx.nD Cert.EvenDx.τ).loc Cert.EvenDx.main_arg4) = m ((c.tc : Thread Cert.EvenDx.nD Cert.EvenDx.τ).loc Cert.EvenDx.main_arg4))
      ∧ r.2.sem = fun _ => 0)

def quiescent_EvenDxIdeal [hEvenDxIdeal : Cert.EvenDxIdeal.Facts] : Prop :=
  ∀ (m : (ℓ : Loc Cert.EvenDxIdeal.nD Cert.EvenDxIdeal.τ Cert.EvenDxIdeal.sig) → Buf (Elt Ideal) ℓ) (g : Dev Cert.EvenDxIdeal.nD → PrngReg), Pre_EvenDxIdeal m →
    θ_run (Cert.EvenDxIdeal.defs (F := Ideal)) (onTc (τ := Cert.EvenDxIdeal.τ) (Cert.EvenDxIdeal.main (F := Ideal))) ⟨m, fun _ => 0, g⟩ (fun r => (∀ c : Dev Cert.EvenDxIdeal.nD,
      r.2.mem ((c.tc : Thread Cert.EvenDxIdeal.nD Cert.EvenDxIdeal.τ).loc Cert.EvenDxIdeal.main_arg0) = m ((c.tc : Thread Cert.EvenDxIdeal.nD Cert.EvenDxIdeal.τ).loc Cert.EvenDxIdeal.main_arg0)
      ∧ r.2.mem ((c.tc : Thread Cert.EvenDxIdeal.nD Cert.EvenDxIdeal.τ).loc Cert.EvenDxIdeal.main_arg1) = m ((c.tc : Thread Cert.EvenDxIdeal.nD Cert.EvenDxIdeal.τ).loc Cert.EvenDxIdeal.main_arg1)
      ∧ r.2.mem ((c.tc : Thread Cert.EvenDxIdeal.nD Cert.EvenDxIdeal.τ).loc Cert.EvenDxIdeal.main_arg2) = m ((c.tc : Thread Cert.EvenDxIdeal.nD Cert.EvenDxIdeal.τ).loc Cert.EvenDxIdeal.main_arg2)
      ∧ r.2.mem ((c.tc : Thread Cert.EvenDxIdeal.nD Cert.EvenDxIdeal.τ).loc Cert.EvenDxIdeal.main_arg3) = m ((c.tc : Thread Cert.EvenDxIdeal.nD Cert.EvenDxIdeal.τ).loc Cert.EvenDxIdeal.main_arg3)
      ∧ r.2.mem ((c.tc : Thread Cert.EvenDxIdeal.nD Cert.EvenDxIdeal.τ).loc Cert.EvenDxIdeal.main_arg4) = m ((c.tc : Thread Cert.EvenDxIdeal.nD Cert.EvenDxIdeal.τ).loc Cert.EvenDxIdeal.main_arg4))
      ∧ r.2.sem = fun _ => 0)

def quiescent_EvenDxRefIdeal [hEvenDxRefIdeal : Cert.EvenDxRefIdeal.Facts] : Prop :=
  ∀ (m : (ℓ : Loc Cert.EvenDxRefIdeal.nD Cert.EvenDxRefIdeal.τ Cert.EvenDxRefIdeal.sig) → Buf (Elt Ideal) ℓ) (g : Dev Cert.EvenDxRefIdeal.nD → PrngReg), Pre_EvenDxRefIdeal m →
    θ_run (Cert.EvenDxRefIdeal.defs (F := Ideal)) (onTc (τ := Cert.EvenDxRefIdeal.τ) (Cert.EvenDxRefIdeal.main (F := Ideal))) ⟨m, fun _ => 0, g⟩ (fun r => (∀ c : Dev Cert.EvenDxRefIdeal.nD,
      r.2.mem ((c.tc : Thread Cert.EvenDxRefIdeal.nD Cert.EvenDxRefIdeal.τ).loc Cert.EvenDxRefIdeal.main_arg0) = m ((c.tc : Thread Cert.EvenDxRefIdeal.nD Cert.EvenDxRefIdeal.τ).loc Cert.EvenDxRefIdeal.main_arg0)
      ∧ r.2.mem ((c.tc : Thread Cert.EvenDxRefIdeal.nD Cert.EvenDxRefIdeal.τ).loc Cert.EvenDxRefIdeal.main_arg1) = m ((c.tc : Thread Cert.EvenDxRefIdeal.nD Cert.EvenDxRefIdeal.τ).loc Cert.EvenDxRefIdeal.main_arg1)
      ∧ r.2.mem ((c.tc : Thread Cert.EvenDxRefIdeal.nD Cert.EvenDxRefIdeal.τ).loc Cert.EvenDxRefIdeal.main_arg2) = m ((c.tc : Thread Cert.EvenDxRefIdeal.nD Cert.EvenDxRefIdeal.τ).loc Cert.EvenDxRefIdeal.main_arg2)
      ∧ r.2.mem ((c.tc : Thread Cert.EvenDxRefIdeal.nD Cert.EvenDxRefIdeal.τ).loc Cert.EvenDxRefIdeal.main_arg3) = m ((c.tc : Thread Cert.EvenDxRefIdeal.nD Cert.EvenDxRefIdeal.τ).loc Cert.EvenDxRefIdeal.main_arg3)
      ∧ r.2.mem ((c.tc : Thread Cert.EvenDxRefIdeal.nD Cert.EvenDxRefIdeal.τ).loc Cert.EvenDxRefIdeal.main_arg4) = m ((c.tc : Thread Cert.EvenDxRefIdeal.nD Cert.EvenDxRefIdeal.τ).loc Cert.EvenDxRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_OddDx [hOddDx : Cert.OddDx.Facts] : Prop :=
  ∀ (m : (ℓ : Loc Cert.OddDx.nD Cert.OddDx.τ Cert.OddDx.sig) → Buf (Elt Bits) ℓ) (g : Dev Cert.OddDx.nD → PrngReg), Pre_OddDx m →
    θ_run (Cert.OddDx.defs (F := Bits)) (onTc (τ := Cert.OddDx.τ) (Cert.OddDx.main (F := Bits))) ⟨m, fun _ => 0, g⟩ (fun r => (∀ c : Dev Cert.OddDx.nD,
      r.2.mem ((c.tc : Thread Cert.OddDx.nD Cert.OddDx.τ).loc Cert.OddDx.main_arg0) = m ((c.tc : Thread Cert.OddDx.nD Cert.OddDx.τ).loc Cert.OddDx.main_arg0)
      ∧ r.2.mem ((c.tc : Thread Cert.OddDx.nD Cert.OddDx.τ).loc Cert.OddDx.main_arg1) = m ((c.tc : Thread Cert.OddDx.nD Cert.OddDx.τ).loc Cert.OddDx.main_arg1)
      ∧ r.2.mem ((c.tc : Thread Cert.OddDx.nD Cert.OddDx.τ).loc Cert.OddDx.main_arg2) = m ((c.tc : Thread Cert.OddDx.nD Cert.OddDx.τ).loc Cert.OddDx.main_arg2)
      ∧ r.2.mem ((c.tc : Thread Cert.OddDx.nD Cert.OddDx.τ).loc Cert.OddDx.main_arg3) = m ((c.tc : Thread Cert.OddDx.nD Cert.OddDx.τ).loc Cert.OddDx.main_arg3)
      ∧ r.2.mem ((c.tc : Thread Cert.OddDx.nD Cert.OddDx.τ).loc Cert.OddDx.main_arg4) = m ((c.tc : Thread Cert.OddDx.nD Cert.OddDx.τ).loc Cert.OddDx.main_arg4))
      ∧ r.2.sem = fun _ => 0)

def quiescent_OddDxIdeal [hOddDxIdeal : Cert.OddDxIdeal.Facts] : Prop :=
  ∀ (m : (ℓ : Loc Cert.OddDxIdeal.nD Cert.OddDxIdeal.τ Cert.OddDxIdeal.sig) → Buf (Elt Ideal) ℓ) (g : Dev Cert.OddDxIdeal.nD → PrngReg), Pre_OddDxIdeal m →
    θ_run (Cert.OddDxIdeal.defs (F := Ideal)) (onTc (τ := Cert.OddDxIdeal.τ) (Cert.OddDxIdeal.main (F := Ideal))) ⟨m, fun _ => 0, g⟩ (fun r => (∀ c : Dev Cert.OddDxIdeal.nD,
      r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
      ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
      ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2)
      ∧ r.2.mem ((c.tc : Thread Cert.OddDxIdeal.nD Cert.OddDxIdeal.τ).loc Cert.OddDxIdeal.main_arg3) = m ((c.tc : Thread Cert.OddDxIdeal.nD Cert.OddDxIdeal.τ).loc Cert.OddDxIdeal.main_arg3)
      ∧ r.2.mem ((c.tc : Thread Cert.OddDxIdeal.nD Cert.OddDxIdeal.τ).loc Cert.OddDxIdeal.main_arg4) = m ((c.tc : Thread Cert.OddDxIdeal.nD Cert.OddDxIdeal.τ).loc Cert.OddDxIdeal.main_arg4))
      ∧ r.2.sem = fun _ => 0)

def quiescent_OddDxRefIdeal [hOddDxRefIdeal : Cert.OddDxRefIdeal.Facts] : Prop :=
  ∀ (m : (ℓ : Loc Cert.OddDxRefIdeal.nD Cert.OddDxRefIdeal.τ Cert.OddDxRefIdeal.sig) → Buf (Elt Ideal) ℓ) (g : Dev Cert.OddDxRefIdeal.nD → PrngReg), Pre_OddDxRefIdeal m →
    θ_run (Cert.OddDxRefIdeal.defs (F := Ideal)) (onTc (τ := Cert.OddDxRefIdeal.τ) (Cert.OddDxRefIdeal.main (F := Ideal))) ⟨m, fun _ => 0, g⟩ (fun r => (∀ c : Dev Cert.OddDxRefIdeal.nD,
      r.2.mem ((c.tc : Thread Cert.OddDxRefIdeal.nD Cert.OddDxRefIdeal.τ).loc Cert.OddDxRefIdeal.main_arg0) = m ((c.tc : Thread Cert.OddDxRefIdeal.nD Cert.OddDxRefIdeal.τ).loc Cert.OddDxRefIdeal.main_arg0)
      ∧ r.2.mem ((c.tc : Thread Cert.OddDxRefIdeal.nD Cert.OddDxRefIdeal.τ).loc Cert.OddDxRefIdeal.main_arg1) = m ((c.tc : Thread Cert.OddDxRefIdeal.nD Cert.OddDxRefIdeal.τ).loc Cert.OddDxRefIdeal.main_arg1)
      ∧ r.2.mem ((c.tc : Thread Cert.OddDxRefIdeal.nD Cert.OddDxRefIdeal.τ).loc Cert.OddDxRefIdeal.main_arg2) = m ((c.tc : Thread Cert.OddDxRefIdeal.nD Cert.OddDxRefIdeal.τ).loc Cert.OddDxRefIdeal.main_arg2)
      ∧ r.2.mem ((c.tc : Thread Cert.OddDxRefIdeal.nD Cert.OddDxRefIdeal.τ).loc Cert.OddDxRefIdeal.main_arg3) = m ((c.tc : Thread Cert.OddDxRefIdeal.nD Cert.OddDxRefIdeal.τ).loc Cert.OddDxRefIdeal.main_arg3)
      ∧ r.2.mem ((c.tc : Thread Cert.OddDxRefIdeal.nD Cert.OddDxRefIdeal.τ).loc Cert.OddDxRefIdeal.main_arg4) = m ((c.tc : Thread Cert.OddDxRefIdeal.nD Cert.OddDxRefIdeal.τ).loc Cert.OddDxRefIdeal.main_arg4))
      ∧ r.2.sem = fun _ => 0)

def quiescent_EvenDwIn [hEvenDwIn : Cert.EvenDwIn.Facts] : Prop :=
  ∀ (m : (ℓ : Loc Cert.EvenDwIn.nD Cert.EvenDwIn.τ Cert.EvenDwIn.sig) → Buf (Elt Bits) ℓ) (g : Dev Cert.EvenDwIn.nD → PrngReg), Pre_EvenDwIn m →
    θ_run (Cert.EvenDwIn.defs (F := Bits)) (onTc (τ := Cert.EvenDwIn.τ) (Cert.EvenDwIn.main (F := Bits))) ⟨m, fun _ => 0, g⟩ (fun r => (∀ c : Dev Cert.EvenDwIn.nD,
      r.2.mem ((c.tc : Thread Cert.EvenDwIn.nD Cert.EvenDwIn.τ).loc Cert.EvenDwIn.main_arg0) = m ((c.tc : Thread Cert.EvenDwIn.nD Cert.EvenDwIn.τ).loc Cert.EvenDwIn.main_arg0)
      ∧ r.2.mem ((c.tc : Thread Cert.EvenDwIn.nD Cert.EvenDwIn.τ).loc Cert.EvenDwIn.main_arg1) = m ((c.tc : Thread Cert.EvenDwIn.nD Cert.EvenDwIn.τ).loc Cert.EvenDwIn.main_arg1))
      ∧ r.2.sem = fun _ => 0)

def quiescent_EvenDwInIdeal [hEvenDwInIdeal : Cert.EvenDwInIdeal.Facts] : Prop :=
  ∀ (m : (ℓ : Loc Cert.EvenDwInIdeal.nD Cert.EvenDwInIdeal.τ Cert.EvenDwInIdeal.sig) → Buf (Elt Ideal) ℓ) (g : Dev Cert.EvenDwInIdeal.nD → PrngReg), Pre_EvenDwInIdeal m →
    θ_run (Cert.EvenDwInIdeal.defs (F := Ideal)) (onTc (τ := Cert.EvenDwInIdeal.τ) (Cert.EvenDwInIdeal.main (F := Ideal))) ⟨m, fun _ => 0, g⟩ (fun r => (∀ c : Dev Cert.EvenDwInIdeal.nD,
      r.2.mem ((c.tc : Thread Cert.EvenDwInIdeal.nD Cert.EvenDwInIdeal.τ).loc Cert.EvenDwInIdeal.main_arg0) = m ((c.tc : Thread Cert.EvenDwInIdeal.nD Cert.EvenDwInIdeal.τ).loc Cert.EvenDwInIdeal.main_arg0)
      ∧ r.2.mem ((c.tc : Thread Cert.EvenDwInIdeal.nD Cert.EvenDwInIdeal.τ).loc Cert.EvenDwInIdeal.main_arg1) = m ((c.tc : Thread Cert.EvenDwInIdeal.nD Cert.EvenDwInIdeal.τ).loc Cert.EvenDwInIdeal.main_arg1))
      ∧ r.2.sem = fun _ => 0)

def quiescent_EvenDwInRefIdeal [hEvenDwInRefIdeal : Cert.EvenDwInRefIdeal.Facts] : Prop :=
  ∀ (m : (ℓ : Loc Cert.EvenDwInRefIdeal.nD Cert.EvenDwInRefIdeal.τ Cert.EvenDwInRefIdeal.sig) → Buf (Elt Ideal) ℓ) (g : Dev Cert.EvenDwInRefIdeal.nD → PrngReg), Pre_EvenDwInRefIdeal m →
    θ_run (Cert.EvenDwInRefIdeal.defs (F := Ideal)) (onTc (τ := Cert.EvenDwInRefIdeal.τ) (Cert.EvenDwInRefIdeal.main (F := Ideal))) ⟨m, fun _ => 0, g⟩ (fun r => (∀ c : Dev Cert.EvenDwInRefIdeal.nD,
      r.2.mem ((c.tc : Thread Cert.EvenDwInRefIdeal.nD Cert.EvenDwInRefIdeal.τ).loc Cert.EvenDwInRefIdeal.main_arg0) = m ((c.tc : Thread Cert.EvenDwInRefIdeal.nD Cert.EvenDwInRefIdeal.τ).loc Cert.EvenDwInRefIdeal.main_arg0)
      ∧ r.2.mem ((c.tc : Thread Cert.EvenDwInRefIdeal.nD Cert.EvenDwInRefIdeal.τ).loc Cert.EvenDwInRefIdeal.main_arg1) = m ((c.tc : Thread Cert.EvenDwInRefIdeal.nD Cert.EvenDwInRefIdeal.τ).loc Cert.EvenDwInRefIdeal.main_arg1))
      ∧ r.2.sem = fun _ => 0)

def quiescent_OddDwQkv [hOddDwQkv : Cert.OddDwQkv.Facts] : Prop :=
  ∀ (m : (ℓ : Loc Cert.OddDwQkv.nD Cert.OddDwQkv.τ Cert.OddDwQkv.sig) → Buf (Elt Bits) ℓ) (g : Dev Cert.OddDwQkv.nD → PrngReg), Pre_OddDwQkv m →
    θ_run (Cert.OddDwQkv.defs (F := Bits)) (onTc (τ := Cert.OddDwQkv.τ) (Cert.OddDwQkv.main (F := Bits))) ⟨m, fun _ => 0, g⟩ (fun r => (∀ c : Dev Cert.OddDwQkv.nD,
      r.2.mem ((c.tc : Thread Cert.OddDwQkv.nD Cert.OddDwQkv.τ).loc Cert.OddDwQkv.main_arg0) = m ((c.tc : Thread Cert.OddDwQkv.nD Cert.OddDwQkv.τ).loc Cert.OddDwQkv.main_arg0)
      ∧ r.2.mem ((c.tc : Thread Cert.OddDwQkv.nD Cert.OddDwQkv.τ).loc Cert.OddDwQkv.main_arg1) = m ((c.tc : Thread Cert.OddDwQkv.nD Cert.OddDwQkv.τ).loc Cert.OddDwQkv.main_arg1))
      ∧ r.2.sem = fun _ => 0)

def quiescent_OddDwQkvIdeal [hOddDwQkvIdeal : Cert.OddDwQkvIdeal.Facts] : Prop :=
  ∀ (m : (ℓ : Loc Cert.OddDwQkvIdeal.nD Cert.OddDwQkvIdeal.τ Cert.OddDwQkvIdeal.sig) → Buf (Elt Ideal) ℓ) (g : Dev Cert.OddDwQkvIdeal.nD → PrngReg), Pre_OddDwQkvIdeal m →
    θ_run (Cert.OddDwQkvIdeal.defs (F := Ideal)) (onTc (τ := Cert.OddDwQkvIdeal.τ) (Cert.OddDwQkvIdeal.main (F := Ideal))) ⟨m, fun _ => 0, g⟩ (fun r => (∀ c : Dev Cert.OddDwQkvIdeal.nD,
      r.2.mem ((c.tc : Thread Cert.OddDwQkvIdeal.nD Cert.OddDwQkvIdeal.τ).loc Cert.OddDwQkvIdeal.main_arg0) = m ((c.tc : Thread Cert.OddDwQkvIdeal.nD Cert.OddDwQkvIdeal.τ).loc Cert.OddDwQkvIdeal.main_arg0)
      ∧ r.2.mem ((c.tc : Thread Cert.OddDwQkvIdeal.nD Cert.OddDwQkvIdeal.τ).loc Cert.OddDwQkvIdeal.main_arg1) = m ((c.tc : Thread Cert.OddDwQkvIdeal.nD Cert.OddDwQkvIdeal.τ).loc Cert.OddDwQkvIdeal.main_arg1))
      ∧ r.2.sem = fun _ => 0)

def quiescent_OddDwQkvRefIdeal [hOddDwQkvRefIdeal : Cert.OddDwQkvRefIdeal.Facts] : Prop :=
  ∀ (m : (ℓ : Loc Cert.OddDwQkvRefIdeal.nD Cert.OddDwQkvRefIdeal.τ Cert.OddDwQkvRefIdeal.sig) → Buf (Elt Ideal) ℓ) (g : Dev Cert.OddDwQkvRefIdeal.nD → PrngReg), Pre_OddDwQkvRefIdeal m →
    θ_run (Cert.OddDwQkvRefIdeal.defs (F := Ideal)) (onTc (τ := Cert.OddDwQkvRefIdeal.τ) (Cert.OddDwQkvRefIdeal.main (F := Ideal))) ⟨m, fun _ => 0, g⟩ (fun r => (∀ c : Dev Cert.OddDwQkvRefIdeal.nD,
      r.2.mem ((c.tc : Thread Cert.OddDwQkvRefIdeal.nD Cert.OddDwQkvRefIdeal.τ).loc Cert.OddDwQkvRefIdeal.main_arg0) = m ((c.tc : Thread Cert.OddDwQkvRefIdeal.nD Cert.OddDwQkvRefIdeal.τ).loc Cert.OddDwQkvRefIdeal.main_arg0)
      ∧ r.2.mem ((c.tc : Thread Cert.OddDwQkvRefIdeal.nD Cert.OddDwQkvRefIdeal.τ).loc Cert.OddDwQkvRefIdeal.main_arg1) = m ((c.tc : Thread Cert.OddDwQkvRefIdeal.nD Cert.OddDwQkvRefIdeal.τ).loc Cert.OddDwQkvRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_EvenDmix [hEvenDmix : Cert.EvenDmix.Facts] : Prop :=
  ∀ (m : (ℓ : Loc Cert.EvenDmix.nD Cert.EvenDmix.τ Cert.EvenDmix.sig) → Buf (Elt Bits) ℓ) (g : Dev Cert.EvenDmix.nD → PrngReg), Pre_EvenDmix m →
    θ_run (Cert.EvenDmix.defs (F := Bits)) (onTc (τ := Cert.EvenDmix.τ) (Cert.EvenDmix.main (F := Bits))) ⟨m, fun _ => 0, g⟩ (fun r => (∀ c : Dev Cert.EvenDmix.nD,
      r.2.mem ((c.tc : Thread Cert.EvenDmix.nD Cert.EvenDmix.τ).loc Cert.EvenDmix.main_arg0) = m ((c.tc : Thread Cert.EvenDmix.nD Cert.EvenDmix.τ).loc Cert.EvenDmix.main_arg0)
      ∧ r.2.mem ((c.tc : Thread Cert.EvenDmix.nD Cert.EvenDmix.τ).loc Cert.EvenDmix.main_arg1) = m ((c.tc : Thread Cert.EvenDmix.nD Cert.EvenDmix.τ).loc Cert.EvenDmix.main_arg1))
      ∧ r.2.sem = fun _ => 0)

def quiescent_EvenDmixIdeal [hEvenDmixIdeal : Cert.EvenDmixIdeal.Facts] : Prop :=
  ∀ (m : (ℓ : Loc Cert.EvenDmixIdeal.nD Cert.EvenDmixIdeal.τ Cert.EvenDmixIdeal.sig) → Buf (Elt Ideal) ℓ) (g : Dev Cert.EvenDmixIdeal.nD → PrngReg), Pre_EvenDmixIdeal m →
    θ_run (Cert.EvenDmixIdeal.defs (F := Ideal)) (onTc (τ := Cert.EvenDmixIdeal.τ) (Cert.EvenDmixIdeal.main (F := Ideal))) ⟨m, fun _ => 0, g⟩ (fun r => (∀ c : Dev Cert.EvenDmixIdeal.nD,
      r.2.mem ((c.tc : Thread Cert.EvenDmixIdeal.nD Cert.EvenDmixIdeal.τ).loc Cert.EvenDmixIdeal.main_arg0) = m ((c.tc : Thread Cert.EvenDmixIdeal.nD Cert.EvenDmixIdeal.τ).loc Cert.EvenDmixIdeal.main_arg0)
      ∧ r.2.mem ((c.tc : Thread Cert.EvenDmixIdeal.nD Cert.EvenDmixIdeal.τ).loc Cert.EvenDmixIdeal.main_arg1) = m ((c.tc : Thread Cert.EvenDmixIdeal.nD Cert.EvenDmixIdeal.τ).loc Cert.EvenDmixIdeal.main_arg1))
      ∧ r.2.sem = fun _ => 0)

def quiescent_EvenDmixRefIdeal [hEvenDmixRefIdeal : Cert.EvenDmixRefIdeal.Facts] : Prop :=
  ∀ (m : (ℓ : Loc Cert.EvenDmixRefIdeal.nD Cert.EvenDmixRefIdeal.τ Cert.EvenDmixRefIdeal.sig) → Buf (Elt Ideal) ℓ) (g : Dev Cert.EvenDmixRefIdeal.nD → PrngReg), Pre_EvenDmixRefIdeal m →
    θ_run (Cert.EvenDmixRefIdeal.defs (F := Ideal)) (onTc (τ := Cert.EvenDmixRefIdeal.τ) (Cert.EvenDmixRefIdeal.main (F := Ideal))) ⟨m, fun _ => 0, g⟩ (fun r => (∀ c : Dev Cert.EvenDmixRefIdeal.nD,
      r.2.mem ((c.tc : Thread Cert.EvenDmixRefIdeal.nD Cert.EvenDmixRefIdeal.τ).loc Cert.EvenDmixRefIdeal.main_arg0) = m ((c.tc : Thread Cert.EvenDmixRefIdeal.nD Cert.EvenDmixRefIdeal.τ).loc Cert.EvenDmixRefIdeal.main_arg0)
      ∧ r.2.mem ((c.tc : Thread Cert.EvenDmixRefIdeal.nD Cert.EvenDmixRefIdeal.τ).loc Cert.EvenDmixRefIdeal.main_arg1) = m ((c.tc : Thread Cert.EvenDmixRefIdeal.nD Cert.EvenDmixRefIdeal.τ).loc Cert.EvenDmixRefIdeal.main_arg1))
      ∧ r.2.sem = fun _ => 0)

def quiescent_OddDatt [hOddDatt : Cert.OddDatt.Facts] : Prop :=
  ∀ (m : (ℓ : Loc Cert.OddDatt.nD Cert.OddDatt.τ Cert.OddDatt.sig) → Buf (Elt Bits) ℓ) (g : Dev Cert.OddDatt.nD → PrngReg), Pre_OddDatt m →
    θ_run (Cert.OddDatt.defs (F := Bits)) (onTc (τ := Cert.OddDatt.τ) (Cert.OddDatt.main (F := Bits))) ⟨m, fun _ => 0, g⟩ (fun r => (∀ c : Dev Cert.OddDatt.nD,
      r.2.mem ((c.tc : Thread Cert.OddDatt.nD Cert.OddDatt.τ).loc Cert.OddDatt.main_arg0) = m ((c.tc : Thread Cert.OddDatt.nD Cert.OddDatt.τ).loc Cert.OddDatt.main_arg0)
      ∧ r.2.mem ((c.tc : Thread Cert.OddDatt.nD Cert.OddDatt.τ).loc Cert.OddDatt.main_arg1) = m ((c.tc : Thread Cert.OddDatt.nD Cert.OddDatt.τ).loc Cert.OddDatt.main_arg1))
      ∧ r.2.sem = fun _ => 0)

def quiescent_OddDattIdeal [hOddDattIdeal : Cert.OddDattIdeal.Facts] : Prop :=
  ∀ (m : (ℓ : Loc Cert.OddDattIdeal.nD Cert.OddDattIdeal.τ Cert.OddDattIdeal.sig) → Buf (Elt Ideal) ℓ) (g : Dev Cert.OddDattIdeal.nD → PrngReg), Pre_OddDattIdeal m →
    θ_run (Cert.OddDattIdeal.defs (F := Ideal)) (onTc (τ := Cert.OddDattIdeal.τ) (Cert.OddDattIdeal.main (F := Ideal))) ⟨m, fun _ => 0, g⟩ (fun r => (∀ c : Dev Cert.OddDattIdeal.nD,
      r.2.mem ((c.tc : Thread Cert.OddDattIdeal.nD Cert.OddDattIdeal.τ).loc Cert.OddDattIdeal.main_arg0) = m ((c.tc : Thread Cert.OddDattIdeal.nD Cert.OddDattIdeal.τ).loc Cert.OddDattIdeal.main_arg0)
      ∧ r.2.mem ((c.tc : Thread Cert.OddDattIdeal.nD Cert.OddDattIdeal.τ).loc Cert.OddDattIdeal.main_arg1) = m ((c.tc : Thread Cert.OddDattIdeal.nD Cert.OddDattIdeal.τ).loc Cert.OddDattIdeal.main_arg1))
      ∧ r.2.sem = fun _ => 0)

def quiescent_OddDattRefIdeal [hOddDattRefIdeal : Cert.OddDattRefIdeal.Facts] : Prop :=
  ∀ (m : (ℓ : Loc Cert.OddDattRefIdeal.nD Cert.OddDattRefIdeal.τ Cert.OddDattRefIdeal.sig) → Buf (Elt Ideal) ℓ) (g : Dev Cert.OddDattRefIdeal.nD → PrngReg), Pre_OddDattRefIdeal m →
    θ_run (Cert.OddDattRefIdeal.defs (F := Ideal)) (onTc (τ := Cert.OddDattRefIdeal.τ) (Cert.OddDattRefIdeal.main (F := Ideal))) ⟨m, fun _ => 0, g⟩ (fun r => (∀ c : Dev Cert.OddDattRefIdeal.nD,
      r.2.mem ((c.tc : Thread Cert.OddDattRefIdeal.nD Cert.OddDattRefIdeal.τ).loc Cert.OddDattRefIdeal.main_arg0) = m ((c.tc : Thread Cert.OddDattRefIdeal.nD Cert.OddDattRefIdeal.τ).loc Cert.OddDattRefIdeal.main_arg0)
      ∧ r.2.mem ((c.tc : Thread Cert.OddDattRefIdeal.nD Cert.OddDattRefIdeal.τ).loc Cert.OddDattRefIdeal.main_arg1) = m ((c.tc : Thread Cert.OddDattRefIdeal.nD Cert.OddDattRefIdeal.τ).loc Cert.OddDattRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3))
      ∧ r.2.sem = fun _ => 0)

def quiescent_OddQkv [hOddQkv : Cert.OddQkv.Facts] : Prop :=
  ∀ (m : (ℓ : Loc Cert.OddQkv.nD Cert.OddQkv.τ Cert.OddQkv.sig) → Buf (Elt Bits) ℓ) (g : Dev Cert.OddQkv.nD → PrngReg), Pre_OddQkv m →
    θ_run (Cert.OddQkv.defs (F := Bits)) (onTc (τ := Cert.OddQkv.τ) (Cert.OddQkv.main (F := Bits))) ⟨m, fun _ => 0, g⟩ (fun r => (∀ c : Dev Cert.OddQkv.nD,
      r.2.mem ((c.tc : Thread Cert.OddQkv.nD Cert.OddQkv.τ).loc Cert.OddQkv.main_arg0) = m ((c.tc : Thread Cert.OddQkv.nD Cert.OddQkv.τ).loc Cert.OddQkv.main_arg0)
      ∧ r.2.mem ((c.tc : Thread Cert.OddQkv.nD Cert.OddQkv.τ).loc Cert.OddQkv.main_arg1) = m ((c.tc : Thread Cert.OddQkv.nD Cert.OddQkv.τ).loc Cert.OddQkv.main_arg1)
      ∧ r.2.mem ((c.tc : Thread Cert.OddQkv.nD Cert.OddQkv.τ).loc Cert.OddQkv.main_arg2) = m ((c.tc : Thread Cert.OddQkv.nD Cert.OddQkv.τ).loc Cert.OddQkv.main_arg2))
      ∧ r.2.sem = fun _ => 0)

def quiescent_OddQkvIdeal [hOddQkvIdeal : Cert.OddQkvIdeal.Facts] : Prop :=
  ∀ (m : (ℓ : Loc Cert.OddQkvIdeal.nD Cert.OddQkvIdeal.τ Cert.OddQkvIdeal.sig) → Buf (Elt Ideal) ℓ) (g : Dev Cert.OddQkvIdeal.nD → PrngReg), Pre_OddQkvIdeal m →
    θ_run (Cert.OddQkvIdeal.defs (F := Ideal)) (onTc (τ := Cert.OddQkvIdeal.τ) (Cert.OddQkvIdeal.main (F := Ideal))) ⟨m, fun _ => 0, g⟩ (fun r => (∀ c : Dev Cert.OddQkvIdeal.nD,
      r.2.mem ((c.tc : Thread Cert.OddQkvIdeal.nD Cert.OddQkvIdeal.τ).loc Cert.OddQkvIdeal.main_arg0) = m ((c.tc : Thread Cert.OddQkvIdeal.nD Cert.OddQkvIdeal.τ).loc Cert.OddQkvIdeal.main_arg0)
      ∧ r.2.mem ((c.tc : Thread Cert.OddQkvIdeal.nD Cert.OddQkvIdeal.τ).loc Cert.OddQkvIdeal.main_arg1) = m ((c.tc : Thread Cert.OddQkvIdeal.nD Cert.OddQkvIdeal.τ).loc Cert.OddQkvIdeal.main_arg1)
      ∧ r.2.mem ((c.tc : Thread Cert.OddQkvIdeal.nD Cert.OddQkvIdeal.τ).loc Cert.OddQkvIdeal.main_arg2) = m ((c.tc : Thread Cert.OddQkvIdeal.nD Cert.OddQkvIdeal.τ).loc Cert.OddQkvIdeal.main_arg2))
      ∧ r.2.sem = fun _ => 0)

def quiescent_OddQkvRefIdeal [hOddQkvRefIdeal : Cert.OddQkvRefIdeal.Facts] : Prop :=
  ∀ (m : (ℓ : Loc Cert.OddQkvRefIdeal.nD Cert.OddQkvRefIdeal.τ Cert.OddQkvRefIdeal.sig) → Buf (Elt Ideal) ℓ) (g : Dev Cert.OddQkvRefIdeal.nD → PrngReg), Pre_OddQkvRefIdeal m →
    θ_run (Cert.OddQkvRefIdeal.defs (F := Ideal)) (onTc (τ := Cert.OddQkvRefIdeal.τ) (Cert.OddQkvRefIdeal.main (F := Ideal))) ⟨m, fun _ => 0, g⟩ (fun r => (∀ c : Dev Cert.OddQkvRefIdeal.nD,
      r.2.mem ((c.tc : Thread Cert.OddQkvRefIdeal.nD Cert.OddQkvRefIdeal.τ).loc Cert.OddQkvRefIdeal.main_arg0) = m ((c.tc : Thread Cert.OddQkvRefIdeal.nD Cert.OddQkvRefIdeal.τ).loc Cert.OddQkvRefIdeal.main_arg0)
      ∧ r.2.mem ((c.tc : Thread Cert.OddQkvRefIdeal.nD Cert.OddQkvRefIdeal.τ).loc Cert.OddQkvRefIdeal.main_arg1) = m ((c.tc : Thread Cert.OddQkvRefIdeal.nD Cert.OddQkvRefIdeal.τ).loc Cert.OddQkvRefIdeal.main_arg1)
      ∧ r.2.mem ((c.tc : Thread Cert.OddQkvRefIdeal.nD Cert.OddQkvRefIdeal.τ).loc Cert.OddQkvRefIdeal.main_arg2) = m ((c.tc : Thread Cert.OddQkvRefIdeal.nD Cert.OddQkvRefIdeal.τ).loc Cert.OddQkvRefIdeal.main_arg2))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v223) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v0_0)) (v1 : (c : Dev Cert.FfnDxIdeal.nD) → Buf (Elt Ideal) ((c.tc : Thread Cert.FfnDxIdeal.nD Cert.FfnDxIdeal.τ).loc Cert.FfnDxIdeal.main_v0_1)) (v2 : (c : Dev Cert.FfnDxIdeal.nD) → Buf (Elt Ideal) ((c.tc : Thread Cert.FfnDxIdeal.nD Cert.FfnDxIdeal.τ).loc Cert.FfnDxIdeal.main_v0_2)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v0_0) = v0 c
          ∧ r.2.mem ((c.tc : Thread Cert.FfnDxIdeal.nD Cert.FfnDxIdeal.τ).loc Cert.FfnDxIdeal.main_v0_1) = v1 c
          ∧ r.2.mem ((c.tc : Thread Cert.FfnDxIdeal.nD Cert.FfnDxIdeal.τ).loc Cert.FfnDxIdeal.main_v0_2) = v2 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v51) = v0 c
          ∧ r.2.mem ((c.tc : Thread Cert.FfnDxRefIdeal.nD Cert.FfnDxRefIdeal.τ).loc Cert.FfnDxRefIdeal.main_v52) = v1 c
          ∧ r.2.mem ((c.tc : Thread Cert.FfnDxRefIdeal.nD Cert.FfnDxRefIdeal.τ).loc Cert.FfnDxRefIdeal.main_v50) = v2 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4))

def preserves_FfnDwUp_FfnDwUpIdeal : Prop :=
  True

def algebraic_FfnDwUpIdeal_FfnDwUpRefIdeal [hFfnDwUpIdeal : Cert.FfnDwUpIdeal.Facts] [hFfnDwUpRefIdeal : Cert.FfnDwUpRefIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg)
    (m' : (ℓ : Loc Cert.FfnDwUpRefIdeal.nD Cert.FfnDwUpRefIdeal.τ Cert.FfnDwUpRefIdeal.sig) → Buf (Elt Ideal) ℓ) (g' : Dev Cert.FfnDwUpRefIdeal.nD → PrngReg), Pre_FfnDwUpIdeal m →
    (∀ c : Dev Cert.FfnDwUpIdeal.nD,
      m' ((c.tc : Thread Cert.FfnDwUpRefIdeal.nD Cert.FfnDwUpRefIdeal.τ).loc Cert.FfnDwUpRefIdeal.main_arg0) = m ((c.tc : Thread Cert.FfnDwUpIdeal.nD Cert.FfnDwUpIdeal.τ).loc Cert.FfnDwUpIdeal.main_arg0)
      ∧ m' ((c.tc : Thread Cert.FfnDwUpRefIdeal.nD Cert.FfnDwUpRefIdeal.τ).loc Cert.FfnDwUpRefIdeal.main_arg1) = m ((c.tc : Thread Cert.FfnDwUpIdeal.nD Cert.FfnDwUpIdeal.τ).loc Cert.FfnDwUpIdeal.main_arg1)) →
    ∃ (v0 : (c : Dev Cert.FfnDwUpIdeal.nD) → Buf (Elt Ideal) ((c.tc : Thread Cert.FfnDwUpIdeal.nD Cert.FfnDwUpIdeal.τ).loc Cert.FfnDwUpIdeal.main_v0)),
      θ_run (Cert.FfnDwUpIdeal.defs (F := Ideal)) (onTc (τ := Cert.FfnDwUpIdeal.τ) (Cert.FfnDwUpIdeal.main (F := Ideal))) ⟨m, fun _ => 0, g⟩ (fun r => ∀ c : Dev Cert.FfnDwUpIdeal.nD,
          r.2.mem ((c.tc : Thread Cert.FfnDwUpIdeal.nD Cert.FfnDwUpIdeal.τ).loc Cert.FfnDwUpIdeal.main_v0) = v0 c
          ∧ r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
          ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1))
      ∧ θ_run (Cert.FfnDwUpRefIdeal.defs (F := Ideal)) (onTc (τ := Cert.FfnDwUpRefIdeal.τ) (Cert.FfnDwUpRefIdeal.main (F := Ideal))) ⟨m', fun _ => 0, g'⟩ (fun r => ∀ c : Dev Cert.FfnDwUpRefIdeal.nD,
          r.2.mem ((c.tc : Thread Cert.FfnDwUpRefIdeal.nD Cert.FfnDwUpRefIdeal.τ).loc Cert.FfnDwUpRefIdeal.main_v15) = v0 c
          ∧ r.2.mem ((c.tc : Thread Cert.FfnDwUpRefIdeal.nD Cert.FfnDwUpRefIdeal.τ).loc Cert.FfnDwUpRefIdeal.main_arg0) = m' ((c.tc : Thread Cert.FfnDwUpRefIdeal.nD Cert.FfnDwUpRefIdeal.τ).loc Cert.FfnDwUpRefIdeal.main_arg0)
          ∧ r.2.mem ((c.tc : Thread Cert.FfnDwUpRefIdeal.nD Cert.FfnDwUpRefIdeal.τ).loc Cert.FfnDwUpRefIdeal.main_arg1) = m' ((c.tc : Thread Cert.FfnDwUpRefIdeal.nD Cert.FfnDwUpRefIdeal.τ).loc Cert.FfnDwUpRefIdeal.main_arg1))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v0)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v0) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v7) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1))

def preserves_FfnDact_FfnDactIdeal : Prop :=
  True

def algebraic_FfnDactIdeal_FfnDactRefIdeal [hFfnDactIdeal : Cert.FfnDactIdeal.Facts] [hFfnDactRefIdeal : Cert.FfnDactRefIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)) →
    ∃ (v0 : (c : Dev Cert.FfnDactIdeal.nD) → Buf (Elt Ideal) ((c.tc : Thread Cert.FfnDactIdeal.nD Cert.FfnDactIdeal.τ).loc Cert.FfnDactIdeal.main_v0)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v6) = v0 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1))

def preserves_EvenDx_EvenDxIdeal : Prop :=
  True

def algebraic_EvenDxIdeal_EvenDxRefIdeal [hEvenDxIdeal : Cert.EvenDxIdeal.Facts] [hEvenDxRefIdeal : Cert.EvenDxRefIdeal.Facts] : Prop :=
  ∀ (m : (ℓ : Loc Cert.EvenDxIdeal.nD Cert.EvenDxIdeal.τ Cert.EvenDxIdeal.sig) → Buf (Elt Ideal) ℓ) (g : Dev Cert.EvenDxIdeal.nD → PrngReg)
    (m' : (ℓ : Loc Cert.EvenDxRefIdeal.nD Cert.EvenDxRefIdeal.τ Cert.EvenDxRefIdeal.sig) → Buf (Elt Ideal) ℓ) (g' : Dev Cert.EvenDxRefIdeal.nD → PrngReg), Pre_EvenDxIdeal m →
    (∀ c : Dev Cert.EvenDxIdeal.nD,
      m' ((c.tc : Thread Cert.EvenDxRefIdeal.nD Cert.EvenDxRefIdeal.τ).loc Cert.EvenDxRefIdeal.main_arg0) = m ((c.tc : Thread Cert.EvenDxIdeal.nD Cert.EvenDxIdeal.τ).loc Cert.EvenDxIdeal.main_arg0)
      ∧ m' ((c.tc : Thread Cert.EvenDxRefIdeal.nD Cert.EvenDxRefIdeal.τ).loc Cert.EvenDxRefIdeal.main_arg1) = m ((c.tc : Thread Cert.EvenDxIdeal.nD Cert.EvenDxIdeal.τ).loc Cert.EvenDxIdeal.main_arg1)
      ∧ m' ((c.tc : Thread Cert.EvenDxRefIdeal.nD Cert.EvenDxRefIdeal.τ).loc Cert.EvenDxRefIdeal.main_arg2) = m ((c.tc : Thread Cert.EvenDxIdeal.nD Cert.EvenDxIdeal.τ).loc Cert.EvenDxIdeal.main_arg2)
      ∧ m' ((c.tc : Thread Cert.EvenDxRefIdeal.nD Cert.EvenDxRefIdeal.τ).loc Cert.EvenDxRefIdeal.main_arg3) = m ((c.tc : Thread Cert.EvenDxIdeal.nD Cert.EvenDxIdeal.τ).loc Cert.EvenDxIdeal.main_arg3)
      ∧ m' ((c.tc : Thread Cert.EvenDxRefIdeal.nD Cert.EvenDxRefIdeal.τ).loc Cert.EvenDxRefIdeal.main_arg4) = m ((c.tc : Thread Cert.EvenDxIdeal.nD Cert.EvenDxIdeal.τ).loc Cert.EvenDxIdeal.main_arg4)) →
    ∃ (v0 : (c : Dev Cert.EvenDxIdeal.nD) → Buf (Elt Ideal) ((c.tc : Thread Cert.EvenDxIdeal.nD Cert.EvenDxIdeal.τ).loc Cert.EvenDxIdeal.main_v0_0)) (v1 : (c : Dev Cert.EvenDxIdeal.nD) → Buf (Elt Ideal) ((c.tc : Thread Cert.EvenDxIdeal.nD Cert.EvenDxIdeal.τ).loc Cert.EvenDxIdeal.main_v0_1)) (v2 : (c : Dev Cert.EvenDxIdeal.nD) → Buf (Elt Ideal) ((c.tc : Thread Cert.EvenDxIdeal.nD Cert.EvenDxIdeal.τ).loc Cert.EvenDxIdeal.main_v0_2)),
      θ_run (Cert.EvenDxIdeal.defs (F := Ideal)) (onTc (τ := Cert.EvenDxIdeal.τ) (Cert.EvenDxIdeal.main (F := Ideal))) ⟨m, fun _ => 0, g⟩ (fun r => ∀ c : Dev Cert.EvenDxIdeal.nD,
          r.2.mem ((c.tc : Thread Cert.EvenDxIdeal.nD Cert.EvenDxIdeal.τ).loc Cert.EvenDxIdeal.main_v0_0) = v0 c
          ∧ r.2.mem ((c.tc : Thread Cert.EvenDxIdeal.nD Cert.EvenDxIdeal.τ).loc Cert.EvenDxIdeal.main_v0_1) = v1 c
          ∧ r.2.mem ((c.tc : Thread Cert.EvenDxIdeal.nD Cert.EvenDxIdeal.τ).loc Cert.EvenDxIdeal.main_v0_2) = v2 c
          ∧ r.2.mem ((c.tc : Thread Cert.EvenDxIdeal.nD Cert.EvenDxIdeal.τ).loc Cert.EvenDxIdeal.main_arg0) = m ((c.tc : Thread Cert.EvenDxIdeal.nD Cert.EvenDxIdeal.τ).loc Cert.EvenDxIdeal.main_arg0)
          ∧ r.2.mem ((c.tc : Thread Cert.EvenDxIdeal.nD Cert.EvenDxIdeal.τ).loc Cert.EvenDxIdeal.main_arg1) = m ((c.tc : Thread Cert.EvenDxIdeal.nD Cert.EvenDxIdeal.τ).loc Cert.EvenDxIdeal.main_arg1)
          ∧ r.2.mem ((c.tc : Thread Cert.EvenDxIdeal.nD Cert.EvenDxIdeal.τ).loc Cert.EvenDxIdeal.main_arg2) = m ((c.tc : Thread Cert.EvenDxIdeal.nD Cert.EvenDxIdeal.τ).loc Cert.EvenDxIdeal.main_arg2)
          ∧ r.2.mem ((c.tc : Thread Cert.EvenDxIdeal.nD Cert.EvenDxIdeal.τ).loc Cert.EvenDxIdeal.main_arg3) = m ((c.tc : Thread Cert.EvenDxIdeal.nD Cert.EvenDxIdeal.τ).loc Cert.EvenDxIdeal.main_arg3)
          ∧ r.2.mem ((c.tc : Thread Cert.EvenDxIdeal.nD Cert.EvenDxIdeal.τ).loc Cert.EvenDxIdeal.main_arg4) = m ((c.tc : Thread Cert.EvenDxIdeal.nD Cert.EvenDxIdeal.τ).loc Cert.EvenDxIdeal.main_arg4))
      ∧ θ_run (Cert.EvenDxRefIdeal.defs (F := Ideal)) (onTc (τ := Cert.EvenDxRefIdeal.τ) (Cert.EvenDxRefIdeal.main (F := Ideal))) ⟨m', fun _ => 0, g'⟩ (fun r => ∀ c : Dev Cert.EvenDxRefIdeal.nD,
          r.2.mem ((c.tc : Thread Cert.EvenDxRefIdeal.nD Cert.EvenDxRefIdeal.τ).loc Cert.EvenDxRefIdeal.main_v51) = v0 c
          ∧ r.2.mem ((c.tc : Thread Cert.EvenDxRefIdeal.nD Cert.EvenDxRefIdeal.τ).loc Cert.EvenDxRefIdeal.main_v52) = v1 c
          ∧ r.2.mem ((c.tc : Thread Cert.EvenDxRefIdeal.nD Cert.EvenDxRefIdeal.τ).loc Cert.EvenDxRefIdeal.main_v50) = v2 c
          ∧ r.2.mem ((c.tc : Thread Cert.EvenDxRefIdeal.nD Cert.EvenDxRefIdeal.τ).loc Cert.EvenDxRefIdeal.main_arg0) = m' ((c.tc : Thread Cert.EvenDxRefIdeal.nD Cert.EvenDxRefIdeal.τ).loc Cert.EvenDxRefIdeal.main_arg0)
          ∧ r.2.mem ((c.tc : Thread Cert.EvenDxRefIdeal.nD Cert.EvenDxRefIdeal.τ).loc Cert.EvenDxRefIdeal.main_arg1) = m' ((c.tc : Thread Cert.EvenDxRefIdeal.nD Cert.EvenDxRefIdeal.τ).loc Cert.EvenDxRefIdeal.main_arg1)
          ∧ r.2.mem ((c.tc : Thread Cert.EvenDxRefIdeal.nD Cert.EvenDxRefIdeal.τ).loc Cert.EvenDxRefIdeal.main_arg2) = m' ((c.tc : Thread Cert.EvenDxRefIdeal.nD Cert.EvenDxRefIdeal.τ).loc Cert.EvenDxRefIdeal.main_arg2)
          ∧ r.2.mem ((c.tc : Thread Cert.EvenDxRefIdeal.nD Cert.EvenDxRefIdeal.τ).loc Cert.EvenDxRefIdeal.main_arg3) = m' ((c.tc : Thread Cert.EvenDxRefIdeal.nD Cert.EvenDxRefIdeal.τ).loc Cert.EvenDxRefIdeal.main_arg3)
          ∧ r.2.mem ((c.tc : Thread Cert.EvenDxRefIdeal.nD Cert.EvenDxRefIdeal.τ).loc Cert.EvenDxRefIdeal.main_arg4) = m' ((c.tc : Thread Cert.EvenDxRefIdeal.nD Cert.EvenDxRefIdeal.τ).loc Cert.EvenDxRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)) (v3 : (c : Dev Cert.FfnUpIdeal.nD) → Buf (Elt Ideal) ((c.tc : Thread Cert.FfnUpIdeal.nD Cert.FfnUpIdeal.τ).loc Cert.FfnUpIdeal.main_v0_3)) (v4 : (c : Dev Cert.FfnUpIdeal.nD) → Buf (Elt Ideal) ((c.tc : Thread Cert.FfnUpIdeal.nD Cert.FfnUpIdeal.τ).loc Cert.FfnUpIdeal.main_v0_4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_v0_3) = v3 c
          ∧ r.2.mem ((c.tc : Thread Cert.FfnUpIdeal.nD Cert.FfnUpIdeal.τ).loc Cert.FfnUpIdeal.main_v0_4) = v4 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v46) = v0 c
          ∧ r.2.mem ((c.tc : Thread Cert.FfnUpRefIdeal.nD Cert.FfnUpRefIdeal.τ).loc Cert.FfnUpRefIdeal.main_v48) = v1 c
          ∧ r.2.mem ((c.tc : Thread Cert.FfnUpRefIdeal.nD Cert.FfnUpRefIdeal.τ).loc Cert.FfnUpRefIdeal.main_v50) = v2 c
          ∧ r.2.mem ((c.tc : Thread Cert.FfnUpRefIdeal.nD Cert.FfnUpRefIdeal.τ).loc Cert.FfnUpRefIdeal.main_v52) = v3 c
          ∧ r.2.mem ((c.tc : Thread Cert.FfnUpRefIdeal.nD Cert.FfnUpRefIdeal.τ).loc Cert.FfnUpRefIdeal.main_v54) = v4 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_OddDx_OddDxIdeal : Prop :=
  True

def algebraic_OddDxIdeal_OddDxRefIdeal [hOddDxIdeal : Cert.OddDxIdeal.Facts] [hOddDxRefIdeal : Cert.OddDxRefIdeal.Facts] : Prop :=
  ∀ (m : (ℓ : Loc Cert.OddDxIdeal.nD Cert.OddDxIdeal.τ Cert.OddDxIdeal.sig) → Buf (Elt Ideal) ℓ) (g : Dev Cert.OddDxIdeal.nD → PrngReg)
    (m' : (ℓ : Loc Cert.OddDxRefIdeal.nD Cert.OddDxRefIdeal.τ Cert.OddDxRefIdeal.sig) → Buf (Elt Ideal) ℓ) (g' : Dev Cert.OddDxRefIdeal.nD → PrngReg), Pre_OddDxIdeal m →
    (∀ c : Dev Cert.OddDxIdeal.nD,
      m' ((c.tc : Thread Cert.OddDxRefIdeal.nD Cert.OddDxRefIdeal.τ).loc Cert.OddDxRefIdeal.main_arg0) = m ((c.tc : Thread Cert.OddDxIdeal.nD Cert.OddDxIdeal.τ).loc Cert.OddDxIdeal.main_arg0)
      ∧ m' ((c.tc : Thread Cert.OddDxRefIdeal.nD Cert.OddDxRefIdeal.τ).loc Cert.OddDxRefIdeal.main_arg1) = m ((c.tc : Thread Cert.OddDxIdeal.nD Cert.OddDxIdeal.τ).loc Cert.OddDxIdeal.main_arg1)
      ∧ m' ((c.tc : Thread Cert.OddDxRefIdeal.nD Cert.OddDxRefIdeal.τ).loc Cert.OddDxRefIdeal.main_arg2) = m ((c.tc : Thread Cert.OddDxIdeal.nD Cert.OddDxIdeal.τ).loc Cert.OddDxIdeal.main_arg2)
      ∧ m' ((c.tc : Thread Cert.OddDxRefIdeal.nD Cert.OddDxRefIdeal.τ).loc Cert.OddDxRefIdeal.main_arg3) = m ((c.tc : Thread Cert.OddDxIdeal.nD Cert.OddDxIdeal.τ).loc Cert.OddDxIdeal.main_arg3)
      ∧ m' ((c.tc : Thread Cert.OddDxRefIdeal.nD Cert.OddDxRefIdeal.τ).loc Cert.OddDxRefIdeal.main_arg4) = m ((c.tc : Thread Cert.OddDxIdeal.nD Cert.OddDxIdeal.τ).loc Cert.OddDxIdeal.main_arg4)) →
    ∃ (v0 : (c : Dev Cert.OddDxIdeal.nD) → Buf (Elt Ideal) ((c.tc : Thread Cert.OddDxIdeal.nD Cert.OddDxIdeal.τ).loc Cert.OddDxIdeal.main_v0_0)) (v1 : (c : Dev Cert.OddDxIdeal.nD) → Buf (Elt Ideal) ((c.tc : Thread Cert.OddDxIdeal.nD Cert.OddDxIdeal.τ).loc Cert.OddDxIdeal.main_v0_1)) (v2 : (c : Dev Cert.OddDxIdeal.nD) → Buf (Elt Ideal) ((c.tc : Thread Cert.OddDxIdeal.nD Cert.OddDxIdeal.τ).loc Cert.OddDxIdeal.main_v0_2)),
      θ_run (Cert.OddDxIdeal.defs (F := Ideal)) (onTc (τ := Cert.OddDxIdeal.τ) (Cert.OddDxIdeal.main (F := Ideal))) ⟨m, fun _ => 0, g⟩ (fun r => ∀ c : Dev Cert.OddDxIdeal.nD,
          r.2.mem ((c.tc : Thread Cert.OddDxIdeal.nD Cert.OddDxIdeal.τ).loc Cert.OddDxIdeal.main_v0_0) = v0 c
          ∧ r.2.mem ((c.tc : Thread Cert.OddDxIdeal.nD Cert.OddDxIdeal.τ).loc Cert.OddDxIdeal.main_v0_1) = v1 c
          ∧ r.2.mem ((c.tc : Thread Cert.OddDxIdeal.nD Cert.OddDxIdeal.τ).loc Cert.OddDxIdeal.main_v0_2) = v2 c
          ∧ r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
          ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
          ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2)
          ∧ r.2.mem ((c.tc : Thread Cert.OddDxIdeal.nD Cert.OddDxIdeal.τ).loc Cert.OddDxIdeal.main_arg3) = m ((c.tc : Thread Cert.OddDxIdeal.nD Cert.OddDxIdeal.τ).loc Cert.OddDxIdeal.main_arg3)
          ∧ r.2.mem ((c.tc : Thread Cert.OddDxIdeal.nD Cert.OddDxIdeal.τ).loc Cert.OddDxIdeal.main_arg4) = m ((c.tc : Thread Cert.OddDxIdeal.nD Cert.OddDxIdeal.τ).loc Cert.OddDxIdeal.main_arg4))
      ∧ θ_run (Cert.OddDxRefIdeal.defs (F := Ideal)) (onTc (τ := Cert.OddDxRefIdeal.τ) (Cert.OddDxRefIdeal.main (F := Ideal))) ⟨m', fun _ => 0, g'⟩ (fun r => ∀ c : Dev Cert.OddDxRefIdeal.nD,
          r.2.mem ((c.tc : Thread Cert.OddDxRefIdeal.nD Cert.OddDxRefIdeal.τ).loc Cert.OddDxRefIdeal.main_v51) = v0 c
          ∧ r.2.mem ((c.tc : Thread Cert.OddDxRefIdeal.nD Cert.OddDxRefIdeal.τ).loc Cert.OddDxRefIdeal.main_v52) = v1 c
          ∧ r.2.mem ((c.tc : Thread Cert.OddDxRefIdeal.nD Cert.OddDxRefIdeal.τ).loc Cert.OddDxRefIdeal.main_v50) = v2 c
          ∧ r.2.mem ((c.tc : Thread Cert.OddDxRefIdeal.nD Cert.OddDxRefIdeal.τ).loc Cert.OddDxRefIdeal.main_arg0) = m' ((c.tc : Thread Cert.OddDxRefIdeal.nD Cert.OddDxRefIdeal.τ).loc Cert.OddDxRefIdeal.main_arg0)
          ∧ r.2.mem ((c.tc : Thread Cert.OddDxRefIdeal.nD Cert.OddDxRefIdeal.τ).loc Cert.OddDxRefIdeal.main_arg1) = m' ((c.tc : Thread Cert.OddDxRefIdeal.nD Cert.OddDxRefIdeal.τ).loc Cert.OddDxRefIdeal.main_arg1)
          ∧ r.2.mem ((c.tc : Thread Cert.OddDxRefIdeal.nD Cert.OddDxRefIdeal.τ).loc Cert.OddDxRefIdeal.main_arg2) = m' ((c.tc : Thread Cert.OddDxRefIdeal.nD Cert.OddDxRefIdeal.τ).loc Cert.OddDxRefIdeal.main_arg2)
          ∧ r.2.mem ((c.tc : Thread Cert.OddDxRefIdeal.nD Cert.OddDxRefIdeal.τ).loc Cert.OddDxRefIdeal.main_arg3) = m' ((c.tc : Thread Cert.OddDxRefIdeal.nD Cert.OddDxRefIdeal.τ).loc Cert.OddDxRefIdeal.main_arg3)
          ∧ r.2.mem ((c.tc : Thread Cert.OddDxRefIdeal.nD Cert.OddDxRefIdeal.τ).loc Cert.OddDxRefIdeal.main_arg4) = m' ((c.tc : Thread Cert.OddDxRefIdeal.nD Cert.OddDxRefIdeal.τ).loc Cert.OddDxRefIdeal.main_arg4))

def preserves_EvenDwIn_EvenDwInIdeal : Prop :=
  True

def algebraic_EvenDwInIdeal_EvenDwInRefIdeal [hEvenDwInIdeal : Cert.EvenDwInIdeal.Facts] [hEvenDwInRefIdeal : Cert.EvenDwInRefIdeal.Facts] : Prop :=
  ∀ (m : (ℓ : Loc Cert.EvenDwInIdeal.nD Cert.EvenDwInIdeal.τ Cert.EvenDwInIdeal.sig) → Buf (Elt Ideal) ℓ) (g : Dev Cert.EvenDwInIdeal.nD → PrngReg)
    (m' : (ℓ : Loc Cert.EvenDwInRefIdeal.nD Cert.EvenDwInRefIdeal.τ Cert.EvenDwInRefIdeal.sig) → Buf (Elt Ideal) ℓ) (g' : Dev Cert.EvenDwInRefIdeal.nD → PrngReg), Pre_EvenDwInIdeal m →
    (∀ c : Dev Cert.EvenDwInIdeal.nD,
      m' ((c.tc : Thread Cert.EvenDwInRefIdeal.nD Cert.EvenDwInRefIdeal.τ).loc Cert.EvenDwInRefIdeal.main_arg0) = m ((c.tc : Thread Cert.EvenDwInIdeal.nD Cert.EvenDwInIdeal.τ).loc Cert.EvenDwInIdeal.main_arg0)
      ∧ m' ((c.tc : Thread Cert.EvenDwInRefIdeal.nD Cert.EvenDwInRefIdeal.τ).loc Cert.EvenDwInRefIdeal.main_arg1) = m ((c.tc : Thread Cert.EvenDwInIdeal.nD Cert.EvenDwInIdeal.τ).loc Cert.EvenDwInIdeal.main_arg1)) →
    ∃ (v0 : (c : Dev Cert.EvenDwInIdeal.nD) → Buf (Elt Ideal) ((c.tc : Thread Cert.EvenDwInIdeal.nD Cert.EvenDwInIdeal.τ).loc Cert.EvenDwInIdeal.main_v0)),
      θ_run (Cert.EvenDwInIdeal.defs (F := Ideal)) (onTc (τ := Cert.EvenDwInIdeal.τ) (Cert.EvenDwInIdeal.main (F := Ideal))) ⟨m, fun _ => 0, g⟩ (fun r => ∀ c : Dev Cert.EvenDwInIdeal.nD,
          r.2.mem ((c.tc : Thread Cert.EvenDwInIdeal.nD Cert.EvenDwInIdeal.τ).loc Cert.EvenDwInIdeal.main_v0) = v0 c
          ∧ r.2.mem ((c.tc : Thread Cert.EvenDwInIdeal.nD Cert.EvenDwInIdeal.τ).loc Cert.EvenDwInIdeal.main_arg0) = m ((c.tc : Thread Cert.EvenDwInIdeal.nD Cert.EvenDwInIdeal.τ).loc Cert.EvenDwInIdeal.main_arg0)
          ∧ r.2.mem ((c.tc : Thread Cert.EvenDwInIdeal.nD Cert.EvenDwInIdeal.τ).loc Cert.EvenDwInIdeal.main_arg1) = m ((c.tc : Thread Cert.EvenDwInIdeal.nD Cert.EvenDwInIdeal.τ).loc Cert.EvenDwInIdeal.main_arg1))
      ∧ θ_run (Cert.EvenDwInRefIdeal.defs (F := Ideal)) (onTc (τ := Cert.EvenDwInRefIdeal.τ) (Cert.EvenDwInRefIdeal.main (F := Ideal))) ⟨m', fun _ => 0, g'⟩ (fun r => ∀ c : Dev Cert.EvenDwInRefIdeal.nD,
          r.2.mem ((c.tc : Thread Cert.EvenDwInRefIdeal.nD Cert.EvenDwInRefIdeal.τ).loc Cert.EvenDwInRefIdeal.main_v15) = v0 c
          ∧ r.2.mem ((c.tc : Thread Cert.EvenDwInRefIdeal.nD Cert.EvenDwInRefIdeal.τ).loc Cert.EvenDwInRefIdeal.main_arg0) = m' ((c.tc : Thread Cert.EvenDwInRefIdeal.nD Cert.EvenDwInRefIdeal.τ).loc Cert.EvenDwInRefIdeal.main_arg0)
          ∧ r.2.mem ((c.tc : Thread Cert.EvenDwInRefIdeal.nD Cert.EvenDwInRefIdeal.τ).loc Cert.EvenDwInRefIdeal.main_arg1) = m' ((c.tc : Thread Cert.EvenDwInRefIdeal.nD Cert.EvenDwInRefIdeal.τ).loc Cert.EvenDwInRefIdeal.main_arg1))

def preserves_OddDwQkv_OddDwQkvIdeal : Prop :=
  True

def algebraic_OddDwQkvIdeal_OddDwQkvRefIdeal [hOddDwQkvIdeal : Cert.OddDwQkvIdeal.Facts] [hOddDwQkvRefIdeal : Cert.OddDwQkvRefIdeal.Facts] : Prop :=
  ∀ (m : (ℓ : Loc Cert.OddDwQkvIdeal.nD Cert.OddDwQkvIdeal.τ Cert.OddDwQkvIdeal.sig) → Buf (Elt Ideal) ℓ) (g : Dev Cert.OddDwQkvIdeal.nD → PrngReg)
    (m' : (ℓ : Loc Cert.OddDwQkvRefIdeal.nD Cert.OddDwQkvRefIdeal.τ Cert.OddDwQkvRefIdeal.sig) → Buf (Elt Ideal) ℓ) (g' : Dev Cert.OddDwQkvRefIdeal.nD → PrngReg), Pre_OddDwQkvIdeal m →
    (∀ c : Dev Cert.OddDwQkvIdeal.nD,
      m' ((c.tc : Thread Cert.OddDwQkvRefIdeal.nD Cert.OddDwQkvRefIdeal.τ).loc Cert.OddDwQkvRefIdeal.main_arg0) = m ((c.tc : Thread Cert.OddDwQkvIdeal.nD Cert.OddDwQkvIdeal.τ).loc Cert.OddDwQkvIdeal.main_arg0)
      ∧ m' ((c.tc : Thread Cert.OddDwQkvRefIdeal.nD Cert.OddDwQkvRefIdeal.τ).loc Cert.OddDwQkvRefIdeal.main_arg1) = m ((c.tc : Thread Cert.OddDwQkvIdeal.nD Cert.OddDwQkvIdeal.τ).loc Cert.OddDwQkvIdeal.main_arg1)) →
    ∃ (v0 : (c : Dev Cert.OddDwQkvIdeal.nD) → Buf (Elt Ideal) ((c.tc : Thread Cert.OddDwQkvIdeal.nD Cert.OddDwQkvIdeal.τ).loc Cert.OddDwQkvIdeal.main_v0)),
      θ_run (Cert.OddDwQkvIdeal.defs (F := Ideal)) (onTc (τ := Cert.OddDwQkvIdeal.τ) (Cert.OddDwQkvIdeal.main (F := Ideal))) ⟨m, fun _ => 0, g⟩ (fun r => ∀ c : Dev Cert.OddDwQkvIdeal.nD,
          r.2.mem ((c.tc : Thread Cert.OddDwQkvIdeal.nD Cert.OddDwQkvIdeal.τ).loc Cert.OddDwQkvIdeal.main_v0) = v0 c
          ∧ r.2.mem ((c.tc : Thread Cert.OddDwQkvIdeal.nD Cert.OddDwQkvIdeal.τ).loc Cert.OddDwQkvIdeal.main_arg0) = m ((c.tc : Thread Cert.OddDwQkvIdeal.nD Cert.OddDwQkvIdeal.τ).loc Cert.OddDwQkvIdeal.main_arg0)
          ∧ r.2.mem ((c.tc : Thread Cert.OddDwQkvIdeal.nD Cert.OddDwQkvIdeal.τ).loc Cert.OddDwQkvIdeal.main_arg1) = m ((c.tc : Thread Cert.OddDwQkvIdeal.nD Cert.OddDwQkvIdeal.τ).loc Cert.OddDwQkvIdeal.main_arg1))
      ∧ θ_run (Cert.OddDwQkvRefIdeal.defs (F := Ideal)) (onTc (τ := Cert.OddDwQkvRefIdeal.τ) (Cert.OddDwQkvRefIdeal.main (F := Ideal))) ⟨m', fun _ => 0, g'⟩ (fun r => ∀ c : Dev Cert.OddDwQkvRefIdeal.nD,
          r.2.mem ((c.tc : Thread Cert.OddDwQkvRefIdeal.nD Cert.OddDwQkvRefIdeal.τ).loc Cert.OddDwQkvRefIdeal.main_v15) = v0 c
          ∧ r.2.mem ((c.tc : Thread Cert.OddDwQkvRefIdeal.nD Cert.OddDwQkvRefIdeal.τ).loc Cert.OddDwQkvRefIdeal.main_arg0) = m' ((c.tc : Thread Cert.OddDwQkvRefIdeal.nD Cert.OddDwQkvRefIdeal.τ).loc Cert.OddDwQkvRefIdeal.main_arg0)
          ∧ r.2.mem ((c.tc : Thread Cert.OddDwQkvRefIdeal.nD Cert.OddDwQkvRefIdeal.τ).loc Cert.OddDwQkvRefIdeal.main_arg1) = m' ((c.tc : Thread Cert.OddDwQkvRefIdeal.nD Cert.OddDwQkvRefIdeal.τ).loc Cert.OddDwQkvRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_EvenDmix_EvenDmixIdeal : Prop :=
  True

def algebraic_EvenDmixIdeal_EvenDmixRefIdeal [hEvenDmixIdeal : Cert.EvenDmixIdeal.Facts] [hEvenDmixRefIdeal : Cert.EvenDmixRefIdeal.Facts] : Prop :=
  ∀ (m : (ℓ : Loc Cert.EvenDmixIdeal.nD Cert.EvenDmixIdeal.τ Cert.EvenDmixIdeal.sig) → Buf (Elt Ideal) ℓ) (g : Dev Cert.EvenDmixIdeal.nD → PrngReg)
    (m' : (ℓ : Loc Cert.EvenDmixRefIdeal.nD Cert.EvenDmixRefIdeal.τ Cert.EvenDmixRefIdeal.sig) → Buf (Elt Ideal) ℓ) (g' : Dev Cert.EvenDmixRefIdeal.nD → PrngReg), Pre_EvenDmixIdeal m →
    (∀ c : Dev Cert.EvenDmixIdeal.nD,
      m' ((c.tc : Thread Cert.EvenDmixRefIdeal.nD Cert.EvenDmixRefIdeal.τ).loc Cert.EvenDmixRefIdeal.main_arg0) = m ((c.tc : Thread Cert.EvenDmixIdeal.nD Cert.EvenDmixIdeal.τ).loc Cert.EvenDmixIdeal.main_arg0)
      ∧ m' ((c.tc : Thread Cert.EvenDmixRefIdeal.nD Cert.EvenDmixRefIdeal.τ).loc Cert.EvenDmixRefIdeal.main_arg1) = m ((c.tc : Thread Cert.EvenDmixIdeal.nD Cert.EvenDmixIdeal.τ).loc Cert.EvenDmixIdeal.main_arg1)) →
    ∃ (v0 : (c : Dev Cert.EvenDmixIdeal.nD) → Buf (Elt Ideal) ((c.tc : Thread Cert.EvenDmixIdeal.nD Cert.EvenDmixIdeal.τ).loc Cert.EvenDmixIdeal.main_v0)),
      θ_run (Cert.EvenDmixIdeal.defs (F := Ideal)) (onTc (τ := Cert.EvenDmixIdeal.τ) (Cert.EvenDmixIdeal.main (F := Ideal))) ⟨m, fun _ => 0, g⟩ (fun r => ∀ c : Dev Cert.EvenDmixIdeal.nD,
          r.2.mem ((c.tc : Thread Cert.EvenDmixIdeal.nD Cert.EvenDmixIdeal.τ).loc Cert.EvenDmixIdeal.main_v0) = v0 c
          ∧ r.2.mem ((c.tc : Thread Cert.EvenDmixIdeal.nD Cert.EvenDmixIdeal.τ).loc Cert.EvenDmixIdeal.main_arg0) = m ((c.tc : Thread Cert.EvenDmixIdeal.nD Cert.EvenDmixIdeal.τ).loc Cert.EvenDmixIdeal.main_arg0)
          ∧ r.2.mem ((c.tc : Thread Cert.EvenDmixIdeal.nD Cert.EvenDmixIdeal.τ).loc Cert.EvenDmixIdeal.main_arg1) = m ((c.tc : Thread Cert.EvenDmixIdeal.nD Cert.EvenDmixIdeal.τ).loc Cert.EvenDmixIdeal.main_arg1))
      ∧ θ_run (Cert.EvenDmixRefIdeal.defs (F := Ideal)) (onTc (τ := Cert.EvenDmixRefIdeal.τ) (Cert.EvenDmixRefIdeal.main (F := Ideal))) ⟨m', fun _ => 0, g'⟩ (fun r => ∀ c : Dev Cert.EvenDmixRefIdeal.nD,
          r.2.mem ((c.tc : Thread Cert.EvenDmixRefIdeal.nD Cert.EvenDmixRefIdeal.τ).loc Cert.EvenDmixRefIdeal.main_v5) = v0 c
          ∧ r.2.mem ((c.tc : Thread Cert.EvenDmixRefIdeal.nD Cert.EvenDmixRefIdeal.τ).loc Cert.EvenDmixRefIdeal.main_arg0) = m' ((c.tc : Thread Cert.EvenDmixRefIdeal.nD Cert.EvenDmixRefIdeal.τ).loc Cert.EvenDmixRefIdeal.main_arg0)
          ∧ r.2.mem ((c.tc : Thread Cert.EvenDmixRefIdeal.nD Cert.EvenDmixRefIdeal.τ).loc Cert.EvenDmixRefIdeal.main_arg1) = m' ((c.tc : Thread Cert.EvenDmixRefIdeal.nD Cert.EvenDmixRefIdeal.τ).loc Cert.EvenDmixRefIdeal.main_arg1))

def preserves_OddDatt_OddDattIdeal : Prop :=
  True

def algebraic_OddDattIdeal_OddDattRefIdeal [hOddDattIdeal : Cert.OddDattIdeal.Facts] [hOddDattRefIdeal : Cert.OddDattRefIdeal.Facts] : Prop :=
  ∀ (m : (ℓ : Loc Cert.OddDattIdeal.nD Cert.OddDattIdeal.τ Cert.OddDattIdeal.sig) → Buf (Elt Ideal) ℓ) (g : Dev Cert.OddDattIdeal.nD → PrngReg)
    (m' : (ℓ : Loc Cert.OddDattRefIdeal.nD Cert.OddDattRefIdeal.τ Cert.OddDattRefIdeal.sig) → Buf (Elt Ideal) ℓ) (g' : Dev Cert.OddDattRefIdeal.nD → PrngReg), Pre_OddDattIdeal m →
    (∀ c : Dev Cert.OddDattIdeal.nD,
      m' ((c.tc : Thread Cert.OddDattRefIdeal.nD Cert.OddDattRefIdeal.τ).loc Cert.OddDattRefIdeal.main_arg0) = m ((c.tc : Thread Cert.OddDattIdeal.nD Cert.OddDattIdeal.τ).loc Cert.OddDattIdeal.main_arg0)
      ∧ m' ((c.tc : Thread Cert.OddDattRefIdeal.nD Cert.OddDattRefIdeal.τ).loc Cert.OddDattRefIdeal.main_arg1) = m ((c.tc : Thread Cert.OddDattIdeal.nD Cert.OddDattIdeal.τ).loc Cert.OddDattIdeal.main_arg1)) →
    ∃ (v0 : (c : Dev Cert.OddDattIdeal.nD) → Buf (Elt Ideal) ((c.tc : Thread Cert.OddDattIdeal.nD Cert.OddDattIdeal.τ).loc Cert.OddDattIdeal.main_v0)),
      θ_run (Cert.OddDattIdeal.defs (F := Ideal)) (onTc (τ := Cert.OddDattIdeal.τ) (Cert.OddDattIdeal.main (F := Ideal))) ⟨m, fun _ => 0, g⟩ (fun r => ∀ c : Dev Cert.OddDattIdeal.nD,
          r.2.mem ((c.tc : Thread Cert.OddDattIdeal.nD Cert.OddDattIdeal.τ).loc Cert.OddDattIdeal.main_v0) = v0 c
          ∧ r.2.mem ((c.tc : Thread Cert.OddDattIdeal.nD Cert.OddDattIdeal.τ).loc Cert.OddDattIdeal.main_arg0) = m ((c.tc : Thread Cert.OddDattIdeal.nD Cert.OddDattIdeal.τ).loc Cert.OddDattIdeal.main_arg0)
          ∧ r.2.mem ((c.tc : Thread Cert.OddDattIdeal.nD Cert.OddDattIdeal.τ).loc Cert.OddDattIdeal.main_arg1) = m ((c.tc : Thread Cert.OddDattIdeal.nD Cert.OddDattIdeal.τ).loc Cert.OddDattIdeal.main_arg1))
      ∧ θ_run (Cert.OddDattRefIdeal.defs (F := Ideal)) (onTc (τ := Cert.OddDattRefIdeal.τ) (Cert.OddDattRefIdeal.main (F := Ideal))) ⟨m', fun _ => 0, g'⟩ (fun r => ∀ c : Dev Cert.OddDattRefIdeal.nD,
          r.2.mem ((c.tc : Thread Cert.OddDattRefIdeal.nD Cert.OddDattRefIdeal.τ).loc Cert.OddDattRefIdeal.main_v6) = v0 c
          ∧ r.2.mem ((c.tc : Thread Cert.OddDattRefIdeal.nD Cert.OddDattRefIdeal.τ).loc Cert.OddDattRefIdeal.main_arg0) = m' ((c.tc : Thread Cert.OddDattRefIdeal.nD Cert.OddDattRefIdeal.τ).loc Cert.OddDattRefIdeal.main_arg0)
          ∧ r.2.mem ((c.tc : Thread Cert.OddDattRefIdeal.nD Cert.OddDattRefIdeal.τ).loc Cert.OddDattRefIdeal.main_arg1) = m' ((c.tc : Thread Cert.OddDattRefIdeal.nD Cert.OddDattRefIdeal.τ).loc Cert.OddDattRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_v19) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v4) = v0 c
          ∧ r.2.mem ((c.tc : Thread Cert.OutNormRefIdeal.nD Cert.OutNormRefIdeal.τ).loc Cert.OutNormRefIdeal.main_v19) = v1 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)) →
    ∃ (v0 : (c : Dev Cert.FfnLossIdeal.nD) → Buf (Elt Ideal) ((c.tc : Thread Cert.FfnLossIdeal.nD Cert.FfnLossIdeal.τ).loc Cert.FfnLossIdeal.main_v0_0)) (v1 : (c : Dev Cert.FfnLossIdeal.nD) → Buf (Elt Ideal) ((c.tc : Thread Cert.FfnLossIdeal.nD Cert.FfnLossIdeal.τ).loc Cert.FfnLossIdeal.main_v0_1)) (v2 : (c : Dev Cert.FfnLossIdeal.nD) → Buf (Elt Ideal) ((c.tc : Thread Cert.FfnLossIdeal.nD Cert.FfnLossIdeal.τ).loc Cert.FfnLossIdeal.main_v0_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v0_0) = v0 c
          ∧ r.2.mem ((c.tc : Thread Cert.FfnLossIdeal.nD Cert.FfnLossIdeal.τ).loc Cert.FfnLossIdeal.main_v0_1) = v1 c
          ∧ r.2.mem ((c.tc : Thread Cert.FfnLossIdeal.nD Cert.FfnLossIdeal.τ).loc Cert.FfnLossIdeal.main_v0_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v19) = v0 c
          ∧ r.2.mem ((c.tc : Thread Cert.FfnLossRefIdeal.nD Cert.FfnLossRefIdeal.τ).loc Cert.FfnLossRefIdeal.main_v20) = v1 c
          ∧ r.2.mem ((c.tc : Thread Cert.FfnLossRefIdeal.nD Cert.FfnLossRefIdeal.τ).loc Cert.FfnLossRefIdeal.main_v24) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3))

def preserves_OddQkv_OddQkvIdeal : Prop :=
  True

def algebraic_OddQkvIdeal_OddQkvRefIdeal [hOddQkvIdeal : Cert.OddQkvIdeal.Facts] [hOddQkvRefIdeal : Cert.OddQkvRefIdeal.Facts] : Prop :=
  ∀ (m : (ℓ : Loc Cert.OddQkvIdeal.nD Cert.OddQkvIdeal.τ Cert.OddQkvIdeal.sig) → Buf (Elt Ideal) ℓ) (g : Dev Cert.OddQkvIdeal.nD → PrngReg)
    (m' : (ℓ : Loc Cert.OddQkvRefIdeal.nD Cert.OddQkvRefIdeal.τ Cert.OddQkvRefIdeal.sig) → Buf (Elt Ideal) ℓ) (g' : Dev Cert.OddQkvRefIdeal.nD → PrngReg), Pre_OddQkvIdeal m →
    (∀ c : Dev Cert.OddQkvIdeal.nD,
      m' ((c.tc : Thread Cert.OddQkvRefIdeal.nD Cert.OddQkvRefIdeal.τ).loc Cert.OddQkvRefIdeal.main_arg0) = m ((c.tc : Thread Cert.OddQkvIdeal.nD Cert.OddQkvIdeal.τ).loc Cert.OddQkvIdeal.main_arg0)
      ∧ m' ((c.tc : Thread Cert.OddQkvRefIdeal.nD Cert.OddQkvRefIdeal.τ).loc Cert.OddQkvRefIdeal.main_arg1) = m ((c.tc : Thread Cert.OddQkvIdeal.nD Cert.OddQkvIdeal.τ).loc Cert.OddQkvIdeal.main_arg1)
      ∧ m' ((c.tc : Thread Cert.OddQkvRefIdeal.nD Cert.OddQkvRefIdeal.τ).loc Cert.OddQkvRefIdeal.main_arg2) = m ((c.tc : Thread Cert.OddQkvIdeal.nD Cert.OddQkvIdeal.τ).loc Cert.OddQkvIdeal.main_arg2)) →
    ∃ (v0 : (c : Dev Cert.OddQkvIdeal.nD) → Buf (Elt Ideal) ((c.tc : Thread Cert.OddQkvIdeal.nD Cert.OddQkvIdeal.τ).loc Cert.OddQkvIdeal.main_v1_0)) (v1 : (c : Dev Cert.OddQkvIdeal.nD) → Buf (Elt Ideal) ((c.tc : Thread Cert.OddQkvIdeal.nD Cert.OddQkvIdeal.τ).loc Cert.OddQkvIdeal.main_v1_1)),
      θ_run (Cert.OddQkvIdeal.defs (F := Ideal)) (onTc (τ := Cert.OddQkvIdeal.τ) (Cert.OddQkvIdeal.main (F := Ideal))) ⟨m, fun _ => 0, g⟩ (fun r => ∀ c : Dev Cert.OddQkvIdeal.nD,
          r.2.mem ((c.tc : Thread Cert.OddQkvIdeal.nD Cert.OddQkvIdeal.τ).loc Cert.OddQkvIdeal.main_v1_0) = v0 c
          ∧ r.2.mem ((c.tc : Thread Cert.OddQkvIdeal.nD Cert.OddQkvIdeal.τ).loc Cert.OddQkvIdeal.main_v1_1) = v1 c
          ∧ r.2.mem ((c.tc : Thread Cert.OddQkvIdeal.nD Cert.OddQkvIdeal.τ).loc Cert.OddQkvIdeal.main_arg0) = m ((c.tc : Thread Cert.OddQkvIdeal.nD Cert.OddQkvIdeal.τ).loc Cert.OddQkvIdeal.main_arg0)
          ∧ r.2.mem ((c.tc : Thread Cert.OddQkvIdeal.nD Cert.OddQkvIdeal.τ).loc Cert.OddQkvIdeal.main_arg1) = m ((c.tc : Thread Cert.OddQkvIdeal.nD Cert.OddQkvIdeal.τ).loc Cert.OddQkvIdeal.main_arg1)
          ∧ r.2.mem ((c.tc : Thread Cert.OddQkvIdeal.nD Cert.OddQkvIdeal.τ).loc Cert.OddQkvIdeal.main_arg2) = m ((c.tc : Thread Cert.OddQkvIdeal.nD Cert.OddQkvIdeal.τ).loc Cert.OddQkvIdeal.main_arg2))
      ∧ θ_run (Cert.OddQkvRefIdeal.defs (F := Ideal)) (onTc (τ := Cert.OddQkvRefIdeal.τ) (Cert.OddQkvRefIdeal.main (F := Ideal))) ⟨m', fun _ => 0, g'⟩ (fun r => ∀ c : Dev Cert.OddQkvRefIdeal.nD,
          r.2.mem ((c.tc : Thread Cert.OddQkvRefIdeal.nD Cert.OddQkvRefIdeal.τ).loc Cert.OddQkvRefIdeal.main_v11) = v0 c
          ∧ r.2.mem ((c.tc : Thread Cert.OddQkvRefIdeal.nD Cert.OddQkvRefIdeal.τ).loc Cert.OddQkvRefIdeal.main_v52) = v1 c
          ∧ r.2.mem ((c.tc : Thread Cert.OddQkvRefIdeal.nD Cert.OddQkvRefIdeal.τ).loc Cert.OddQkvRefIdeal.main_arg0) = m' ((c.tc : Thread Cert.OddQkvRefIdeal.nD Cert.OddQkvRefIdeal.τ).loc Cert.OddQkvRefIdeal.main_arg0)
          ∧ r.2.mem ((c.tc : Thread Cert.OddQkvRefIdeal.nD Cert.OddQkvRefIdeal.τ).loc Cert.OddQkvRefIdeal.main_arg1) = m' ((c.tc : Thread Cert.OddQkvRefIdeal.nD Cert.OddQkvRefIdeal.τ).loc Cert.OddQkvRefIdeal.main_arg1)
          ∧ r.2.mem ((c.tc : Thread Cert.OddQkvRefIdeal.nD Cert.OddQkvRefIdeal.τ).loc Cert.OddQkvRefIdeal.main_arg2) = m' ((c.tc : Thread Cert.OddQkvRefIdeal.nD Cert.OddQkvRefIdeal.τ).loc Cert.OddQkvRefIdeal.main_arg2))

def Claim : Prop :=
  ∃ (hKernel : Cert.Kernel.Facts) (hKernelIdeal : Cert.KernelIdeal.Facts) (hReferenceIdeal : Cert.ReferenceIdeal.Facts) (hFfnDx : Cert.FfnDx.Facts) (hFfnDxIdeal : Cert.FfnDxIdeal.Facts) (hFfnDxRefIdeal : Cert.FfnDxRefIdeal.Facts) (hFfnDwUp : Cert.FfnDwUp.Facts) (hFfnDwUpIdeal : Cert.FfnDwUpIdeal.Facts) (hFfnDwUpRefIdeal : Cert.FfnDwUpRefIdeal.Facts) (hFfnDwDown : Cert.FfnDwDown.Facts) (hFfnDwDownIdeal : Cert.FfnDwDownIdeal.Facts) (hFfnDwDownRefIdeal : Cert.FfnDwDownRefIdeal.Facts) (hFfnDact : Cert.FfnDact.Facts) (hFfnDactIdeal : Cert.FfnDactIdeal.Facts) (hFfnDactRefIdeal : Cert.FfnDactRefIdeal.Facts) (hEvenDx : Cert.EvenDx.Facts) (hEvenDxIdeal : Cert.EvenDxIdeal.Facts) (hEvenDxRefIdeal : Cert.EvenDxRefIdeal.Facts) (hFfnUp : Cert.FfnUp.Facts) (hFfnUpIdeal : Cert.FfnUpIdeal.Facts) (hFfnUpRefIdeal : Cert.FfnUpRefIdeal.Facts) (hOddDx : Cert.OddDx.Facts) (hOddDxIdeal : Cert.OddDxIdeal.Facts) (hOddDxRefIdeal : Cert.OddDxRefIdeal.Facts) (hEvenDwIn : Cert.EvenDwIn.Facts) (hEvenDwInIdeal : Cert.EvenDwInIdeal.Facts) (hEvenDwInRefIdeal : Cert.EvenDwInRefIdeal.Facts) (hOddDwQkv : Cert.OddDwQkv.Facts) (hOddDwQkvIdeal : Cert.OddDwQkvIdeal.Facts) (hOddDwQkvRefIdeal : Cert.OddDwQkvRefIdeal.Facts) (hDwOut : Cert.DwOut.Facts) (hDwOutIdeal : Cert.DwOutIdeal.Facts) (hDwOutRefIdeal : Cert.DwOutRefIdeal.Facts) (hEvenDmix : Cert.EvenDmix.Facts) (hEvenDmixIdeal : Cert.EvenDmixIdeal.Facts) (hEvenDmixRefIdeal : Cert.EvenDmixRefIdeal.Facts) (hOddDatt : Cert.OddDatt.Facts) (hOddDattIdeal : Cert.OddDattIdeal.Facts) (hOddDattRefIdeal : Cert.OddDattRefIdeal.Facts) (hFfnDown : Cert.FfnDown.Facts) (hFfnDownIdeal : Cert.FfnDownIdeal.Facts) (hFfnDownRefIdeal : Cert.FfnDownRefIdeal.Facts) (hOutNorm : Cert.OutNorm.Facts) (hOutNormIdeal : Cert.OutNormIdeal.Facts) (hOutNormRefIdeal : Cert.OutNormRefIdeal.Facts) (hFfnLoss : Cert.FfnLoss.Facts) (hFfnLossIdeal : Cert.FfnLossIdeal.Facts) (hFfnLossRefIdeal : Cert.FfnLossRefIdeal.Facts) (hOddQkv : Cert.OddQkv.Facts) (hOddQkvIdeal : Cert.OddQkvIdeal.Facts) (hOddQkvRefIdeal : Cert.OddQkvRefIdeal.Facts) (hPre_pool_finite : Cert.Pre_pool_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_FfnDwUp (hFfnDwUp := hFfnDwUp)
    ∧ quiescent_FfnDwUpIdeal (hFfnDwUpIdeal := hFfnDwUpIdeal)
    ∧ quiescent_FfnDwUpRefIdeal (hFfnDwUpRefIdeal := hFfnDwUpRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_FfnDact (hFfnDact := hFfnDact)
    ∧ quiescent_FfnDactIdeal (hFfnDactIdeal := hFfnDactIdeal)
    ∧ quiescent_FfnDactRefIdeal (hFfnDactRefIdeal := hFfnDactRefIdeal)
    ∧ quiescent_EvenDx (hEvenDx := hEvenDx)
    ∧ quiescent_EvenDxIdeal (hEvenDxIdeal := hEvenDxIdeal)
    ∧ quiescent_EvenDxRefIdeal (hEvenDxRefIdeal := hEvenDxRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_OddDx (hOddDx := hOddDx)
    ∧ quiescent_OddDxIdeal (hOddDxIdeal := hOddDxIdeal)
    ∧ quiescent_OddDxRefIdeal (hOddDxRefIdeal := hOddDxRefIdeal)
    ∧ quiescent_EvenDwIn (hEvenDwIn := hEvenDwIn)
    ∧ quiescent_EvenDwInIdeal (hEvenDwInIdeal := hEvenDwInIdeal)
    ∧ quiescent_EvenDwInRefIdeal (hEvenDwInRefIdeal := hEvenDwInRefIdeal)
    ∧ quiescent_OddDwQkv (hOddDwQkv := hOddDwQkv)
    ∧ quiescent_OddDwQkvIdeal (hOddDwQkvIdeal := hOddDwQkvIdeal)
    ∧ quiescent_OddDwQkvRefIdeal (hOddDwQkvRefIdeal := hOddDwQkvRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_EvenDmix (hEvenDmix := hEvenDmix)
    ∧ quiescent_EvenDmixIdeal (hEvenDmixIdeal := hEvenDmixIdeal)
    ∧ quiescent_EvenDmixRefIdeal (hEvenDmixRefIdeal := hEvenDmixRefIdeal)
    ∧ quiescent_OddDatt (hOddDatt := hOddDatt)
    ∧ quiescent_OddDattIdeal (hOddDattIdeal := hOddDattIdeal)
    ∧ quiescent_OddDattRefIdeal (hOddDattRefIdeal := hOddDattRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_OddQkv (hOddQkv := hOddQkv)
    ∧ quiescent_OddQkvIdeal (hOddQkvIdeal := hOddQkvIdeal)
    ∧ quiescent_OddQkvRefIdeal (hOddQkvRefIdeal := hOddQkvRefIdeal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_FfnDx_FfnDxIdeal
    ∧ algebraic_FfnDxIdeal_FfnDxRefIdeal (hFfnDxIdeal := hFfnDxIdeal) (hFfnDxRefIdeal := hFfnDxRefIdeal)
    ∧ preserves_FfnDwUp_FfnDwUpIdeal
    ∧ algebraic_FfnDwUpIdeal_FfnDwUpRefIdeal (hFfnDwUpIdeal := hFfnDwUpIdeal) (hFfnDwUpRefIdeal := hFfnDwUpRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_FfnDact_FfnDactIdeal
    ∧ algebraic_FfnDactIdeal_FfnDactRefIdeal (hFfnDactIdeal := hFfnDactIdeal) (hFfnDactRefIdeal := hFfnDactRefIdeal)
    ∧ preserves_EvenDx_EvenDxIdeal
    ∧ algebraic_EvenDxIdeal_EvenDxRefIdeal (hEvenDxIdeal := hEvenDxIdeal) (hEvenDxRefIdeal := hEvenDxRefIdeal)
    ∧ preserves_FfnUp_FfnUpIdeal
    ∧ algebraic_FfnUpIdeal_FfnUpRefIdeal (hFfnUpIdeal := hFfnUpIdeal) (hFfnUpRefIdeal := hFfnUpRefIdeal)
    ∧ preserves_OddDx_OddDxIdeal
    ∧ algebraic_OddDxIdeal_OddDxRefIdeal (hOddDxIdeal := hOddDxIdeal) (hOddDxRefIdeal := hOddDxRefIdeal)
    ∧ preserves_EvenDwIn_EvenDwInIdeal
    ∧ algebraic_EvenDwInIdeal_EvenDwInRefIdeal (hEvenDwInIdeal := hEvenDwInIdeal) (hEvenDwInRefIdeal := hEvenDwInRefIdeal)
    ∧ preserves_OddDwQkv_OddDwQkvIdeal
    ∧ algebraic_OddDwQkvIdeal_OddDwQkvRefIdeal (hOddDwQkvIdeal := hOddDwQkvIdeal) (hOddDwQkvRefIdeal := hOddDwQkvRefIdeal)
    ∧ preserves_DwOut_DwOutIdeal
    ∧ algebraic_DwOutIdeal_DwOutRefIdeal (hDwOutIdeal := hDwOutIdeal) (hDwOutRefIdeal := hDwOutRefIdeal)
    ∧ preserves_EvenDmix_EvenDmixIdeal
    ∧ algebraic_EvenDmixIdeal_EvenDmixRefIdeal (hEvenDmixIdeal := hEvenDmixIdeal) (hEvenDmixRefIdeal := hEvenDmixRefIdeal)
    ∧ preserves_OddDatt_OddDattIdeal
    ∧ algebraic_OddDattIdeal_OddDattRefIdeal (hOddDattIdeal := hOddDattIdeal) (hOddDattRefIdeal := hOddDattRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutNorm_OutNormIdeal
    ∧ algebraic_OutNormIdeal_OutNormRefIdeal (hOutNormIdeal := hOutNormIdeal) (hOutNormRefIdeal := hOutNormRefIdeal)
    ∧ preserves_FfnLoss_FfnLossIdeal
    ∧ algebraic_FfnLossIdeal_FfnLossRefIdeal (hFfnLossIdeal := hFfnLossIdeal) (hFfnLossRefIdeal := hFfnLossRefIdeal)
    ∧ preserves_OddQkv_OddQkvIdeal
    ∧ algebraic_OddQkvIdeal_OddQkvRefIdeal (hOddQkvIdeal := hOddQkvIdeal) (hOddQkvRefIdeal := hOddQkvRefIdeal)
-- ==== Pre_pool_finite.lean ====
abbrev S4096x2048 : Shape := ⟨2, ![4096, 2048]⟩
abbrev S4096x1024 : Shape := ⟨2, ![4096, 1024]⟩
abbrev S3x512 : Shape := ⟨2, ![3, 512]⟩
abbrev S4x128x128 : Shape := ⟨3, ![4, 128, 128]⟩
abbrev S1x512 : Shape := ⟨2, ![1, 512]⟩
abbrev S4096x512 : Shape := ⟨2, ![4096, 512]⟩
abbrev S_ : Shape := ⟨0, ![]⟩

class Facts : Prop where
  slices_S4096x2048_S4096x512_0_1536 : S4096x2048.Slices ![0, 1536] S4096x512
  bcast_S_S4096x512 : S_.BroadcastsInDim S4096x512 (![] : Fin 0 → Fin S4096x512.rank)
  reducesTo_S4096x512_S_d0_1 : S4096x512.ReducesTo [0, 1] S_
  h_S_ : 0 < S_.numel
  slices_S4096x1024_S4096x512_0_512 : S4096x1024.Slices ![0, 512] S4096x512
  bitsLt_bf16_f32 : FTy.bits .bf16 < FTy.bits .f32
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v16 : IVec S_ 1) (main_v17 : FVec F S1x512 .f32) : IVec S_ 1 :=
  let main_cst_4 : FVec F S_ .f32 := constant S_ .f32 0x7F800000#32
  let main_v18 : FVec F S1x512 .f32 := broadcastInDim S1x512 ![] bcast_S_S1x512 main_cst_4
  let main_v19 : IVec S1x512 1 := cmpf .olt main_v17 main_v18
  let main_c_5 : IVec S_ 1 := constantI S_ 1 1#1
  let main_v20 : IVec S_ 1 := (fun x v => Host.reduce IntOp.andi x v reducesTo_S1x512_S_d0_1 h_S_) main_v19 main_c_5
  let main_v21 : IVec S_ 1 := andi main_v16 main_v20
  main_v21

def fn {F : FTy → Type} [FloatOps F] (main_arg0 : FVec F S4096x2048 .f32) (main_arg1 : FVec F S4096x1024 .f32) (main_arg2 : FVec F S3x512 .f32) (main_arg3 : FVec F S4x128x128 .bf16) (main_arg4 : FVec F S1x512 .f32) : IVec S_ 1 :=
  let main_v0 : FVec F S4096x512 .f32 := (extractStridedSlice S4096x512 ![0, 1536] · slices_S4096x2048_S4096x512_0_1536) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extractStridedSlice S4096x512 ![0, 512] · slices_S4096x1024_S4096x512_0_512) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4x128x128 .f32 := (extf .f32 · bitsLt_bf16_f32) main_arg3
  let main_v12 : FVec F S4x128x128 .f32 := Host.absf main_v11
  let main_cst_2 : FVec F S_ .f32 := constant S_ .f32 0x7F800000#32
  let main_v13 : FVec F S4x128x128 .f32 := broadcastInDim S4x128x128 ![] bcast_S_S4x128x128 main_cst_2
  let main_v14 : IVec S4x128x128 1 := cmpf .olt main_v12 main_v13
  let main_c_3 : IVec S_ 1 := constantI S_ 1 1#1
  let main_v15 : IVec S_ 1 := (fun x v => Host.reduce IntOp.andi x v reducesTo_S4x128x128_S_d0_1_2 h_S_) main_v14 main_c_3
  let main_v16 : IVec S_ 1 := andi main_v10 main_v15
  let main_v17 : FVec F S1x512 .f32 := Host.absf main_arg4
  fn_part1 (F := F) main_v16 main_v17
-- ==== Kernel.lean ====
abbrev S4096x2048 : Shape := ⟨2, ![4096, 2048]⟩
abbrev S4096x1024 : Shape := ⟨2, ![4096, 1024]⟩
abbrev S3x512 : Shape := ⟨2, ![3, 512]⟩
abbrev S4x128x128 : Shape := ⟨3, ![4, 128, 128]⟩
abbrev S1x512 : Shape := ⟨2, ![1, 512]⟩
abbrev S256x2048 : Shape := ⟨2, ![256, 2048]⟩
abbrev S16x2048 : Shape := ⟨2, ![16, 2048]⟩
abbrev S256x1024 : Shape := ⟨2, ![256, 1024]⟩
abbrev S16x1024 : Shape := ⟨2, ![16, 1024]⟩
abbrev S288x2048 : Shape := ⟨2, ![288, 2048]⟩
abbrev S288x1024 : Shape := ⟨2, ![288, 1024]⟩
abbrev S288x512 : Shape := ⟨2, ![288, 512]⟩
abbrev S256x512 : Shape := ⟨2, ![256, 512]⟩
abbrev S512 : Shape := ⟨1, ![512]⟩
abbrev S288x128 : Shape := ⟨2, ![288, 128]⟩
abbrev S288x1 : Shape := ⟨2, ![288, 1]⟩
abbrev S256x128 : Shape := ⟨2, ![256, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x512, .f32⟩
  | .hbm, ⟨3, _⟩ => ⟨S4x128x128, .bf16⟩
  | .hbm, ⟨4, _⟩ => ⟨S1x512, .f32⟩
  | .hbm, ⟨5, _⟩ => ⟨S4096x2048, .bf16⟩
  | .hbm, ⟨6, _⟩ => ⟨S3x512, .f32⟩
  | .hbm, ⟨7, _⟩ => ⟨S4x128x128, .f32⟩
  | .hbm, ⟨8, _⟩ => ⟨S1x512, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S256x1024, .f32⟩
  | .local _ .vmem, ⟨7, _⟩ => ⟨S256x1024, .f32⟩
  | .local _ .vmem, ⟨8, _⟩ => ⟨S16x1024, .f32⟩
  | .local _ .vmem, ⟨9, _⟩ => ⟨S16x1024, .f32⟩
  | .local _ .vmem, ⟨10, _⟩ => ⟨S3x512, .f32⟩
  | .local _ .vmem, ⟨11, _⟩ => ⟨S4x128x128, .bf16⟩
  | .local _ .vmem, ⟨12, _⟩ => ⟨S1x512, .f32⟩
  | .local _ .vmem, ⟨13, _⟩ => ⟨S256x2048, .bf16⟩
  | .local _ .vmem, ⟨14, _⟩ => ⟨S256x2048, .bf16⟩
  | .local _ .vmem, ⟨15, _⟩ => ⟨S3x512, .f32⟩
  | .local _ .vmem, ⟨16, _⟩ => ⟨S4x128x128, .f32⟩
  | .local _ .vmem, ⟨17, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x2048 : Shape := ⟨2, ![4096, 2048]⟩
abbrev S4096x1024 : Shape := ⟨2, ![4096, 1024]⟩
abbrev S3x512 : Shape := ⟨2, ![3, 512]⟩
abbrev S4x128x128 : Shape := ⟨3, ![4, 128, 128]⟩
abbrev S1x512 : Shape := ⟨2, ![1, 512]⟩
abbrev S1x4096x2048 : Shape := ⟨3, ![1, 4096, 2048]⟩
abbrev S512 : Shape := ⟨1, ![512]⟩
abbrev S1x4096x512 : Shape := ⟨3, ![1, 4096, 512]⟩
abbrev S_ : Shape := ⟨0, ![]⟩
abbrev S1x2x512 : Shape := ⟨3, ![1, 2, 512]⟩
abbrev S1x4098x512 : Shape := ⟨3, ![1, 4098, 512]⟩
abbrev S1x1x512 : Shape := ⟨3, ![1, 1, 512]⟩
abbrev S1x4096x4x128 : Shape := ⟨4, ![1, 4096, 4, 128]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4098x128 : Shape := ⟨3, ![1, 4098, 128]⟩
abbrev S4096 : Shape := ⟨1, ![4096]⟩
abbrev S1x4096x1 : Shape := ⟨3, ![1, 4096, 1]⟩
abbrev S1x4x128 : Shape := ⟨3, ![1, 4, 128]⟩
abbrev S1x4100x128 : Shape := ⟨3, ![1, 4100, 128]⟩
abbrev S1x8x128 : Shape := ⟨3, ![1, 8, 128]⟩
abbrev S1x4104x128 : Shape := ⟨3, ![1, 4104, 128]⟩
abbrev S1x16x128 : Shape := ⟨3, ![1, 16, 128]⟩
abbrev S1x4112x128 : Shape := ⟨3, ![1, 4112, 128]⟩
abbrev S4x128x1x4096 : Shape := ⟨4, ![4, 128, 1, 4096]⟩
abbrev S1x4096x1024 : Shape := ⟨3, ![1, 4096, 1024]⟩
abbrev S4x1x4096x128 : Shape := ⟨4, ![4, 1, 4096, 128]⟩

abbrev nBuf : Space → Nat
  | .hbm => 285
  | .vmem => 0
  | .smem => 0
  | _ => 0

abbrev hbmTy0_0 (i : Nat) : BufTy := match i % 128 with
  | 0 => ⟨S4096x2048, .f32⟩
  | 1 => ⟨S4096x1024, .f32⟩
  | 2 => ⟨S3x512, .f32⟩
  | 3 => ⟨S4x128x128, .bf16⟩
  | 4 => ⟨S1x512, .f32⟩
  | 5 => ⟨S1x4096x2048, .f32⟩
  | 6 => ⟨S4x128x128, .f32⟩
  | 7 => ⟨S512, .f32⟩
  | 8 => ⟨S1x4096x512, .f32⟩
  | 9 => ⟨S1x4096x512, .f32⟩
  | 10 => ⟨S1x4096x512, .f32⟩
  | 11 => ⟨S1x4096x512, .f32⟩
  | 12 => ⟨S1x4096x512, .f32⟩
  | 13 => ⟨S_, .f32⟩
  | 14 => ⟨S1x2x512, .f32⟩
  | 15 => ⟨S1x4098x512, .f32⟩
  | 16 => ⟨S_, .f32⟩
  | 17 => ⟨S1x2x512, .f32⟩
  | 18 => ⟨S1x4096x512, .f32⟩
  | 19 => ⟨S1x512, .f32⟩
  | 20 => ⟨S512, .f32⟩
  | 21 => ⟨S1x1x512, .f32⟩
  | 22 => ⟨S1x4096x512, .f32⟩
  | 23 => ⟨S1x4096x512, .f32⟩
  | 24 => ⟨S1x4096x512, .f32⟩
  | 25 => ⟨S1x512, .f32⟩
  | 26 => ⟨S512, .f32⟩
  | 27 => ⟨S1x1x512, .f32⟩
  | 28 => ⟨S1x4096x512, .f32⟩
  | 29 => ⟨S1x4096x512, .f32⟩
  | 30 => ⟨S1x4096x512, .f32⟩
  | 31 => ⟨S1x4096x512, .f32⟩
  | 32 => ⟨S1x512, .f32⟩
  | 33 => ⟨S512, .f32⟩
  | 34 => ⟨S1x1x512, .f32⟩
  | 35 => ⟨S1x4096x512, .f32⟩
  | 36 => ⟨S1x4096x512, .f32⟩
  | 37 => ⟨S1x4096x512, .f32⟩
  | 38 => ⟨S1x4096x512, .f32⟩
  | 39 => ⟨S1x4096x4x128, .f32⟩
  | 40 => ⟨S1x4096x1x128, .f32⟩
  | 41 => ⟨S1x4096x128, .f32⟩
  | 42 => ⟨S_, .f32⟩
  | 43 => ⟨S_, .f32⟩
  | 44 => ⟨S1x4096x128, .f32⟩
  | 45 => ⟨S_, .f32⟩
  | 46 => ⟨S1x2x128, .f32⟩
  | 47 => ⟨S1x4098x128, .f32⟩
  | 48 => ⟨S_, .f32⟩
  | 49 => ⟨S1x2x128, .f32⟩
  | 50 => ⟨S1x4096x128, .f32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .f32⟩
  | 59 => ⟨S1x4096x1, .f32⟩
  | 60 => ⟨S1x4096x128, .f32⟩
  | 61 => ⟨S1x4096x128, .f32⟩
  | 62 => ⟨S1x4096x128, .f32⟩
  | 63 => ⟨S1x4096x1x128, .f32⟩
  | 64 => ⟨S1x4096x128, .f32⟩
  | 65 => ⟨S_, .f32⟩
  | 66 => ⟨S_, .f32⟩
  | 67 => ⟨S1x4096x128, .f32⟩
  | 68 => ⟨S_, .f32⟩
  | 69 => ⟨S1x4x128, .f32⟩
  | 70 => ⟨S1x4100x128, .f32⟩
  | 71 => ⟨S_, .f32⟩
  | 72 => ⟨S1x4x128, .f32⟩
  | 73 => ⟨S1x4096x128, .f32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .f32⟩
  | 82 => ⟨S1x4096x1, .f32⟩
  | 83 => ⟨S1x4096x128, .f32⟩
  | 84 => ⟨S1x4096x128, .f32⟩
  | 85 => ⟨S1x4096x128, .f32⟩
  | 86 => ⟨S1x4096x1x128, .f32⟩
  | 87 => ⟨S1x4096x128, .f32⟩
  | 88 => ⟨S_, .f32⟩
  | 89 => ⟨S_, .f32⟩
  | 90 => ⟨S1x4096x128, .f32⟩
  | 91 => ⟨S_, .f32⟩
  | 92 => ⟨S1x8x128, .f32⟩
  | 93 => ⟨S1x4104x128, .f32⟩
  | 94 => ⟨S_, .f32⟩
  | 95 => ⟨S1x8x128, .f32⟩
  | 96 => ⟨S1x4096x128, .f32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S4096, .f32⟩
  | 105 => ⟨S1x4096x1, .f32⟩
  | 106 => ⟨S1x4096x128, .f32⟩
  | 107 => ⟨S1x4096x128, .f32⟩
  | 108 => ⟨S1x4096x128, .f32⟩
  | 109 => ⟨S1x4096x1x128, .f32⟩
  | 110 => ⟨S1x4096x128, .f32⟩
  | 111 => ⟨S_, .f32⟩
  | 112 => ⟨S_, .f32⟩
  | 113 => ⟨S1x4096x128, .f32⟩
  | 114 => ⟨S_, .f32⟩
  | 115 => ⟨S1x16x128, .f32⟩
  | 116 => ⟨S1x4112x128, .f32⟩
  | 117 => ⟨S_, .f32⟩
  | 118 => ⟨S1x16x128, .f32⟩
  | 119 => ⟨S1x4096x128, .f32⟩
  | 120 => ⟨S4096, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S4096, .f32⟩
  | _ => ⟨S4096x2048, .f32⟩

abbrev hbmTy0_1 (i : Nat) : BufTy := match i % 128 with
  | 0 => ⟨S1x4096x1, .f32⟩
  | 1 => ⟨S1x4096x128, .f32⟩
  | 2 => ⟨S1x4096x128, .f32⟩
  | 3 => ⟨S1x4096x128, .f32⟩
  | 4 => ⟨S1x4096x1x128, .f32⟩
  | 5 => ⟨S1x4096x1x128, .f32⟩
  | 6 => ⟨S1x4096x1x128, .f32⟩
  | 7 => ⟨S1x4096x1x128, .f32⟩
  | 8 => ⟨S1x4096x4x128, .f32⟩
  | 9 => ⟨S1x4096x4x128, .f32⟩
  | 10 => ⟨S4x128x1x4096, .f32⟩
  | 11 => ⟨S1x4096x4x128, .f32⟩
  | 12 => ⟨S1x4096x512, .f32⟩
  | 13 => ⟨S1x1x512, .f32⟩
  | 14 => ⟨S1x4096x512, .f32⟩
  | 15 => ⟨S1x4096x512, .f32⟩
  | 16 => ⟨S1x4096x1024, .f32⟩
  | 17 => ⟨S1x4096x1024, .f32⟩
  | 18 => ⟨S1x4096x512, .f32⟩
  | 19 => ⟨S1x4096x512, .f32⟩
  | 20 => ⟨S1x4096x512, .f32⟩
  | 21 => ⟨S_, .f32⟩
  | 22 => ⟨S1x512, .f32⟩
  | 23 => ⟨S1x1x512, .f32⟩
  | 24 => ⟨S1x4096x512, .f32⟩
  | 25 => ⟨S1x4096x512, .f32⟩
  | 26 => ⟨S_, .f32⟩
  | 27 => ⟨S512, .f32⟩
  | 28 => ⟨S1x4096x4x128, .f32⟩
  | 29 => ⟨S4x128x1x4096, .f32⟩
  | 30 => ⟨S4x1x4096x128, .f32⟩
  | 31 => ⟨S1x4096x4x128, .f32⟩
  | 32 => ⟨S4x128x128, .f32⟩
  | 33 => ⟨S4x128x128, .f32⟩
  | 34 => ⟨S1x4096x4x128, .f32⟩
  | 35 => ⟨S1x4096x1x128, .f32⟩
  | 36 => ⟨S1x4096x128, .f32⟩
  | 37 => ⟨S1x4096x1x128, .f32⟩
  | 38 => ⟨S1x4096x128, .f32⟩
  | 39 => ⟨S1x4096x1x128, .f32⟩
  | 40 => ⟨S1x4096x128, .f32⟩
  | 41 => ⟨S1x4096x1x128, .f32⟩
  | 42 => ⟨S1x4096x128, .f32⟩
  | 43 => ⟨S1x4096x128, .f32⟩
  | 44 => ⟨S1x4096x128, .f32⟩
  | 45 => ⟨S1x4096x128, .f32⟩
  | 46 => ⟨S_, .f32⟩
  | 47 => ⟨S1x4112x128, .f32⟩
  | 48 => ⟨S1x16x128, .f32⟩
  | 49 => ⟨S1x4096x128, .f32⟩
  | 50 => ⟨S1x4096x128, .f32⟩
  | 51 => ⟨S_, .f32⟩
  | 52 => ⟨S_, .f32⟩
  | 53 => ⟨S1x4096x128, .f32⟩
  | 54 => ⟨S1x4096x1x128, .f32⟩
  | 55 => ⟨S_, .f32⟩
  | 56 => ⟨S1x4096x4x128, .f32⟩
  | 57 => ⟨S1x4096x4x128, .f32⟩
  | 58 => ⟨S1x4096x128, .f32⟩
  | 59 => ⟨S1x4096x128, .f32⟩
  | 60 => ⟨S1x4096x128, .f32⟩
  | 61 => ⟨S_, .f32⟩
  | 62 => ⟨S1x4104x128, .f32⟩
  | 63 => ⟨S1x8x128, .f32⟩
  | 64 => ⟨S1x4096x128, .f32⟩
  | 65 => ⟨S1x4096x128, .f32⟩
  | 66 => ⟨S_, .f32⟩
  | 67 => ⟨S_, .f32⟩
  | 68 => ⟨S1x4096x128, .f32⟩
  | 69 => ⟨S1x4096x1x128, .f32⟩
  | 70 => ⟨S_, .f32⟩
  | 71 => ⟨S1x4096x4x128, .f32⟩
  | 72 => ⟨S1x4096x4x128, .f32⟩
  | 73 => ⟨S1x4096x128, .f32⟩
  | 74 => ⟨S1x4096x128, .f32⟩
  | 75 => ⟨S1x4096x128, .f32⟩
  | 76 => ⟨S_, .f32⟩
  | 77 => ⟨S1x4100x128, .f32⟩
  | 78 => ⟨S1x4x128, .f32⟩
  | 79 => ⟨S1x4096x128, .f32⟩
  | 80 => ⟨S1x4096x128, .f32⟩
  | 81 => ⟨S_, .f32⟩
  | 82 => ⟨S_, .f32⟩
  | 83 => ⟨S1x4096x128, .f32⟩
  | 84 => ⟨S1x4096x1x128, .f32⟩
  | 85 => ⟨S_, .f32⟩
  | 86 => ⟨S1x4096x4x128, .f32⟩
  | 87 => ⟨S1x4096x4x128, .f32⟩
  | 88 => ⟨S1x4096x128, .f32⟩
  | 89 => ⟨S1x4096x128, .f32⟩
  | 90 => ⟨S1x4096x128, .f32⟩
  | 91 => ⟨S_, .f32⟩
  | 92 => ⟨S1x4098x128, .f32⟩
  | 93 => ⟨S1x2x128, .f32⟩
  | 94 => ⟨S1x4096x128, .f32⟩
  | 95 => ⟨S1x4096x128, .f32⟩
  | 96 => ⟨S_, .f32⟩
  | 97 => ⟨S_, .f32⟩
  | 98 => ⟨S1x4096x128, .f32⟩
  | 99 => ⟨S1x4096x1x128, .f32⟩
  | 100 => ⟨S_, .f32⟩
  | 101 => ⟨S1x4096x4x128, .f32⟩
  | 102 => ⟨S1x4096x4x128, .f32⟩
  | 103 => ⟨S1x4096x512, .f32⟩
  | 104 => ⟨S1x4096x512, .f32⟩
  | 105 => ⟨S1x4096x512, .f32⟩
  | 106 => ⟨S1x4096x512, .f32⟩
  | 107 => ⟨S_, .f32⟩
  | 108 => ⟨S1x512, .f32⟩
  | 109 => ⟨S1x1x512, .f32⟩
  | 110 => ⟨S1x4096x512, .f32⟩
  | 111 => ⟨S1x4096x512, .f32⟩
  | 112 => ⟨S_, .f32⟩
  | 113 => ⟨S512, .f32⟩
  | 114 => ⟨S1x512, .f32⟩
  | 115 => ⟨S_, .f32⟩
  | 116 => ⟨S3x512, .f32⟩
  | 117 => ⟨S_, .f32⟩
  | 118 => ⟨S1x4098x512, .f32⟩
  | 119 => ⟨S1x4096x512, .f32⟩
  | 120 => ⟨S_, .f32⟩
  | 121 => ⟨S1x512, .f32⟩
  | 122 => ⟨S1x1x512, .f32⟩
  | 123 => ⟨S1x4096x512, .f32⟩
  | 124 => ⟨S1x4096x512, .f32⟩
  | 125 => ⟨S_, .f32⟩
  | 126 => ⟨S512, .f32⟩
  | 127 => ⟨S1x512, .f32⟩
  | _ => ⟨S4096x2048, .f32⟩

abbrev hbmTy0_2 (i : Nat) : BufTy := match i % 128 with
  | 0 => ⟨S_, .f32⟩
  | 1 => ⟨S3x512, .f32⟩
  | 2 => ⟨S3x512, .f32⟩
  | 3 => ⟨S_, .f32⟩
  | 4 => ⟨S1x4098x512, .f32⟩
  | 5 => ⟨S1x4098x512, .f32⟩
  | 6 => ⟨S1x4096x512, .f32⟩
  | 7 => ⟨S_, .f32⟩
  | 8 => ⟨S1x512, .f32⟩
  | 9 => ⟨S1x1x512, .f32⟩
  | 10 => ⟨S1x4096x512, .f32⟩
  | 11 => ⟨S1x4096x512, .f32⟩
  | 12 => ⟨S_, .f32⟩
  | 13 => ⟨S512, .f32⟩
  | 14 => ⟨S1x512, .f32⟩
  | 15 => ⟨S_, .f32⟩
  | 16 => ⟨S3x512, .f32⟩
  | 17 => ⟨S3x512, .f32⟩
  | 18 => ⟨S_, .f32⟩
  | 19 => ⟨S1x4098x512, .f32⟩
  | 20 => ⟨S1x4098x512, .f32⟩
  | 21 => ⟨S1x2x512, .f32⟩
  | 22 => ⟨S1x4096x512, .f32⟩
  | 23 => ⟨S1x4096x512, .f32⟩
  | 24 => ⟨S1x4096x512, .f32⟩
  | 25 => ⟨S1x4096x2048, .f32⟩
  | 26 => ⟨S4096x2048, .f32⟩
  | 27 => ⟨S4096x2048, .bf16⟩
  | 28 => ⟨S1x512, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_call0_cst : Ref sig .tc := ⟨.hbm, 42, rfl⟩
abbrev main_call0_call0_v0 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c : Ref sig .tc := ⟨.hbm, 52, rfl⟩
abbrev main_v41 : Ref sig .tc := ⟨.hbm, 53, rfl⟩
abbrev main_v42 : Ref sig .tc := ⟨.hbm, 54, rfl⟩
abbrev main_c_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call1_call0_cst : Ref sig .tc := ⟨.hbm, 65, rfl⟩
abbrev main_call1_call0_v0 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call2_call0_cst : Ref sig .tc := ⟨.hbm, 88, rfl⟩
abbrev main_call2_call0_v0 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_10 : Ref sig .tc := ⟨.hbm, 98, rfl⟩
abbrev main_v75 : Ref sig .tc := ⟨.hbm, 99, rfl⟩
abbrev main_v76 : Ref sig .tc := ⟨.hbm, 100, rfl⟩
abbrev main_c_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call3_call0_cst : Ref sig .tc := ⟨.hbm, 111, rfl⟩
abbrev main_call3_call0_v0 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_14 : Ref sig .tc := ⟨.hbm, 121, rfl⟩
abbrev main_v92 : Ref sig .tc := ⟨.hbm, 122, rfl⟩
abbrev main_v93 : Ref sig .tc := ⟨.hbm, 123, rfl⟩
abbrev main_c_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_16 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_17 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_18 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_call4_call0_cst : Ref sig .tc := ⟨.hbm, 179, rfl⟩
abbrev main_call4_call0_v0 : Ref sig .tc := ⟨.hbm, 180, rfl⟩
abbrev main_v145 : Ref sig .tc := ⟨.hbm, 181, rfl⟩
abbrev main_v146 : Ref sig .tc := ⟨.hbm, 182, rfl⟩
abbrev main_cst_19 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_20 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_call5_call0_cst : Ref sig .tc := ⟨.hbm, 194, rfl⟩
abbrev main_call5_call0_v0 : Ref sig .tc := ⟨.hbm, 195, rfl⟩
abbrev main_v156 : Ref sig .tc := ⟨.hbm, 196, rfl⟩
abbrev main_v157 : Ref sig .tc := ⟨.hbm, 197, rfl⟩
abbrev main_cst_21 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_22 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_call6_call0_cst : Ref sig .tc := ⟨.hbm, 209, rfl⟩
abbrev main_call6_call0_v0 : Ref sig .tc := ⟨.hbm, 210, rfl⟩
abbrev main_v167 : Ref sig .tc := ⟨.hbm, 211, rfl⟩
abbrev main_v168 : Ref sig .tc := ⟨.hbm, 212, rfl⟩
abbrev main_cst_23 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_24 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_call7_call0_cst : Ref sig .tc := ⟨.hbm, 224, rfl⟩
abbrev main_call7_call0_v0 : Ref sig .tc := ⟨.hbm, 225, rfl⟩
abbrev main_v178 : Ref sig .tc := ⟨.hbm, 226, rfl⟩
abbrev main_v179 : Ref sig .tc := ⟨.hbm, 227, rfl⟩
abbrev main_cst_25 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_26 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_27 : Ref sig .tc := ⟨.hbm, 240, rfl⟩
abbrev main_v190 : Ref sig .tc := ⟨.hbm, 241, rfl⟩
abbrev main_v191 : Ref sig .tc := ⟨.hbm, 242, rfl⟩
abbrev main_cst_28 : Ref sig .tc := ⟨.hbm, 243, rfl⟩
abbrev main_v192 : Ref sig .tc := ⟨.hbm, 244, rfl⟩
abbrev main_cst_29 : Ref sig .tc := ⟨.hbm, 245, rfl⟩
abbrev main_v193 : Ref sig .tc := ⟨.hbm, 246, rfl⟩
abbrev main_v194 : Ref sig .tc := ⟨.hbm, 247, rfl⟩
abbrev main_cst_30 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_cst_31 : Ref sig .tc := ⟨.hbm, 253, rfl⟩
abbrev main_v199 : Ref sig .tc := ⟨.hbm, 254, rfl⟩
abbrev main_v200 : Ref sig .tc := ⟨.hbm, 255, rfl⟩
abbrev main_cst_32 : Ref sig .tc := ⟨.hbm, 256, rfl⟩
abbrev main_v201 : Ref sig .tc := ⟨.hbm, 257, rfl⟩
abbrev main_v202 : Ref sig .tc := ⟨.hbm, 258, rfl⟩
abbrev main_cst_33 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_34 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_cst_35 : Ref sig .tc := ⟨.hbm, 268, rfl⟩
abbrev main_v210 : Ref sig .tc := ⟨.hbm, 269, rfl⟩
abbrev main_v211 : Ref sig .tc := ⟨.hbm, 270, rfl⟩
abbrev main_cst_36 : Ref sig .tc := ⟨.hbm, 271, rfl⟩
abbrev main_v212 : Ref sig .tc := ⟨.hbm, 272, rfl⟩
abbrev main_v213 : Ref sig .tc := ⟨.hbm, 273, rfl⟩
abbrev main_cst_37 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩

abbrev nD : Nat := 1
abbrev τ : Topo := Topo.v7x

variable {F : FTy → Type} [FloatOps F]
-- ==== FfnDx.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_36 : BitVec 32 := 0#32
  let v56 : BitVec 1 := Scalar.cmpi .ne v55 c0_i32_36
  v56

def k0_cond2 (i : grid0.Coords) : BitVec 1 :=
  let arg0 : BitVec 32 := BitVec.ofNat 32 (i 0).val
  let c0_i32_37 : BitVec 32 := 0#32
  let v57 : BitVec 1 := Scalar.cmpi .sgt arg0 c0_i32_37
  let v58 : BitVec 32 := Scalar.extui v57
  let c0_i32_38 : BitVec 32 := 0#32
  let v59 : BitVec 1 := Scalar.cmpi .ne v58 c0_i32_38
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnDxRefIdeal.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024x1408 : Shape := ⟨4, ![1, 1, 1024, 1408]⟩
abbrev S1024x1408 : Shape := ⟨2, ![1024, 1408]⟩
abbrev S1024x5632 : Shape := ⟨2, ![1024, 5632]⟩

abbrev nBuf : Space → Nat
  | .hbm => 67
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1x1024x1408, .bf16⟩
  | .hbm, ⟨27, _⟩ => ⟨S1024x1408, .bf16⟩
  | .hbm, ⟨28, _⟩ => ⟨S1x1x1024x1408, .bf16⟩
  | .hbm, ⟨29, _⟩ => ⟨S1024x1408, .bf16⟩
  | .hbm, ⟨30, _⟩ => ⟨S1x1x1024x1408, .bf16⟩
  | .hbm, ⟨31, _⟩ => ⟨S1024x1408, .bf16⟩
  | .hbm, ⟨32, _⟩ => ⟨S1x1x1024x1408, .bf16⟩
  | .hbm, ⟨33, _⟩ => ⟨S1024x1408, .bf16⟩
  | .hbm, ⟨34, _⟩ => ⟨S1024x5632, .bf16⟩
  | .hbm, ⟨35, _⟩ => ⟨S1024x5632, .f32⟩
  | .hbm, ⟨36, _⟩ => ⟨S4096x5632, .f32⟩
  | .hbm, ⟨37, _⟩ => ⟨S4096x5632, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== FfnDwUp.lean ====
abbrev S4096x1024 : Shape := ⟨2, ![4096, 1024]⟩
abbrev S4096x5632 : Shape := ⟨2, ![4096, 5632]⟩
abbrev S4x1024x1408 : Shape := ⟨3, ![4, 1024, 1408]⟩
abbrev S1024x512 : Shape := ⟨2, ![1024, 512]⟩
abbrev S1024x2816 : Shape := ⟨2, ![1024, 2816]⟩
abbrev S2x512x1408 : Shape := ⟨3, ![2, 512, 1408]⟩
abbrev S512x2816 : Shape := ⟨2, ![512, 2816]⟩
abbrev S512x1408 : Shape := ⟨2, ![512, 1408]⟩
abbrev S1x512x1408 : Shape := ⟨3, ![1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwUpRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | .hbm, ⟨18, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== FfnDwDown.lean ====
abbrev S4096x2816 : Shape := ⟨2, ![4096, 2816]⟩
abbrev S4096x1024 : Shape := ⟨2, ![4096, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDact.lean ====
abbrev S4096x1024 : Shape := ⟨2, ![4096, 1024]⟩
abbrev S1x1x2816x1024 : Shape := ⟨4, ![1, 1, 2816, 1024]⟩
abbrev S4096x2816 : Shape := ⟨2, ![4096, 2816]⟩
abbrev S1024x1024 : Shape := ⟨2, ![1024, 1024]⟩
abbrev S1x1x1408x1024 : Shape := ⟨4, ![1, 1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1x2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDactRefIdeal.lean ====
abbrev S4096x1024 : Shape := ⟨2, ![4096, 1024]⟩
abbrev S1x1x2816x1024 : Shape := ⟨4, ![1, 1, 2816, 1024]⟩
abbrev S_ : Shape := ⟨0, ![]⟩
abbrev S4096x2816 : Shape := ⟨2, ![4096, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x2816x1024, .bf16⟩
  | .hbm, ⟨2, _⟩ => ⟨S_, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenDx.lean ====
abbrev S4096x2048 : Shape := ⟨2, ![4096, 2048]⟩
abbrev S4x1x1024x512 : Shape := ⟨4, ![4, 1, 1024, 512]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512x512 : Shape := ⟨2, ![512, 512]⟩
abbrev S1x1x1024x512 : Shape := ⟨4, ![1, 1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4x1x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_36 : BitVec 32 := 0#32
  let v56 : BitVec 1 := Scalar.cmpi .ne v55 c0_i32_36
  v56

def k0_cond2 (i : grid0.Coords) : BitVec 1 :=
  let arg0 : BitVec 32 := BitVec.ofNat 32 (i 0).val
  let c0_i32_37 : BitVec 32 := 0#32
  let v57 : BitVec 1 := Scalar.cmpi .sgt arg0 c0_i32_37
  let v58 : BitVec 32 := Scalar.extui v57
  let c0_i32_38 : BitVec 32 := 0#32
  let v59 : BitVec 1 := Scalar.cmpi .ne v58 c0_i32_38
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== EvenDxRefIdeal.lean ====
abbrev S4096x2048 : Shape := ⟨2, ![4096, 2048]⟩
abbrev S4x1x1024x512 : Shape := ⟨4, ![4, 1, 1024, 512]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024x512 : Shape := ⟨4, ![1, 1, 1024, 512]⟩
abbrev S1024x512 : Shape := ⟨2, ![1024, 512]⟩
abbrev S1024x2048 : Shape := ⟨2, ![1024, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1x1024x512, .bf16⟩
  | .hbm, ⟨27, _⟩ => ⟨S1024x512, .bf16⟩
  | .hbm, ⟨28, _⟩ => ⟨S1x1x1024x512, .bf16⟩
  | .hbm, ⟨29, _⟩ => ⟨S1024x512, .bf16⟩
  | .hbm, ⟨30, _⟩ => ⟨S1x1x1024x512, .bf16⟩
  | .hbm, ⟨31, _⟩ => ⟨S1024x512, .bf16⟩
  | .hbm, ⟨32, _⟩ => ⟨S1x1x1024x512, .bf16⟩
  | .hbm, ⟨33, _⟩ => ⟨S1024x512, .bf16⟩
  | .hbm, ⟨34, _⟩ => ⟨S1024x2048, .bf16⟩
  | .hbm, ⟨35, _⟩ => ⟨S1024x2048, .f32⟩
  | .hbm, ⟨36, _⟩ => ⟨S4096x2048, .f32⟩
  | .hbm, ⟨37, _⟩ => ⟨S4096x2048, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== FfnUp.lean ====
abbrev S4096x1024 : Shape := ⟨2, ![4096, 1024]⟩
abbrev S4x1x1024x1408 : Shape := ⟨4, ![4, 1, 1024, 1408]⟩
abbrev S3x5632 : Shape := ⟨2, ![3, 5632]⟩
abbrev S1x5632 : Shape := ⟨2, ![1, 5632]⟩
abbrev S4096x2816 : Shape := ⟨2, ![4096, 2816]⟩
abbrev S512x1024 : Shape := ⟨2, ![512, 1024]⟩
abbrev S16x1024 : Shape := ⟨2, ![16, 1024]⟩
abbrev S1x1x1024x1408 : Shape := ⟨4, ![1, 1, 1024, 1408]⟩
abbrev S3x1408 : Shape := ⟨2, ![3, 1408]⟩
abbrev S1x1408 : Shape := ⟨2, ![1, 1408]⟩
abbrev S512x1408 : Shape := ⟨2, ![512, 1408]⟩
abbrev S528x1024 : Shape := ⟨2, ![528, 1024]⟩
abbrev S1x1x1024x512 : Shape := ⟨4, ![1, 1, 1024, 512]⟩
abbrev S1024x512 : Shape := ⟨2, ![1024, 512]⟩
abbrev S528x512 : Shape := ⟨2, ![528, 512]⟩
abbrev S3x512 : Shape := ⟨2, ![3, 512]⟩
abbrev S1x512 : Shape := ⟨2, ![1, 512]⟩
abbrev S512x512 : Shape := ⟨2, ![512, 512]⟩
abbrev S1x1x1024x384 : Shape := ⟨4, ![1, 1, 1024, 384]⟩
abbrev S1024x384 : Shape := ⟨2, ![1024, 384]⟩
abbrev S528x384 : Shape := ⟨2, ![528, 384]⟩
abbrev S3x384 : Shape := ⟨2, ![3, 384]⟩
abbrev S1x384 : Shape := ⟨2, ![1, 384]⟩
abbrev S512x384 : Shape := ⟨2, ![512, 384]⟩

abbrev nBuf : Space → Nat
  | .hbm => 9
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S3x5632, .f32⟩
  | .hbm, ⟨3, _⟩ => ⟨S1x5632, .f32⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnUpRefIdeal.lean ====
abbrev S4096x1024 : Shape := ⟨2, ![4096, 1024]⟩
abbrev S4x1x1024x1408 : Shape := ⟨4, ![4, 1, 1024, 1408]⟩
abbrev S3x5632 : Shape := ⟨2, ![3, 5632]⟩
abbrev S1x5632 : Shape := ⟨2, ![1, 5632]⟩
abbrev S1x4096x1024 : Shape := ⟨3, ![1, 4096, 1024]⟩
abbrev S1x1x1024x1408 : Shape := ⟨4, ![1, 1, 1024, 1408]⟩
abbrev S1024x1408 : Shape := ⟨2, ![1024, 1408]⟩
abbrev S1024x5632 : Shape := ⟨2, ![1024, 5632]⟩
abbrev S1x4096x5632 : Shape := ⟨3, ![1, 4096, 5632]⟩
abbrev S_ : Shape := ⟨0, ![]⟩
abbrev S1x2x5632 : Shape := ⟨3, ![1, 2, 5632]⟩
abbrev S1x4098x5632 : Shape := ⟨3, ![1, 4098, 5632]⟩
abbrev S5632 : Shape := ⟨1, ![5632]⟩
abbrev S1x1x5632 : Shape := ⟨3, ![1, 1, 5632]⟩
abbrev S1x4096x2816 : Shape := ⟨3, ![1, 4096, 2816]⟩
abbrev S4096x2816 : Shape := ⟨2, ![4096, 2816]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S3x5632, .f32⟩
  | .hbm, ⟨3, _⟩ => ⟨S1x5632, .f32⟩
  | .hbm, ⟨4, _⟩ => ⟨S4096x1024, .f32⟩
  | .hbm, ⟨5, _⟩ => ⟨S1x4096x1024, .f32⟩
  | .hbm, ⟨6, _⟩ => ⟨S1x1x1024x1408, .bf16⟩
  | .hbm, ⟨7, _⟩ => ⟨S1024x1408, .bf16⟩
  | .hbm, ⟨8, _⟩ => ⟨S1x1x1024x1408, .bf16⟩
  | .hbm, ⟨9, _⟩ => ⟨S1024x1408, .bf16⟩
  | .hbm, ⟨10, _⟩ => ⟨S1x1x1024x1408, .bf16⟩
  | .hbm, ⟨11, _⟩ => ⟨S1024x1408, .bf16⟩
  | .hbm, ⟨12, _⟩ => ⟨S1x1x1024x1408, .bf16⟩
  | .hbm, ⟨13, _⟩ => ⟨S1024x1408, .bf16⟩
  | .hbm, ⟨14, _⟩ => ⟨S1024x5632, .bf16⟩
  | .hbm, ⟨15, _⟩ => ⟨S1024x5632, .f32⟩
  | .hbm, ⟨16, _⟩ => ⟨S1x4096x5632, .f32⟩
  | .hbm, ⟨17, _⟩ => ⟨S_, .f32⟩
  | .hbm, ⟨18, _⟩ => ⟨S1x2x5632, .f32⟩
  | .hbm, ⟨19, _⟩ => ⟨S1x4098x5632, .f32⟩
  | .hbm, ⟨20, _⟩ => ⟨S1x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S1x4096x5632, .f32⟩
  | .hbm, ⟨38, _⟩ => ⟨S1x4096x5632, .f32⟩
  | .hbm, ⟨39, _⟩ => ⟨S1x4096x5632, .f32⟩
  | .hbm, ⟨40, _⟩ => ⟨S5632, .f32⟩
  | .hbm, ⟨41, _⟩ => ⟨S1x1x5632, .f32⟩
  | .hbm, ⟨42, _⟩ => ⟨S1x4096x5632, .f32⟩
  | .hbm, ⟨43, _⟩ => ⟨S1x4096x5632, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S_, .f32⟩
  | .hbm, ⟨49, _⟩ => ⟨S1x4096x2816, .f32⟩
  | .hbm, ⟨50, _⟩ => ⟨S1x4096x2816, .f32⟩
  | .hbm, ⟨51, _⟩ => ⟨S_, .f32⟩
  | .hbm, ⟨52, _⟩ => ⟨S1x4096x2816, .f32⟩
  | .hbm, ⟨53, _⟩ => ⟨S1x4096x2816, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S4096x2816, .f32⟩
  | .hbm, ⟨59, _⟩ => ⟨S4096x2816, .bf16⟩
  | .hbm, ⟨60, _⟩ => ⟨S4096x2816, .f32⟩
  | .hbm, ⟨61, _⟩ => ⟨S4096x2816, .bf16⟩
  | .hbm, ⟨62, _⟩ => ⟨S4096x2816, .f32⟩
  | .hbm, ⟨63, _⟩ => ⟨S4096x2816, .bf16⟩
  | .hbm, ⟨64, _⟩ => ⟨S4096x2816, .f32⟩
  | .hbm, ⟨65, _⟩ => ⟨S4096x2816, .bf16⟩
  | .hbm, ⟨66, _⟩ => ⟨S4096x2816, .f32⟩
  | .hbm, ⟨67, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== OddDx.lean ====
abbrev S4096x3072 : Shape := ⟨2, ![4096, 3072]⟩
abbrev S4x1x1024x768 : Shape := ⟨4, ![4, 1, 1024, 768]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512x768 : Shape := ⟨2, ![512, 768]⟩
abbrev S1x1x1024x768 : Shape := ⟨4, ![1, 1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S4x1x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S4x1x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_36 : BitVec 32 := 0#32
  let v56 : BitVec 1 := Scalar.cmpi .ne v55 c0_i32_36
  v56

def k0_cond2 (i : grid0.Coords) : BitVec 1 :=
  let arg0 : BitVec 32 := BitVec.ofNat 32 (i 0).val
  let c0_i32_37 : BitVec 32 := 0#32
  let v57 : BitVec 1 := Scalar.cmpi .sgt arg0 c0_i32_37
  let v58 : BitVec 32 := Scalar.extui v57
  let c0_i32_38 : BitVec 32 := 0#32
  let v59 : BitVec 1 := Scalar.cmpi .ne v58 c0_i32_38
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OddDxRefIdeal.lean ====
abbrev S4096x3072 : Shape := ⟨2, ![4096, 3072]⟩
abbrev S4x1x1024x768 : Shape := ⟨4, ![4, 1, 1024, 768]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024x768 : Shape := ⟨4, ![1, 1, 1024, 768]⟩
abbrev S1024x768 : Shape := ⟨2, ![1024, 768]⟩
abbrev S1024x3072 : Shape := ⟨2, ![1024, 3072]⟩

abbrev nBuf : Space → Nat
  | .hbm => 67
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x1x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1x1024x768, .bf16⟩
  | .hbm, ⟨27, _⟩ => ⟨S1024x768, .bf16⟩
  | .hbm, ⟨28, _⟩ => ⟨S1x1x1024x768, .bf16⟩
  | .hbm, ⟨29, _⟩ => ⟨S1024x768, .bf16⟩
  | .hbm, ⟨30, _⟩ => ⟨S1x1x1024x768, .bf16⟩
  | .hbm, ⟨31, _⟩ => ⟨S1024x768, .bf16⟩
  | .hbm, ⟨32, _⟩ => ⟨S1x1x1024x768, .bf16⟩
  | .hbm, ⟨33, _⟩ => ⟨S1024x768, .bf16⟩
  | .hbm, ⟨34, _⟩ => ⟨S1024x3072, .bf16⟩
  | .hbm, ⟨35, _⟩ => ⟨S1024x3072, .f32⟩
  | .hbm, ⟨36, _⟩ => ⟨S4096x3072, .f32⟩
  | .hbm, ⟨37, _⟩ => ⟨S4096x3072, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== EvenDwIn.lean ====
abbrev S4096x1024 : Shape := ⟨2, ![4096, 1024]⟩
abbrev S4096x2048 : Shape := ⟨2, ![4096, 2048]⟩
abbrev S4x1024x512 : Shape := ⟨3, ![4, 1024, 512]⟩
abbrev S1024x512 : Shape := ⟨2, ![1024, 512]⟩
abbrev S1024x2048 : Shape := ⟨2, ![1024, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S4x512x512, .bf16⟩
  | .local _ .vmem, ⟨5, _⟩ => ⟨S4x512x512, .bf16⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenDwInRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S4x1024x512, .f32⟩
  | .hbm, ⟨18, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== OddDwQkv.lean ====
abbrev S4096x1024 : Shape := ⟨2, ![4096, 1024]⟩
abbrev S4096x3072 : Shape := ⟨2, ![4096, 3072]⟩
abbrev S4x1024x768 : Shape := ⟨3, ![4, 1024, 768]⟩
abbrev S1024x512 : Shape := ⟨2, ![1024, 512]⟩
abbrev S1024x3072 : Shape := ⟨2, ![1024, 3072]⟩
abbrev S4x512x768 : Shape := ⟨3, ![4, 512, 768]⟩
abbrev S512x3072 : Shape := ⟨2, ![512, 3072]⟩
abbrev S512x768 : Shape := ⟨2, ![512, 768]⟩
abbrev S1x512x768 : Shape := ⟨3, ![1, 512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .bf16⟩
  | .local _ .vmem, ⟨0, _⟩ => ⟨S1024x512, .bf16⟩
  | .local _ .vmem, ⟨1, _⟩ => ⟨S1024x512, .bf16⟩
  | .local _ .vmem, ⟨2, _⟩ => ⟨S1024x3072, .bf16⟩
  | .local _ .vmem, ⟨3, _⟩ => ⟨S1024x3072, .bf16⟩
  | .local _ .vmem, ⟨4, _⟩ => ⟨S4x512x768, .bf16⟩
  | .local _ .vmem, ⟨5, _⟩ => ⟨S4x512x768, .bf16⟩
  | .local _ .vmem, ⟨6, _⟩ => ⟨S512x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddDwQkvRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x768 : Shape := ⟨2, ![1024, 768]⟩
abbrev S1x1024x768 : Shape := ⟨3, ![1, 1024, 768]⟩
abbrev S4x1024x768 : Shape := ⟨3, ![4, 1024, 768]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S4x1024x768, .f32⟩
  | .hbm, ⟨18, _⟩ => ⟨S4x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== DwOut.lean ====
abbrev S4096x1024 : Shape := ⟨2, ![4096, 1024]⟩
abbrev S1x1024x1024 : Shape := ⟨3, ![1, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenDmix.lean ====
abbrev S4096x1024 : Shape := ⟨2, ![4096, 1024]⟩
abbrev S1x1x1024x1024 : Shape := ⟨4, ![1, 1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenDmixRefIdeal.lean ====
abbrev S4096x1024 : Shape := ⟨2, ![4096, 1024]⟩
abbrev S1x1x1024x1024 : Shape := ⟨4, ![1, 1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddDatt.lean ====
abbrev S4096x1024 : Shape := ⟨2, ![4096, 1024]⟩
abbrev S1x1x1024x1024 : Shape := ⟨4, ![1, 1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddDattRefIdeal.lean ====
abbrev S4096x1024 : Shape := ⟨2, ![4096, 1024]⟩
abbrev S1x1x1024x1024 : Shape := ⟨4, ![1, 1, 1024, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDown.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S2816x1024 : Shape := ⟨2, ![2816, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutNorm.lean ====
abbrev S4096x1024 : Shape := ⟨2, ![4096, 1024]⟩
abbrev S1x1x1024x1024 : Shape := ⟨4, ![1, 1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutNormRefIdeal.lean ====
abbrev S4096x1024 : Shape := ⟨2, ![4096, 1024]⟩
abbrev S1x1x1024x1024 : Shape := ⟨4, ![1, 1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnLoss.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_15 : BitVec 32 := 0#32
  let v18 : BitVec 1 := Scalar.cmpi .ne v17 c0_i32_15
  v18

def k0_cond2 (i : grid0.Coords) : BitVec 1 :=
  let arg0 : BitVec 32 := BitVec.ofNat 32 (i 0).val
  let c0_i32_16 : BitVec 32 := 0#32
  let v19 : BitVec 1 := Scalar.cmpi .sgt arg0 c0_i32_16
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnLossRefIdeal.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S2816x1024 : Shape := ⟨2, ![2816, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== OddQkv.lean ====
abbrev S4096x1024 : Shape := ⟨2, ![4096, 1024]⟩
abbrev S4x1x1024x768 : Shape := ⟨4, ![4, 1, 1024, 768]⟩
abbrev S3x1x1024 : Shape := ⟨3, ![3, 1, 1024]⟩
abbrev S256x256 : Shape := ⟨2, ![256, 256]⟩
abbrev S1x3072 : Shape := ⟨2, ![1, 3072]⟩
abbrev S4096x3072 : Shape := ⟨2, ![4096, 3072]⟩
abbrev S1024x1024 : Shape := ⟨2, ![1024, 1024]⟩
abbrev S1x1x1024x768 : Shape := ⟨4, ![1, 1, 1024, 768]⟩
abbrev S1x768 : Shape := ⟨2, ![1, 768]⟩
abbrev S1024x768 : Shape := ⟨2, ![1024, 768]⟩
abbrev S1024x256 : Shape := ⟨2, ![1024, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x768, .bf16⟩
  | .hbm, ⟨2, _⟩ => ⟨S3x1x1024, .f32⟩
  | .hbm, ⟨3, _⟩ => ⟨S256x256, .bf16⟩
  | .hbm, ⟨4, _⟩ => ⟨S1x3072, .f32⟩
  | .hbm, ⟨5, _⟩ => ⟨S4096x3072, .f32⟩
  | .hbm, ⟨6, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1x768, .f32⟩
  | .local _ .vmem, ⟨5, _⟩ => ⟨S1x768, .f32⟩
  | .local _ .vmem, ⟨6, _⟩ => ⟨S256x256, .bf16⟩
  | .local _ .vmem, ⟨7, _⟩ => ⟨S1024x768, .f32⟩
  | .local _ .vmem, ⟨8, _⟩ => ⟨S1024x768, .f32⟩
  | .local _ .vmem, ⟨9, _⟩ => ⟨S1024x768, .bf16⟩
  | .local _ .vmem, ⟨10, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddQkvRefIdeal.lean ====
abbrev S4096x1024 : Shape := ⟨2, ![4096, 1024]⟩
abbrev S4x1x1024x768 : Shape := ⟨4, ![4, 1, 1024, 768]⟩
abbrev S3x1x1024 : Shape := ⟨3, ![3, 1, 1024]⟩
abbrev S1x1x1024x768 : Shape := ⟨4, ![1, 1, 1024, 768]⟩
abbrev S1024x768 : Shape := ⟨2, ![1024, 768]⟩
abbrev S1024x3072 : Shape := ⟨2, ![1024, 3072]⟩
abbrev S4096x3072 : Shape := ⟨2, ![4096, 3072]⟩
abbrev S1x1x1024 : Shape := ⟨3, ![1, 1, 1024]⟩
abbrev S1x1024 : Shape := ⟨2, ![1, 1024]⟩
abbrev S4096x16x64 : Shape := ⟨3, ![4096, 16, 64]⟩
abbrev S16x64 : Shape := ⟨2, ![16, 64]⟩
abbrev S_ : Shape := ⟨0, ![]⟩
abbrev S4096x16 : Shape := ⟨2, ![4096, 16]⟩
abbrev S4096x16x1 : Shape := ⟨3, ![4096, 16, 1]⟩
abbrev S1x16x64 : Shape := ⟨3, ![1, 16, 64]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x768, .bf16⟩
  | .hbm, ⟨2, _⟩ => ⟨S3x1x1024, .f32⟩
  | .hbm, ⟨3, _⟩ => ⟨S4096x1024, .f32⟩
  | .hbm, ⟨4, _⟩ => ⟨S1x1x1024x768, .bf16⟩
  | .hbm, ⟨5, _⟩ => ⟨S1024x768, .bf16⟩
  | .hbm, ⟨6, _⟩ => ⟨S1x1x1024x768, .bf16⟩
  | .hbm, ⟨7, _⟩ => ⟨S1024x768, .bf16⟩
  | .hbm, ⟨8, _⟩ => ⟨S1x1x1024x768, .bf16⟩
  | .hbm, ⟨9, _⟩ => ⟨S1024x768, .bf16⟩
  | .hbm, ⟨10, _⟩ => ⟨S1x1x1024x768, .bf16⟩
  | .hbm, ⟨11, _⟩ => ⟨S1024x768, .bf16⟩
  | .hbm, ⟨12, _⟩ => ⟨S1024x3072, .bf16⟩
  | .hbm, ⟨13, _⟩ => ⟨S1024x3072, .f32⟩
  | .hbm, ⟨14, _⟩ => ⟨S4096x3072, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1x1024, .f32⟩
  | .hbm, ⟨19, _⟩ => ⟨S1x1024, .f32⟩
  | .hbm, ⟨20, _⟩ => ⟨S4096x16x64, .f32⟩
  | .hbm, ⟨21, _⟩ => ⟨S16x64, .f32⟩
  | .hbm, ⟨22, _⟩ => ⟨S4096x16x64, .f32⟩
  | .hbm, ⟨23, _⟩ => ⟨S_, .f32⟩
  | .hbm, ⟨24, _⟩ => ⟨S4096x16, .f32⟩
  | .hbm, ⟨25, _⟩ => ⟨S4096x16x1, .f32⟩
  | .hbm, ⟨26, _⟩ => ⟨S_, .f32⟩
  | .hbm, ⟨27, _⟩ => ⟨S4096x16x1, .f32⟩
  | .hbm, ⟨28, _⟩ => ⟨S4096x16x1, .f32⟩
  | .hbm, ⟨29, _⟩ => ⟨S_, .f32⟩
  | .hbm, ⟨30, _⟩ => ⟨S4096x16x1, .f32⟩
  | .hbm, ⟨31, _⟩ => ⟨S4096x16x1, .f32⟩
  | .hbm, ⟨32, _⟩ => ⟨S4096x16x1, .f32⟩
  | .hbm, ⟨33, _⟩ => ⟨S4096x16x64, .f32⟩
  | .hbm, ⟨34, _⟩ => ⟨S4096x16x64, .f32⟩
  | .hbm, ⟨35, _⟩ => ⟨S1x16x64, .f32⟩
  | .hbm, ⟨36, _⟩ => ⟨S4096x16x64, .f32⟩
  | .hbm, ⟨37, _⟩ => ⟨S4096x16x64, .f32⟩
  | .hbm, ⟨38, _⟩ => ⟨S4096x1024, .f32⟩
  | .hbm, ⟨39, _⟩ => ⟨S1x1x1024, .f32⟩
  | .hbm, ⟨40, _⟩ => ⟨S1x1024, .f32⟩
  | .hbm, ⟨41, _⟩ => ⟨S4096x16x64, .f32⟩
  | .hbm, ⟨42, _⟩ => ⟨S16x64, .f32⟩
  | .hbm, ⟨43, _⟩ => ⟨S4096x16x64, .f32⟩
  | .hbm, ⟨44, _⟩ => ⟨S_, .f32⟩
  | .hbm, ⟨45, _⟩ => ⟨S4096x16, .f32⟩
  | .hbm, ⟨46, _⟩ => ⟨S4096x16x1, .f32⟩
  | .hbm, ⟨47, _⟩ => ⟨S_, .f32⟩
  | .hbm, ⟨48, _⟩ => ⟨S4096x16x1, .f32⟩
  | .hbm, ⟨49, _⟩ => ⟨S4096x16x1, .f32⟩
  | .hbm, ⟨50, _⟩ => ⟨S_, .f32⟩
  | .hbm, ⟨51, _⟩ => ⟨S4096x16x1, .f32⟩
  | .hbm, ⟨52, _⟩ => ⟨S4096x16x1, .f32⟩
  | .hbm, ⟨53, _⟩ => ⟨S4096x16x1, .f32⟩
  | .hbm, ⟨54, _⟩ => ⟨S4096x16x64, .f32⟩
  | .hbm, ⟨55, _⟩ => ⟨S4096x16x64, .f32⟩
  | .hbm, ⟨56, _⟩ => ⟨S1x16x64, .f32⟩
  | .hbm, ⟨57, _⟩ => ⟨S4096x16x64, .f32⟩
  | .hbm, ⟨58, _⟩ => ⟨S4096x16x64, .f32⟩
  | .hbm, ⟨59, _⟩ => ⟨S4096x1024, .f32⟩
  | .hbm, ⟨60, _⟩ => ⟨S4096x3072, .f32⟩
  | .hbm, ⟨61, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== Proof.Spec.lean ====
/- The mixer's backward pass as plain functions of numbered rows and columns, with the sums that the
   two programs are compared against. -/
module

public import Idealize.ShloMosaic.Lib.Pointwise

@[expose] public section

set_option maxRecDepth 16384

noncomputable section

namespace Cert.Mixer

open Idealize.ShloMosaic

/-- The sum of the `k` rows that end at row `n`. -/
def back (k : ℕ) (f : ℕ → EReal) (n : ℕ) : EReal := ∑ j ∈ Finset.range k, f (n - j)

/-- The sum of the `k` rows that begin at row `n`. -/
def ahead (k : ℕ) (f : ℕ → EReal) (n : ℕ) : EReal := ∑ j ∈ Finset.range k, f (n + j)

/-- A window of one row is the row. -/
theorem back_one (f : ℕ → EReal) (n : ℕ) : back 1 f n = f n := by simp [back]

/-- A window of one row is the row. -/
theorem ahead_one (f : ℕ → EReal) (n : ℕ) : ahead 1 f n = f n := by simp [ahead]

/-- A window of `2 k` rows is two windows of `k` rows, the second `k` rows earlier. -/
theorem back_double (k : ℕ) (f : ℕ → EReal) (n : ℕ) :
    back (k + k) f n = back k f n + back k f (n - k) := by
  unfold back
  rw [Finset.sum_range_add]
  congr 1
  exact Finset.sum_congr rfl fun j _ => by rw [Nat.sub_sub]

/-- A window of `2 k` rows is two windows of `k` rows, the second `k` rows later. -/
theorem ahead_double (k : ℕ) (f : ℕ → EReal) (n : ℕ) :
    ahead (k + k) f n = ahead k f n + ahead k f (n + k) := by
  unfold ahead
  rw [Finset.sum_range_add]
  congr 1
  exact Finset.sum_congr rfl fun j _ => by rw [Nat.add_assoc]

/-- How many rows a window of `k` rows holds at row `n` of a sequence that begins at row 16. -/
def rowCount (k n : ℕ) : EReal := ((min k (max 1 (n - 15)) : ℕ) : EReal)

section
variable (P D : ℕ → ℕ → EReal) (cw : ℕ → ℕ → EReal) (pw : ℕ → ℕ → ℕ → EReal) (ps : ℕ → EReal)

/-- The gated input of the convolution. -/
def gated (n c : ℕ) : EReal := P n (1024 + c) * P n c

/-- The convolution of three taps. -/
def conv (n c : ℕ) : EReal :=
  gated P (n - 2) c * cw 0 c + gated P (n - 1) c * cw 1 c + gated P n c * cw 2 c

/-- The gradient that reaches the convolution's result. -/
def dconv (n c : ℕ) : EReal := D n c * P n (512 + c)

/-- The gradient that reaches the convolution's input. -/
def dgated (n c : ℕ) : EReal :=
  dconv P D n c * cw 2 c + dconv P D (n + 1) c * cw 1 c + dconv P D (n + 2) c * cw 0 c

/-- The pooled rows of group `g`: the mean over the window less the row itself. -/
def pooled (g n c : ℕ) : EReal :=
  Ideal.div (back (2 ^ (g + 1)) (fun n => P n (1536 + 128 * g + c)) n) (rowCount (2 ^ (g + 1)) n) - P n (1536 + 128 * g + c)

/-- The gradient that reaches group `g`'s product, scaled. -/
def scaled (g n d : ℕ) : EReal := D n (512 + 128 * g + d) * ps (128 * g + d)

/-- Group `g`'s product before the scale. -/
def mixed (g n d : ℕ) : EReal := ∑ c : Fin 128, pooled P g n c * pw g c d

/-- The gradient that reaches group `g`'s pooled rows. -/
def dpooled (g n c : ℕ) : EReal := ∑ d : Fin 128, scaled D ps g n d * pw g c d

/-- The gradient that reaches group `g`'s columns of the projection. -/
def dpool (g n c : ℕ) : EReal :=
  ahead (2 ^ (g + 1)) (fun n => Ideal.div (dpooled D pw ps g n c) (rowCount (2 ^ (g + 1)) n)) n - dpooled D pw ps g n c

/-- The gradient of the projection, column by column. -/
def dproj (n c : ℕ) : EReal :=
  if c < 512 then dgated P D cw n c * P n (1024 + c)
  else if c < 1024 then D n (c - 512) * conv P cw n (c - 512)
  else if c < 1536 then dgated P D cw n (c - 1024) * P n (c - 1024)
  else dpool D pw ps ((c - 1536) / 128) n ((c - 1536) % 128)

/-- A row's share of the gradient of the convolution's weights. -/
def dcwRow (n a c : ℕ) : EReal := dconv P D n c * gated P (n - (2 - a)) c

/-- A row's share of the gradient of the pool's weights. -/
def dpwRow (n g c d : ℕ) : EReal := pooled P g n c * scaled D ps g n d

/-- A row's share of the gradient of the pool's scale. -/
def dpsRow (n l : ℕ) : EReal := D n (512 + l) * mixed P pw (l / 128) n (l % 128)

end

/-- The rows of an array, numbered from 16 on, with zeros before and after. -/
def padRows {R C : ℕ} (x : Fin R → Fin C → EReal) (n c : ℕ) : EReal :=
  if h : (16 ≤ n ∧ n < R + 16) ∧ c < C then x ⟨n - 16, by omega⟩ ⟨c, h.2⟩ else 0

/-- A row of the array. -/
theorem padRows_row {R C : ℕ} (x : Fin R → Fin C → EReal) (r : Fin R) (c : Fin C) (n k : ℕ) (hn : n = 16 + r) (hk : k = c) :
    padRows x n k = x r c := by
  have hr := r.isLt
  have hc := c.isLt
  subst hn hk
  rw [padRows, dif_pos ⟨⟨by omega, by omega⟩, hc⟩]
  congr 1
  exact Fin.ext (by show 16 + r.val - 16 = r.val; omega)

/-- A row outside the array. -/
theorem padRows_out {R C : ℕ} (x : Fin R → Fin C → EReal) (n c : ℕ) (hn : n < 16 ∨ R + 16 ≤ n) : padRows x n c = 0 := by
  rw [padRows, dif_neg (by omega)]

/-- A matrix read at numbers. -/
def table2 {A B : ℕ} (x : Fin A → Fin B → EReal) (a b : ℕ) : EReal :=
  if h : a < A ∧ b < B then x ⟨a, h.1⟩ ⟨b, h.2⟩ else 0

/-- An entry of the matrix. -/
theorem table2_at {A B : ℕ} (x : Fin A → Fin B → EReal) (a : Fin A) (b : Fin B) : table2 x a b = x a b :=
  dif_pos ⟨a.isLt, b.isLt⟩

/-- An array of three axes read at numbers. -/
def table3 {A B C : ℕ} (x : Fin A → Fin B → Fin C → EReal) (a b c : ℕ) : EReal :=
  if h : a < A ∧ b < B ∧ c < C then x ⟨a, h.1⟩ ⟨b, h.2.1⟩ ⟨c, h.2.2⟩ else 0

/-- An entry of the array. -/
theorem table3_at {A B C : ℕ} (x : Fin A → Fin B → Fin C → EReal) (a : Fin A) (b : Fin B) (c : Fin C) :
    table3 x a b c = x a b c := dif_pos ⟨a.isLt, b.isLt, c.isLt⟩

end Cert.Mixer
-- ==== Proof.Products.lean ====
/- Products that a grid sums block by block, for any block sizes. -/
module

public import proofs.«01_k».proof.Proof.Spec
public import Idealize.ShloMosaic.Lib.Pipeline.ValueKit
public import Idealize.ShloMosaic.Lib.Pipeline.ReadBack

@[expose] public section

noncomputable section

namespace Cert.Products

open Idealize.ShloMosaic

/-- A sum over blocks of sums over a block is one sum. -/
theorem sum_blocks (S n L : ℕ) (f : ℕ → EReal) (hL : L = S * n) :
    ∑ k ∈ Finset.range S, ∑ r : Fin n, f (n * k + r) = ∑ s : Fin L, f s := by
  subst hL
  rw [Fin.sum_univ_eq_sum_range f, Finset.sum_range_mul_split]
  refine Finset.sum_congr rfl fun k _ => ?_
  rw [Fin.sum_univ_eq_sum_range (fun r => f (n * k + r)) n]
  exact Finset.sum_congr rfl fun r _ => congrArg f (by ring)

/-- An accumulator that takes its block's sum at the first of every `T` points and adds it at the others holds at the
    last of them the sum over all the blocks. -/
theorem accumulated {N : ℕ} {ι : Type} (f : (n : ℕ) → n < N → ι → EReal) (T R L : ℕ) (g : ℕ → ℕ → ι → EReal) (hL : L = T * R)
    (h0 : ∀ t : Fin N, t.val % T = 0 → ∀ i, f t.val t.isLt i = ∑ r : Fin R, g (t.val / T) (R * (t.val % T) + r) i)
    (hs : ∀ t : Fin N, ¬t.val % T = 0 → ∀ i, f t.val t.isLt i
      = f (t.val - 1) (Nat.lt_of_le_of_lt (Nat.sub_le _ _) t.isLt) i + ∑ r : Fin R, g (t.val / T) (R * (t.val % T) + r) i)
    (t : Fin N) (ht : t.val % T + 1 = T) (i : ι) : f t.val t.isLt i = ∑ s : Fin L, g (t.val / T) s i := by
  refine (Pipeline.eq_sum_of_reset_step_apply_divmod f T (fun _ => 0) (fun q k i => ∑ r : Fin R, g q (R * k + r) i)
    (fun t h i => (h0 t h i).trans (zero_add _).symm) hs t i).trans ?_
  rw [zero_add, ht]
  exact sum_blocks T R L (fun n => g (t.val / T) n i) hL

end Cert.Products
-- ==== Proof.NormBwd.lean ====
/- The gradient through a row's normalization, on the extended reals, and a row cut into four blocks. -/
module

public import proofs.«01_k».proof.Proof.Products

@[expose] public section

noncomputable section

namespace Cert.NormBwd

open Idealize.ShloMosaic Cert.Products

/-- A row's mean square, a small constant added. -/
def level (x : Fin 1024 → EReal) : EReal :=
  Ideal.div (∑ k, x k * x k) (Ideal.ofBits .f32 0x44800000#32) + Ideal.ofBits .f32 0x358637BD#32

/-- The factor that normalizes the row. -/
def scale (x : Fin 1024 → EReal) : EReal := Ideal.rsqrt (level x)

/-- The row's gradient as the kernel computes it: `s` added, `h` the gradient after the gain. -/
def gradient (s : EReal) (x h : Fin 1024 → EReal) (l : Fin 1024) : EReal :=
  s + scale x * h l - x l * (scale x * scale x * scale x * ((∑ k, h k * x k) * Ideal.ofBits .f32 0x3A800000#32))

/-- The mean square's own gradient as the chain rule writes it. -/
def chain (x h : Fin 1024 → EReal) : EReal :=
  Ideal.div ((∑ k, x k * h k) * (Ideal.ofBits .f32 0xBF000000#32 * Ideal.div (scale x) (level x))) (Ideal.ofBits .f32 0x44800000#32)

/-- The constant 1024. -/
theorem word_1024 : Ideal.ofBits .f32 0x44800000#32 = ((1024 : ℝ) : EReal) := by
  simp [Ideal.ofBits, Ideal.ieee, -EReal.coe_mul, -EReal.coe_neg]
  norm_num

/-- Its inverse. -/
theorem word_inverse : Ideal.ofBits .f32 0x3A800000#32 = ((1 / 1024 : ℝ) : EReal) := by
  simp [Ideal.ofBits, Ideal.ieee, -EReal.coe_mul, -EReal.coe_neg]
  norm_num

/-- The constant minus one half. -/
theorem word_half : Ideal.ofBits .f32 0xBF000000#32 = ((-(1 / 2) : ℝ) : EReal) := by
  simp [Ideal.ofBits, Ideal.ieee, -EReal.coe_mul, -EReal.coe_neg]
  norm_num

/-- The small constant is a positive real. -/
theorem word_small : ∃ e : ℝ, 0 < e ∧ Ideal.ofBits .f32 0x358637BD#32 = (e : EReal) := by
  refine ⟨_, ?_, by simp [Ideal.ofBits, Ideal.ieee]; rfl⟩
  positivity

/-- A square is not negative. -/
theorem square_nonneg (x : EReal) : 0 ≤ x * x := by
  induction x with
  | bot => simp
  | top => simp
  | coe r => exact_mod_cast mul_self_nonneg r

/-- The level is a positive real or infinite. -/
theorem level_pos (x : Fin 1024 → EReal) : level x = ⊤ ∨ ∃ a : ℝ, 0 < a ∧ level x = (a : EReal) := by
  obtain ⟨e, he, hw⟩ := word_small
  have hs : 0 ≤ ∑ k, x k * x k := Finset.sum_nonneg fun k _ => square_nonneg (x k)
  rw [level, hw, word_1024, Ideal.div_coe (by norm_num)]
  generalize ∑ k, x k * x k = s at hs
  induction s with
  | bot => simp at hs
  | top => exact Or.inl (by rw [EReal.top_mul_coe_of_pos (by norm_num)]; rfl)
  | coe r =>
    have hr : 0 ≤ r := by exact_mod_cast hs
    exact Or.inr ⟨r * (1 / 1024) + e, by positivity, by push_cast; rfl⟩

/-- A real factor that the chain rule halves and doubles again. -/
theorem doubled (x d : EReal) (w : ℝ) (hw : 0 ≤ w) :
    x * (d * ((-w : ℝ) : EReal)) + d * ((-w : ℝ) : EReal) * x = -(x * (((2 * w : ℝ) : EReal) * d)) := by
  have h1 : x * (d * ((-w : ℝ) : EReal)) = -(x * d * (w : EReal)) := by
    rw [EReal.coe_neg, mul_neg, mul_neg, mul_assoc]
  have h2 : x * (((2 * w : ℝ) : EReal) * d) = x * d * (w : EReal) * ((2 : ℝ) : EReal) := by
    rw [EReal.coe_mul]
    ac_rfl
  rw [mul_comm (d * _) x, h1, h2]
  generalize x * d * (w : EReal) = y
  induction y with
  | bot => rw [EReal.bot_mul_coe_of_pos (by norm_num)]; rfl
  | top => rw [EReal.top_mul_coe_of_pos (by norm_num)]; rfl
  | coe r =>
    norm_cast
    ring

/-- The two expressions of the row's gradient are one. -/
theorem gradient_eq (s : EReal) (x h : Fin 1024 → EReal) (l : Fin 1024) :
    s + (h l * scale x + x l * chain x h + chain x h * x l) = gradient s x h l := by
  have hd : ∑ k, x k * h k = ∑ k, h k * x k := Finset.sum_congr rfl fun k _ => mul_comm _ _
  rw [gradient, chain, hd, word_1024, word_inverse, word_half, Ideal.div_coe (by norm_num), sub_eq_add_neg, mul_comm (h l), ← add_assoc, ← add_assoc, add_assoc (s + _)]
  refine congrArg (s + scale x * h l + ·) ?_
  generalize ∑ k, h k * x k = d
  rcases level_pos x with ha | ⟨a, ha, hx⟩
  · have h0 : scale x = 0 := by rw [scale, ha]; rfl
    rw [h0, ha]
    simp [Ideal.div]
  · have hr : scale x = (((Real.sqrt a)⁻¹ : ℝ) : EReal) := by
      rw [scale, hx, Ideal.rsqrt_coe, if_neg (by linarith), if_neg (by linarith)]
    have hq : 0 < (Real.sqrt a)⁻¹ := inv_pos.mpr (Real.sqrt_pos.mpr ha)
    have hc : (Real.sqrt a)⁻¹ * (1 / a) = (Real.sqrt a)⁻¹ * (Real.sqrt a)⁻¹ * (Real.sqrt a)⁻¹ := by
      rw [one_div, mul_assoc, ← mul_inv (Real.sqrt a) (Real.sqrt a), Real.mul_self_sqrt ha.le]
    rw [hr, hx, Ideal.div_coe ha.ne']
    generalize (Real.sqrt a)⁻¹ = q at hq hc
    have e1 : d * (((-(1 / 2) : ℝ) : EReal) * ((q : EReal) * ((1 / a : ℝ) : EReal))) * ((1 / 1024 : ℝ) : EReal)
        = d * ((-(q * q * q * (1 / 2048)) : ℝ) : EReal) := by
      rw [mul_assoc]
      refine congrArg (d * ·) ?_
      rw [← EReal.coe_mul, ← EReal.coe_mul, ← EReal.coe_mul, hc]
      exact congrArg _ (by ring)
    rw [e1, doubled _ _ _ (by positivity)]
    refine congrArg (fun z => -(x l * z)) ?_
    rw [← EReal.coe_mul, ← EReal.coe_mul, mul_comm d, ← mul_assoc ((q * q * q : ℝ) : EReal), ← EReal.coe_mul]
    exact congrArg (fun z : ℝ => (z : EReal) * d) (by ring)

/-- Four blocks of a sum, added one after another. -/
theorem four_blocks (n L : ℕ) (f : ℕ → EReal) (hL : L = 4 * n) :
    (∑ r : Fin n, f r) + (∑ r : Fin n, f (n + r)) + (∑ r : Fin n, f (n * 2 + r)) + (∑ r : Fin n, f (n * 3 + r)) = ∑ s : Fin L, f s := by
  rw [← sum_blocks 4 n L f hL]
  simp [Finset.sum_range_succ]

/-- A row times a column of four shards, shard by shard. -/
theorem shards (n L : ℕ) (hL : L = 4 * n) (a : Fin L → EReal) (w : Fin 4 → Fin n → EReal) (h1 : ∀ s : Fin L, s.val / n < 4) (h2 : ∀ s : Fin L, s.val % n < n)
    (hb : ∀ (j : Fin 4) (k : Fin n), n * j.val + k.val < L) (k0 : ∀ k : Fin n, k.val < L) (k1 : ∀ k : Fin n, n + k.val < L) :
    (∑ k : Fin n, a ⟨k, k0 k⟩ * w 0 k) + (∑ k : Fin n, a ⟨n + k, k1 k⟩ * w 1 k) + (∑ k : Fin n, a ⟨n * 2 + k, hb 2 k⟩ * w 2 k) + (∑ k : Fin n, a ⟨n * 3 + k, hb 3 k⟩ * w 3 k)
      = ∑ s : Fin L, a s * w ⟨s.val / n, h1 s⟩ ⟨s.val % n, h2 s⟩ := by
  have at_ (f : ℕ → EReal) (hf : ∀ (s : Fin L), f s = a s * w ⟨s.val / n, h1 s⟩ ⟨s.val % n, h2 s⟩) (j : Fin 4) (k : Fin n) (x : ℕ) (h : x < L) (hx : x = n * j + k) :
      a ⟨x, h⟩ * w j k = f x := by
    subst hx
    have e1 : (n * j.val + k.val) / n = j.val := by rw [Nat.mul_add_div (by have := k.isLt; omega), Nat.div_eq_of_lt k.isLt, Nat.add_zero]
    have e2 : (n * j.val + k.val) % n = k.val := by rw [Nat.mul_add_mod, Nat.mod_eq_of_lt k.isLt]
    rw [hf ⟨n * j + k, h⟩]
    exact congrArg₂ (fun j k => a ⟨_, h⟩ * w j k) (Fin.ext e1.symm) (Fin.ext e2.symm)
  obtain ⟨f, hf⟩ : ∃ f : ℕ → EReal, ∀ s : Fin L, f s = a s * w ⟨s.val / n, h1 s⟩ ⟨s.val % n, h2 s⟩ :=
    ⟨fun x => if h : x < L then a ⟨x, h⟩ * w ⟨x / n, h1 ⟨x, h⟩⟩ ⟨x % n, h2 ⟨x, h⟩⟩ else 0, fun s => dif_pos s.isLt⟩
  refine Eq.trans ?_ ((four_blocks n L f hL).trans (Finset.sum_congr rfl fun s _ => hf s))
  congr 1
  · congr 1
    · congr 1
      · exact Finset.sum_congr rfl fun k _ => at_ f hf 0 k k (k0 k) (by simp)
      · exact Finset.sum_congr rfl fun k _ => at_ f hf 1 k (n + k) (k1 k) (by simp)
    · exact Finset.sum_congr rfl fun k _ => at_ f hf 2 k (n * 2 + k) (hb 2 k) (by simp)
  · exact Finset.sum_congr rfl fun k _ => at_ f hf 3 k (n * 3 + k) (hb 3 k) (by simp)

/-- Four blocks set side by side, read at one position. -/
theorem side_by_side (n : ℕ) (P : Fin 4 → Fin n → EReal) (x : ℕ) (h1 : x / n < 4) (h2 : x % n < n) (h3 : ¬x < n → ¬x - n < n → ¬x - n - n < n → x - n - n - n < n) :
    (if h : x < n then P 0 ⟨x, h⟩ else if h' : x - n < n then P 1 ⟨x - n, h'⟩
      else if h'' : x - n - n < n then P 2 ⟨x - n - n, h''⟩ else P 3 ⟨x - n - n - n, h3 h h' h''⟩) = P ⟨x / n, h1⟩ ⟨x % n, h2⟩ := by
  have at_ (j r : ℕ) (hj : j < 4) (hr : r < n) (hx : x = n * j + r) : P ⟨j, hj⟩ ⟨r, hr⟩ = P ⟨x / n, h1⟩ ⟨x % n, h2⟩ := by
    have e1 : x / n = j := by rw [hx, Nat.mul_add_div (by omega), Nat.div_eq_of_lt hr, add_zero]
    have e2 : x % n = r := by rw [hx, Nat.mul_add_mod, Nat.mod_eq_of_lt hr]
    simp only [e1, e2]
  split_ifs with a b c
  · exact at_ 0 x (by omega) a (by omega)
  · exact at_ 1 (x - n) (by omega) b (by omega)
  · exact at_ 2 (x - n - n) (by omega) c (by omega)
  · exact at_ 3 (x - n - n - n) (by omega) _ (by omega)

end Cert.NormBwd
-- ==== Proof.HeadNorm.lean ====
/- The normalization of queries and keys head by head, read row by row. -/
module

public import proofs.«01_k».proof.Proof.NormBwd
public import proofs.«01_k».proof.Proof.Products

@[expose] public section

set_option maxRecDepth 16384

noncomputable section

namespace Cert.HeadNorm

open Idealize.ShloMosaic Cert.Mixer Cert.NormBwd

/-- A row times the weights, their four shards side by side. -/
def product {R : ℕ} (x : FVec Ideal ⟨2, ![R, 1024]⟩ .bf16) (w : FVec Ideal ⟨4, ![4, 1, 1024, 768]⟩ .bf16) (r : Fin R) (c : Fin 3072) : EReal :=
  ∑ k : Fin 1024, x (ix2 r k) * w (ix4 ⟨c.val / 768, by omega⟩ 0 k ⟨c.val % 768, by omega⟩)

/-- The factor that normalizes a head of 64 entries. -/
def factor (p : Fin 64 → EReal) : EReal :=
  Ideal.rsqrt (Ideal.div (∑ j, p j * p j) (Ideal.ofBits .f32 0x42800000#32) + Ideal.ofBits .f32 0x358637BD#32)

/-- A row of queries, keys and values: the first two normalized head by head and times their gains, the values as they are. -/
def heads (p : Fin 3072 → EReal) (g : FVec Ideal ⟨3, ![3, 1, 1024]⟩ .f32) (c : Fin 3072) : EReal :=
  if 2048 ≤ c.val then p c
  else p c * factor (fun j => p ⟨64 * (c.val / 64) + j, by omega⟩) * g (ix3 ⟨c.val / 1024, by omega⟩ 0 ⟨c.val % 1024, by omega⟩)

/-- The constant 64. -/
theorem word_64 : Ideal.ofBits .f32 0x42800000#32 = ((64 : ℝ) : EReal) := by
  simp [Ideal.ofBits, Ideal.ieee, -EReal.coe_mul, -EReal.coe_neg]
  norm_num

/-- The constant 1/64. -/
theorem word_share : Ideal.ofBits .bf16 0x3C80#16 = ((1 / 64 : ℝ) : EReal) := by
  simp [Ideal.ofBits, Ideal.ieee, -EReal.coe_mul, -EReal.coe_neg]
  norm_num

/-- A factor between 0 and infinity comes out of a sum. -/
theorem sum_scaled {n : ℕ} (a : Fin n → EReal) (s : ℝ) (hs : 0 ≤ s) : ∑ j, a j * (s : EReal) = (∑ j, a j) * (s : EReal) := by
  induction n with
  | zero => simp
  | succ n ih =>
    rw [Fin.sum_univ_castSucc, Fin.sum_univ_castSucc, ih, EReal.right_distrib_of_nonneg_of_ne_top (by exact_mod_cast hs) (EReal.coe_ne_top s)]

/-- The entry of the matrix that averages over the heads. -/
def share (k l : ℕ) : EReal := if k / 64 = l / 64 then Ideal.ofBits .bf16 0x3C80#16 else Ideal.ofBits .bf16 0#16

/-- Against the averaging matrix, four heads' entries give the mean over the column's own head. -/
theorem averaged (a : Fin 256 → EReal) (l : Fin 256) :
    ∑ k : Fin 256, a k * share k l = Ideal.div (∑ j : Fin 64, a ⟨64 * (l.val / 64) + j, by omega⟩) (Ideal.ofBits .f32 0x42800000#32) := by
  have hl := l.isLt
  rw [word_64, Ideal.div_coe (by norm_num), ← sum_scaled _ _ (by norm_num)]
  set f : ℕ → EReal := fun n => if h : n < 256 then a ⟨n, h⟩ * share n l else 0 with hf
  have hsum : ∑ k : Fin 256, a k * share k l = ∑ s : Fin 256, f s := Finset.sum_congr rfl fun k _ => by simp [hf, k.isLt]
  rw [hsum, ← Cert.Products.sum_blocks 4 64 256 f rfl, Finset.sum_eq_single (l.val / 64)]
  · refine Finset.sum_congr rfl fun j _ => ?_
    have hj := j.isLt
    rw [hf]
    dsimp only
    rw [dif_pos (by omega), share, if_pos (by omega), word_share]
  · intro b hb hne
    refine Finset.sum_eq_zero fun j _ => ?_
    have hj := j.isLt
    rw [hf]
    dsimp only
    split
    · rw [share, if_neg (by omega), Ideal.ofBits_zero, mul_zero]
    · rfl
  · intro h
    exact absurd (Finset.mem_range.2 (by omega)) h

end Cert.HeadNorm
-- ==== Proof.HeadTable.lean ====
/- The constant matrix that averages over the heads, read entry by entry. -/
module

public import proofs.«01_k».proof.Proof.HeadNorm
public import proofs.«01_k».proof.OddQkvIdeal

@[expose] public section

set_option maxRecDepth 16384

noncomputable section

namespace Cert.OddQkvIdeal.Value

open Idealize.ShloMosaic Cert.OddQkvIdeal

/-- A leaf reads the last digit alone. -/
theorem leaves : ∀ r : Fin 128, lit0t0_0 r = (if r.val < 64 then 0x3C80#16 else 0#16) ∧ lit0t0_128 r = (if r.val < 64 then 0#16 else 0x3C80#16) ∧ lit0t0_1 r = 0#16 := by
  decide +kernel

/-- Whatever the other digits. -/
theorem leaf (i : ℕ) : lit0t0_0 i = (if i % 128 < 64 then 0x3C80#16 else 0#16) ∧ lit0t0_128 i = (if i % 128 < 64 then 0#16 else 0x3C80#16) ∧ lit0t0_1 i = 0#16 := by
  have h := leaves ⟨i % 128, by omega⟩
  have e : lit0t0_0 (i % 128) = lit0t0_0 i ∧ lit0t0_128 (i % 128) = lit0t0_128 i ∧ lit0t0_1 (i % 128) = lit0t0_1 i := by
    unfold lit0t0_0 lit0t0_128 lit0t0_1
    rw [Nat.mod_mod]
    exact ⟨rfl, rfl, rfl⟩
  exact ⟨e.1.symm.trans h.1, e.2.1.symm.trans h.2.1, e.2.2.symm.trans h.2.2⟩

/-- Which leaf the first two digits choose. -/
theorem middle (q : Fin 4) (s : Fin 128) (i : ℕ) (hq : i / 16384 = q.val) (hs : i / 128 % 128 = s.val) :
    lit0t i = if s.val % 2 = q.val / 2 then (if q.val % 2 = 0 then lit0t0_0 i else lit0t0_128 i) else lit0t0_1 i := by
  unfold lit0t
  rw [hq]
  fin_cases q
  · show lit0t1_0 i = _
    unfold lit0t1_0
    rw [hs]
    fin_cases s <;> rfl
  · show lit0t1_1 i = _
    unfold lit0t1_1
    rw [hs]
    fin_cases s <;> rfl
  · show lit0t1_2 i = _
    unfold lit0t1_2
    rw [hs]
    fin_cases s <;> rfl
  · show lit0t1_3 i = _
    unfold lit0t1_3
    rw [hs]
    fin_cases s <;> rfl

/-- The table's words: 1/64 where row and column are of one head, zero elsewhere. -/
theorem table (k l : Fin 256) : lit0t (256 * k.val + l.val) = if k.val / 64 = l.val / 64 then 0x3C80#16 else 0#16 := by
  have hk := k.isLt
  have hl := l.isLt
  obtain ⟨h0, h1, h2⟩ := leaf (256 * k.val + l.val)
  rw [middle ⟨k.val / 64, by omega⟩ ⟨2 * (k.val % 64) + l.val / 128, by omega⟩ _ (by dsimp only; omega) (by dsimp only; omega), h0, h1, h2]
  dsimp only
  have e : (2 * (k.val % 64) + l.val / 128) % 2 = l.val / 64 / 2 := by omega
  have e' : (256 * k.val + l.val) % 128 < 64 ↔ l.val / 64 % 2 = 0 := by omega
  have a : k.val / 64 < 4 := by omega
  have b : l.val / 64 < 4 := by omega
  simp only [e, e']
  generalize k.val / 64 = x at a
  generalize l.val / 64 = y at b
  interval_cases x <;> interval_cases y <;> rfl

end Cert.OddQkvIdeal.Value
-- ==== Proof.QkvRef.lean ====
/- The odd layers' joint projection in the reference: its product, and its queries and keys normalized head by head. -/
module

public import proofs.«01_k».proof.Proof.HeadNorm
public import proofs.«01_k».proof.Proof.Gen.OddQkvRefIdeal.Run

@[expose] public section

set_option maxRecDepth 16384

noncomputable section

namespace Cert.OddQkvRefIdeal.Value

open Idealize.ShloMosaic Idealize.SL.Sem Cert.OddQkvRefIdeal Cert.OddQkvRefIdeal.Gen Idealize.ShloMosaic.TcCoe Cert.NormBwd Cert.HeadNorm

/-- The reference's product, its weights set side by side. -/
theorem product_eq (a : FVec Ideal S4096x1024 .bf16) (w : FVec Ideal S4x1x1024x768 .bf16) :
    Host.dotGeneral (φ₁ := .f32) (φ₂ := .f32) dot_S4096x1024_S1024x3072_S4096x3072_1_0_0_1_n_n none (extf .f32 a bitsLt_bf16_f32) (extf .f32 ((concatenate S1024x3072 1
      [⟨S1024x768, ((shapeCast _ (extractStridedSlice S1x1x1024x768 ![0, 0, 0, 0] w slices_S4x1x1024x768_S1x1x1024x768_0_0_0_0) shapeCasts_S1x1x1024x768_S1024x768) : (⟨S1024x768, .bf16⟩ : BufTy).Contents (Elt Ideal))⟩,
       ⟨S1024x768, ((shapeCast _ (extractStridedSlice S1x1x1024x768 ![1, 0, 0, 0] w slices_S4x1x1024x768_S1x1x1024x768_1_0_0_0) shapeCasts_S1x1x1024x768_S1024x768) : (⟨S1024x768, .bf16⟩ : BufTy).Contents (Elt Ideal))⟩,
       ⟨S1024x768, ((shapeCast _ (extractStridedSlice S1x1x1024x768 ![2, 0, 0, 0] w slices_S4x1x1024x768_S1x1x1024x768_2_0_0_0) shapeCasts_S1x1x1024x768_S1024x768) : (⟨S1024x768, .bf16⟩ : BufTy).Contents (Elt Ideal))⟩,
       ⟨S1024x768, ((shapeCast _ (extractStridedSlice S1x1x1024x768 ![3, 0, 0, 0] w slices_S4x1x1024x768_S1x1x1024x768_3_0_0_0) shapeCasts_S1x1x1024x768_S1024x768) : (⟨S1024x768, .bf16⟩ : BufTy).Contents (Elt Ideal))⟩]
      concatenates_S1024x768_S1024x768_S1024x768_S1024x768_S1024x3072_d1 : (⟨S1024x3072, .bf16⟩ : BufTy).Contents (Elt Ideal))) bitsLt_bf16_f32)
      = fun y => product a w (y 0) (y 1) := by
  funext y
  obtain ⟨r, l, rfl⟩ : ∃ (r : Fin 4096) (l : Fin 3072), y = (ix2 r l : S4096x3072.Idx) := ⟨y 0, y 1, eq_ix2 (y : (⟨2, ![4096, 3072]⟩ : Shape).Idx)⟩
  have hl := l.isLt
  pointwise [product]
  exact Finset.sum_congr rfl fun k _ => congrArg (a (ix2 r k) * ·) (side_by_side 768 (fun j l => w (ix4 j 0 k l)) l.val (by omega) (by omega) (by omega))

/-- The reference's normalization of queries or keys. -/
abbrev normalized (q : FVec Ideal S4096x1024 .f32) (g : FVec Ideal S1x1x1024 .f32) : FVec Ideal S4096x1024 .f32 :=
  shapeCast _ (mulf (mulf (shapeCast _ q shapeCasts_S4096x1024_S4096x16x64)
    (broadcastInDim S4096x16x64 ![0, 1, 2] bcast_S4096x16x1_S4096x16x64_0_1_2 (Host.rsqrt (addf (Host.divf (broadcastInDim S4096x16x1 ![0, 1] bcast_S4096x16_S4096x16x1_0_1
      (Host.reduceAdd (mulf (shapeCast _ q shapeCasts_S4096x1024_S4096x16x64) (shapeCast _ q shapeCasts_S4096x1024_S4096x16x64)) (constant S_ .f32 0x00000000#32) reducesTo_S4096x16x64_S4096x16_d2 h_S_))
      (broadcastInDim S4096x16x1 ![] bcast_S_S4096x16x1 (constant S_ .f32 0x42800000#32))) (broadcastInDim S4096x16x1 ![] bcast_S_S4096x16x1 (constant S_ .f32 0x358637BD#32))))))
    (broadcastInDim S4096x16x64 ![0, 1, 2] bcast_S1x16x64_S4096x16x64_0_1_2 (broadcastInDim S1x16x64 ![1, 2] bcast_S16x64_S1x16x64_1_2
      (shapeCast _ (shapeCast _ g shapeCasts_S1x1x1024_S1x1024) shapeCasts_S1x1024_S16x64)))) shapeCasts_S4096x16x64_S4096x1024

/-- It normalizes each row head by head. -/
theorem normalized_at (q : FVec Ideal S4096x1024 .f32) (g : FVec Ideal S1x1x1024 .f32) (r : Fin 4096) (l : Fin 1024) :
    normalized q g (ix2 r l) = q (ix2 r l) * factor (fun j => q (ix2 r ⟨64 * (l.val / 64) + j, by omega⟩)) * g (ix3 0 0 l) := by
  have hl := l.isLt
  have hr := r.isLt
  pointwise [normalized, factor]
  simp only [Nat.mul_comm 64]

/-- Queries, keys and values side by side. -/
theorem joined (x0 x1 x2 : FVec Ideal S4096x1024 .f32) (r : Fin 4096) (l : Fin 3072) :
    truncf (F := Ideal) .bf16 ((concatenate S4096x3072 1 [⟨S4096x1024, (x0 : (⟨S4096x1024, .f32⟩ : BufTy).Contents (Elt Ideal))⟩, ⟨S4096x1024, (x1 : (⟨S4096x1024, .f32⟩ : BufTy).Contents (Elt Ideal))⟩,
      ⟨S4096x1024, (x2 : (⟨S4096x1024, .f32⟩ : BufTy).Contents (Elt Ideal))⟩] concatenates_S4096x1024_S4096x1024_S4096x1024_S4096x3072_d1 : (⟨S4096x3072, .f32⟩ : BufTy).Contents (Elt Ideal))) bitsLt_bf16_f32 (ix2 r l)
      = if h : l.val < 1024 then x0 (ix2 r ⟨l, h⟩) else if h' : l.val - 1024 < 1024 then x1 (ix2 r ⟨l - 1024, h'⟩) else x2 (ix2 r ⟨l - 1024 - 1024, by omega⟩) := by
  pointwise []

section
variable (x : FVec Ideal S4096x1024 .bf16) (w : FVec Ideal S4x1x1024x768 .bf16) (r : Fin 4096) (l : Fin 1024)

/-- The queries are the product's first third. -/
theorem queries : extractStridedSlice S4096x1024 ![0, 0] (fun y : S4096x3072.Idx => product x w (y 0) (y 1)) slices_S4096x3072_S4096x1024_0_0 (ix2 r l) = product x w r ⟨l, by omega⟩ := by
  pointwise []

/-- The keys are its second. -/
theorem keys : extractStridedSlice S4096x1024 ![0, 1024] (fun y : S4096x3072.Idx => product x w (y 0) (y 1)) slices_S4096x3072_S4096x1024_0_1024 (ix2 r l) = product x w r ⟨1024 + l, by omega⟩ := by
  pointwise []

/-- The values are its third. -/
theorem values : extractStridedSlice S4096x1024 ![0, 2048] (fun y : S4096x3072.Idx => product x w (y 0) (y 1)) slices_S4096x3072_S4096x1024_0_2048 (ix2 r l) = product x w r ⟨2048 + l, by omega⟩ := by
  pointwise []

/-- The gains of the queries and of the keys. -/
theorem gains (g : FVec Ideal S3x1x1024 .f32) : extractStridedSlice S1x1x1024 ![0, 0, 0] g slices_S3x1x1024_S1x1x1024_0_0_0 (ix3 0 0 l) = g (ix3 0 0 l)
    ∧ extractStridedSlice S1x1x1024 ![1, 0, 0] g slices_S3x1x1024_S1x1x1024_1_0_0 (ix3 0 0 l) = g (ix3 1 0 l) := by
  constructor <;> pointwise []

end

variable (m : (ℓ : Loc nD τ sig) → Buf (Elt Ideal) ℓ) (c : Dev nD)

/-- The reference's second result. -/
theorem value1 (x : FVec Ideal S4096x1024 .bf16) (w : FVec Ideal S4x1x1024x768 .bf16) (g : FVec Ideal S3x1x1024 .f32)
    (hx : m ((c : Thread nD τ).loc main_arg0) = x) (hw : m ((c : Thread nD τ).loc main_arg1) = w) (hg : m ((c : Thread nD τ).loc main_arg2) = g) :
    res_out1 (F := Ideal) m c = fun y : S4096x3072.Idx => heads (product x w (y 0)) g (y 1) := by
  unfold res_out1 res_main_v52
  rw [hx, hw, hg, product_eq]
  funext y
  obtain ⟨r, l, rfl⟩ : ∃ (r : Fin 4096) (l : Fin 3072), y = (ix2 r l : S4096x3072.Idx) := ⟨y 0, y 1, eq_ix2 (y : (⟨2, ![4096, 3072]⟩ : Shape).Idx)⟩
  have hl := l.isLt
  refine (joined _ _ _ r l).trans ?_
  show _ = heads (product x w r) g l
  unfold heads
  split_ifs with a b b' b''
  · omega
  · refine (normalized_at _ _ r ⟨l, a⟩).trans ?_
    simp only [queries]
    refine congrArg₂ (· * ·) rfl ((gains ⟨l, a⟩ g).1.trans ?_)
    exact congrArg₂ (fun i j => g (ix3 i 0 j)) (Fin.ext (by dsimp only; omega)) (Fin.ext (by dsimp only; omega))
  · omega
  · refine (normalized_at _ _ r ⟨l - 1024, b'⟩).trans ?_
    simp only [keys]
    refine congrArg₂ (· * ·) (congrArg₂ (· * ·) (congrArg (product x w r) (Fin.ext (by dsimp only; omega))) (congrArg factor (funext fun j => congrArg (product x w r) (Fin.ext (by dsimp only; omega)))))
      ((gains ⟨l - 1024, b'⟩ g).2.trans ?_)
    have e : l.val / 1024 = 1 := by omega
    exact congrArg₂ (fun i j => g (ix3 i 0 j)) (Fin.ext e.symm) (Fin.ext (by dsimp only; omega))
  · exact (values x w r _).trans (congrArg (product x w r) (Fin.ext (by dsimp only; omega)))
  · omega

end Cert.OddQkvRefIdeal.Value
-- ==== Proof.OddQkvValue.lean ====
/- The odd layers' joint projection with the normalization of queries and keys. -/
module

public import proofs.«01_k».proof.Proof.HeadTable
public import proofs.«01_k».proof.Proof.QkvRef
public import proofs.«01_k».proof.Proof.Gen.OddQkvIdeal.Value
public import proofs.«01_k».proof.Defs

@[expose] public section

set_option maxRecDepth 16384

noncomputable section

namespace Cert.OddQkvIdeal.Value

open Idealize.ShloMosaic Idealize.SL.Sem Cert.OddQkvIdeal Cert.OddQkvIdeal.Gen Idealize.ShloMosaic.TcCoe Cert.HeadNorm
open Idealize.ShloMosaic.Pipeline (Dat)

/-- Which blocks each point stages and writes, and the point's first coordinate. -/
theorem idx : ∀ t : Fin cfg0.N, (win0_0.index t = ![t.val % 4, 0] ∧ win0_1.index t = ![t.val / 4, 0, 0, 0] ∧ win0_2.index t = ![0, t.val / 4] ∧ win0_3.index t = ![0, 0])
    ∧ win0_4.index t = ![t.val % 4, t.val / 4] ∧ win0_5.index t = ![t.val % 4, t.val / 4] ∧ (grid0.coords t 0).val = t.val / 4 ∧ t.val < 16 :=
  (by decide +kernel : ∀ t : Fin grid0.N, _)

/-- Whether a stretch of columns holds values. -/
theorem is_value : ∀ j : Fin 4, ∀ o : Fin 3, Scalar.cmpi .sge (Scalar.addi (Scalar.muli (BitVec.ofNat 32 j.val) 768#32) (BitVec.ofNat 32 (256 * o.val))) 2048#32
    = (if 2048 ≤ 768 * j.val + 256 * o.val then 1#1 else 0#1) := by decide +kernel

/-- A tile's product. -/
theorem tile_product (x : FVec Ideal S1024x1024 .bf16) (w : FVec Ideal S1x1x1024x768 .bf16) (r : Fin 1024) (l : Fin 768) :
    k0_pay3 (F := Ideal) x w (ix2 r l) = ∑ k : Fin 1024, x (ix2 r k) * w (ix4 0 0 k l) := by
  pointwise [k0_pay3]

/-- What a point does with a stretch of 256 columns. -/
def stretch (v : BitVec 1) (p : FVec Ideal S1024x256 .f32) (a : FVec Ideal S256x256 .bf16) (g : FVec Ideal S1x256 .f32) : FVec Ideal S1024x256 .bf16 :=
  truncf .bf16 (Scalar.select v p (mulf (mulf p (rsqrt (addf (matmul dot_S1024x256_S256x256_S1024x256_1_0_0_1_n_n none (truncf .bf16 (mulf p p) bitsLt_bf16_f32) a (constant S1024x256 .f32 0x00000000#32))
    (broadcast S1024x256 (Scalar.ofBits .f32 0x358637BD#32))))) (broadcastTo S1024x256 (shapeCast S1x256 g shapeCasts_S1x256_S1x256) broadcasts_S1x256_S1024x256))) bitsLt_bf16_f32

/-- Its entries: as they are, or normalized against the averaging matrix. -/
theorem stretch_at (v : BitVec 1) (p : FVec Ideal S1024x256 .f32) (a : FVec Ideal S256x256 .bf16) (g : FVec Ideal S1x256 .f32) (r : Fin 1024) (l : Fin 256) :
    stretch v p a g (ix2 r l) = if v = 1#1 then p (ix2 r l)
      else p (ix2 r l) * Ideal.rsqrt ((∑ k : Fin 256, p (ix2 r k) * p (ix2 r k) * a (ix2 k l)) + Ideal.ofBits .f32 0x358637BD#32) * g (ix2 0 l) := by
  by_cases h : v = 1#1
  · rw [if_pos h]
    unfold stretch Scalar.select
    rw [if_pos (show v = 1 from h)]
    rfl
  · rw [if_neg h]
    unfold stretch Scalar.select
    rw [if_neg (show ¬v = 1 from h)]
    pointwise []

/-- The three stretches of a block. -/
theorem stretches (i : grid0.Coords) (x : FVec Ideal S1024x1024 .bf16) (w : FVec Ideal S1x1x1024x768 .bf16) (a : FVec Ideal S256x256 .bf16) (g : FVec Ideal S1x256 .f32) :
    k0_pay4 (F := Ideal) i x w a g = stretch (Scalar.cmpi .sge (Scalar.addi (Scalar.muli (BitVec.ofNat 32 (i 0).val) 768#32) 0#32) 2048#32) (extractStridedSlice S1024x256 ![0, 0] (k0_pay3 (F := Ideal) x w) slices_S1024x768_o0_0_S1024x256) a g
    ∧ k0_pay1 (F := Ideal) (Scalar.muli (BitVec.ofNat 32 (i 0).val) 768#32) (k0_pay5 (F := Ideal) x w) (k0_pay6 (F := Ideal) x w a) g
      = stretch (Scalar.cmpi .sge (Scalar.addi (Scalar.muli (BitVec.ofNat 32 (i 0).val) 768#32) 256#32) 2048#32) (extractStridedSlice S1024x256 ![0, 256] (k0_pay3 (F := Ideal) x w) slices_S1024x768_o0_256_S1024x256) a g
    ∧ k0_pay2 (F := Ideal) (Scalar.muli (BitVec.ofNat 32 (i 0).val) 768#32) (k0_pay3 (F := Ideal) x w) a g
      = stretch (Scalar.cmpi .sge (Scalar.addi (Scalar.muli (BitVec.ofNat 32 (i 0).val) 768#32) 512#32) 2048#32) (extractStridedSlice S1024x256 ![0, 512] (k0_pay3 (F := Ideal) x w) slices_S1024x768_o0_512_S1024x256) a g :=
  ⟨rfl, rfl, rfl⟩

variable (m : (ℓ : Loc nD τ sig) → Buf (Elt Ideal) ℓ) (c : Dev nD) (t : Fin cfg0.N)

/-- A tile's product is the array's. -/
theorem block_product (r : Fin 1024) (R : Fin 4096) (hR : R.val = 1024 * (t.val % 4) + r) (l : Fin 768) (C : Fin 3072) (hC : C.val = 768 * (t.val / 4) + l) :
    k0_pay3 (F := Ideal) (iblk m c 0 t) (iblk m c 1 t) (ix2 r l) = product (R := 4096) (m ((c : Thread nD τ).loc main_arg0)) (m ((c : Thread nD τ).loc main_arg1)) R C := by
  have ht := (idx t).2.2.2.2
  have hl := l.isLt
  refine (tile_product _ _ r l).trans (Finset.sum_congr rfl fun k _ => congrArg₂ (· * ·) ?_ ?_)
  · blk_ext [iblk, V, (idx t).1.1]
  · blk_ext [iblk, V, (idx t).1.2.1]

/-- The averaging matrix, as the table has it. -/
theorem block_table (k l : Fin 256) : (iblk m c 3 t : FVec Ideal S256x256 .bf16) (ix2 k l) = Ideal.ofBits .bf16 (lit0t (256 * k.val + l.val)) := by
  have e : (iblk m c 3 t : FVec Ideal S256x256 .bf16) (ix2 k l) = (V m c main_cst : FVec Ideal S256x256 .bf16) (ix2 k l) := by
    blk_ext [iblk, (idx t).1.2.2.2]
  refine e.trans ?_
  have e' : (V m c main_cst : FVec Ideal S256x256 .bf16) = (fun i => FloatOps.ofBits .bf16 (lit0 (S256x256.rowMajor i)) : FVec Ideal S256x256 .bf16) := by
    dsimp only [V]
    after_results_simp
    rfl
  refine (congrFun e' _).trans ?_
  show Ideal.ofBits .bf16 (lit0t (S256x256.rowMajor (ix2 k l)).val) = _
  congr 2
  rw [Shape.rowMajor_val_two]
  show k.val * 256 + l.val = 256 * k.val + l.val
  omega

/-- The gains side by side. -/
theorem gains_at (g : FVec Ideal S3x1x1024 .f32) (C : Fin 3072) :
    shapeCast S1x3072 g shapeCasts_S3x1x1024_S1x3072 (ix2 0 C) = g (ix3 ⟨C.val / 1024, by omega⟩ 0 ⟨C.val % 1024, by omega⟩) := by
  refine shapeCast_apply _ _ _ _ ?_
  rw [Shape.rowMajor_val_three, Shape.rowMajor_val_two]
  show (C.val / 1024 * 1 + 0) * 1024 + C.val % 1024 = 0 * 3072 + C.val
  omega

/-- The gains' columns. -/
theorem block_gains (l : Fin 768) (C : Fin 3072) (hC : C.val = 768 * (t.val / 4) + l) :
    (iblk m c 2 t : FVec Ideal S1x768 .f32) (ix2 0 l) = (m ((c : Thread nD τ).loc main_arg2) : FVec Ideal S3x1x1024 .f32) (ix3 ⟨C.val / 1024, by omega⟩ 0 ⟨C.val % 1024, by omega⟩) := by
  have ht := (idx t).2.2.2.2
  have hl := l.isLt
  have e : (iblk m c 2 t : FVec Ideal S1x768 .f32) (ix2 0 l) = (V m c main_v0 : FVec Ideal S1x3072 .f32) (ix2 0 C) := by
    blk_ext [iblk, (idx t).1.2.2.1]
  refine e.trans ?_
  have e' : (V m c main_v0 : FVec Ideal S1x3072 .f32) = shapeCast S1x3072 (m ((c : Thread nD τ).loc main_arg2) : FVec Ideal S3x1x1024 .f32) shapeCasts_S3x1x1024_S1x3072 := by
    dsimp only [V]
    after_results_simp
    rfl
  exact (congrFun e' _).trans (gains_at _ C)

/-- The row of queries, keys and values that a row of the kernel's second result holds. -/
abbrev goal (R : Fin 4096) (C : Fin 3072) : EReal :=
  heads (product (R := 4096) (m ((c : Thread nD τ).loc main_arg0)) (m ((c : Thread nD τ).loc main_arg1)) R) (m ((c : Thread nD τ).loc main_arg2)) C

/-- A stretch of a block holds its part of the goal, whichever stretch it is. -/
theorem stretch_goal (o : Fin 3) (p : FVec Ideal S1024x256 .f32) (g : FVec Ideal S1x256 .f32)
    (hp : ∀ (r : Fin 1024) (l : Fin 256), p (ix2 r l) = k0_pay3 (F := Ideal) (iblk m c 0 t) (iblk m c 1 t) (ix2 r ⟨256 * o.val + l, by omega⟩))
    (hg : ∀ l : Fin 256, g (ix2 0 l) = (iblk m c 2 t : FVec Ideal S1x768 .f32) (ix2 0 ⟨256 * o.val + l, by omega⟩))
    (r : Fin 1024) (l : Fin 256) (R : Fin 4096) (hR : R.val = 1024 * (t.val % 4) + r) (C : Fin 3072) (hC : C.val = 768 * (t.val / 4) + (256 * o.val + l)) :
    stretch (Scalar.cmpi .sge (Scalar.addi (Scalar.muli (BitVec.ofNat 32 (grid0.coords t 0).val) 768#32) (BitVec.ofNat 32 (256 * o.val))) 2048#32) p (iblk m c 3 t) g (ix2 r l) = goal m c R C := by
  have ht := (idx t).2.2.2
  have hl := l.isLt
  have ho := o.isLt
  have hP (k : Fin 256) (D : Fin 3072) (hD : D.val = 768 * (t.val / 4) + (256 * o.val + k)) :=
    (hp r k).trans (block_product m c t r R hR ⟨256 * o.val + k, by omega⟩ D hD)
  rw [stretch_at, ht.1, is_value ⟨t.val / 4, by omega⟩ o]
  unfold goal heads
  by_cases hv : 2048 ≤ C.val
  · rw [if_pos hv, if_pos (by rw [if_pos (by dsimp only; omega)])]
    exact hP l C hC
  · rw [if_neg hv, if_neg (by rw [if_neg (by dsimp only; omega)]; decide)]
    refine congrArg₂ (· * ·) (congrArg₂ (· * ·) (hP l C hC) (congrArg (fun s => Ideal.rsqrt (s + Ideal.ofBits .f32 0x358637BD#32)) ?_)) ((hg l).trans (block_gains m c t ⟨256 * o.val + l, by omega⟩ C hC))
    refine (Finset.sum_congr rfl fun k _ => congrArg (p (ix2 r k) * p (ix2 r k) * ·) ?_).trans ((averaged (fun k => p (ix2 r k) * p (ix2 r k)) l).trans ?_)
    · rw [block_table, table, share]
      split_ifs <;> rfl
    · refine congrArg (Ideal.div · _) (Finset.sum_congr rfl fun j _ => ?_)
      have hj := j.isLt
      have e := hP ⟨64 * (l.val / 64) + j, by omega⟩ ⟨64 * (C.val / 64) + j, by omega⟩ (by dsimp only; omega)
      exact congrArg₂ (· * ·) e e

/-- A stretch of the columns of a block of gains. -/
theorem stretch_gains (v : FVec Ideal S1x768 .f32) (o : ℕ) (h : ∀ a, (![0, o] : Fin 2 → ℕ) a + S1x256.size a ≤ S1x768.size a) (l : Fin 256) (hl : o + l.val < 768) :
    (View.ld (Val := Elt Ideal) (e' := .f32) v (Rect.unit (s := S1x768) ![0, o] S1x256.size h) : FVec Ideal S1x256 .f32) (ix2 0 l) = v (ix2 0 ⟨o + l, hl⟩) := by
  refine (View.ld_apply _ _ _).trans (congrArg v ?_)
  blk_ext
  show o + 1 * l.val = o + l.val
  omega

/-- The first result's block. -/
theorem out4 (r : Fin 1024) (l : Fin 768) (R : Fin 4096) (hR : R.val = 1024 * (t.val % 4) + r) (C : Fin 3072) (hC : C.val = 768 * (t.val / 4) + l) :
    (out0_4 (F := Ideal) (grid0.coords t) (iblk m c 0 t) (iblk m c 1 t) (iblk m c 2 t) (iblk m c 3 t)) (ix2 r l)
      = product (R := 4096) (m ((c : Thread nD τ).loc main_arg0)) (m ((c : Thread nD τ).loc main_arg1)) R C := by
  frame_out
  exact block_product m c t r R hR l C hC

/-- The stretches of the product. -/
theorem product_stretches (p : FVec Ideal S1024x768 .f32) (r : Fin 1024) (l : Fin 256) :
    extractStridedSlice S1024x256 ![0, 0] p slices_S1024x768_o0_0_S1024x256 (ix2 r l) = p (ix2 r ⟨0 + l, by omega⟩)
    ∧ extractStridedSlice S1024x256 ![0, 256] p slices_S1024x768_o0_256_S1024x256 (ix2 r l) = p (ix2 r ⟨256 + l, by omega⟩)
    ∧ extractStridedSlice S1024x256 ![0, 512] p slices_S1024x768_o0_512_S1024x256 (ix2 r l) = p (ix2 r ⟨512 + l, by omega⟩) := by
  refine ⟨?_, ?_, ?_⟩ <;> pointwise []

/-- Where a point's block lies in the results. -/
def rowOf (r : Fin 1024) : Fin 4096 := ⟨1024 * (t.val % 4) + r, by omega⟩

/-- Which columns it holds. -/
def colOf (l : Fin 768) : Fin 3072 := ⟨768 * (t.val / 4) + l, by have := (idx t).2.2.2.2; omega⟩

/-- The three stretches that a point stores. -/
theorem pieces : View.PiecesOf (Val := Elt Ideal) (s := S1024x768) (e := .bf16) (fun y => goal m c (rowOf t (y 0)) (colOf t (y 1)))
    [⟨r0_9, k0_pay2 (F := Ideal) (Scalar.muli (BitVec.ofNat 32 (grid0.coords t 0).val) 768#32) (k0_pay3 (F := Ideal) (iblk m c 0 t) (iblk m c 1 t)) (iblk m c 3 t) (View.ld (iblk m c 2 t) r0_8)⟩,
      ⟨r0_7, k0_pay1 (F := Ideal) (Scalar.muli (BitVec.ofNat 32 (grid0.coords t 0).val) 768#32) (k0_pay5 (F := Ideal) (iblk m c 0 t) (iblk m c 1 t)) (k0_pay6 (F := Ideal) (iblk m c 0 t) (iblk m c 1 t) (iblk m c 3 t)) (View.ld (iblk m c 2 t) r0_6)⟩,
      ⟨r0_5, k0_pay4 (F := Ideal) (grid0.coords t) (iblk m c 0 t) (iblk m c 1 t) (iblk m c 3 t) (View.ld (iblk m c 2 t) r0_4)⟩] := by
  have hrow (r : Fin 1024) (n : Fin 1024) (hn : n.val = 0 + 1 * r.val) : (rowOf t n).val = 1024 * (t.val % 4) + r.val := by
    show 1024 * (t.val % 4) + n.val = _
    omega
  have hcol (o : ℕ) (l : Fin 256) (n : Fin 768) (hn : n.val = o + 1 * l.val) : (colOf t n).val = 768 * (t.val / 4) + (o + l.val) := by
    show 768 * (t.val / 4) + n.val = _
    omega
  have st (g : FVec Ideal S1x256 .f32) := stretches (grid0.coords t) (iblk m c 0 t) (iblk m c 1 t) (iblk m c 3 t) g
  refine ⟨fun x => ?_, fun x => ?_, fun x => ?_, trivial⟩
  all_goals obtain ⟨r, l, rfl⟩ : ∃ (r : Fin 1024) (l : Fin 256), x = (ix2 r l : S1024x256.Idx) := ⟨x 0, x 1, eq_ix2 (x : (⟨2, ![1024, 256]⟩ : Shape).Idx)⟩
  · exact (congrFun (st _).2.2 _).trans (stretch_goal m c t 2 _ _ (fun r l => (product_stretches _ r l).2.2) (fun l => stretch_gains _ 512 _ l (by omega)) r l _ (hrow r _ rfl) _ (hcol 512 l _ rfl))
  · exact (congrFun (st _).2.1 _).trans (stretch_goal m c t 1 _ _ (fun r l => (product_stretches _ r l).2.1) (fun l => stretch_gains _ 256 _ l (by omega)) r l _ (hrow r _ rfl) _ (hcol 256 l _ rfl))
  · exact (congrFun (st _).1 _).trans (stretch_goal m c t 0 _ _ (fun r l => (product_stretches _ r l).1) (fun l => stretch_gains _ 0 _ l (by omega)) r l _ (hrow r _ rfl) _ (hcol 0 l _ rfl))

/-- The second result's block. -/
theorem out5 (y : S1024x768.Idx) :
    (out0_5 (F := Ideal) (grid0.coords t) (iblk m c 0 t) (iblk m c 1 t) (iblk m c 2 t) (iblk m c 3 t)) y = goal m c (rowOf t (y 0)) (colOf t (y 1)) := by
  frame_out
  exact View.canon_append_of_piecesOf _ [] [_, _, _] (pieces m c t) y (View.cover_of_tiledBy _ ![1024, 256] (by sl_kernel_rfl) y)

/-- The product after the run. -/
theorem result4 : (dats m 0 c).arrAt 4 cfg0.N
    = fun y : S4096x3072.Idx => product (R := 4096) (m ((c : Thread nD τ).loc main_arg0)) (m ((c : Thread nD τ).loc main_arg1)) (y 0) (y 1) := by
  refine (dats m 0 c).arrAt_eq_of_covers 4 _ (by decide +kernel) fun t hf y => ?_
  obtain ⟨r, l, rfl⟩ : ∃ (r : Fin 1024) (l : Fin 768), y = (ix2 r l : S1024x768.Idx) := ⟨y 0, y 1, eq_ix2 (y : (⟨2, ![1024, 768]⟩ : Shape).Idx)⟩
  blk_simp
  rw [after0_4]
  refine (out4 m c t r l (rowOf t r) rfl (colOf t l) rfl).trans ?_
  refine congrArg (fun y : S4096x3072.Idx => product (R := 4096) (m ((c : Thread nD τ).loc main_arg0)) (m ((c : Thread nD τ).loc main_arg1)) (y 0) (y 1)) (?_ : ix2 (rowOf t r) (colOf t l) = _)
  blk_ext [(idx t).2.1, rowOf, colOf]

/-- Queries, keys and values after the run. -/
theorem result5 : (dats m 0 c).arrAt 5 cfg0.N = fun y : S4096x3072.Idx => goal m c (y 0) (y 1) := by
  refine (dats m 0 c).arrAt_eq_of_covers 5 _ (by decide +kernel) fun t hf y => ?_
  obtain ⟨r, l, rfl⟩ : ∃ (r : Fin 1024) (l : Fin 768), y = (ix2 r l : S1024x768.Idx) := ⟨y 0, y 1, eq_ix2 (y : (⟨2, ![1024, 768]⟩ : Shape).Idx)⟩
  blk_simp
  rw [after0_5]
  refine (out5 m c t (ix2 r l)).trans ?_
  refine congrArg (fun y : S4096x3072.Idx => goal m c (y 0) (y 1)) (?_ : ix2 (rowOf t r) (colOf t l) = _)
  blk_ext [(idx t).2.2.1, rowOf, colOf]

/-- The kernel and the reference end with equal results. -/
theorem equal_results : Cert.algebraic_OddQkvIdeal_OddQkvRefIdeal (hOddQkvIdeal := Cert.OddQkvIdeal.Gen.facts)
    (hOddQkvRefIdeal := Cert.OddQkvRefIdeal.Gen.facts) := fun m ρ m' ρ' _ ha => by
  refine ⟨fun c => fun y : S4096x3072.Idx => product (R := 4096) (m ((c : Thread nD τ).loc main_arg0)) (m ((c : Thread nD τ).loc main_arg1)) (y 0) (y 1),
    fun c => fun y : S4096x3072.Idx => goal m c (y 0) (y 1),
    (θ_run (Cert.OddQkvIdeal.defs (F := Ideal)) _ _).mono (fun r hr c => ⟨(hr c).1.trans (result4 m c), (hr c).2.1.trans (result5 m c), (hr c).2.2⟩) (run_blocks (F := Ideal) m ρ),
    (θ_run (Cert.OddQkvRefIdeal.defs (F := Ideal)) _ _).mono (fun r hr c => ⟨(hr c).1.trans ?_, (hr c).2.1.trans ?_, (hr c).2.2⟩) (Cert.OddQkvRefIdeal.Value.run (F := Ideal) m' ρ')⟩
  · rw [(ha c).1, (ha c).2.1]
    exact Cert.OddQkvRefIdeal.Value.product_eq _ _
  · exact Cert.OddQkvRefIdeal.Value.value1 m' c _ _ _ (ha c).1 (ha c).2.1 (ha c).2.2

end Cert.OddQkvIdeal.Value
-- ==== Proof.NormDx.lean ====
/- The gradient through a projection and its normalization, over any product: a tile, the gain's running sum, and the reference. -/
module

public import proofs.«01_k».proof.Proof.NormBwd
public import proofs.«01_k».proof.Proof.Gen.FfnDxIdeal.Value
public import proofs.«01_k».proof.Proof.Gen.FfnDxRefIdeal.Run
public import proofs.«01_k».proof.Defs

@[expose] public section

set_option maxRecDepth 16384

noncomputable section

namespace Cert.NormDx

open Idealize.ShloMosaic Cert.FfnDxIdeal Cert.FfnDxIdeal.Gen Cert.Mixer Cert.Products Cert.NormBwd

variable (P : Fin 4096 → Fin 1024 → EReal) (X : FVec Ideal S4096x1024 .f32) (G : FVec Ideal S1x1024 .f32) (S : FVec Ideal S4096x1024 .f32)

/-- The input's gradient, the residual's added. -/
def dx : FVec Ideal S4096x1024 .f32 :=
  fun y => gradient (S (ix2 (y 0) (y 1))) (fun k => X (ix2 (y 0) k)) (fun k => P (y 0) k * G (ix2 0 k)) (y 1)

/-- A row's part of the gain's gradient. -/
def part (r : Fin 4096) (l : Fin 1024) : EReal := P r l * (X (ix2 r l) * scale (fun k => X (ix2 r k)))

/-- The gain's gradient. -/
def dg : FVec Ideal S1x1024 .f32 := fun y => ∑ r : Fin 4096, part P X r (y 1)

/-- The rows' parts of the gain's gradient, in order. -/
def parts (n : ℕ) (y : S1x1024.Idx) : EReal := table2 (A := 4096) (B := 1024) (part P X) n (y 1).val

/-- A tile of the input's gradient, from the tile's product, inputs and residual and the gain. -/
abbrev tile (d x : FVec Ideal S512x1024 .f32) (g : FVec Ideal S1x1024 .f32) (s : FVec Ideal S512x1024 .f32) : FVec Ideal S512x1024 .f32 :=
  k0_pay2 (F := Ideal) d x (k0_pay7 x) k0_pay8 g s

/-- A tile's part of the gain's gradient. -/
abbrev gains (d x : FVec Ideal S512x1024 .f32) : FVec Ideal S1x1024 .f32 := k0_pay4 (F := Ideal) d x (k0_pay7 x) k0_pay8

variable {P X G S}

/-- A tile that holds the arrays' rows holds the gradient's. -/
theorem tile_at {d x s : FVec Ideal S512x1024 .f32} {g : FVec Ideal S1x1024 .f32} {r : Fin 512} {l : Fin 1024} {R : Fin 4096}
    (hd : ∀ k : Fin 1024, (d (ix2 r k) : EReal) = P R k) (hx : ∀ k : Fin 1024, (x (ix2 r k) : EReal) = X (ix2 R k))
    (hg : ∀ k : Fin 1024, (g (ix2 0 k) : EReal) = G (ix2 0 k)) (hs : (s (ix2 r l) : EReal) = S (ix2 R l)) :
    tile d x g s (ix2 r l) = dx P X G S (ix2 R l) := by
  refine Eq.trans (b := (gradient (s (ix2 r l)) (fun k => x (ix2 r k)) (fun k => d (ix2 r k) * g (ix2 0 k)) l : EReal)) ?_ ?_
  · pointwise [tile, k0_pay2, k0_pay1, k0_pay7, k0_pay8]
    rfl
  · rw [hs, funext hx, funext fun k => congrArg₂ (fun u v : EReal => u * v) (hd k) (hg k)]
    rfl

/-- A tile's part of the gain's gradient is its rows' parts. -/
theorem gains_at {d x : FVec Ideal S512x1024 .f32} {n : ℕ} (hn : n + 512 ≤ 4096)
    (hd : ∀ (r : Fin 512) (k : Fin 1024) (R : Fin 4096), R.val = n + r → (d (ix2 r k) : EReal) = P R k)
    (hx : ∀ (r : Fin 512) (k : Fin 1024) (R : Fin 4096), R.val = n + r → (x (ix2 r k) : EReal) = X (ix2 R k)) (y : S1x1024.Idx) :
    gains d x y = ∑ r : Fin 512, parts P X (n + r) y := by
  obtain ⟨j, l, rfl⟩ : ∃ (j : Fin 1) (l : Fin 1024), y = (ix2 j l : S1x1024.Idx) := ⟨y 0, y 1, eq_ix2 (y : (⟨2, ![1, 1024]⟩ : Shape).Idx)⟩
  refine Eq.trans (b := (∑ r : Fin 512, d (ix2 r l) * (x (ix2 r l) * scale (fun k => x (ix2 r k))) : EReal)) ?_ (Finset.sum_congr rfl fun r _ => ?_)
  · pointwise [gains, k0_pay4, k0_pay1, k0_pay7, k0_pay8]
    rfl
  · have hr := r.isLt
    refine Eq.trans ?_ (table2_at (A := 4096) (B := 1024) _ ⟨n + r, by omega⟩ l).symm
    rw [hd r l ⟨n + r, by omega⟩ rfl, hx r l ⟨n + r, by omega⟩ rfl, funext fun k => hx r k ⟨n + r, by omega⟩ rfl]
    rfl

/-- A running sum of eight tiles' parts ends as the gain's gradient. -/
theorem gains_sum {N : ℕ} (f : (n : ℕ) → n < N → S1x1024.Idx → EReal)
    (h0 : ∀ t : Fin N, t.val % 8 = 0 → ∀ y, f t.val t.isLt y = ∑ r : Fin 512, parts P X (512 * (t.val % 8) + r) y)
    (hs : ∀ t : Fin N, ¬t.val % 8 = 0 → ∀ y, f t.val t.isLt y
      = f (t.val - 1) (Nat.lt_of_le_of_lt (Nat.sub_le _ _) t.isLt) y + ∑ r : Fin 512, parts P X (512 * (t.val % 8) + r) y)
    (t : Fin N) (ht : t.val % 8 = 7) (j : Fin 1) (l : Fin 1024) : f t.val t.isLt (ix2 j l) = dg P X (ix2 0 l) :=
  (accumulated f 8 512 4096 (fun _ n y => parts P X n y) rfl h0 hs t (by omega) _).trans
    (Finset.sum_congr rfl fun s _ => table2_at (A := 4096) (B := 1024) _ s l)

end Cert.NormDx

namespace Cert.NormDx

open Idealize.ShloMosaic Cert.FfnDxRefIdeal Cert.FfnDxRefIdeal.Gen Cert.NormBwd

variable (d x : FVec Ideal S4096x1024 .f32) (g : FVec Ideal S1x1024 .f32) (s : FVec Ideal S4096x1024 .f32)

/-- The reference's mean square of each row, the small term added. -/
def levels : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- Its product with the gain applied. -/
def gained : FVec Ideal S4096x1024 .f32 :=
  mulf d (broadcastInDim S4096x1024 ![0, 1] bcast_S1x1024_S4096x1024_0_1 (broadcastInDim S1x1024 ![1] bcast_S1024_S1x1024_1 (shapeCast _ g shapeCasts_S1x1024_S1024)))

/-- Its derivative through the mean square, one value a row. -/
def through : FVec Ideal S4096x1024 .f32 :=
  broadcastInDim S4096x1024 ![0] bcast_S4096_S4096x1024_0 (Host.reduceAdd (Host.divf (mulf
    (shapeCast _ (Host.reduceAdd (mulf x (gained d g)) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (levels x)) (levels x))))
    (broadcastInDim S4096x1 ![] bcast_S_S4096x1 (constant S_ .f32 0x44800000#32))) (constant S_ .f32 0x00000000#32) reducesTo_S4096x1_S4096_d1 h_S_)

/-- Its gradient of the input. -/
def reference : FVec Ideal S4096x1024 .f32 :=
  addf s (addf (addf (mulf (gained d g) (broadcastInDim S4096x1024 ![0, 1] bcast_S4096x1_S4096x1024_0_1 (Host.rsqrt (levels x)))) (mulf x (through d x g))) (mulf (through d x g) x))

/-- The reference's gradient is the kernel's. -/
theorem reference_eq : reference d x g s = dx (fun r l => d (ix2 r l)) x g s := by
  refine Eq.trans ?_ (funext fun y => gradient_eq _ _ _ _)
  funext y
  obtain ⟨r, l, rfl⟩ : ∃ (r : Fin 4096) (l : Fin 1024), y = (ix2 r l : S4096x1024.Idx) := ⟨y 0, y 1, eq_ix2 (y : (⟨2, ![4096, 1024]⟩ : Shape).Idx)⟩
  pointwise [reference, levels, gained, through]
  simp only [Fintype.sum_subsingleton _ (0 : Fin 1)]
  rfl

/-- The reference's gradient of the gain is the kernel's. -/
theorem reference_gain : broadcastInDim S1x1024 ![1] bcast_S1024_S1x1024_1 (Host.reduceAdd (shapeCast _ (Host.reduceAdd (mulf (mulf x (broadcastInDim S4096x1024 ![0, 1] bcast_S4096x1_S4096x1024_0_1
      (Host.rsqrt (levels x)))) d) (constant S_ .f32 0x00000000#32) reducesTo_S4096x1024_S1024_d0 h_S_) shapeCasts_S1024_S1x1024) (constant S_ .f32 0x00000000#32) reducesTo_S1x1024_S1024_d0 h_S_)
      = dg (fun r l => d (ix2 r l)) x := by
  funext y
  obtain ⟨j, l, rfl⟩ : ∃ (j : Fin 1) (l : Fin 1024), y = (ix2 j l : S1x1024.Idx) := ⟨y 0, y 1, eq_ix2 (y : (⟨2, ![1, 1024]⟩ : Shape).Idx)⟩
  pointwise [levels]
  simp only [Fintype.sum_subsingleton _ (0 : Fin 1)]
  exact Finset.sum_congr rfl fun s _ => mul_comm _ _

end Cert.NormDx
-- ==== Proof.DxValue.lean ====
/- The gradient through the up projection and its normalization: the kernel's tiles and the gain's running sum. -/
module

public import proofs.«01_k».proof.Proof.NormDx
public import proofs.«01_k».proof.Proof.Gen.FfnDxIdeal.Value
public import proofs.«01_k».proof.Proof.Gen.FfnDxRefIdeal.Run
public import proofs.«01_k».proof.Defs

@[expose] public section

set_option maxRecDepth 16384

noncomputable section

namespace Cert.FfnDxIdeal.Value

open Idealize.ShloMosaic Idealize.SL.Sem Cert.FfnDxIdeal Cert.FfnDxIdeal.Gen Idealize.ShloMosaic.TcCoe Cert.NormBwd Cert.NormDx
open Idealize.ShloMosaic.Pipeline (Dat)

/-- A row of gradients against a row of weights, the weights' four shards side by side. -/
def against {R : ℕ} (a : FVec Ideal ⟨2, ![R, 5632]⟩ .bf16) (w : FVec Ideal S4x1x1024x1408 .bf16) (r : Fin R) (l : Fin 1024) : EReal :=
  ∑ s : Fin 5632, a (ix2 r s) * w (ix4 ⟨s.val / 1408, by omega⟩ 0 l ⟨s.val % 1408, by omega⟩)

/-- Which blocks each point stages and writes. -/
theorem idx : ∀ t : Fin cfg0.N, (win0_0.index t = ![t.val, 0] ∧ win0_1.index t = ![0, 0, 0, 0] ∧ win0_2.index t = ![t.val, 0] ∧ win0_3.index t = ![0, 0])
    ∧ (win0_4.index t = ![t.val, 0] ∧ win0_5.index t = ![t.val, 0] ∧ win0_6.index t = ![t.val, 0] ∧ win0_7.index t = ![0, 0]) ∧ t.val < 8 :=
  (by decide +kernel : ∀ t : Fin grid0.N, _)

/-- The four products a tile adds, one a shard. -/
abbrev product (a : FVec Ideal S512x5632 .bf16) (w : FVec Ideal S4x1x1024x1408 .bf16) : FVec Ideal S512x1024 .f32 :=
  k0_pay6 (F := Ideal) (View.ld (Val := Elt Ideal) (e' := .bf16) a (Rect.unit (s := S512x5632) ![0, 0] S512x1408.size inb_S512x5632_S512x1408_0_0))
    (View.ld (Val := Elt Ideal) (e' := .bf16) w (Rect.unit (s := S4x1x1024x1408) ![0, 0, 0, 0] S1x1x1024x1408.size inb_S4x1x1024x1408_S1x1x1024x1408_0_0_0_0))
    (View.ld (Val := Elt Ideal) (e' := .bf16) a (Rect.unit (s := S512x5632) ![0, 1408] S512x1408.size inb_S512x5632_S512x1408_0_1408))
    (View.ld (Val := Elt Ideal) (e' := .bf16) w (Rect.unit (s := S4x1x1024x1408) ![1, 0, 0, 0] S1x1x1024x1408.size inb_S4x1x1024x1408_S1x1x1024x1408_1_0_0_0))
    (View.ld (Val := Elt Ideal) (e' := .bf16) a (Rect.unit (s := S512x5632) ![0, 2816] S512x1408.size inb_S512x5632_S512x1408_0_2816))
    (View.ld (Val := Elt Ideal) (e' := .bf16) w (Rect.unit (s := S4x1x1024x1408) ![2, 0, 0, 0] S1x1x1024x1408.size inb_S4x1x1024x1408_S1x1x1024x1408_2_0_0_0))
    (View.ld (Val := Elt Ideal) (e' := .bf16) a (Rect.unit (s := S512x5632) ![0, 4224] S512x1408.size inb_S512x5632_S512x1408_0_4224))
    (View.ld (Val := Elt Ideal) (e' := .bf16) w (Rect.unit (s := S4x1x1024x1408) ![3, 0, 0, 0] S1x1x1024x1408.size inb_S4x1x1024x1408_S1x1x1024x1408_3_0_0_0))

/-- Added, they are the whole row against the whole row. -/
theorem product_at (a : FVec Ideal S512x5632 .bf16) (w : FVec Ideal S4x1x1024x1408 .bf16) (r : Fin 512) (l : Fin 1024) :
    product a w (ix2 r l) = (against a w r l : EReal) := by
  refine Eq.trans ?_ (shards 1408 5632 rfl (fun s => a (ix2 r s)) (fun j k => w (ix4 j 0 l k)) (fun s => by omega) (fun s => by omega)
    (fun j k => by omega) (fun k => by omega) (fun k => by omega))
  pointwise [k0_pay6, product, View.ld_apply]

variable (m : (ℓ : Loc nD τ sig) → Buf (Elt Ideal) ℓ) (c : Dev nD)

/-- The whole arrays' product. -/
abbrev full (m : (ℓ : Loc nD τ sig) → Buf (Elt Ideal) ℓ) (c : Dev nD) : Fin 4096 → Fin 1024 → EReal :=
  against (m ((c : Thread nD τ).loc main_arg0)) (m ((c : Thread nD τ).loc main_arg1))

/-- The gradient the kernel is to leave. -/
abbrev goal (m : (ℓ : Loc nD τ sig) → Buf (Elt Ideal) ℓ) (c : Dev nD) : FVec Ideal S4096x1024 .f32 :=
  dx (full m c) (m ((c : Thread nD τ).loc main_arg2)) (m ((c : Thread nD τ).loc main_arg3)) (m ((c : Thread nD τ).loc main_arg4))

section
variable (t : Fin cfg0.N)

/-- A point's products, read in the whole arrays. -/
theorem products (r : Fin 512) (l : Fin 1024) (R : Fin 4096) (hR : R.val = 512 * t.val + r) : (product (iblk m c 0 t) (iblk m c 1 t) (ix2 r l) : EReal) = full m c R l := by
  refine (product_at _ _ r l).trans (Finset.sum_congr rfl fun s _ => congrArg₂ (· * ·) ?_ ?_)
  · blk_ext [iblk, V, (idx t).1.1]
  · blk_ext [iblk, V, (idx t).1.2.1]

/-- A point's rows of the input. -/
theorem inputs (r : Fin 512) (k : Fin 1024) (R : Fin 4096) (hR : R.val = 512 * t.val + r) :
    ((iblk m c 2 t : FVec Ideal S512x1024 .f32) (ix2 r k) : EReal) = (m ((c : Thread nD τ).loc main_arg2) : FVec Ideal S4096x1024 .f32) (ix2 R k) := by
  blk_ext [iblk, V, (idx t).1.2.2.1]

/-- A point's tile of the input's gradient. -/
theorem block (r : Fin 512) (l : Fin 1024) (R : Fin 4096) (hR : R.val = 512 * t.val + r) :
    tile (product (iblk m c 0 t) (iblk m c 1 t)) (iblk m c 2 t) (iblk m c 3 t) (iblk m c 4 t) (ix2 r l) = goal m c (ix2 R l) := by
  refine tile_at (fun k => products m c t r k R hR) (fun k => inputs m c t r k R hR) (fun k => ?_) ?_
  · blk_ext [iblk, V, (idx t).1.2.2.2]
  · blk_ext [iblk, V, (idx t).2.1.1]

/-- A point's rows' parts of the gain's gradient. -/
theorem share (y : S1x1024.Idx) : gains (product (iblk m c 0 t) (iblk m c 1 t)) (iblk m c 2 t) y
    = ∑ r : Fin 512, parts (full m c) (m ((c : Thread nD τ).loc main_arg2)) (512 * (t.val % 8) + r) y := by
  have ht := (idx t).2.2
  exact gains_at (by omega) (fun r k R hR => products m c t r k R (by omega)) (fun r k R hR => inputs m c t r k R (by omega)) y

/-- Each point leaves its tile in the first two outputs. -/
theorem outs : (outsAt0 m c t.val t.isLt).1 = tile (product (iblk m c 0 t) (iblk m c 1 t)) (iblk m c 2 t) (iblk m c 3 t) (iblk m c 4 t)
    ∧ (outsAt0 m c t.val t.isLt).2.1 = tile (product (iblk m c 0 t) (iblk m c 1 t)) (iblk m c 2 t) (iblk m c 3 t) (iblk m c 4 t) := by
  have ht := (idx t).2.2
  refine ⟨funext fun y => ?_, funext fun y => ?_⟩ <;> by_cases h0 : t.val % 8 = 0
  all_goals first | rw [outsAt0_A m c t h0 (by omega)] | rw [outsAt0_B m c t h0 (by omega)]
  all_goals
    dsimp only
    frame_open
    frame_out
  all_goals rfl

/-- The first point leaves its rows' parts in the third output. -/
theorem first (h0 : t.val % 8 = 0) (y : S1x1024.Idx) :
    (outsAt0 m c t.val t.isLt).2.2 y = gains (product (iblk m c 0 t) (iblk m c 1 t)) (iblk m c 2 t) y := by
  have ht := (idx t).2.2
  rw [outsAt0_A m c t h0 (by omega)]
  dsimp only
  frame_open
  frame_out

/-- A later point adds its rows' parts. -/
theorem later (h0 : ¬t.val % 8 = 0) (y : S1x1024.Idx) : (outsAt0 m c t.val t.isLt).2.2 y
    = (outsAt0 m c (t.val - 1) (Nat.lt_of_le_of_lt (Nat.sub_le _ _) t.isLt)).2.2 y + gains (product (iblk m c 0 t) (iblk m c 1 t)) (iblk m c 2 t) y := by
  have ht := (idx t).2.2
  rw [outsAt0_B m c t h0 (by omega)]
  dsimp only
  frame_open
  frame_out
  pointwise [k0_pay5]

end

/-- The first output after the run. -/
theorem result5 : (dats m 0 c).arrAt 5 cfg0.N = goal m c := by
  refine (dats m 0 c).arrAt_eq_of_covers 5 _ (by decide +kernel) fun t hf y => ?_
  have ht := (idx t).2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_5, (outs m c t).1]
  refine (block m c t r l ⟨512 * t.val + r, by omega⟩ rfl).trans ?_
  blk_ext [(idx t).2.1.2.1]

/-- The second output after the run. -/
theorem result6 : (dats m 0 c).arrAt 6 cfg0.N = goal m c := by
  refine (dats m 0 c).arrAt_eq_of_covers 6 _ (by decide +kernel) fun t hf y => ?_
  have ht := (idx t).2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_6, (outs m c t).2]
  refine (block m c t r l ⟨512 * t.val + r, by omega⟩ rfl).trans ?_
  blk_ext [(idx t).2.1.2.2.1]

/-- The third output after the run. -/
theorem result7 : (dats m 0 c).arrAt 7 cfg0.N = dg (full m c) (m ((c : Thread nD τ).loc main_arg2)) := by
  refine (dats m 0 c).arrAt_eq_of_covers 7 _ (by decide +kernel) fun t hf y => ?_
  obtain ⟨j, l, rfl⟩ : ∃ (j : Fin 1) (l : Fin 1024), y = (ix2 j l : S1x1024.Idx) := ⟨y 0, y 1, eq_ix2 (y : (⟨2, ![1, 1024]⟩ : Shape).Idx)⟩
  have h7 := (flush0_7 t).mp hf
  blk_simp
  rw [after0_7]
  refine (gains_sum (fun n h => (outsAt0 m c n h).2.2) (fun t h y => (first m c t h y).trans (share m c t y))
    (fun t h y => (later m c t h y).trans (congrArg (_ + ·) (share m c t y))) t (by omega) j l).trans ?_
  blk_ext [(idx t).2.1.2.2.2]

end Cert.FfnDxIdeal.Value

namespace Cert.FfnDxRefIdeal.Value

open Idealize.ShloMosaic Idealize.SL.Sem Cert.FfnDxRefIdeal Cert.FfnDxRefIdeal.Gen Idealize.ShloMosaic.TcCoe Cert.NormBwd Cert.NormDx
open Cert.FfnDxIdeal.Value (against)

/-- The reference's product, its weights set side by side. -/
theorem product_eq (a : FVec Ideal S4096x5632 .bf16) (w : FVec Ideal S4x1x1024x1408 .bf16) :
    Host.dotGeneral (φ₁ := .f32) (φ₂ := .f32) dot_S4096x5632_S1024x5632_S4096x1024_1_1_0_0_n_n none (extf .f32 a bitsLt_bf16_f32) (extf .f32 ((concatenate S1024x5632 1
      [⟨S1024x1408, ((shapeCast _ (extractStridedSlice S1x1x1024x1408 ![0, 0, 0, 0] w slices_S4x1x1024x1408_S1x1x1024x1408_0_0_0_0) shapeCasts_S1x1x1024x1408_S1024x1408) : (⟨S1024x1408, .bf16⟩ : BufTy).Contents (Elt Ideal))⟩,
       ⟨S1024x1408, ((shapeCast _ (extractStridedSlice S1x1x1024x1408 ![1, 0, 0, 0] w slices_S4x1x1024x1408_S1x1x1024x1408_1_0_0_0) shapeCasts_S1x1x1024x1408_S1024x1408) : (⟨S1024x1408, .bf16⟩ : BufTy).Contents (Elt Ideal))⟩,
       ⟨S1024x1408, ((shapeCast _ (extractStridedSlice S1x1x1024x1408 ![2, 0, 0, 0] w slices_S4x1x1024x1408_S1x1x1024x1408_2_0_0_0) shapeCasts_S1x1x1024x1408_S1024x1408) : (⟨S1024x1408, .bf16⟩ : BufTy).Contents (Elt Ideal))⟩,
       ⟨S1024x1408, ((shapeCast _ (extractStridedSlice S1x1x1024x1408 ![3, 0, 0, 0] w slices_S4x1x1024x1408_S1x1x1024x1408_3_0_0_0) shapeCasts_S1x1x1024x1408_S1024x1408) : (⟨S1024x1408, .bf16⟩ : BufTy).Contents (Elt Ideal))⟩]
      concatenates_S1024x1408_S1024x1408_S1024x1408_S1024x1408_S1024x5632_d1 : (⟨S1024x5632, .bf16⟩ : BufTy).Contents (Elt Ideal))) bitsLt_bf16_f32)
      = fun y => against a w (y 0) (y 1) := by
  funext y
  obtain ⟨r, l, rfl⟩ : ∃ (r : Fin 4096) (l : Fin 1024), y = (ix2 r l : S4096x1024.Idx) := ⟨y 0, y 1, eq_ix2 (y : (⟨2, ![4096, 1024]⟩ : Shape).Idx)⟩
  pointwise [against]
  exact Finset.sum_congr rfl fun s _ => congrArg (a (ix2 r s) * ·) (side_by_side 1408 (fun j k => w (ix4 j 0 l k)) s.val (by omega) (by omega) (by omega))

variable (m : (ℓ : Loc nD τ sig) → Buf (Elt Ideal) ℓ) (c : Dev nD)

/-- The reference's first result; its second is the same, narrowed. -/
theorem value : res_out0 (F := Ideal) m c = dx (against (m ((c : Thread nD τ).loc main_arg0)) (m ((c : Thread nD τ).loc main_arg1)))
    (m ((c : Thread nD τ).loc main_arg2)) (m ((c : Thread nD τ).loc main_arg3)) (m ((c : Thread nD τ).loc main_arg4)) := by
  unfold res_out0 res_main_v51
  rw [product_eq]
  exact reference_eq _ _ _ _

/-- Its second result. -/
theorem value_narrowed : res_out1 (F := Ideal) m c = res_out0 (F := Ideal) m c := by
  unfold res_out1 res_out0 res_main_v52 res_main_v51
  rfl

end Cert.FfnDxRefIdeal.Value

namespace Cert.FfnDxIdeal.Value

open Idealize.ShloMosaic Idealize.SL.Sem Cert.FfnDxIdeal Cert.FfnDxIdeal.Gen Idealize.ShloMosaic.TcCoe Cert.NormDx

/-- The kernel and the reference end with equal results. -/
theorem equal_results : Cert.algebraic_FfnDxIdeal_FfnDxRefIdeal (hFfnDxIdeal := Cert.FfnDxIdeal.Gen.facts)
    (hFfnDxRefIdeal := Cert.FfnDxRefIdeal.Gen.facts) := fun m ρ m' ρ' _ ha => by
  have hv (c : Dev nD) : Cert.FfnDxRefIdeal.Value.res_out0 (F := Ideal) m' c = goal m c := by
    rw [Cert.FfnDxRefIdeal.Value.value, (ha c).1, (ha c).2.1, (ha c).2.2.1, (ha c).2.2.2.1, (ha c).2.2.2.2]
  refine ⟨goal m, goal m, fun c => dg (full m c) (m ((c : Thread nD τ).loc main_arg2)),
    (θ_run (Cert.FfnDxIdeal.defs (F := Ideal)) _ _).mono
      (fun r hr c => ⟨(hr c).1.trans (result5 m c), (hr c).2.1.trans (result6 m c), (hr c).2.2.1.trans (result7 m c), (hr c).2.2.2⟩) (run_blocks (F := Ideal) m ρ),
    (θ_run (Cert.FfnDxRefIdeal.defs (F := Ideal)) _ _).mono
      (fun r hr c => ⟨(hr c).1.trans (hv c), (hr c).2.1.trans ((Cert.FfnDxRefIdeal.Value.value_narrowed m' c).trans (hv c)),
        (hr c).2.2.1.trans ?_, (hr c).2.2.2⟩) (Cert.FfnDxRefIdeal.Value.run (F := Ideal) m' ρ')⟩
  rw [(ha c).1, (ha c).2.1, (ha c).2.2.1, Cert.FfnDxRefIdeal.Value.product_eq]
  exact reference_gain _ _

end Cert.FfnDxIdeal.Value
-- ==== Proof.DwUpValue.lean ====
/- The gradient of the up projection's weights: blocks of rows summed over the grid. -/
module

public import proofs.«01_k».proof.Proof.Products
public import proofs.«01_k».proof.Proof.Gen.FfnDwUpIdeal.Value
public import proofs.«01_k».proof.Proof.Gen.FfnDwUpRefIdeal.Run
public import proofs.«01_k».proof.Defs

@[expose] public section

set_option maxRecDepth 16384

noncomputable section

namespace Cert.FfnDwUpIdeal.Value

open Idealize.ShloMosaic Idealize.SL.Sem Cert.FfnDwUpIdeal Cert.FfnDwUpIdeal.Gen Idealize.ShloMosaic.TcCoe Cert.Mixer Cert.Products
open Idealize.ShloMosaic.Pipeline (Dat)

/-- The gradient: the first argument's columns against the second's, summed over the rows, a quarter of the columns at a time. -/
def product (a : FVec Ideal S4096x1024 .bf16) (d : FVec Ideal S4096x5632 .bf16) : FVec Ideal S4x1024x1408 .bf16 :=
  fun y => ∑ s : Fin 4096, table2 (A := 4096) (B := 1024) (fun r l => a (ix2 r l)) s (y 1).val
    * table2 (A := 4096) (B := 5632) (fun r l => d (ix2 r l)) s (1408 * (y 0).val + (y 2).val)

/-- Its entry at an index of the array. -/
theorem product_at (a : FVec Ideal S4096x1024 .bf16) (d : FVec Ideal S4096x5632 .bf16) (j : Fin 4) (r : Fin 1024) (l : Fin 1408) :
    product a d (ix3 j r l) = (∑ s : Fin 4096, a (ix2 s r) * d (ix2 s ⟨1408 * j + l, by omega⟩) : EReal) :=
  Finset.sum_congr rfl fun s _ => congrArg₂ (· * ·) (table2_at (A := 4096) (B := 1024) _ s r)
    (table2_at (A := 4096) (B := 5632) _ s ⟨1408 * j + l, by omega⟩)

/-- Which blocks each point stages and writes. -/
theorem idx : ∀ t : Fin cfg0.N, win0_0.index t = ![t.val % 4, t.val / 4 % 2] ∧ win0_1.index t = ![t.val % 4, t.val / 8]
    ∧ win0_2.index t = ![t.val / 8, t.val / 4 % 2, 0] ∧ t.val < 16 :=
  (by decide +kernel : ∀ t : Fin grid0.N, _)

/-- A tile's product at a row and a column. -/
theorem tile (x : FVec Ideal S1024x512 .bf16) (d : FVec Ideal S1024x2816 .bf16) (r : Fin 512) (l : Fin 2816) :
    k0_pay1 (F := Ideal) x d (ix2 r l) = (∑ k : Fin 1024, x (ix2 k r) * d (ix2 k l) : EReal) := by
  pointwise [k0_pay1]

variable (m : (ℓ : Loc nD τ sig) → Buf (Elt Ideal) ℓ) (c : Dev nD)

/-- The first argument's rows. -/
def rowsA : ℕ → ℕ → EReal :=
  table2 (A := 4096) (B := 1024) fun r l => (m ((c : Thread nD τ).loc main_arg0) : FVec Ideal S4096x1024 .bf16) (ix2 r l)

/-- The second argument's rows. -/
def rowsD : ℕ → ℕ → EReal :=
  table2 (A := 4096) (B := 5632) fun r l => (m ((c : Thread nD τ).loc main_arg1) : FVec Ideal S4096x5632 .bf16) (ix2 r l)

section
variable (t : Fin cfg0.N)

/-- A point's share at a row and a column. -/
theorem share (y : S512x2816.Idx) : k0_pay1 (iblk m c 0 t : Vec Ideal S1024x512 .bf16) (iblk m c 1 t : Vec Ideal S1024x2816 .bf16) y
    = ∑ r : Fin 1024, rowsA m c (1024 * (t.val % 4) + r) (512 * (t.val / 4 % 2) + (y 0).val)
        * rowsD m c (1024 * (t.val % 4) + r) (2816 * (t.val / 4 / 2) + (y 1).val) := by
  obtain ⟨r, l, rfl⟩ : ∃ (r : Fin 512) (l : Fin 2816), y = (ix2 r l : S512x2816.Idx) := ⟨y 0, y 1, eq_ix2 (y : (⟨2, ![512, 2816]⟩ : Shape).Idx)⟩
  have ht := (idx t).2.2.2
  have hr := r.isLt
  have hl := l.isLt
  refine (tile _ _ r l).trans (Finset.sum_congr rfl fun k _ => congrArg₂ (· * ·) ?_ ?_)
  · have hk := k.isLt
    refine Eq.trans ?_ (table2_at (A := 4096) (B := 1024) _ ⟨1024 * (t.val % 4) + k, by omega⟩ ⟨512 * (t.val / 4 % 2) + r, by omega⟩).symm
    blk_ext [iblk, V, (idx t).1]
  · have hk := k.isLt
    refine Eq.trans ?_ (table2_at (A := 4096) (B := 5632) _ ⟨1024 * (t.val % 4) + k, by omega⟩ ⟨2816 * (t.val / 4 / 2) + l, by omega⟩).symm
    blk_ext [iblk, V, (idx t).2.1]

/-- The first point of a run leaves its share in the accumulator. -/
theorem first (h0 : t.val % 4 = 0) (y : S512x2816.Idx) :
    (outsAt0 m c t.val t.isLt).2 y = k0_pay1 (iblk m c 0 t : Vec Ideal S1024x512 .bf16) (iblk m c 1 t : Vec Ideal S1024x2816 .bf16) y := by
  rw [outsAt0_A m c t h0 (by omega) (by omega)]
  dsimp only
  frame_open
  frame_out
  pointwise [k0_pay2]

/-- A later point adds its share. -/
theorem later (h0 : ¬t.val % 4 = 0) (y : S512x2816.Idx) :
    (outsAt0 m c t.val t.isLt).2 y = (outsAt0 m c (t.val - 1) (Nat.lt_of_le_of_lt (Nat.sub_le _ _) t.isLt)).2 y
      + k0_pay1 (iblk m c 0 t : Vec Ideal S1024x512 .bf16) (iblk m c 1 t : Vec Ideal S1024x2816 .bf16) y := by
  by_cases h3 : t.val % 4 = 3
  · rw [outsAt0_C m c t h0 (by omega) h3]
    dsimp only
    frame_open
    frame_out
    rw [read_unread_whole]
    pointwise [k0_pay3]
  · rw [outsAt0_B m c t h0 (by omega) h3]
    dsimp only
    frame_open
    frame_out
    rw [read_unread_whole]
    pointwise [k0_pay3]

/-- The two column stretches of the accumulator that the last point of a run stores. -/
theorem pieces (acc : Vec Ideal S512x2816 .f32) : View.PiecesOf (Val := Elt Ideal) (s := S2x512x1408) (e := .bf16)
    (fun y => acc (ix2 (y 1) ⟨1408 * (y 0).val + (y 2).val, by have h0 : (y 0).val < 2 := (y 0).isLt; have h2 : (y 2).val < 1408 := (y 2).isLt; omega⟩))
    [⟨Rect.unit ![1, 0, 0] ![1, 512, 1408] inb_S2x512x1408_S1x512x1408_1_0_0, k0_pay5 (View.ld acc (Rect.unit ![0, 1408] ![512, 1408] inb_S512x2816_S512x1408_0_1408))⟩,
      ⟨Rect.unit ![0, 0, 0] ![1, 512, 1408] inb_S2x512x1408_S1x512x1408_0_0_0, k0_pay4 (View.ld acc (Rect.unit ![0, 0] ![512, 1408] inb_S512x2816_S512x1408_0_0))⟩] := by
  refine ⟨fun x => ?_, fun x => ?_, trivial⟩
  · obtain ⟨z, r, l, rfl⟩ : ∃ (z : Fin 1) (r : Fin 512) (l : Fin 1408), x = (ix3 z r l : S1x512x1408.Idx) := ⟨x 0, x 1, x 2, eq_ix3 (x : (⟨3, ![1, 512, 1408]⟩ : Shape).Idx)⟩
    pointwise [k0_pay5]
    refine congrArg acc ?_
    blk_ext
  · obtain ⟨z, r, l, rfl⟩ : ∃ (z : Fin 1) (r : Fin 512) (l : Fin 1408), x = (ix3 z r l : S1x512x1408.Idx) := ⟨x 0, x 1, x 2, eq_ix3 (x : (⟨3, ![1, 512, 1408]⟩ : Shape).Idx)⟩
    pointwise [k0_pay4]
    refine congrArg acc ?_
    blk_ext

/-- The last point of a run writes the accumulator's column stretches. -/
theorem last (h0 : t.val % 4 = 3) (y : S2x512x1408.Idx) :
    (outsAt0 m c t.val t.isLt).1 y = (outsAt0 m c t.val t.isLt).2 (ix2 (y 1) ⟨1408 * (y 0).val + (y 2).val, by have h0 : (y 0).val < 2 := (y 0).isLt; have h2 : (y 2).val < 1408 := (y 2).isLt; omega⟩) := by
  rw [outsAt0_C m c t (by omega) (by omega) h0]
  dsimp only
  frame_open
  simp (disch := decide) only [↓ View.readCov_skip, ↓ View.readCov_cons_toLoadRect, ↓ View.readCov_fill]
  frame_out
  exact View.canon_append_of_piecesOf _ [] [_, _] (pieces _) y
    (View.cover_of_tiledL _ ![1, 512, 1408] (by sl_kernel_rfl) y)

end

/-- The array after the run. -/
theorem result : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨j, r, l, rfl⟩ : ∃ (j : Fin 2) (r : Fin 512) (l : Fin 1408), y = (ix3 j r l : S2x512x1408.Idx) := ⟨y 0, y 1, y 2, eq_ix3 (y : (⟨3, ![2, 512, 1408]⟩ : Shape).Idx)⟩
  blk_simp
  rw [after0_2]
  refine (last m c t h3 _).trans ?_
  refine (accumulated (fun n h => (outsAt0 m c n h).2) 4 1024 4096 (fun q s y => rowsA m c s (512 * (q % 2) + (y 0).val) * rowsD m c s (2816 * (q / 2) + (y 1).val)) rfl
    (fun t h y => (first m c t h y).trans (share m c t y)) (fun t h y => (later m c t h y).trans (congrArg (_ + ·) (share m c t y))) t (by omega) _).trans ?_
  refine Finset.sum_congr rfl fun s _ => congrArg₂ (· * ·) ?_ ?_
  · show rowsA m c s (512 * (t.val / 4 % 2) + r.val) = rowsA m c s ((win0_2.blk t).view.emb (ix3 j r l) 1).val
    blk_simp
    rw [(idx t).2.2.1]
    exact congrArg (rowsA m c s) (show _ = t.val / 4 % 2 * 512 + r.val by omega)
  · show rowsD m c s (2816 * (t.val / 4 / 2) + (1408 * j.val + l.val))
      = rowsD m c s (1408 * ((win0_2.blk t).view.emb (ix3 j r l) 0).val + ((win0_2.blk t).view.emb (ix3 j r l) 2).val)
    blk_simp
    rw [(idx t).2.2.1]
    exact congrArg (rowsD m c s) (show _ = 1408 * (t.val / 8 * 2 + j.val) + (0 * 1408 + l.val) by omega)

end Cert.FfnDwUpIdeal.Value

namespace Cert.FfnDwUpRefIdeal.Value

open Idealize.ShloMosaic Idealize.SL.Sem Cert.FfnDwUpRefIdeal Cert.FfnDwUpRefIdeal.Gen Idealize.ShloMosaic.TcCoe Cert.Mixer

/-- The four stretches of columns, stacked. -/
theorem stacked (P : FVec Ideal S1024x5632 .f32) (j : Fin 4) (r : Fin 1024) (l : Fin 1408) :
    truncf (F := Ideal) .bf16 ((concatenate S4x1024x1408 0 [
      ⟨S1x1024x1408, ((broadcastInDim S1x1024x1408 ![1, 2] bcast_S1024x1408_S1x1024x1408_1_2 (extractStridedSlice S1024x1408 ![0, 0] P slices_S1024x5632_S1024x1408_0_0)) : (⟨S1x1024x1408, .f32⟩ : BufTy).Contents (Elt Ideal))⟩,
      ⟨S1x1024x1408, ((broadcastInDim S1x1024x1408 ![1, 2] bcast_S1024x1408_S1x1024x1408_1_2 (extractStridedSlice S1024x1408 ![0, 1408] P slices_S1024x5632_S1024x1408_0_1408)) : (⟨S1x1024x1408, .f32⟩ : BufTy).Contents (Elt Ideal))⟩,
      ⟨S1x1024x1408, ((broadcastInDim S1x1024x1408 ![1, 2] bcast_S1024x1408_S1x1024x1408_1_2 (extractStridedSlice S1024x1408 ![0, 2816] P slices_S1024x5632_S1024x1408_0_2816)) : (⟨S1x1024x1408, .f32⟩ : BufTy).Contents (Elt Ideal))⟩,
      ⟨S1x1024x1408, ((broadcastInDim S1x1024x1408 ![1, 2] bcast_S1024x1408_S1x1024x1408_1_2 (extractStridedSlice S1024x1408 ![0, 4224] P slices_S1024x5632_S1024x1408_0_4224)) : (⟨S1x1024x1408, .f32⟩ : BufTy).Contents (Elt Ideal))⟩]
      concatenates_S1x1024x1408_S1x1024x1408_S1x1024x1408_S1x1024x1408_S4x1024x1408_d0) : (⟨S4x1024x1408, .f32⟩ : BufTy).Contents (Elt Ideal)) bitsLt_bf16_f32 (ix3 j r l)
      = (P (ix2 r ⟨1408 * j + l, by omega⟩) : EReal) := by
  have hj := j.isLt
  pointwise
  split_ifs <;> refine congrArg P (congrArg (ix2 r) (Fin.ext ?_)) <;> dsimp only <;> omega

/-- The reference's product. -/
theorem product_at (a : FVec Ideal S4096x1024 .bf16) (d : FVec Ideal S4096x5632 .bf16) (r : Fin 1024) (l : Fin 5632) :
    transpose S1024x5632 [1, 0] (Host.dotGeneral (φ₁ := .f32) (φ₂ := .f32) dot_S4096x5632_S4096x1024_S5632x1024_0_0_1_1_n_n none
        (extf .f32 d bitsLt_bf16_f32) (extf .f32 a bitsLt_bf16_f32)) transposes_S5632x1024_S1024x5632_1_0 (ix2 r l)
      = (∑ s : Fin 4096, a (ix2 s r) * d (ix2 s l) : EReal) := by
  pointwise
  exact Finset.sum_congr rfl fun s _ => mul_comm _ _

end Cert.FfnDwUpRefIdeal.Value

namespace Cert.FfnDwUpIdeal.Value

open Idealize.ShloMosaic Idealize.SL.Sem Cert.FfnDwUpIdeal Cert.FfnDwUpIdeal.Gen Idealize.ShloMosaic.TcCoe Cert.Mixer

/-- The kernel and the reference end with equal results. -/
theorem equal_results : Cert.algebraic_FfnDwUpIdeal_FfnDwUpRefIdeal (hFfnDwUpIdeal := Cert.FfnDwUpIdeal.Gen.facts)
    (hFfnDwUpRefIdeal := Cert.FfnDwUpRefIdeal.Gen.facts) := fun m ρ m' ρ' _ ha => by
  refine ⟨fun c => product (m ((c : Thread nD τ).loc main_arg0)) (m ((c : Thread nD τ).loc main_arg1)),
    (θ_run (Cert.FfnDwUpIdeal.defs (F := Ideal)) _ _).mono (fun r hr c => ⟨(hr c).1.trans (result m c), (hr c).2⟩) (run_blocks (F := Ideal) m ρ),
    (θ_run (Cert.FfnDwUpRefIdeal.defs (F := Ideal)) _ _).mono (fun r hr c => ⟨(hr c).1.trans ?_, (hr c).2⟩) (Cert.FfnDwUpRefIdeal.Value.run (F := Ideal) m' ρ')⟩
  rw [(ha c).1, (ha c).2]
  funext y
  obtain ⟨j, r, l, rfl⟩ : ∃ (j : Fin 4) (r : Fin 1024) (l : Fin 1408), y = (ix3 j r l : S4x1024x1408.Idx) := ⟨y 0, y 1, y 2, eq_ix3 (y : (⟨3, ![4, 1024, 1408]⟩ : Shape).Idx)⟩
  exact (Cert.FfnDwUpRefIdeal.Value.stacked _ j r l).trans ((Cert.FfnDwUpRefIdeal.Value.product_at _ _ r _).trans (product_at _ _ j r l).symm)

end Cert.FfnDwUpIdeal.Value
-- ==== Proof.DwDownValue.lean ====
/- The gradient of the down projection's weights: blocks of rows summed over the grid. -/
module

public import proofs.«01_k».proof.Proof.Products
public import proofs.«01_k».proof.Proof.Gen.FfnDwDownIdeal.Value
public import proofs.«01_k».proof.Proof.Gen.FfnDwDownRefIdeal.Run
public import proofs.«01_k».proof.Defs

@[expose] public section

set_option maxRecDepth 16384

noncomputable section

namespace Cert.FfnDwDownIdeal.Value

open Idealize.ShloMosaic Idealize.SL.Sem Cert.FfnDwDownIdeal Cert.FfnDwDownIdeal.Gen Idealize.ShloMosaic.TcCoe Cert.Mixer Cert.Products
open Idealize.ShloMosaic.Pipeline (Dat)

/-- The gradient: the first argument's columns against the second's, summed over the rows. -/
def product (a : FVec Ideal S4096x2816 .bf16) (d : FVec Ideal S4096x1024 .bf16) : FVec Ideal S1x2816x1024 .bf16 :=
  fun y => ∑ s : Fin 4096, a (ix2 s (y 1)) * d (ix2 s (y 2))

/-- Which blocks each point stages and writes. -/
theorem idx : ∀ t : Fin cfg0.N, win0_0.index t = ![t.val % 4, t.val / 4] ∧ win0_1.index t = ![t.val % 4, 0]
    ∧ win0_2.index t = ![0, t.val / 4, 0] ∧ t.val < 8 :=
  (by decide +kernel : ∀ t : Fin grid0.N, _)

/-- A tile's product at a row and a column. -/
theorem tile (x : FVec Ideal S1024x1408 .bf16) (d : FVec Ideal S1024x1024 .bf16) (r : Fin 1408) (l : Fin 1024) :
    k0_pay1 (F := Ideal) x d (ix2 r l) = (∑ k : Fin 1024, x (ix2 k r) * d (ix2 k l) : EReal) := by
  pointwise [k0_pay1]

variable (m : (ℓ : Loc nD τ sig) → Buf (Elt Ideal) ℓ) (c : Dev nD)

/-- The first argument's rows. -/
def rowsA : ℕ → ℕ → EReal :=
  table2 (A := 4096) (B := 2816) fun r l => (m ((c : Thread nD τ).loc main_arg0) : FVec Ideal S4096x2816 .bf16) (ix2 r l)

/-- The second argument's rows. -/
def rowsD : ℕ → ℕ → EReal :=
  table2 (A := 4096) (B := 1024) fun r l => (m ((c : Thread nD τ).loc main_arg1) : FVec Ideal S4096x1024 .bf16) (ix2 r l)

section
variable (t : Fin cfg0.N)

/-- A point's share at a row and a column. -/
theorem share (y : S1408x1024.Idx) : k0_pay1 (iblk m c 0 t : Vec Ideal S1024x1408 .bf16) (iblk m c 1 t : Vec Ideal S1024x1024 .bf16) y
    = ∑ r : Fin 1024, rowsA m c (1024 * (t.val % 4) + r) (1408 * (t.val / 4) + (y 0).val)
        * rowsD m c (1024 * (t.val % 4) + r) (y 1).val := by
  obtain ⟨r, l, rfl⟩ : ∃ (r : Fin 1408) (l : Fin 1024), y = (ix2 r l : S1408x1024.Idx) := ⟨y 0, y 1, eq_ix2 (y : (⟨2, ![1408, 1024]⟩ : Shape).Idx)⟩
  have ht := (idx t).2.2.2
  have hr := r.isLt
  refine (tile _ _ r l).trans (Finset.sum_congr rfl fun k _ => congrArg₂ (· * ·) ?_ ?_)
  · have hk := k.isLt
    refine Eq.trans ?_ (table2_at (A := 4096) (B := 2816) _ ⟨1024 * (t.val % 4) + k, by omega⟩ ⟨1408 * (t.val / 4) + r, by omega⟩).symm
    blk_ext [iblk, V, (idx t).1]
  · have hk := k.isLt
    refine Eq.trans ?_ (table2_at (A := 4096) (B := 1024) _ ⟨1024 * (t.val % 4) + k, by omega⟩ l).symm
    blk_ext [iblk, V, (idx t).2.1]

/-- The first point of a run leaves its share in the accumulator. -/
theorem first (h0 : t.val % 4 = 0) (y : S1408x1024.Idx) :
    (outsAt0 m c t.val t.isLt).2 y = k0_pay1 (iblk m c 0 t : Vec Ideal S1024x1408 .bf16) (iblk m c 1 t : Vec Ideal S1024x1024 .bf16) y := by
  rw [outsAt0_A m c t h0 (by omega) (by omega)]
  dsimp only
  frame_open
  frame_out
  pointwise [k0_pay2]

/-- A later point adds its share. -/
theorem later (h0 : ¬t.val % 4 = 0) (y : S1408x1024.Idx) :
    (outsAt0 m c t.val t.isLt).2 y = (outsAt0 m c (t.val - 1) (Nat.lt_of_le_of_lt (Nat.sub_le _ _) t.isLt)).2 y
      + k0_pay1 (iblk m c 0 t : Vec Ideal S1024x1408 .bf16) (iblk m c 1 t : Vec Ideal S1024x1024 .bf16) y := by
  by_cases h3 : t.val % 4 = 3
  · rw [outsAt0_C m c t h0 (by omega) h3]
    dsimp only
    frame_open
    frame_out
    rw [read_unread_whole]
    pointwise [k0_pay3]
  · rw [outsAt0_B m c t h0 (by omega) h3]
    dsimp only
    frame_open
    frame_out
    rw [read_unread_whole]
    pointwise [k0_pay3]

/-- The last point of a run writes the accumulator. -/
theorem last (h0 : t.val % 4 = 3) (j : Fin 1) (r : Fin 1408) (l : Fin 1024) :
    (outsAt0 m c t.val t.isLt).1 (ix3 j r l) = (outsAt0 m c t.val t.isLt).2 (ix2 r l) := by
  rw [outsAt0_C m c t (by omega) (by omega) h0]
  dsimp only
  frame_open
  simp (disch := decide) only [↓ View.readCov_skip, ↓ View.readCov_cons_toLoadRect, ↓ View.readCov_fill]
  frame_out
  pointwise [k0_pay4]

end

/-- The array after the run. -/
theorem result : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h3 := (flush0_2 t).mp hf
  have ht := (idx t).2.2.2
  obtain ⟨j, r, l, rfl⟩ : ∃ (j : Fin 1) (r : Fin 1408) (l : Fin 1024), y = (ix3 j r l : S1x1408x1024.Idx) := ⟨y 0, y 1, y 2, eq_ix3 (y : (⟨3, ![1, 1408, 1024]⟩ : Shape).Idx)⟩
  have hr := r.isLt
  blk_simp
  rw [after0_2]
  refine (last m c t h3 j r l).trans ?_
  refine (accumulated (fun n h => (outsAt0 m c n h).2) 4 1024 4096 (fun q s y => rowsA m c s (1408 * q + (y 0).val) * rowsD m c s (y 1).val) rfl
    (fun t h y => (first m c t h y).trans (share m c t y)) (fun t h y => (later m c t h y).trans (congrArg (_ + ·) (share m c t y))) t (by omega) _).trans ?_
  refine Finset.sum_congr rfl fun s _ => congrArg₂ (· * ·) ?_ ?_
  · refine (table2_at (A := 4096) (B := 2816) _ s ⟨1408 * (t.val / 4) + r, by omega⟩).trans ?_
    blk_ext [(idx t).2.2.1]
  · refine (table2_at (A := 4096) (B := 1024) _ s l).trans ?_
    blk_ext [(idx t).2.2.1]

end Cert.FfnDwDownIdeal.Value

namespace Cert.FfnDwDownRefIdeal.Value

open Idealize.ShloMosaic Idealize.SL.Sem Cert.FfnDwDownRefIdeal Cert.FfnDwDownRefIdeal.Gen Idealize.ShloMosaic.TcCoe

/-- The reference's product. -/
theorem value (a : FVec Ideal S4096x2816 .bf16) (d : FVec Ideal S4096x1024 .bf16) :
    truncf .bf16 (broadcastInDim S1x2816x1024 ![1, 2] bcast_S2816x1024_S1x2816x1024_1_2 (transpose S2816x1024 [1, 0] (Host.dotGeneral (φ₁ := .f32) (φ₂ := .f32)
        dot_S4096x1024_S4096x2816_S1024x2816_0_0_1_1_n_n none (extf .f32 d bitsLt_bf16_f32) (extf .f32 a bitsLt_bf16_f32)) transposes_S1024x2816_S2816x1024_1_0)) bitsLt_bf16_f32
      = Cert.FfnDwDownIdeal.Value.product a d := by
  funext y
  obtain ⟨j, r, l, rfl⟩ : ∃ (j : Fin 1) (r : Fin 2816) (l : Fin 1024), y = (ix3 j r l : S1x2816x1024.Idx) := ⟨y 0, y 1, y 2, eq_ix3 (y : (⟨3, ![1, 2816, 1024]⟩ : Shape).Idx)⟩
  pointwise [Cert.FfnDwDownIdeal.Value.product]
  exact Finset.sum_congr rfl fun s _ => mul_comm _ _

end Cert.FfnDwDownRefIdeal.Value

namespace Cert.FfnDwDownIdeal.Value

open Idealize.ShloMosaic Idealize.SL.Sem Cert.FfnDwDownIdeal Cert.FfnDwDownIdeal.Gen Idealize.ShloMosaic.TcCoe

/-- The kernel and the reference end with equal results. -/
theorem equal_results : Cert.algebraic_FfnDwDownIdeal_FfnDwDownRefIdeal (hFfnDwDownIdeal := Cert.FfnDwDownIdeal.Gen.facts)
    (hFfnDwDownRefIdeal := Cert.FfnDwDownRefIdeal.Gen.facts) := fun m ρ m' ρ' _ ha => by
  refine ⟨fun c => product (m ((c : Thread nD τ).loc main_arg0)) (m ((c : Thread nD τ).loc main_arg1)),
    (θ_run (Cert.FfnDwDownIdeal.defs (F := Ideal)) _ _).mono (fun r hr c => ⟨(hr c).1.trans (result m c), (hr c).2⟩) (run_blocks (F := Ideal) m ρ),
    (θ_run (Cert.FfnDwDownRefIdeal.defs (F := Ideal)) _ _).mono (fun r hr c => ⟨(hr c).1.trans ?_, (hr c).2⟩) (Cert.FfnDwDownRefIdeal.Value.run (F := Ideal) m' ρ')⟩
  rw [(ha c).1, (ha c).2]
  exact Cert.FfnDwDownRefIdeal.Value.value _ _

end Cert.FfnDwDownIdeal.Value
-- ==== Proof.DactValue.lean ====
/- The gradient through the down projection: one product, tile by tile. -/
module

public import proofs.«01_k».proof.Proof.Gen.FfnDactIdeal.Value
public import proofs.«01_k».proof.Proof.Gen.FfnDactRefIdeal.Run
public import proofs.«01_k».proof.Defs
public import Idealize.ShloMosaic.Lib.Pipeline.ValueKit
public import Idealize.ShloMosaic.Lib.Pipeline.ReadBack

@[expose] public section

set_option maxRecDepth 16384

noncomputable section

namespace Cert.FfnDactIdeal.Value

open Idealize.ShloMosaic Idealize.SL.Sem Cert.FfnDactIdeal Cert.FfnDactIdeal.Gen Idealize.ShloMosaic.TcCoe
open Idealize.ShloMosaic.Pipeline (Dat)

/-- The output's gradient times the down projection, transposed. -/
def product (x : FVec Ideal S4096x1024 .bf16) (w : FVec Ideal S1x1x2816x1024 .bf16) : FVec Ideal S4096x2816 .bf16 :=
  fun y => ∑ k : Fin 1024, x (ix2 (y 0) k) * w (ix4 0 0 (y 1) k)

/-- Which blocks each point stages and writes. -/
theorem idx : ∀ t : Fin cfg0.N, win0_0.index t = ![t.val % 4, 0] ∧ win0_1.index t = ![0, 0, t.val / 4, 0]
    ∧ win0_2.index t = ![t.val % 4, t.val / 4] ∧ t.val < 8 :=
  (by decide +kernel : ∀ t : Fin grid0.N, _)

/-- A tile's product at a row and a column. -/
theorem tile (x : FVec Ideal S1024x1024 .bf16) (w : FVec Ideal S1x1x1408x1024 .bf16) (r : Fin 1024) (l : Fin 1408) :
    k0_pay1 x w (ix2 r l) = ∑ k : Fin 1024, x (ix2 r k) * w (ix4 0 0 l k) := by
  pointwise [k0_pay1]

variable (m : (ℓ : Loc nD τ sig) → Buf (Elt Ideal) ℓ) (c : Dev nD)

/-- The array after the run. -/
theorem result : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 1408), y = (ix2 r l : S1024x1408.Idx) := ⟨y 0, y 1, eq_ix2 (y : (⟨2, ![1024, 1408]⟩ : Shape).Idx)⟩
  blk_simp
  rw [after0_2]
  frame_out
  refine (tile _ _ r l).trans (Finset.sum_congr rfl fun k _ => congrArg₂ (· * ·) ?_ ?_)
  · blk_ext [iblk, V, (idx t).1, (idx t).2.2.1]
  · blk_ext [iblk, V, (idx t).2.1, (idx t).2.2.1]

end Cert.FfnDactIdeal.Value

namespace Cert.FfnDactRefIdeal.Value

open Idealize.ShloMosaic Idealize.SL.Sem Cert.FfnDactRefIdeal Cert.FfnDactRefIdeal.Gen Idealize.ShloMosaic.TcCoe

/-- The reference's product. -/
theorem value (x : FVec Ideal S4096x1024 .bf16) (w : FVec Ideal S1x1x2816x1024 .bf16) :
    truncf .bf16 (Host.dotGeneral (φ₁ := .f32) (φ₂ := .f32) dot_S4096x1024_S2816x1024_S4096x2816_1_1_0_0_n_n none (extf .f32 x bitsLt_bf16_f32)
        (extf .f32 (shapeCast _ w shapeCasts_S1x1x2816x1024_S2816x1024) bitsLt_bf16_f32)) bitsLt_bf16_f32
      = Cert.FfnDactIdeal.Value.product x w := by
  funext y
  obtain ⟨r, l, rfl⟩ : ∃ (r : Fin 4096) (l : Fin 2816), y = (ix2 r l : S4096x2816.Idx) := ⟨y 0, y 1, eq_ix2 (y : (⟨2, ![4096, 2816]⟩ : Shape).Idx)⟩
  pointwise [Cert.FfnDactIdeal.Value.product]

end Cert.FfnDactRefIdeal.Value

namespace Cert.FfnDactIdeal.Value

open Idealize.ShloMosaic Idealize.SL.Sem Cert.FfnDactIdeal Cert.FfnDactIdeal.Gen Idealize.ShloMosaic.TcCoe

/-- The kernel and the reference end with equal results. -/
theorem equal_results : Cert.algebraic_FfnDactIdeal_FfnDactRefIdeal (hFfnDactIdeal := Cert.FfnDactIdeal.Gen.facts)
    (hFfnDactRefIdeal := Cert.FfnDactRefIdeal.Gen.facts) := fun m ρ m' ρ' _ ha => by
  refine ⟨fun c => product (m ((c : Thread nD τ).loc main_arg0)) (m ((c : Thread nD τ).loc main_arg1)),
    (θ_run (Cert.FfnDactIdeal.defs (F := Ideal)) _ _).mono (fun r hr c => ⟨(hr c).1.trans (result m c), (hr c).2⟩) (run_blocks (F := Ideal) m ρ),
    (θ_run (Cert.FfnDactRefIdeal.defs (F := Ideal)) _ _).mono (fun r hr c => ⟨(hr c).1.trans ?_, (hr c).2⟩) (Cert.FfnDactRefIdeal.Value.run (F := Ideal) m' ρ')⟩
  rw [(ha c).1, (ha c).2]
  exact Cert.FfnDactRefIdeal.Value.value _ _

end Cert.FfnDactIdeal.Value
-- ==== Proof.EvenDxValue.lean ====
/- The gradient through the even layers' projection and its normalization: the kernel's tiles and the gain's running sum. -/
module

public import proofs.«01_k».proof.Proof.NormDx
public import proofs.«01_k».proof.Proof.Gen.EvenDxIdeal.Value
public import proofs.«01_k».proof.Proof.Gen.EvenDxRefIdeal.Run
public import proofs.«01_k».proof.Defs

@[expose] public section

set_option maxRecDepth 16384

noncomputable section

namespace Cert.EvenDxIdeal.Value

open Idealize.ShloMosaic Idealize.SL.Sem Cert.EvenDxIdeal Cert.EvenDxIdeal.Gen Idealize.ShloMosaic.TcCoe Cert.NormBwd Cert.NormDx
open Idealize.ShloMosaic.Pipeline (Dat)

/-- A row of gradients against a row of weights, the weights' four shards side by side. -/
def against {R : ℕ} (a : FVec Ideal ⟨2, ![R, 2048]⟩ .bf16) (w : FVec Ideal S4x1x1024x512 .bf16) (r : Fin R) (l : Fin 1024) : EReal :=
  ∑ s : Fin 2048, a (ix2 r s) * w (ix4 ⟨s.val / 512, by omega⟩ 0 l ⟨s.val % 512, by omega⟩)

/-- Which blocks each point stages and writes. -/
theorem idx : ∀ t : Fin cfg0.N, (win0_0.index t = ![t.val, 0] ∧ win0_1.index t = ![0, 0, 0, 0] ∧ win0_2.index t = ![t.val, 0] ∧ win0_3.index t = ![0, 0])
    ∧ (win0_4.index t = ![t.val, 0] ∧ win0_5.index t = ![t.val, 0] ∧ win0_6.index t = ![t.val, 0] ∧ win0_7.index t = ![0, 0]) ∧ t.val < 8 :=
  (by decide +kernel : ∀ t : Fin grid0.N, _)

/-- The four products a tile adds, one a shard. -/
abbrev product (a : FVec Ideal S512x2048 .bf16) (w : FVec Ideal S4x1x1024x512 .bf16) : FVec Ideal S512x1024 .f32 :=
  k0_pay6 (F := Ideal) (View.ld (Val := Elt Ideal) (e' := .bf16) a (Rect.unit (s := S512x2048) ![0, 0] S512x512.size inb_S512x2048_S512x512_0_0))
    (View.ld (Val := Elt Ideal) (e' := .bf16) w (Rect.unit (s := S4x1x1024x512) ![0, 0, 0, 0] S1x1x1024x512.size inb_S4x1x1024x512_S1x1x1024x512_0_0_0_0))
    (View.ld (Val := Elt Ideal) (e' := .bf16) a (Rect.unit (s := S512x2048) ![0, 512] S512x512.size inb_S512x2048_S512x512_0_512))
    (View.ld (Val := Elt Ideal) (e' := .bf16) w (Rect.unit (s := S4x1x1024x512) ![1, 0, 0, 0] S1x1x1024x512.size inb_S4x1x1024x512_S1x1x1024x512_1_0_0_0))
    (View.ld (Val := Elt Ideal) (e' := .bf16) a (Rect.unit (s := S512x2048) ![0, 1024] S512x512.size inb_S512x2048_S512x512_0_1024))
    (View.ld (Val := Elt Ideal) (e' := .bf16) w (Rect.unit (s := S4x1x1024x512) ![2, 0, 0, 0] S1x1x1024x512.size inb_S4x1x1024x512_S1x1x1024x512_2_0_0_0))
    (View.ld (Val := Elt Ideal) (e' := .bf16) a (Rect.unit (s := S512x2048) ![0, 1536] S512x512.size inb_S512x2048_S512x512_0_1536))
    (View.ld (Val := Elt Ideal) (e' := .bf16) w (Rect.unit (s := S4x1x1024x512) ![3, 0, 0, 0] S1x1x1024x512.size inb_S4x1x1024x512_S1x1x1024x512_3_0_0_0))

/-- Added, they are the whole row against the whole row. -/
theorem product_at (a : FVec Ideal S512x2048 .bf16) (w : FVec Ideal S4x1x1024x512 .bf16) (r : Fin 512) (l : Fin 1024) :
    product a w (ix2 r l) = (against a w r l : EReal) := by
  refine Eq.trans ?_ (shards 512 2048 rfl (fun s => a (ix2 r s)) (fun j k => w (ix4 j 0 l k)) (fun s => by omega) (fun s => by omega)
    (fun j k => by omega) (fun k => by omega) (fun k => by omega))
  pointwise [k0_pay6, product, View.ld_apply]

variable (m : (ℓ : Loc nD τ sig) → Buf (Elt Ideal) ℓ) (c : Dev nD)

/-- The whole arrays' product. -/
abbrev full (m : (ℓ : Loc nD τ sig) → Buf (Elt Ideal) ℓ) (c : Dev nD) : Fin 4096 → Fin 1024 → EReal :=
  against (m ((c : Thread nD τ).loc main_arg0)) (m ((c : Thread nD τ).loc main_arg1))

/-- The gradient the kernel is to leave. -/
abbrev goal (m : (ℓ : Loc nD τ sig) → Buf (Elt Ideal) ℓ) (c : Dev nD) : FVec Ideal S4096x1024 .f32 :=
  dx (full m c) (m ((c : Thread nD τ).loc main_arg2)) (m ((c : Thread nD τ).loc main_arg3)) (m ((c : Thread nD τ).loc main_arg4))

section
variable (t : Fin cfg0.N)

/-- A point's products, read in the whole arrays. -/
theorem products (r : Fin 512) (l : Fin 1024) (R : Fin 4096) (hR : R.val = 512 * t.val + r) : (product (iblk m c 0 t) (iblk m c 1 t) (ix2 r l) : EReal) = full m c R l := by
  refine (product_at _ _ r l).trans (Finset.sum_congr rfl fun s _ => congrArg₂ (· * ·) ?_ ?_)
  · blk_ext [iblk, V, (idx t).1.1]
  · blk_ext [iblk, V, (idx t).1.2.1]

/-- A point's rows of the input. -/
theorem inputs (r : Fin 512) (k : Fin 1024) (R : Fin 4096) (hR : R.val = 512 * t.val + r) :
    ((iblk m c 2 t : FVec Ideal S512x1024 .f32) (ix2 r k) : EReal) = (m ((c : Thread nD τ).loc main_arg2) : FVec Ideal S4096x1024 .f32) (ix2 R k) := by
  blk_ext [iblk, V, (idx t).1.2.2.1]

/-- A point's tile of the input's gradient. -/
theorem block (r : Fin 512) (l : Fin 1024) (R : Fin 4096) (hR : R.val = 512 * t.val + r) :
    tile (product (iblk m c 0 t) (iblk m c 1 t)) (iblk m c 2 t) (iblk m c 3 t) (iblk m c 4 t) (ix2 r l) = goal m c (ix2 R l) := by
  refine tile_at (fun k => products m c t r k R hR) (fun k => inputs m c t r k R hR) (fun k => ?_) ?_
  · blk_ext [iblk, V, (idx t).1.2.2.2]
  · blk_ext [iblk, V, (idx t).2.1.1]

/-- A point's rows' parts of the gain's gradient. -/
theorem share (y : S1x1024.Idx) : gains (product (iblk m c 0 t) (iblk m c 1 t)) (iblk m c 2 t) y
    = ∑ r : Fin 512, parts (full m c) (m ((c : Thread nD τ).loc main_arg2)) (512 * (t.val % 8) + r) y := by
  have ht := (idx t).2.2
  exact gains_at (by omega) (fun r k R hR => products m c t r k R (by omega)) (fun r k R hR => inputs m c t r k R (by omega)) y

/-- Each point leaves its tile in the first two outputs. -/
theorem outs : (outsAt0 m c t.val t.isLt).1 = tile (product (iblk m c 0 t) (iblk m c 1 t)) (iblk m c 2 t) (iblk m c 3 t) (iblk m c 4 t)
    ∧ (outsAt0 m c t.val t.isLt).2.1 = tile (product (iblk m c 0 t) (iblk m c 1 t)) (iblk m c 2 t) (iblk m c 3 t) (iblk m c 4 t) := by
  have ht := (idx t).2.2
  refine ⟨funext fun y => ?_, funext fun y => ?_⟩ <;> by_cases h0 : t.val % 8 = 0
  all_goals first | rw [outsAt0_A m c t h0 (by omega)] | rw [outsAt0_B m c t h0 (by omega)]
  all_goals
    dsimp only
    frame_open
    frame_out
  all_goals rfl

/-- The first point leaves its rows' parts in the third output. -/
theorem first (h0 : t.val % 8 = 0) (y : S1x1024.Idx) :
    (outsAt0 m c t.val t.isLt).2.2 y = gains (product (iblk m c 0 t) (iblk m c 1 t)) (iblk m c 2 t) y := by
  have ht := (idx t).2.2
  rw [outsAt0_A m c t h0 (by omega)]
  dsimp only
  frame_open
  frame_out
  rfl

/-- A later point adds its rows' parts. -/
theorem later (h0 : ¬t.val % 8 = 0) (y : S1x1024.Idx) : (outsAt0 m c t.val t.isLt).2.2 y
    = (outsAt0 m c (t.val - 1) (Nat.lt_of_le_of_lt (Nat.sub_le _ _) t.isLt)).2.2 y + gains (product (iblk m c 0 t) (iblk m c 1 t)) (iblk m c 2 t) y := by
  have ht := (idx t).2.2
  rw [outsAt0_B m c t h0 (by omega)]
  dsimp only
  frame_open
  frame_out
  pointwise [k0_pay5]
  rfl

end

/-- The first output after the run. -/
theorem result5 : (dats m 0 c).arrAt 5 cfg0.N = goal m c := by
  refine (dats m 0 c).arrAt_eq_of_covers 5 _ (by decide +kernel) fun t hf y => ?_
  have ht := (idx t).2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_5, (outs m c t).1]
  refine (block m c t r l ⟨512 * t.val + r, by omega⟩ rfl).trans ?_
  blk_ext [(idx t).2.1.2.1]

/-- The second output after the run. -/
theorem result6 : (dats m 0 c).arrAt 6 cfg0.N = goal m c := by
  refine (dats m 0 c).arrAt_eq_of_covers 6 _ (by decide +kernel) fun t hf y => ?_
  have ht := (idx t).2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_6, (outs m c t).2]
  refine (block m c t r l ⟨512 * t.val + r, by omega⟩ rfl).trans ?_
  blk_ext [(idx t).2.1.2.2.1]

/-- The third output after the run. -/
theorem result7 : (dats m 0 c).arrAt 7 cfg0.N = dg (full m c) (m ((c : Thread nD τ).loc main_arg2)) := by
  refine (dats m 0 c).arrAt_eq_of_covers 7 _ (by decide +kernel) fun t hf y => ?_
  obtain ⟨j, l, rfl⟩ : ∃ (j : Fin 1) (l : Fin 1024), y = (ix2 j l : S1x1024.Idx) := ⟨y 0, y 1, eq_ix2 (y : (⟨2, ![1, 1024]⟩ : Shape).Idx)⟩
  have h7 := (flush0_7 t).mp hf
  blk_simp
  rw [after0_7]
  refine (gains_sum (fun n h => (outsAt0 m c n h).2.2) (fun t h y => (first m c t h y).trans (share m c t y))
    (fun t h y => (later m c t h y).trans (congrArg (_ + ·) (share m c t y))) t (by omega) j l).trans ?_
  blk_ext [(idx t).2.1.2.2.2]

end Cert.EvenDxIdeal.Value

namespace Cert.EvenDxRefIdeal.Value

open Idealize.ShloMosaic Idealize.SL.Sem Cert.EvenDxRefIdeal Cert.EvenDxRefIdeal.Gen Idealize.ShloMosaic.TcCoe Cert.NormBwd Cert.NormDx
open Cert.EvenDxIdeal.Value (against)

/-- The reference's product, its weights set side by side. -/
theorem product_eq (a : FVec Ideal S4096x2048 .bf16) (w : FVec Ideal S4x1x1024x512 .bf16) :
    Host.dotGeneral (φ₁ := .f32) (φ₂ := .f32) dot_S4096x2048_S1024x2048_S4096x1024_1_1_0_0_n_n none (extf .f32 a bitsLt_bf16_f32) (extf .f32 ((concatenate S1024x2048 1
      [⟨S1024x512, ((shapeCast _ (extractStridedSlice S1x1x1024x512 ![0, 0, 0, 0] w slices_S4x1x1024x512_S1x1x1024x512_0_0_0_0) shapeCasts_S1x1x1024x512_S1024x512) : (⟨S1024x512, .bf16⟩ : BufTy).Contents (Elt Ideal))⟩,
       ⟨S1024x512, ((shapeCast _ (extractStridedSlice S1x1x1024x512 ![1, 0, 0, 0] w slices_S4x1x1024x512_S1x1x1024x512_1_0_0_0) shapeCasts_S1x1x1024x512_S1024x512) : (⟨S1024x512, .bf16⟩ : BufTy).Contents (Elt Ideal))⟩,
       ⟨S1024x512, ((shapeCast _ (extractStridedSlice S1x1x1024x512 ![2, 0, 0, 0] w slices_S4x1x1024x512_S1x1x1024x512_2_0_0_0) shapeCasts_S1x1x1024x512_S1024x512) : (⟨S1024x512, .bf16⟩ : BufTy).Contents (Elt Ideal))⟩,
       ⟨S1024x512, ((shapeCast _ (extractStridedSlice S1x1x1024x512 ![3, 0, 0, 0] w slices_S4x1x1024x512_S1x1x1024x512_3_0_0_0) shapeCasts_S1x1x1024x512_S1024x512) : (⟨S1024x512, .bf16⟩ : BufTy).Contents (Elt Ideal))⟩]
      concatenates_S1024x512_S1024x512_S1024x512_S1024x512_S1024x2048_d1 : (⟨S1024x2048, .bf16⟩ : BufTy).Contents (Elt Ideal))) bitsLt_bf16_f32)
      = fun y => against a w (y 0) (y 1) := by
  funext y
  obtain ⟨r, l, rfl⟩ : ∃ (r : Fin 4096) (l : Fin 1024), y = (ix2 r l : S4096x1024.Idx) := ⟨y 0, y 1, eq_ix2 (y : (⟨2, ![4096, 1024]⟩ : Shape).Idx)⟩
  pointwise [against]
  exact Finset.sum_congr rfl fun s _ => congrArg (a (ix2 r s) * ·) (side_by_side 512 (fun j k => w (ix4 j 0 l k)) s.val (by omega) (by omega) (by omega))

variable (m : (ℓ : Loc nD τ sig) → Buf (Elt Ideal) ℓ) (c : Dev nD)

/-- The reference's first result; its second is the same, narrowed. -/
theorem value : res_out0 (F := Ideal) m c = dx (against (m ((c : Thread nD τ).loc main_arg0)) (m ((c : Thread nD τ).loc main_arg1)))
    (m ((c : Thread nD τ).loc main_arg2)) (m ((c : Thread nD τ).loc main_arg3)) (m ((c : Thread nD τ).loc main_arg4)) := by
  unfold res_out0 res_main_v51
  rw [product_eq]
  exact reference_eq _ _ _ _

/-- Its second result. -/
theorem value_narrowed : res_out1 (F := Ideal) m c = res_out0 (F := Ideal) m c := by
  unfold res_out1 res_out0 res_main_v52 res_main_v51
  rfl

end Cert.EvenDxRefIdeal.Value

namespace Cert.EvenDxIdeal.Value

open Idealize.ShloMosaic Idealize.SL.Sem Cert.EvenDxIdeal Cert.EvenDxIdeal.Gen Idealize.ShloMosaic.TcCoe Cert.NormDx

/-- The kernel and the reference end with equal results. -/
theorem equal_results : Cert.algebraic_EvenDxIdeal_EvenDxRefIdeal (hEvenDxIdeal := Cert.EvenDxIdeal.Gen.facts)
    (hEvenDxRefIdeal := Cert.EvenDxRefIdeal.Gen.facts) := fun m ρ m' ρ' _ ha => by
  have hv (c : Dev nD) : Cert.EvenDxRefIdeal.Value.res_out0 (F := Ideal) m' c = goal m c := by
    rw [Cert.EvenDxRefIdeal.Value.value, (ha c).1, (ha c).2.1, (ha c).2.2.1, (ha c).2.2.2.1, (ha c).2.2.2.2]
  refine ⟨goal m, goal m, fun c => dg (full m c) (m ((c : Thread nD τ).loc main_arg2)),
    (θ_run (Cert.EvenDxIdeal.defs (F := Ideal)) _ _).mono
      (fun r hr c => ⟨(hr c).1.trans (result5 m c), (hr c).2.1.trans (result6 m c), (hr c).2.2.1.trans (result7 m c), (hr c).2.2.2⟩) (run_blocks (F := Ideal) m ρ),
    (θ_run (Cert.EvenDxRefIdeal.defs (F := Ideal)) _ _).mono
      (fun r hr c => ⟨(hr c).1.trans (hv c), (hr c).2.1.trans ((Cert.EvenDxRefIdeal.Value.value_narrowed m' c).trans (hv c)),
        (hr c).2.2.1.trans ?_, (hr c).2.2.2⟩) (Cert.EvenDxRefIdeal.Value.run (F := Ideal) m' ρ')⟩
  rw [(ha c).1, (ha c).2.1, (ha c).2.2.1, Cert.EvenDxRefIdeal.Value.product_eq]
  exact reference_gain _ _

end Cert.EvenDxIdeal.Value
-- ==== Proof.UpSpec.lean ====
/- The feed-forward layer's first half as plain functions of numbered rows and columns: the up projection, the
   convolution of three taps down the rows, and the gate. The first row has the number 16; earlier rows are zero. -/
module

public import proofs.«01_k».proof.Proof.Spec

@[expose] public section

set_option maxRecDepth 16384

noncomputable section

namespace Cert.FeedForward

open Idealize.ShloMosaic Cert.Mixer

section
variable (X : ℕ → Fin 1024 → EReal) (W : Fin 1024 → ℕ → EReal) (C : ℕ → ℕ → EReal) (B : ℕ → EReal)

/-- The projection of a row. -/
def pre (n c : ℕ) : EReal := ∑ k : Fin 1024, X n k * W k c

/-- The convolution of the projections, the bias added. -/
def conv (n c : ℕ) : EReal := pre X W (n - 2) c * C 0 c + pre X W (n - 1) c * C 1 c + pre X W n c * C 2 c + B c

/-- A number times its logistic. -/
def silu (g : EReal) : EReal := g * Ideal.div (Ideal.ofBits .f32 0x3F800000#32) (Ideal.ofBits .f32 0x3F800000#32 + Ideal.exp (-g))

/-- The gated product. -/
def act (n c : ℕ) : EReal := silu (conv X W C B n c) * conv X W C B n (2816 + c)

end

/-- The rows of an array, numbered from 16. -/
def rows (a : Fin 4096 → Fin 1024 → EReal) (n : ℕ) (k : Fin 1024) : EReal := if h : 16 ≤ n ∧ n < 4112 then a ⟨n - 16, by omega⟩ k else 0

/-- A row of the array. -/
theorem rows_at (a : Fin 4096 → Fin 1024 → EReal) (r : Fin 4096) (n : ℕ) (hn : n = 16 + r) (k : Fin 1024) : rows a n k = a r k := by
  have hr := r.isLt
  subst hn
  refine (dif_pos (by omega)).trans (congrArg (a · k) (Fin.ext ?_))
  show 16 + r.val - 16 = r.val
  omega

/-- A row before the first. -/
theorem rows_before (a : Fin 4096 → Fin 1024 → EReal) (n : ℕ) (hn : n < 16) (k : Fin 1024) : rows a n k = 0 := dif_neg (by omega)

/-- The projection of a row before the first. -/
theorem pre_before (a : Fin 4096 → Fin 1024 → EReal) (W : Fin 1024 → ℕ → EReal) (n c : ℕ) (hn : n < 16) : pre (rows a) W n c = 0 :=
  Finset.sum_eq_zero fun k _ => by rw [rows_before a n hn, zero_mul]

/-- The columns of four shards, side by side. -/
def cols (w : Fin 4 → Fin 1024 → Fin 1408 → EReal) (k : Fin 1024) (c : ℕ) : EReal := if h : c < 5632 then w ⟨c / 1408, by omega⟩ k ⟨c % 1408, by omega⟩ else 0

/-- A column of a shard. -/
theorem cols_at (w : Fin 4 → Fin 1024 → Fin 1408 → EReal) (j : Fin 4) (k : Fin 1024) (l : Fin 1408) (c : ℕ) (hc : c = 1408 * j + l) : cols w k c = w j k l := by
  have hj := j.isLt
  have hl := l.isLt
  refine (dif_pos (by omega)).trans (congrArg₂ (fun j l => w j k l) (Fin.ext ?_) (Fin.ext ?_))
  · show c / 1408 = j.val
    omega
  · show c % 1408 = l.val
    omega

end Cert.FeedForward
-- ==== Proof.UpTile.lean ====
/- The feed-forward layer's first half: what the kernel's body computes of a stretch of columns, read row by row. -/
module

public import proofs.«01_k».proof.Proof.UpSpec
public import proofs.«01_k».proof.Proof.Gen.FfnUpIdeal.Value
public import Idealize.ShloMosaic.Lib.Pipeline.ValueKit
public import Idealize.ShloMosaic.Lib.Pipeline.ReadBack

@[expose] public section

set_option maxRecDepth 16384

noncomputable section

namespace Cert.FfnUpIdeal.Value

open Idealize.ShloMosaic Idealize.SL.Sem Cert.FfnUpIdeal Cert.FfnUpIdeal.Gen Idealize.ShloMosaic.TcCoe Cert.FeedForward
open Cert.Mixer (table2 table2_at)

/-! ## A stretch's operations -/

/-- A product of rows and columns. -/
theorem product512 (x : FVec Ideal S528x1024 .bf16) (v : FVec Ideal S1x1x1024x512 .bf16) (r : Fin 528) (l : Fin 512) :
    k0_pay15 (F := Ideal) x v (ix2 r l) = (∑ k : Fin 1024, x (ix2 r k) * v (ix4 0 0 k l) : EReal) := by
  pointwise [k0_pay15]

/-- A product of rows and columns. -/
theorem product384 (x : FVec Ideal S528x1024 .bf16) (v : FVec Ideal S1x1x1024x384 .bf16) (r : Fin 528) (l : Fin 384) :
    k0_pay26 (F := Ideal) x v (ix2 r l) = (∑ k : Fin 1024, x (ix2 r k) * v (ix4 0 0 k l) : EReal) := by
  pointwise [k0_pay26]

/-- The three taps of a stretch of 512 columns, and the bias. -/
abbrev taps512 (p : FVec Ideal S528x512 .f32) (w : FVec Ideal S3x512 .f32) (b : FVec Ideal S1x512 .f32) : FVec Ideal S512x512 .f32 :=
  k0_pay9 (F := Ideal) p w (dynamicRotate 0 2#32 none p rotates_S528x512_d0) (k0_pay8 w) b

/-- The taps read three rows that follow each other. -/
theorem taps512_at (p : FVec Ideal S528x512 .f32) (w : FVec Ideal S3x512 .f32) (b : FVec Ideal S1x512 .f32) (r : Fin 512) (l : Fin 512) :
    taps512 p w b (ix2 r l) = (p (ix2 ⟨14 + r, by omega⟩ l) * w (ix2 0 l) + p (ix2 ⟨15 + r, by omega⟩ l) * w (ix2 1 l) + p (ix2 ⟨16 + r, by omega⟩ l) * w (ix2 2 l) + b (ix2 0 l) : EReal) := by
  have hr := r.isLt
  have e1 (r : Fin 528) : dynamicRotate 0 1#32 none p rotates_S528x512_d0 (ix2 r l) = p (ix2 ⟨(r + 528 - 1) % 528, Nat.mod_lt _ (by decide)⟩ l) := by pointwise
  have e2 (r : Fin 528) : dynamicRotate 0 2#32 none p rotates_S528x512_d0 (ix2 r l) = p (ix2 ⟨(r + 528 - 2) % 528, Nat.mod_lt _ (by decide)⟩ l) := by pointwise
  have f1 : p (ix2 ⟨(16 + r.val + 528 - 1) % 528, Nat.mod_lt _ (by decide)⟩ l) = p (ix2 ⟨15 + r, by omega⟩ l) := by
    congr 2; exact Fin.ext (show (16 + r.val + 528 - 1) % 528 = 15 + r.val by omega)
  have f2 : p (ix2 ⟨(16 + r.val + 528 - 2) % 528, Nat.mod_lt _ (by decide)⟩ l) = p (ix2 ⟨14 + r, by omega⟩ l) := by
    congr 2; exact Fin.ext (show (16 + r.val + 528 - 2) % 528 = 14 + r.val by omega)
  rw [← f1, ← f2]
  pointwise [k0_pay9, k0_pay8]

/-- The three taps of a stretch of 384 columns, and the bias. -/
theorem taps384_at (p : FVec Ideal S528x384 .f32) (w : FVec Ideal S3x384 .f32) (b : FVec Ideal S1x384 .f32) (r : Fin 512) (l : Fin 384) :
    k0_pay29 (F := Ideal) p w b (ix2 r l) = (p (ix2 ⟨14 + r, by omega⟩ l) * w (ix2 0 l) + p (ix2 ⟨15 + r, by omega⟩ l) * w (ix2 1 l) + p (ix2 ⟨16 + r, by omega⟩ l) * w (ix2 2 l) + b (ix2 0 l) : EReal) := by
  have hr := r.isLt
  have f1 : p (ix2 ⟨(16 + r.val + 528 - 1) % 528, Nat.mod_lt _ (by decide)⟩ l) = p (ix2 ⟨15 + r, by omega⟩ l) := by
    congr 2; exact Fin.ext (show (16 + r.val + 528 - 1) % 528 = 15 + r.val by omega)
  have f2 : p (ix2 ⟨(16 + r.val + 528 - 2) % 528, Nat.mod_lt _ (by decide)⟩ l) = p (ix2 ⟨14 + r, by omega⟩ l) := by
    congr 2; exact Fin.ext (show (16 + r.val + 528 - 2) % 528 = 14 + r.val by omega)
  rw [← f1, ← f2]
  pointwise [k0_pay29]

/-- The gated product of a stretch of 512 columns. -/
theorem gated512 (g u z : FVec Ideal S512x512 .f32) (r l : Fin 512) :
    k0_pay25 (F := Ideal) g u z (ix2 r l) = (silu (g (ix2 r l)) * (u (ix2 r l) + z (ix2 r l)) : EReal) := by
  pointwise [k0_pay25, k0_pay20, silu]
  simp only [Ideal.ofBits_zero, zero_sub]

/-- The gated product of a stretch of 384 columns. -/
theorem gated384 (g u : FVec Ideal S512x384 .f32) (r : Fin 512) (l : Fin 384) :
    k0_pay2 (F := Ideal) g u (ix2 r l) = (silu (g (ix2 r l)) * u (ix2 r l) : EReal) := by
  pointwise [k0_pay2, silu]
  simp only [Ideal.ofBits_zero, zero_sub]

/-- The stored rows of a product. -/
theorem stored512 (p : FVec Ideal S528x512 .f32) (r l : Fin 512) : k0_pay10 (F := Ideal) p (ix2 r l) = (p (ix2 ⟨16 + r, by omega⟩ l) : EReal) := by
  pointwise [k0_pay10]

/-- The stored rows of a product. -/
theorem stored384 (p : FVec Ideal S528x384 .f32) (r : Fin 512) (l : Fin 384) : k0_pay30 (F := Ideal) p (ix2 r l) = (p (ix2 ⟨16 + r, by omega⟩ l) : EReal) := by
  pointwise [k0_pay30]

/-! ## Reading a stretch of a block -/

/-- A stretch of a block of weights. -/
abbrev weights (v : FVec Ideal S1x1x1024x1408 .bf16) (o n : ℕ) (h : ∀ a, (![0, 0, 0, o] : Fin 4 → ℕ) a + (![1, 1, 1024, n] : Fin 4 → ℕ) a ≤ S1x1x1024x1408.size a) :
    FVec Ideal ⟨4, ![1, 1, 1024, n]⟩ .bf16 := View.ld (Val := Elt Ideal) (e' := .bf16) v (Rect.unit (s := S1x1x1024x1408) ![0, 0, 0, o] ![1, 1, 1024, n] h)

/-- A stretch of a block of taps. -/
abbrev filters (v : FVec Ideal S3x1408 .f32) (o n : ℕ) (h : ∀ a, (![0, o] : Fin 2 → ℕ) a + (![3, n] : Fin 2 → ℕ) a ≤ S3x1408.size a) :
    FVec Ideal ⟨2, ![3, n]⟩ .f32 := View.ld (Val := Elt Ideal) (e' := .f32) v (Rect.unit (s := S3x1408) ![0, o] ![3, n] h)

/-- A stretch of a block of the bias. -/
abbrev biases (v : FVec Ideal S1x1408 .f32) (o n : ℕ) (h : ∀ a, (![0, o] : Fin 2 → ℕ) a + (![1, n] : Fin 2 → ℕ) a ≤ S1x1408.size a) :
    FVec Ideal ⟨2, ![1, n]⟩ .f32 := View.ld (Val := Elt Ideal) (e' := .f32) v (Rect.unit (s := S1x1408) ![0, o] ![1, n] h)

/-- An entry of the stretch. -/
theorem weights_at (v : FVec Ideal S1x1x1024x1408 .bf16) (o n : ℕ) (h) (k : Fin 1024) (l : Fin n) (hl : o + l.val < 1408) :
    weights v o n h (ix4 0 0 k l) = v (ix4 0 0 k ⟨o + l, hl⟩) := by
  refine (View.ld_apply _ _ _).trans (congrArg v ?_)
  blk_ext
  · show 0 + 1 * k.val = k.val
    omega
  · show o + 1 * l.val = o + l.val
    omega

/-- An entry of the stretch. -/
theorem filters_at (v : FVec Ideal S3x1408 .f32) (o n : ℕ) (h) (a : Fin 3) (l : Fin n) (hl : o + l.val < 1408) :
    filters v o n h (ix2 a l) = v (ix2 a ⟨o + l, hl⟩) := by
  refine (View.ld_apply _ _ _).trans (congrArg v ?_)
  blk_ext
  · show 0 + 1 * a.val = a.val
    omega
  · show o + 1 * l.val = o + l.val
    omega

/-- An entry of the stretch. -/
theorem biases_at (v : FVec Ideal S1x1408 .f32) (o n : ℕ) (h) (l : Fin n) (hl : o + l.val < 1408) :
    biases v o n h (ix2 0 l) = v (ix2 0 ⟨o + l, hl⟩) := by
  refine (View.ld_apply _ _ _).trans (congrArg v ?_)
  blk_ext
  show o + 1 * l.val = o + l.val
  omega

/-! ## A stretch's values -/

section
variable (X : ℕ → Fin 1024 → EReal) (W : Fin 1024 → ℕ → EReal) (C : ℕ → ℕ → EReal) (B : ℕ → EReal) (n₀ c₀ : ℕ)
  (x : FVec Ideal S528x1024 .bf16) (w : FVec Ideal S1x1x1024x1408 .bf16) (f : FVec Ideal S3x1408 .f32) (b : FVec Ideal S1x1408 .f32)
  (hx : ∀ (r : Fin 528) (k : Fin 1024), x (ix2 r k) = X (n₀ + r) k) (hw : ∀ (k : Fin 1024) (l : Fin 1408), w (ix4 0 0 k l) = W k (c₀ + l))
  (hf : ∀ (a : Fin 3) (l : Fin 1408), f (ix2 a l) = C a (c₀ + l)) (hb : ∀ l : Fin 1408, b (ix2 0 l) = B (c₀ + l))
  (o : ℕ)

include hx hw in
/-- A stretch of the projection. -/
theorem pre512 (h) (ho : o + 512 ≤ 1408) (r : Fin 528) (l : Fin 512) : k0_pay15 (F := Ideal) x (weights w o 512 h) (ix2 r l) = pre X W (n₀ + r) (c₀ + (o + l)) := by
  have hl := l.isLt
  refine (product512 _ _ r l).trans (Finset.sum_congr rfl fun k _ => congrArg₂ (· * ·) (hx r k) ?_)
  exact (weights_at w o 512 h k l (by omega)).trans (hw k ⟨o + l, by omega⟩)

include hx hw in
/-- A stretch of the projection. -/
theorem pre384 (h) (ho : o + 384 ≤ 1408) (r : Fin 528) (l : Fin 384) : k0_pay26 (F := Ideal) x (weights w o 384 h) (ix2 r l) = pre X W (n₀ + r) (c₀ + (o + l)) := by
  have hl := l.isLt
  refine (product384 _ _ r l).trans (Finset.sum_congr rfl fun k _ => congrArg₂ (· * ·) (hx r k) ?_)
  exact (weights_at w o 384 h k l (by omega)).trans (hw k ⟨o + l, by omega⟩)

/-- Three rows of the projection that follow each other give a row of the convolution. -/
theorem conv_of (n c : ℕ) (p0 p1 p2 w0 w1 w2 b' : EReal) (h0 : p0 = pre X W (n + 14) c) (h1 : p1 = pre X W (n + 15) c) (h2 : p2 = pre X W (n + 16) c)
    (g0 : w0 = C 0 c) (g1 : w1 = C 1 c) (g2 : w2 = C 2 c) (hb : b' = B c) : p0 * w0 + p1 * w1 + p2 * w2 + b' = FeedForward.conv X W C B (n + 16) c := by
  subst h0 h1 h2 g0 g1 g2 hb
  rfl

include hx hw hf hb in
/-- A stretch of the convolution. -/
theorem conv512 (h h' h'') (ho : o + 512 ≤ 1408) (r l : Fin 512) :
    taps512 (k0_pay15 x (weights w o 512 h)) (filters f o 512 h') (biases b o 512 h'') (ix2 r l) = FeedForward.conv X W C B (n₀ + r + 16) (c₀ + (o + l)) := by
  have hl := l.isLt
  have hp (d : ℕ) (hd : d + r.val < 528) := (pre512 X W n₀ c₀ x w hx hw o h ho ⟨d + r, hd⟩ l).trans (congrArg (pre X W · _) (show n₀ + (d + r.val) = n₀ + r + d by omega))
  have hc (a : Fin 3) := (filters_at f o 512 h' a l (by omega)).trans (hf a ⟨o + l, by omega⟩)
  refine (taps512_at _ _ _ r l).trans (conv_of X W C B (n₀ + r) _ _ _ _ _ _ _ _ (hp 14 (by omega)) (hp 15 (by omega)) (hp 16 (by omega)) (hc 0) (hc 1) (hc 2) ?_)
  exact (biases_at b o 512 h'' l (by omega)).trans (hb ⟨o + l, by omega⟩)

include hx hw hf hb in
/-- A stretch of the convolution. -/
theorem conv384 (h h' h'') (ho : o + 384 ≤ 1408) (r : Fin 512) (l : Fin 384) :
    k0_pay29 (k0_pay26 x (weights w o 384 h)) (filters f o 384 h') (biases b o 384 h'') (ix2 r l) = FeedForward.conv X W C B (n₀ + r + 16) (c₀ + (o + l)) := by
  have hl := l.isLt
  have hp (d : ℕ) (hd : d + r.val < 528) := (pre384 X W n₀ c₀ x w hx hw o h ho ⟨d + r, hd⟩ l).trans (congrArg (pre X W · _) (show n₀ + (d + r.val) = n₀ + r + d by omega))
  have hc (a : Fin 3) := (filters_at f o 384 h' a l (by omega)).trans (hf a ⟨o + l, by omega⟩)
  refine (taps384_at _ _ _ r l).trans (conv_of X W C B (n₀ + r) _ _ _ _ _ _ _ _ (hp 14 (by omega)) (hp 15 (by omega)) (hp 16 (by omega)) (hc 0) (hc 1) (hc 2) ?_)
  exact (biases_at b o 384 h'' l (by omega)).trans (hb ⟨o + l, by omega⟩)

end

/-- The three stretches of columns that a point stores in a block. -/
theorem pieces (G : ℕ → ℕ → EReal) (n₀ c₀ : ℕ) (p0 p1 : FVec Ideal S512x512 .bf16) (p2 : FVec Ideal S512x384 .bf16)
    (h0 : ∀ r l : Fin 512, p0 (ix2 r l) = G (n₀ + r + 16) (c₀ + (0 + l))) (h1 : ∀ r l : Fin 512, p1 (ix2 r l) = G (n₀ + r + 16) (c₀ + (512 + l)))
    (h2 : ∀ (r : Fin 512) (l : Fin 384), p2 (ix2 r l) = G (n₀ + r + 16) (c₀ + (1024 + l))) :
    View.PiecesOf (Val := Elt Ideal) (s := S512x1408) (e := .bf16) (fun y => G (n₀ + (y 0).val + 16) (c₀ + (y 1).val))
      [⟨Rect.unit ![0, 1024] ![512, 384] inb_S512x1408_S512x384_0_1024, p2⟩, ⟨Rect.unit ![0, 512] ![512, 512] inb_S512x1408_S512x512_0_512, p1⟩,
        ⟨Rect.unit ![0, 0] ![512, 512] inb_S512x1408_S512x512_0_0, p0⟩] := by
  refine ⟨fun x => ?_, fun x => ?_, fun x => ?_, trivial⟩
  · obtain ⟨r, l, rfl⟩ : ∃ (r : Fin 512) (l : Fin 384), x = (ix2 r l : S512x384.Idx) := ⟨x 0, x 1, eq_ix2 (x : (⟨2, ![512, 384]⟩ : Shape).Idx)⟩
    refine (h2 r l).trans (congrArg₂ G ?_ ?_)
    · show n₀ + r.val + 16 = n₀ + (0 + 1 * r.val) + 16
      omega
    · show c₀ + (1024 + l.val) = c₀ + (1024 + 1 * l.val)
      omega
  · obtain ⟨r, l, rfl⟩ : ∃ (r : Fin 512) (l : Fin 512), x = (ix2 r l : S512x512.Idx) := ⟨x 0, x 1, eq_ix2 (x : (⟨2, ![512, 512]⟩ : Shape).Idx)⟩
    refine (h1 r l).trans (congrArg₂ G ?_ ?_)
    · show n₀ + r.val + 16 = n₀ + (0 + 1 * r.val) + 16
      omega
    · show c₀ + (512 + l.val) = c₀ + (512 + 1 * l.val)
      omega
  · obtain ⟨r, l, rfl⟩ : ∃ (r : Fin 512) (l : Fin 512), x = (ix2 r l : S512x512.Idx) := ⟨x 0, x 1, eq_ix2 (x : (⟨2, ![512, 512]⟩ : Shape).Idx)⟩
    refine (h0 r l).trans (congrArg₂ G ?_ ?_)
    · show n₀ + r.val + 16 = n₀ + (0 + 1 * r.val) + 16
      omega
    · show c₀ + (0 + l.val) = c₀ + (0 + 1 * l.val)
      omega

end Cert.FfnUpIdeal.Value
-- ==== Proof.UpRef.lean ====
/- The feed-forward layer's first half: the reference's five results, read row by row. -/
module

public import proofs.«01_k».proof.Proof.UpSpec
public import proofs.«01_k».proof.Proof.NormBwd
public import proofs.«01_k».proof.Proof.Gen.FfnUpRefIdeal.Run

@[expose] public section

set_option maxRecDepth 16384

noncomputable section

namespace Cert.FfnUpRefIdeal.Value

open Idealize.ShloMosaic Idealize.SL.Sem Cert.FfnUpRefIdeal Cert.FfnUpRefIdeal.Gen Idealize.ShloMosaic.TcCoe Cert.FeedForward
open Cert.Mixer (table2 table2_at)
open Cert.NormBwd (side_by_side)

section
variable (a : FVec Ideal S4096x1024 .bf16) (w : FVec Ideal S4x1x1024x1408 .bf16) (v : FVec Ideal S3x5632 .f32) (b : FVec Ideal S1x5632 .f32)

/-- The input's rows. -/
abbrev inputRows : ℕ → Fin 1024 → EReal := rows fun r k => a (ix2 r k)

/-- The projection's columns. -/
abbrev weightCols : Fin 1024 → ℕ → EReal := cols fun j k l => w (ix4 j 0 k l)

/-- The convolution's taps. -/
abbrev taps : ℕ → ℕ → EReal := table2 (A := 3) (B := 5632) fun t c => v (ix2 t c)

/-- The convolution's bias. -/
abbrev bias : ℕ → EReal := table2 (A := 1) (B := 5632) (fun t c => b (ix2 t c)) 0

/-- The reference's projection. -/
def projected : FVec Ideal S1x4096x5632 .f32 := fun y => pre (inputRows a) (weightCols w) (16 + (y 1).val) (y 2).val

/-- Its term is that projection. -/
theorem projected_eq : Host.dotGeneral (φ₁ := .f32) (φ₂ := .f32) dot_S1x4096x1024_S1024x5632_S1x4096x5632_2_0_01_1_n_n none (broadcastInDim S1x4096x1024 ![1, 2] bcast_S4096x1024_S1x4096x1024_1_2 (extf .f32 a bitsLt_bf16_f32)) (extf .f32 ((concatenate S1024x5632 1
      [⟨S1024x1408, ((shapeCast _ (extractStridedSlice S1x1x1024x1408 ![0, 0, 0, 0] w slices_S4x1x1024x1408_S1x1x1024x1408_0_0_0_0) shapeCasts_S1x1x1024x1408_S1024x1408) : (⟨S1024x1408, .bf16⟩ : BufTy).Contents (Elt Ideal))⟩,
       ⟨S1024x1408, ((shapeCast _ (extractStridedSlice S1x1x1024x1408 ![1, 0, 0, 0] w slices_S4x1x1024x1408_S1x1x1024x1408_1_0_0_0) shapeCasts_S1x1x1024x1408_S1024x1408) : (⟨S1024x1408, .bf16⟩ : BufTy).Contents (Elt Ideal))⟩,
       ⟨S1024x1408, ((shapeCast _ (extractStridedSlice S1x1x1024x1408 ![2, 0, 0, 0] w slices_S4x1x1024x1408_S1x1x1024x1408_2_0_0_0) shapeCasts_S1x1x1024x1408_S1024x1408) : (⟨S1024x1408, .bf16⟩ : BufTy).Contents (Elt Ideal))⟩,
       ⟨S1024x1408, ((shapeCast _ (extractStridedSlice S1x1x1024x1408 ![3, 0, 0, 0] w slices_S4x1x1024x1408_S1x1x1024x1408_3_0_0_0) shapeCasts_S1x1x1024x1408_S1024x1408) : (⟨S1024x1408, .bf16⟩ : BufTy).Contents (Elt Ideal))⟩]
      concatenates_S1024x1408_S1024x1408_S1024x1408_S1024x1408_S1024x5632_d1 : (⟨S1024x5632, .bf16⟩ : BufTy).Contents (Elt Ideal))) bitsLt_bf16_f32)
      = projected a w := by
  funext y
  obtain ⟨z, r, l, rfl⟩ : ∃ (z : Fin 1) (r : Fin 4096) (l : Fin 5632), y = (ix3 z r l : S1x4096x5632.Idx) := ⟨y 0, y 1, y 2, eq_ix3 (y : (⟨3, ![1, 4096, 5632]⟩ : Shape).Idx)⟩
  have hl := l.isLt
  pointwise [projected, pre]
  refine Finset.sum_congr rfl fun k _ => congrArg₂ (· * ·) (rows_at (fun r k => a (ix2 r k)) r _ rfl k).symm ?_
  refine (side_by_side 1408 (fun j l => w (ix4 j 0 k l)) l.val (by omega) (by omega) (by omega)).trans ?_
  exact (cols_at (fun j k l => w (ix4 j 0 k l)) ⟨l.val / 1408, by omega⟩ k ⟨l.val % 1408, by omega⟩ l.val (Nat.div_add_mod l.val 1408).symm).symm

/-- The projection with two rows of zeros before it. -/
abbrev padded : FVec Ideal S1x4098x5632 .f32 := concatenate S1x4098x5632 1 [⟨S1x2x5632, (broadcastInDim S1x2x5632 ![] bcast_S_S1x2x5632 (constant S_ .f32 0x00000000#32))⟩,
  ⟨S1x4096x5632, projected a w⟩] concatenates_S1x2x5632_S1x4096x5632_S1x4098x5632_d1

/-- The convolution as the reference writes it. -/
abbrev convolved : FVec Ideal S1x4096x5632 .f32 :=
  addf (addf (addf (mulf (extractStridedSlice S1x4096x5632 ![0, 0, 0] (padded a w) slices_S1x4098x5632_S1x4096x5632_0_0_0) (broadcastInDim S1x4096x5632 ![0, 1, 2] bcast_S1x1x5632_S1x4096x5632_0_1_2 (broadcastInDim S1x1x5632 ![2] bcast_S5632_S1x1x5632_2 (shapeCast _ (extractStridedSlice S1x5632 ![0, 0] v slices_S3x5632_S1x5632_0_0) shapeCasts_S1x5632_S5632))))
    (mulf (extractStridedSlice S1x4096x5632 ![0, 1, 0] (padded a w) slices_S1x4098x5632_S1x4096x5632_0_1_0) (broadcastInDim S1x4096x5632 ![0, 1, 2] bcast_S1x1x5632_S1x4096x5632_0_1_2 (broadcastInDim S1x1x5632 ![2] bcast_S5632_S1x1x5632_2 (shapeCast _ (extractStridedSlice S1x5632 ![1, 0] v slices_S3x5632_S1x5632_1_0) shapeCasts_S1x5632_S5632)))))
    (mulf (extractStridedSlice S1x4096x5632 ![0, 2, 0] (padded a w) slices_S1x4098x5632_S1x4096x5632_0_2_0) (broadcastInDim S1x4096x5632 ![0, 1, 2] bcast_S1x1x5632_S1x4096x5632_0_1_2 (broadcastInDim S1x1x5632 ![2] bcast_S5632_S1x1x5632_2 (shapeCast _ (extractStridedSlice S1x5632 ![2, 0] v slices_S3x5632_S1x5632_2_0) shapeCasts_S1x5632_S5632)))))
    (broadcastInDim S1x4096x5632 ![0, 1, 2] bcast_S1x1x5632_S1x4096x5632_0_1_2 (broadcastInDim S1x1x5632 ![2] bcast_S5632_S1x1x5632_2 (shapeCast _ b shapeCasts_S1x5632_S5632)))

/-- A row of the convolution. -/
theorem convolved_at (z : Fin 1) (r : Fin 4096) (l : Fin 5632) :
    convolved a w v b (ix3 z r l) = conv (inputRows a) (weightCols w) (taps v) (bias b) (16 + r.val) l.val := by
  pointwise []
  unfold conv
  refine congrArg₂ (· + ·) (congrArg₂ (· + ·) (congrArg₂ (· + ·) (congrArg₂ (· * ·) ?_ ?_) (congrArg₂ (· * ·) ?_ ?_)) (congrArg₂ (· * ·) ?_ ?_)) ?_
  · split_ifs with h
    · exact (pre_before _ _ _ _ (by omega)).symm
    all_goals exact congrArg (fun n => pre (inputRows a) (weightCols w) n l.val) (show 16 + (r.val - 2) = 16 + r.val - 2 by omega)
  · exact (table2_at (A := 3) (B := 5632) (fun t c => v (ix2 t c)) 0 l).symm
  · split_ifs with h
    · exact (pre_before _ _ _ _ (by omega)).symm
    all_goals exact congrArg (fun n => pre (inputRows a) (weightCols w) n l.val) (show 16 + (1 + r.val - 2) = 16 + r.val - 1 by omega)
  · exact (table2_at (A := 3) (B := 5632) (fun t c => v (ix2 t c)) 1 l).symm
  · rfl
  · exact (table2_at (A := 3) (B := 5632) (fun t c => v (ix2 t c)) 2 l).symm
  · exact (table2_at (A := 1) (B := 5632) (fun t c => b (ix2 t c)) 0 l).symm

/-- The reference's convolution. -/
def convolution : FVec Ideal S1x4096x5632 .f32 := fun y => conv (inputRows a) (weightCols w) (taps v) (bias b) (16 + (y 1).val) (y 2).val

/-- Its term is that convolution. -/
theorem convolution_eq : convolved a w v b = convolution a w v b := by
  funext y
  obtain ⟨z, r, l, rfl⟩ : ∃ (z : Fin 1) (r : Fin 4096) (l : Fin 5632), y = (ix3 z r l : S1x4096x5632.Idx) := ⟨y 0, y 1, y 2, eq_ix3 (y : (⟨3, ![1, 4096, 5632]⟩ : Shape).Idx)⟩
  exact convolved_at a w v b z r l

/-- The first half of the columns. -/
theorem half0 (p : FVec Ideal S1x4096x5632 .f32) : truncf (F := Ideal) .bf16 (shapeCast S4096x2816 (extractStridedSlice S1x4096x2816 ![0, 0, 0] p slices_S1x4096x5632_S1x4096x2816_0_0_0)
    shapeCasts_S1x4096x2816_S4096x2816) bitsLt_bf16_f32 = fun y => (p (ix3 0 (y 0) ⟨(y 1).val, by have h : (y 1).val < 2816 := (y 1).isLt; omega⟩) : EReal) := by
  funext y
  obtain ⟨r, l, rfl⟩ : ∃ (r : Fin 4096) (l : Fin 2816), y = (ix2 r l : S4096x2816.Idx) := ⟨y 0, y 1, eq_ix2 (y : (⟨2, ![4096, 2816]⟩ : Shape).Idx)⟩
  pointwise []

/-- The second half. -/
theorem half1 (p : FVec Ideal S1x4096x5632 .f32) : truncf (F := Ideal) .bf16 (shapeCast S4096x2816 (extractStridedSlice S1x4096x2816 ![0, 0, 2816] p slices_S1x4096x5632_S1x4096x2816_0_0_2816)
    shapeCasts_S1x4096x2816_S4096x2816) bitsLt_bf16_f32 = fun y => (p (ix3 0 (y 0) ⟨2816 + (y 1).val, by have h : (y 1).val < 2816 := (y 1).isLt; omega⟩) : EReal) := by
  funext y
  obtain ⟨r, l, rfl⟩ : ∃ (r : Fin 4096) (l : Fin 2816), y = (ix2 r l : S4096x2816.Idx) := ⟨y 0, y 1, eq_ix2 (y : (⟨2, ![4096, 2816]⟩ : Shape).Idx)⟩
  pointwise []

end

variable (m : (ℓ : Loc nD τ sig) → Buf (Elt Ideal) ℓ) (c : Dev nD)

/-- The gate. -/
theorem value2 : res_out2 (F := Ideal) m c = fun y => (conv (inputRows (m ((c : Thread nD τ).loc main_arg0))) (weightCols (m ((c : Thread nD τ).loc main_arg1)))
    (taps (m ((c : Thread nD τ).loc main_arg2))) (bias (m ((c : Thread nD τ).loc main_arg3))) (16 + (y 0).val) (y 1).val : EReal) := by
  have e := convolution_eq (m ((c : Thread nD τ).loc main_arg0)) (m ((c : Thread nD τ).loc main_arg1)) (m ((c : Thread nD τ).loc main_arg2)) (m ((c : Thread nD τ).loc main_arg3))
  unfold convolved padded at e
  unfold res_out2 res_main_v50
  rw [projected_eq, e]
  exact half0 _

/-- The gated values. -/
theorem value3 : res_out3 (F := Ideal) m c = fun y => (conv (inputRows (m ((c : Thread nD τ).loc main_arg0))) (weightCols (m ((c : Thread nD τ).loc main_arg1)))
    (taps (m ((c : Thread nD τ).loc main_arg2))) (bias (m ((c : Thread nD τ).loc main_arg3))) (16 + (y 0).val) (2816 + (y 1).val) : EReal) := by
  have e := convolution_eq (m ((c : Thread nD τ).loc main_arg0)) (m ((c : Thread nD τ).loc main_arg1)) (m ((c : Thread nD τ).loc main_arg2)) (m ((c : Thread nD τ).loc main_arg3))
  unfold convolved padded at e
  unfold res_out3 res_main_v52
  rw [projected_eq, e]
  exact half1 _

/-- The activation. -/
theorem value4 : res_out4 (F := Ideal) m c = fun y => (act (inputRows (m ((c : Thread nD τ).loc main_arg0))) (weightCols (m ((c : Thread nD τ).loc main_arg1)))
    (taps (m ((c : Thread nD τ).loc main_arg2))) (bias (m ((c : Thread nD τ).loc main_arg3))) (16 + (y 0).val) (y 1).val : EReal) := by
  have e := convolution_eq (m ((c : Thread nD τ).loc main_arg0)) (m ((c : Thread nD τ).loc main_arg1)) (m ((c : Thread nD τ).loc main_arg2)) (m ((c : Thread nD τ).loc main_arg3))
  unfold convolved padded at e
  unfold res_out4 res_main_v54
  rw [projected_eq, e]
  funext y
  obtain ⟨r, l, rfl⟩ : ∃ (r : Fin 4096) (l : Fin 2816), y = (ix2 r l : S4096x2816.Idx) := ⟨y 0, y 1, eq_ix2 (y : (⟨2, ![4096, 2816]⟩ : Shape).Idx)⟩
  pointwise [convolution, act, silu]

end Cert.FfnUpRefIdeal.Value
-- ==== Proof.UpValue.lean ====
/- The feed-forward layer's first half: the kernel's blocks, its results, and their equality with the reference's. -/
module

public import proofs.«01_k».proof.Proof.UpTile
public import proofs.«01_k».proof.Proof.UpRef
public import proofs.«01_k».proof.Defs

@[expose] public section

set_option maxRecDepth 16384

noncomputable section

namespace Cert.FfnUpIdeal.Value

open Idealize.ShloMosaic Idealize.SL.Sem Cert.FfnUpIdeal Cert.FfnUpIdeal.Gen Idealize.ShloMosaic.TcCoe Cert.FeedForward
open Cert.Mixer (table2 table2_at)
open Cert.FfnUpRefIdeal.Value (inputRows weightCols taps bias)
open Idealize.ShloMosaic.Pipeline (Dat)

/-- Which blocks each point stages and writes, and the point's coordinates. -/
theorem idx : ∀ t : Fin cfg0.N, (win0_0.index t = ![t.val % 8, 0] ∧ win0_1.index t = ![t.val % 8 * 32 - 1, 0]
    ∧ win0_2.index t = ![t.val / 8, 0, 0, 0] ∧ win0_3.index t = ![t.val / 8 + 2, 0, 0, 0])
    ∧ (win0_4.index t = ![0, t.val / 8] ∧ win0_5.index t = ![0, t.val / 8 + 2] ∧ win0_6.index t = ![0, t.val / 8] ∧ win0_7.index t = ![0, t.val / 8 + 2])
    ∧ (win0_8.index t = ![t.val % 8, t.val / 8] ∧ win0_9.index t = ![t.val % 8, t.val / 8] ∧ win0_10.index t = ![t.val % 8, t.val / 8]
      ∧ win0_11.index t = ![t.val % 8, t.val / 8] ∧ win0_12.index t = ![t.val % 8, t.val / 8])
    ∧ (grid0.coords t 1).val = t.val % 8 ∧ t.val < 16 :=
  (by decide +kernel : ∀ t : Fin grid0.N, _)

/-- Whether a point has rows before it. -/
theorem is_later : ∀ n : Fin 8, Scalar.cmpi .sgt (BitVec.ofNat 32 n.val) 0#32 = (if n.val = 0 then 0#1 else 1#1) := by decide +kernel

variable (m : (ℓ : Loc nD τ sig) → Buf (Elt Ideal) ℓ) (c : Dev nD)

/-- The input's rows. -/
abbrev X : ℕ → Fin 1024 → EReal := inputRows (m ((c : Thread nD τ).loc main_arg0))

/-- The projection's columns. -/
abbrev W : Fin 1024 → ℕ → EReal := weightCols (m ((c : Thread nD τ).loc main_arg1))

/-- The convolution's taps. -/
abbrev C : ℕ → ℕ → EReal := taps (m ((c : Thread nD τ).loc main_arg2))

/-- The convolution's bias. -/
abbrev B : ℕ → EReal := bias (m ((c : Thread nD τ).loc main_arg3))

/-- A row of the input. -/
theorem X_at (r : Fin 4096) (n : ℕ) (hn : n = 16 + r.val) (k : Fin 1024) :
    X m c n k = (m ((c : Thread nD τ).loc main_arg0) : FVec Ideal S4096x1024 .bf16) (ix2 r k) := rows_at (fun r k => (m ((c : Thread nD τ).loc main_arg0) : FVec Ideal S4096x1024 .bf16) (ix2 r k)) r n hn k

/-- A column of the projection. -/
theorem W_at (j : Fin 4) (k : Fin 1024) (l : Fin 1408) (n : ℕ) (hn : n = 1408 * j.val + l.val) :
    W m c k n = (m ((c : Thread nD τ).loc main_arg1) : FVec Ideal S4x1x1024x1408 .bf16) (ix4 j 0 k l) := cols_at (fun j k l => (m ((c : Thread nD τ).loc main_arg1) : FVec Ideal S4x1x1024x1408 .bf16) (ix4 j 0 k l)) j k l n hn

/-- A tap. -/
theorem C_at (a : Fin 3) (n : Fin 5632) : C m c a n = (m ((c : Thread nD τ).loc main_arg2) : FVec Ideal S3x5632 .f32) (ix2 a n) :=
  table2_at (A := 3) (B := 5632) (fun a n => (m ((c : Thread nD τ).loc main_arg2) : FVec Ideal S3x5632 .f32) (ix2 a n)) a n

/-- An entry of the bias. -/
theorem B_at (n : Fin 5632) : B m c n = (m ((c : Thread nD τ).loc main_arg3) : FVec Ideal S1x5632 .f32) (ix2 0 n) :=
  table2_at (A := 1) (B := 5632) (fun a n => (m ((c : Thread nD τ).loc main_arg3) : FVec Ideal S1x5632 .f32) (ix2 a n)) 0 n

section
variable (t : Fin cfg0.N)

/-! ## The blocks that a point stages -/

/-- The point's rows, sixteen of the rows before them first. -/
theorem block_rows (r : Fin 528) (k : Fin 1024) :
    k0_pay3 (F := Ideal) (grid0.coords t) (iblk m c 1 t) (iblk m c 0 t) (ix2 r k) = X m c (512 * (t.val % 8) + r) k := by
  have hr := r.isLt
  have ht := (idx t).2.2.2
  pointwise [k0_pay3]
  rw [ht.1, is_later ⟨t.val % 8, by omega⟩]
  by_cases h1 : r.val < 16
  · rw [dif_pos h1]
    by_cases h2 : t.val % 8 = 0
    · rw [if_pos h2]
      refine Eq.trans ?_ (rows_before (fun r k => (m ((c : Thread nD τ).loc main_arg0) : FVec Ideal S4096x1024 .bf16) (ix2 r k)) _ (by omega) k).symm
      rfl
    · rw [if_neg h2]
      have e : (iblk m c 1 t : FVec Ideal S16x1024 .bf16) (ix2 ⟨r.val, h1⟩ k)
          = (m ((c : Thread nD τ).loc main_arg0) : FVec Ideal S4096x1024 .bf16) (ix2 ⟨(t.val % 8 * 32 - 1) * 16 + r.val, by omega⟩ k) := by
        blk_ext [iblk, V, (idx t).1.2.1]
      refine Eq.trans e (X_at m c _ _ ?_ k).symm
      show 512 * (t.val % 8) + r.val = 16 + ((t.val % 8 * 32 - 1) * 16 + r.val)
      omega
  · rw [dif_neg h1]
    have e : (iblk m c 0 t : FVec Ideal S512x1024 .bf16) (ix2 ⟨r.val - 16, by omega⟩ k)
        = (m ((c : Thread nD τ).loc main_arg0) : FVec Ideal S4096x1024 .bf16) (ix2 ⟨t.val % 8 * 512 + (r.val - 16), by omega⟩ k) := by
      blk_ext [iblk, V, (idx t).1.1]
    refine Eq.trans e (X_at m c _ _ ?_ k).symm
    show 512 * (t.val % 8) + r.val = 16 + (t.val % 8 * 512 + (r.val - 16))
    omega

/-- The gate's weights. -/
theorem block_wg (k : Fin 1024) (l : Fin 1408) : (iblk m c 2 t : FVec Ideal S1x1x1024x1408 .bf16) (ix4 0 0 k l) = W m c k (1408 * (t.val / 8) + l) := by
  have ht := (idx t).2.2.2
  have e : (iblk m c 2 t : FVec Ideal S1x1x1024x1408 .bf16) (ix4 0 0 k l)
      = (m ((c : Thread nD τ).loc main_arg1) : FVec Ideal S4x1x1024x1408 .bf16) (ix4 ⟨t.val / 8, by omega⟩ 0 k l) := by
    blk_ext [iblk, V, (idx t).1.2.2.1]
  exact e.trans (W_at m c _ _ _ _ rfl).symm

/-- The gated values' weights. -/
theorem block_wu (k : Fin 1024) (l : Fin 1408) : (iblk m c 3 t : FVec Ideal S1x1x1024x1408 .bf16) (ix4 0 0 k l) = W m c k (2816 + 1408 * (t.val / 8) + l) := by
  have ht := (idx t).2.2.2
  have e : (iblk m c 3 t : FVec Ideal S1x1x1024x1408 .bf16) (ix4 0 0 k l)
      = (m ((c : Thread nD τ).loc main_arg1) : FVec Ideal S4x1x1024x1408 .bf16) (ix4 ⟨t.val / 8 + 2, by omega⟩ 0 k l) := by
    blk_ext [iblk, V, (idx t).1.2.2.2]
  refine e.trans (W_at m c _ _ _ _ ?_).symm
  show 2816 + 1408 * (t.val / 8) + l.val = 1408 * (t.val / 8 + 2) + l.val
  omega

/-- The gate's taps. -/
theorem block_fg (a : Fin 3) (l : Fin 1408) : (iblk m c 4 t : FVec Ideal S3x1408 .f32) (ix2 a l) = C m c a (1408 * (t.val / 8) + l) := by
  have ht := (idx t).2.2.2
  have hl := l.isLt
  have e : (iblk m c 4 t : FVec Ideal S3x1408 .f32) (ix2 a l)
      = (m ((c : Thread nD τ).loc main_arg2) : FVec Ideal S3x5632 .f32) (ix2 a ⟨1408 * (t.val / 8) + l.val, by omega⟩) := by
    blk_ext [iblk, V, (idx t).2.1.1]
  exact e.trans (C_at m c a ⟨_, _⟩).symm

/-- The gated values' taps. -/
theorem block_fu (a : Fin 3) (l : Fin 1408) : (iblk m c 5 t : FVec Ideal S3x1408 .f32) (ix2 a l) = C m c a (2816 + 1408 * (t.val / 8) + l) := by
  have ht := (idx t).2.2.2
  have hl := l.isLt
  have e : (iblk m c 5 t : FVec Ideal S3x1408 .f32) (ix2 a l)
      = (m ((c : Thread nD τ).loc main_arg2) : FVec Ideal S3x5632 .f32) (ix2 a ⟨2816 + 1408 * (t.val / 8) + l.val, by omega⟩) := by
    blk_ext [iblk, V, (idx t).2.1.2.1]
  exact e.trans (C_at m c a ⟨_, _⟩).symm

/-- The gate's bias. -/
theorem block_bg (l : Fin 1408) : (iblk m c 6 t : FVec Ideal S1x1408 .f32) (ix2 0 l) = B m c (1408 * (t.val / 8) + l) := by
  have ht := (idx t).2.2.2
  have hl := l.isLt
  have e : (iblk m c 6 t : FVec Ideal S1x1408 .f32) (ix2 0 l)
      = (m ((c : Thread nD τ).loc main_arg3) : FVec Ideal S1x5632 .f32) (ix2 0 ⟨1408 * (t.val / 8) + l.val, by omega⟩) := by
    blk_ext [iblk, V, (idx t).2.1.2.2.1]
  exact e.trans (B_at m c ⟨_, _⟩).symm

/-- The gated values' bias. -/
theorem block_bu (l : Fin 1408) : (iblk m c 7 t : FVec Ideal S1x1408 .f32) (ix2 0 l) = B m c (2816 + 1408 * (t.val / 8) + l) := by
  have ht := (idx t).2.2.2
  have hl := l.isLt
  have e : (iblk m c 7 t : FVec Ideal S1x1408 .f32) (ix2 0 l)
      = (m ((c : Thread nD τ).loc main_arg3) : FVec Ideal S1x5632 .f32) (ix2 0 ⟨2816 + 1408 * (t.val / 8) + l.val, by omega⟩) := by
    blk_ext [iblk, V, (idx t).2.1.2.2.2]
  exact e.trans (B_at m c ⟨_, _⟩).symm

/-! ## What a point leaves in its blocks -/

/-- The three stretches of a projection. -/
theorem pre_pieces (c₀ : ℕ) (w : FVec Ideal S1x1x1024x1408 .bf16) (hw : ∀ (k : Fin 1024) (l : Fin 1408), w (ix4 0 0 k l) = W m c k (c₀ + l)) :
    View.PiecesOf (Val := Elt Ideal) (s := S512x1408) (e := .bf16) (fun y => pre (X m c) (W m c) (512 * (t.val % 8) + (y 0).val + 16) (c₀ + (y 1).val))
      [⟨Rect.unit ![0, 1024] ![512, 384] inb_S512x1408_S512x384_0_1024, k0_pay30 (k0_pay26 (k0_pay3 (grid0.coords t) (iblk m c 1 t) (iblk m c 0 t)) (weights w 1024 384 inb_S1x1x1024x1408_S1x1x1024x384_0_0_0_1024))⟩,
        ⟨Rect.unit ![0, 512] ![512, 512] inb_S512x1408_S512x512_0_512, k0_pay10 (k0_pay15 (k0_pay3 (grid0.coords t) (iblk m c 1 t) (iblk m c 0 t)) (weights w 512 512 inb_S1x1x1024x1408_S1x1x1024x512_0_0_0_512))⟩,
        ⟨Rect.unit ![0, 0] ![512, 512] inb_S512x1408_S512x512_0_0, k0_pay10 (k0_pay15 (k0_pay3 (grid0.coords t) (iblk m c 1 t) (iblk m c 0 t)) (weights w 0 512 inb_S1x1x1024x1408_S1x1x1024x512_0_0_0_0))⟩] := by
  have e (r : Fin 512) (n : ℕ) := congrArg (fun a => pre (X m c) (W m c) a n) (show 512 * (t.val % 8) + (16 + r.val) = 512 * (t.val % 8) + r.val + 16 by omega)
  refine pieces (pre (X m c) (W m c)) (512 * (t.val % 8)) c₀ _ _ _ (fun r l => ?_) (fun r l => ?_) (fun r l => ?_)
  · exact (stored512 _ r l).trans ((pre512 _ _ _ _ _ _ (block_rows m c t) hw 0 _ (by decide) ⟨16 + r, by omega⟩ l).trans (e r _))
  · exact (stored512 _ r l).trans ((pre512 _ _ _ _ _ _ (block_rows m c t) hw 512 _ (by decide) ⟨16 + r, by omega⟩ l).trans (e r _))
  · exact (stored384 _ r l).trans ((pre384 _ _ _ _ _ _ (block_rows m c t) hw 1024 _ (by decide) ⟨16 + r, by omega⟩ l).trans (e r _))

/-- The gate's projection. -/
theorem out8 (y : S512x1408.Idx) : (outsAt0 m c t).1 y = pre (X m c) (W m c) (512 * (t.val % 8) + (y 0).val + 16) (1408 * (t.val / 8) + (y 1).val) := by
  unfold outsAt0
  dsimp only
  frame_open
  frame_out
  exact View.canon_append_of_piecesOf _ [] [_, _, _] (pre_pieces m c t _ _ (block_wg m c t)) y (View.cover_of_tiledBy _ ![512, 128] (by sl_kernel_rfl) y)

/-- The gated values' projection. -/
theorem out9 (y : S512x1408.Idx) : (outsAt0 m c t).2.1 y = pre (X m c) (W m c) (512 * (t.val % 8) + (y 0).val + 16) (2816 + 1408 * (t.val / 8) + (y 1).val) := by
  unfold outsAt0
  dsimp only
  frame_open
  frame_out
  exact View.canon_append_of_piecesOf _ [] [_, _, _] (pre_pieces m c t _ _ (block_wu m c t)) y (View.cover_of_tiledBy _ ![512, 128] (by sl_kernel_rfl) y)

/-- A stretch of the gate. -/
theorem gate512 (o : ℕ) (h h' h'') (ho : o + 512 ≤ 1408) (r l : Fin 512) :
    taps512 (k0_pay15 (k0_pay3 (grid0.coords t) (iblk m c 1 t) (iblk m c 0 t)) (weights (iblk m c 2 t) o 512 h)) (filters (iblk m c 4 t) o 512 h') (biases (iblk m c 6 t) o 512 h'') (ix2 r l)
      = FeedForward.conv (X m c) (W m c) (C m c) (B m c) (512 * (t.val % 8) + r + 16) (1408 * (t.val / 8) + (o + l)) :=
  conv512 _ _ _ _ _ _ _ _ _ _ (block_rows m c t) (block_wg m c t) (block_fg m c t) (block_bg m c t) o h h' h'' ho r l

/-- The gate's last stretch. -/
theorem gate384 (o : ℕ) (h h' h'') (ho : o + 384 ≤ 1408) (r : Fin 512) (l : Fin 384) :
    k0_pay29 (k0_pay26 (k0_pay3 (grid0.coords t) (iblk m c 1 t) (iblk m c 0 t)) (weights (iblk m c 2 t) o 384 h)) (filters (iblk m c 4 t) o 384 h') (biases (iblk m c 6 t) o 384 h'') (ix2 r l)
      = FeedForward.conv (X m c) (W m c) (C m c) (B m c) (512 * (t.val % 8) + r + 16) (1408 * (t.val / 8) + (o + l)) :=
  conv384 _ _ _ _ _ _ _ _ _ _ (block_rows m c t) (block_wg m c t) (block_fg m c t) (block_bg m c t) o h h' h'' ho r l

/-- A stretch of the gated values. -/
theorem up512 (o : ℕ) (h h' h'') (ho : o + 512 ≤ 1408) (r l : Fin 512) :
    taps512 (k0_pay15 (k0_pay3 (grid0.coords t) (iblk m c 1 t) (iblk m c 0 t)) (weights (iblk m c 3 t) o 512 h)) (filters (iblk m c 5 t) o 512 h') (biases (iblk m c 7 t) o 512 h'') (ix2 r l)
      = FeedForward.conv (X m c) (W m c) (C m c) (B m c) (512 * (t.val % 8) + r + 16) (2816 + 1408 * (t.val / 8) + (o + l)) :=
  conv512 _ _ _ _ _ _ _ _ _ _ (block_rows m c t) (block_wu m c t) (block_fu m c t) (block_bu m c t) o h h' h'' ho r l

/-- The gated values' last stretch. -/
theorem up384 (o : ℕ) (h h' h'') (ho : o + 384 ≤ 1408) (r : Fin 512) (l : Fin 384) :
    k0_pay29 (k0_pay26 (k0_pay3 (grid0.coords t) (iblk m c 1 t) (iblk m c 0 t)) (weights (iblk m c 3 t) o 384 h)) (filters (iblk m c 5 t) o 384 h') (biases (iblk m c 7 t) o 384 h'') (ix2 r l)
      = FeedForward.conv (X m c) (W m c) (C m c) (B m c) (512 * (t.val % 8) + r + 16) (2816 + 1408 * (t.val / 8) + (o + l)) :=
  conv384 _ _ _ _ _ _ _ _ _ _ (block_rows m c t) (block_wu m c t) (block_fu m c t) (block_bu m c t) o h h' h'' ho r l

/-- The gate. -/
theorem out10 (y : S512x1408.Idx) : (outsAt0 m c t).2.2.1 y
    = FeedForward.conv (X m c) (W m c) (C m c) (B m c) (512 * (t.val % 8) + (y 0).val + 16) (1408 * (t.val / 8) + (y 1).val) := by
  unfold outsAt0
  dsimp only
  frame_open
  frame_out
  refine View.canon_append_of_piecesOf _ [] [_, _, _] (pieces (FeedForward.conv (X m c) (W m c) (C m c) (B m c)) (512 * (t.val % 8)) (1408 * (t.val / 8)) _ _ _
    (fun r l => ?_) (fun r l => ?_) (fun r l => ?_)) y (View.cover_of_tiledBy _ ![512, 128] (by sl_kernel_rfl) y)
  · exact gate512 m c t 0 inb_S1x1x1024x1408_S1x1x1024x512_0_0_0_0 inb_S3x1408_S3x512_0_0 inb_S1x1408_S1x512_0_0 (by decide) r l
  · exact gate512 m c t 512 inb_S1x1x1024x1408_S1x1x1024x512_0_0_0_512 inb_S3x1408_S3x512_0_512 inb_S1x1408_S1x512_0_512 (by decide) r l
  · exact gate384 m c t 1024 inb_S1x1x1024x1408_S1x1x1024x384_0_0_0_1024 inb_S3x1408_S3x384_0_1024 inb_S1x1408_S1x384_0_1024 (by decide) r l

/-- The gated values. -/
theorem out11 (y : S512x1408.Idx) : (outsAt0 m c t).2.2.2.1 y
    = FeedForward.conv (X m c) (W m c) (C m c) (B m c) (512 * (t.val % 8) + (y 0).val + 16) (2816 + 1408 * (t.val / 8) + (y 1).val) := by
  unfold outsAt0
  dsimp only
  frame_open
  frame_out
  refine View.canon_append_of_piecesOf _ [] [_, _, _] (pieces (FeedForward.conv (X m c) (W m c) (C m c) (B m c)) (512 * (t.val % 8)) (2816 + 1408 * (t.val / 8)) _ _ _
    (fun r l => ?_) (fun r l => ?_) (fun r l => ?_)) y (View.cover_of_tiledBy _ ![512, 128] (by sl_kernel_rfl) y)
  · exact up512 m c t 0 inb_S1x1x1024x1408_S1x1x1024x512_0_0_0_0 inb_S3x1408_S3x512_0_0 inb_S1x1408_S1x512_0_0 (by decide) r l
  · exact up512 m c t 512 inb_S1x1x1024x1408_S1x1x1024x512_0_0_0_512 inb_S3x1408_S3x512_0_512 inb_S1x1408_S1x512_0_512 (by decide) r l
  · exact up384 m c t 1024 inb_S1x1x1024x1408_S1x1x1024x384_0_0_0_1024 inb_S3x1408_S3x384_0_1024 inb_S1x1408_S1x384_0_1024 (by decide) r l

/-- The activation. -/
theorem out12 (y : S512x1408.Idx) : (outsAt0 m c t).2.2.2.2 y
    = act (X m c) (W m c) (C m c) (B m c) (512 * (t.val % 8) + (y 0).val + 16) (1408 * (t.val / 8) + (y 1).val) := by
  have e (n a : ℕ) := congrArg (FeedForward.conv (X m c) (W m c) (C m c) (B m c) n) (Nat.add_assoc 2816 (1408 * (t.val / 8)) a)
  unfold outsAt0
  dsimp only
  frame_open
  frame_out
  refine View.canon_append_of_piecesOf _ [] [_, _, _] (pieces (act (X m c) (W m c) (C m c) (B m c)) (512 * (t.val % 8)) (1408 * (t.val / 8)) _ _ _
    (fun r l => ?_) (fun r l => ?_) (fun r l => ?_)) y (View.cover_of_tiledBy _ ![512, 128] (by sl_kernel_rfl) y)
  · refine (gated512 _ _ _ r l).trans (congrArg₂ (fun g u => silu g * u) ?_ (Eq.trans ?_ (e _ _)))
    · exact gate512 m c t 0 inb_S1x1x1024x1408_S1x1x1024x512_0_0_0_0 inb_S3x1408_S3x512_0_0 inb_S1x1408_S1x512_0_0 (by decide) r l
    · exact up512 m c t 0 inb_S1x1x1024x1408_S1x1x1024x512_0_0_0_0 inb_S3x1408_S3x512_0_0 inb_S1x1408_S1x512_0_0 (by decide) r l
  · refine (gated512 _ _ _ r l).trans (congrArg₂ (fun g u => silu g * u) ?_ (Eq.trans ?_ (e _ _)))
    · exact gate512 m c t 512 inb_S1x1x1024x1408_S1x1x1024x512_0_0_0_512 inb_S3x1408_S3x512_0_512 inb_S1x1408_S1x512_0_512 (by decide) r l
    · exact up512 m c t 512 inb_S1x1x1024x1408_S1x1x1024x512_0_0_0_512 inb_S3x1408_S3x512_0_512 inb_S1x1408_S1x512_0_512 (by decide) r l
  · refine (gated384 _ _ r l).trans (congrArg₂ (fun g u => silu g * u) ?_ (Eq.trans ?_ (e _ _)))
    · exact gate384 m c t 1024 inb_S1x1x1024x1408_S1x1x1024x384_0_0_0_1024 inb_S3x1408_S3x384_0_1024 inb_S1x1408_S1x384_0_1024 (by decide) r l
    · exact up384 m c t 1024 inb_S1x1x1024x1408_S1x1x1024x384_0_0_0_1024 inb_S3x1408_S3x384_0_1024 inb_S1x1408_S1x384_0_1024 (by decide) r l

end

/-! ## The results -/

/-- The gate's projection after the run. -/
theorem result8 : (dats m 0 c).arrAt 8 cfg0.N = fun y : S4096x2816.Idx => pre (X m c) (W m c) (16 + (y 0).val) (y 1).val := by
  refine (dats m 0 c).arrAt_eq_of_covers 8 _ (by decide +kernel) fun t hf y => ?_
  blk_simp
  rw [after0_8]
  refine (out8 m c t y).trans ?_
  rw [(idx t).2.2.1.1]
  show pre (X m c) (W m c) (512 * (t.val % 8) + (y 0).val + 16) (1408 * (t.val / 8) + (y 1).val) = pre (X m c) (W m c) (16 + (t.val % 8 * 512 + (y 0).val)) (t.val / 8 * 1408 + (y 1).val)
  congr 1 <;> omega

/-- The gated values' projection after the run. -/
theorem result9 : (dats m 0 c).arrAt 9 cfg0.N = fun y : S4096x2816.Idx => pre (X m c) (W m c) (16 + (y 0).val) (2816 + (y 1).val) := by
  refine (dats m 0 c).arrAt_eq_of_covers 9 _ (by decide +kernel) fun t hf y => ?_
  blk_simp
  rw [after0_9]
  refine (out9 m c t y).trans ?_
  rw [(idx t).2.2.1.2.1]
  show pre (X m c) (W m c) (512 * (t.val % 8) + (y 0).val + 16) (2816 + 1408 * (t.val / 8) + (y 1).val) = pre (X m c) (W m c) (16 + (t.val % 8 * 512 + (y 0).val)) (2816 + (t.val / 8 * 1408 + (y 1).val))
  congr 1 <;> omega

/-- The gate after the run. -/
theorem result10 : (dats m 0 c).arrAt 10 cfg0.N = fun y : S4096x2816.Idx => FeedForward.conv (X m c) (W m c) (C m c) (B m c) (16 + (y 0).val) (y 1).val := by
  refine (dats m 0 c).arrAt_eq_of_covers 10 _ (by decide +kernel) fun t hf y => ?_
  blk_simp
  rw [after0_10]
  refine (out10 m c t y).trans ?_
  rw [(idx t).2.2.1.2.2.1]
  show FeedForward.conv (X m c) (W m c) (C m c) (B m c) (512 * (t.val % 8) + (y 0).val + 16) (1408 * (t.val / 8) + (y 1).val)
    = FeedForward.conv (X m c) (W m c) (C m c) (B m c) (16 + (t.val % 8 * 512 + (y 0).val)) (t.val / 8 * 1408 + (y 1).val)
  congr 1 <;> omega

/-- The gated values after the run. -/
theorem result11 : (dats m 0 c).arrAt 11 cfg0.N = fun y : S4096x2816.Idx => FeedForward.conv (X m c) (W m c) (C m c) (B m c) (16 + (y 0).val) (2816 + (y 1).val) := by
  refine (dats m 0 c).arrAt_eq_of_covers 11 _ (by decide +kernel) fun t hf y => ?_
  blk_simp
  rw [after0_11]
  refine (out11 m c t y).trans ?_
  rw [(idx t).2.2.1.2.2.2.1]
  show FeedForward.conv (X m c) (W m c) (C m c) (B m c) (512 * (t.val % 8) + (y 0).val + 16) (2816 + 1408 * (t.val / 8) + (y 1).val)
    = FeedForward.conv (X m c) (W m c) (C m c) (B m c) (16 + (t.val % 8 * 512 + (y 0).val)) (2816 + (t.val / 8 * 1408 + (y 1).val))
  congr 1 <;> omega

/-- The activation after the run. -/
theorem result12 : (dats m 0 c).arrAt 12 cfg0.N = fun y : S4096x2816.Idx => act (X m c) (W m c) (C m c) (B m c) (16 + (y 0).val) (y 1).val := by
  refine (dats m 0 c).arrAt_eq_of_covers 12 _ (by decide +kernel) fun t hf y => ?_
  blk_simp
  rw [after0_12]
  refine (out12 m c t y).trans ?_
  rw [(idx t).2.2.1.2.2.2.2]
  show act (X m c) (W m c) (C m c) (B m c) (512 * (t.val % 8) + (y 0).val + 16) (1408 * (t.val / 8) + (y 1).val)
    = act (X m c) (W m c) (C m c) (B m c) (16 + (t.val % 8 * 512 + (y 0).val)) (t.val / 8 * 1408 + (y 1).val)
  congr 1 <;> omega

/-- The kernel and the reference end with equal results. -/
theorem equal_results : Cert.algebraic_FfnUpIdeal_FfnUpRefIdeal (hFfnUpIdeal := Cert.FfnUpIdeal.Gen.facts)
    (hFfnUpRefIdeal := Cert.FfnUpRefIdeal.Gen.facts) := fun m ρ m' ρ' _ ha => by
  refine ⟨fun c => fun y : S4096x2816.Idx => pre (X m c) (W m c) (16 + (y 0).val) (y 1).val,
    fun c => fun y : S4096x2816.Idx => pre (X m c) (W m c) (16 + (y 0).val) (2816 + (y 1).val),
    fun c => fun y : S4096x2816.Idx => FeedForward.conv (X m c) (W m c) (C m c) (B m c) (16 + (y 0).val) (y 1).val,
    fun c => fun y : S4096x2816.Idx => FeedForward.conv (X m c) (W m c) (C m c) (B m c) (16 + (y 0).val) (2816 + (y 1).val),
    fun c => fun y : S4096x2816.Idx => act (X m c) (W m c) (C m c) (B m c) (16 + (y 0).val) (y 1).val,
    (θ_run (Cert.FfnUpIdeal.defs (F := Ideal)) _ _).mono
      (fun r hr c => ⟨(hr c).1.trans (result8 m c), (hr c).2.1.trans (result9 m c), (hr c).2.2.1.trans (result10 m c), (hr c).2.2.2.1.trans (result11 m c), (hr c).2.2.2.2.1.trans (result12 m c), (hr c).2.2.2.2.2⟩)
      (run_blocks (F := Ideal) m ρ),
    (θ_run (Cert.FfnUpRefIdeal.defs (F := Ideal)) _ _).mono
      (fun r hr c => ⟨(hr c).1.trans ?_, (hr c).2.1.trans ?_, (hr c).2.2.1.trans ((Cert.FfnUpRefIdeal.Value.value2 m' c).trans ?_), (hr c).2.2.2.1.trans ((Cert.FfnUpRefIdeal.Value.value3 m' c).trans ?_),
        (hr c).2.2.2.2.1.trans ((Cert.FfnUpRefIdeal.Value.value4 m' c).trans ?_), (hr c).2.2.2.2.2⟩) (Cert.FfnUpRefIdeal.Value.run (F := Ideal) m' ρ')⟩
  · rw [(ha c).1, (ha c).2.1, Cert.FfnUpRefIdeal.Value.projected_eq]
    exact Cert.FfnUpRefIdeal.Value.half0 _
  · rw [(ha c).1, (ha c).2.1, Cert.FfnUpRefIdeal.Value.projected_eq]
    exact Cert.FfnUpRefIdeal.Value.half1 _
  · rw [(ha c).1, (ha c).2.1, (ha c).2.2.1, (ha c).2.2.2]
    rfl
  · rw [(ha c).1, (ha c).2.1, (ha c).2.2.1, (ha c).2.2.2]
    rfl
  · rw [(ha c).1, (ha c).2.1, (ha c).2.2.1, (ha c).2.2.2]
    rfl

end Cert.FfnUpIdeal.Value
-- ==== Proof.OddDxValue.lean ====
/- The gradient through the odd layers' projection and its normalization: the kernel's tiles and the gain's running sum. -/
module

public import proofs.«01_k».proof.Proof.NormDx
public import proofs.«01_k».proof.Proof.Gen.OddDxIdeal.Value
public import proofs.«01_k».proof.Proof.Gen.OddDxRefIdeal.Run
public import proofs.«01_k».proof.Defs

@[expose] public section

set_option maxRecDepth 16384

noncomputable section

namespace Cert.OddDxIdeal.Value

open Idealize.ShloMosaic Idealize.SL.Sem Cert.OddDxIdeal Cert.OddDxIdeal.Gen Idealize.ShloMosaic.TcCoe Cert.NormBwd Cert.NormDx
open Idealize.ShloMosaic.Pipeline (Dat)

/-- A row of gradients against a row of weights, the weights' four shards side by side. -/
def against {R : ℕ} (a : FVec Ideal ⟨2, ![R, 3072]⟩ .bf16) (w : FVec Ideal S4x1x1024x768 .bf16) (r : Fin R) (l : Fin 1024) : EReal :=
  ∑ s : Fin 3072, a (ix2 r s) * w (ix4 ⟨s.val / 768, by omega⟩ 0 l ⟨s.val % 768, by omega⟩)

/-- Which blocks each point stages and writes. -/
theorem idx : ∀ t : Fin cfg0.N, (win0_0.index t = ![t.val, 0] ∧ win0_1.index t = ![0, 0, 0, 0] ∧ win0_2.index t = ![t.val, 0] ∧ win0_3.index t = ![0, 0])
    ∧ (win0_4.index t = ![t.val, 0] ∧ win0_5.index t = ![t.val, 0] ∧ win0_6.index t = ![t.val, 0] ∧ win0_7.index t = ![0, 0]) ∧ t.val < 8 :=
  (by decide +kernel : ∀ t : Fin grid0.N, _)

/-- The four products a tile adds, one a shard. -/
abbrev product (a : FVec Ideal S512x3072 .bf16) (w : FVec Ideal S4x1x1024x768 .bf16) : FVec Ideal S512x1024 .f32 :=
  k0_pay6 (F := Ideal) (View.ld (Val := Elt Ideal) (e' := .bf16) a (Rect.unit (s := S512x3072) ![0, 0] S512x768.size inb_S512x3072_S512x768_0_0))
    (View.ld (Val := Elt Ideal) (e' := .bf16) w (Rect.unit (s := S4x1x1024x768) ![0, 0, 0, 0] S1x1x1024x768.size inb_S4x1x1024x768_S1x1x1024x768_0_0_0_0))
    (View.ld (Val := Elt Ideal) (e' := .bf16) a (Rect.unit (s := S512x3072) ![0, 768] S512x768.size inb_S512x3072_S512x768_0_768))
    (View.ld (Val := Elt Ideal) (e' := .bf16) w (Rect.unit (s := S4x1x1024x768) ![1, 0, 0, 0] S1x1x1024x768.size inb_S4x1x1024x768_S1x1x1024x768_1_0_0_0))
    (View.ld (Val := Elt Ideal) (e' := .bf16) a (Rect.unit (s := S512x3072) ![0, 1536] S512x768.size inb_S512x3072_S512x768_0_1536))
    (View.ld (Val := Elt Ideal) (e' := .bf16) w (Rect.unit (s := S4x1x1024x768) ![2, 0, 0, 0] S1x1x1024x768.size inb_S4x1x1024x768_S1x1x1024x768_2_0_0_0))
    (View.ld (Val := Elt Ideal) (e' := .bf16) a (Rect.unit (s := S512x3072) ![0, 2304] S512x768.size inb_S512x3072_S512x768_0_2304))
    (View.ld (Val := Elt Ideal) (e' := .bf16) w (Rect.unit (s := S4x1x1024x768) ![3, 0, 0, 0] S1x1x1024x768.size inb_S4x1x1024x768_S1x1x1024x768_3_0_0_0))

/-- Added, they are the whole row against the whole row. -/
theorem product_at (a : FVec Ideal S512x3072 .bf16) (w : FVec Ideal S4x1x1024x768 .bf16) (r : Fin 512) (l : Fin 1024) :
    product a w (ix2 r l) = (against a w r l : EReal) := by
  refine Eq.trans ?_ (shards 768 3072 rfl (fun s => a (ix2 r s)) (fun j k => w (ix4 j 0 l k)) (fun s => by omega) (fun s => by omega)
    (fun j k => by omega) (fun k => by omega) (fun k => by omega))
  pointwise [k0_pay6, product, View.ld_apply]

variable (m : (ℓ : Loc nD τ sig) → Buf (Elt Ideal) ℓ) (c : Dev nD)

/-- The whole arrays' product. -/
abbrev full (m : (ℓ : Loc nD τ sig) → Buf (Elt Ideal) ℓ) (c : Dev nD) : Fin 4096 → Fin 1024 → EReal :=
  against (m ((c : Thread nD τ).loc main_arg0)) (m ((c : Thread nD τ).loc main_arg1))

/-- The gradient the kernel is to leave. -/
abbrev goal (m : (ℓ : Loc nD τ sig) → Buf (Elt Ideal) ℓ) (c : Dev nD) : FVec Ideal S4096x1024 .f32 :=
  dx (full m c) (m ((c : Thread nD τ).loc main_arg2)) (m ((c : Thread nD τ).loc main_arg3)) (m ((c : Thread nD τ).loc main_arg4))

section
variable (t : Fin cfg0.N)

/-- A point's products, read in the whole arrays. -/
theorem products (r : Fin 512) (l : Fin 1024) (R : Fin 4096) (hR : R.val = 512 * t.val + r) : (product (iblk m c 0 t) (iblk m c 1 t) (ix2 r l) : EReal) = full m c R l := by
  refine (product_at _ _ r l).trans (Finset.sum_congr rfl fun s _ => congrArg₂ (· * ·) ?_ ?_)
  · blk_ext [iblk, V, (idx t).1.1]
  · blk_ext [iblk, V, (idx t).1.2.1]

/-- A point's rows of the input. -/
theorem inputs (r : Fin 512) (k : Fin 1024) (R : Fin 4096) (hR : R.val = 512 * t.val + r) :
    ((iblk m c 2 t : FVec Ideal S512x1024 .f32) (ix2 r k) : EReal) = (m ((c : Thread nD τ).loc main_arg2) : FVec Ideal S4096x1024 .f32) (ix2 R k) := by
  blk_ext [iblk, V, (idx t).1.2.2.1]

/-- A point's tile of the input's gradient. -/
theorem block (r : Fin 512) (l : Fin 1024) (R : Fin 4096) (hR : R.val = 512 * t.val + r) :
    tile (product (iblk m c 0 t) (iblk m c 1 t)) (iblk m c 2 t) (iblk m c 3 t) (iblk m c 4 t) (ix2 r l) = goal m c (ix2 R l) := by
  refine tile_at (fun k => products m c t r k R hR) (fun k => inputs m c t r k R hR) (fun k => ?_) ?_
  · blk_ext [iblk, V, (idx t).1.2.2.2]
  · blk_ext [iblk, V, (idx t).2.1.1]

/-- A point's rows' parts of the gain's gradient. -/
theorem share (y : S1x1024.Idx) : gains (product (iblk m c 0 t) (iblk m c 1 t)) (iblk m c 2 t) y
    = ∑ r : Fin 512, parts (full m c) (m ((c : Thread nD τ).loc main_arg2)) (512 * (t.val % 8) + r) y := by
  have ht := (idx t).2.2
  exact gains_at (by omega) (fun r k R hR => products m c t r k R (by omega)) (fun r k R hR => inputs m c t r k R (by omega)) y

/-- Each point leaves its tile in the first two outputs. -/
theorem outs : (outsAt0 m c t.val t.isLt).1 = tile (product (iblk m c 0 t) (iblk m c 1 t)) (iblk m c 2 t) (iblk m c 3 t) (iblk m c 4 t)
    ∧ (outsAt0 m c t.val t.isLt).2.1 = tile (product (iblk m c 0 t) (iblk m c 1 t)) (iblk m c 2 t) (iblk m c 3 t) (iblk m c 4 t) := by
  have ht := (idx t).2.2
  refine ⟨funext fun y => ?_, funext fun y => ?_⟩ <;> by_cases h0 : t.val % 8 = 0
  all_goals first | rw [outsAt0_A m c t h0 (by omega)] | rw [outsAt0_B m c t h0 (by omega)]
  all_goals
    dsimp only
    frame_open
    frame_out
  all_goals rfl

/-- The first point leaves its rows' parts in the third output. -/
theorem first (h0 : t.val % 8 = 0) (y : S1x1024.Idx) :
    (outsAt0 m c t.val t.isLt).2.2 y = gains (product (iblk m c 0 t) (iblk m c 1 t)) (iblk m c 2 t) y := by
  have ht := (idx t).2.2
  rw [outsAt0_A m c t h0 (by omega)]
  dsimp only
  frame_open
  frame_out
  rfl

/-- A later point adds its rows' parts. -/
theorem later (h0 : ¬t.val % 8 = 0) (y : S1x1024.Idx) : (outsAt0 m c t.val t.isLt).2.2 y
    = (outsAt0 m c (t.val - 1) (Nat.lt_of_le_of_lt (Nat.sub_le _ _) t.isLt)).2.2 y + gains (product (iblk m c 0 t) (iblk m c 1 t)) (iblk m c 2 t) y := by
  have ht := (idx t).2.2
  rw [outsAt0_B m c t h0 (by omega)]
  dsimp only
  frame_open
  frame_out
  pointwise [k0_pay5]
  rfl

end

/-- The first output after the run. -/
theorem result5 : (dats m 0 c).arrAt 5 cfg0.N = goal m c := by
  refine (dats m 0 c).arrAt_eq_of_covers 5 _ (by decide +kernel) fun t hf y => ?_
  have ht := (idx t).2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_5, (outs m c t).1]
  refine (block m c t r l ⟨512 * t.val + r, by omega⟩ rfl).trans ?_
  blk_ext [(idx t).2.1.2.1]

/-- The second output after the run. -/
theorem result6 : (dats m 0 c).arrAt 6 cfg0.N = goal m c := by
  refine (dats m 0 c).arrAt_eq_of_covers 6 _ (by decide +kernel) fun t hf y => ?_
  have ht := (idx t).2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_6, (outs m c t).2]
  refine (block m c t r l ⟨512 * t.val + r, by omega⟩ rfl).trans ?_
  blk_ext [(idx t).2.1.2.2.1]

/-- The third output after the run. -/
theorem result7 : (dats m 0 c).arrAt 7 cfg0.N = dg (full m c) (m ((c : Thread nD τ).loc main_arg2)) := by
  refine (dats m 0 c).arrAt_eq_of_covers 7 _ (by decide +kernel) fun t hf y => ?_
  obtain ⟨j, l, rfl⟩ : ∃ (j : Fin 1) (l : Fin 1024), y = (ix2 j l : S1x1024.Idx) := ⟨y 0, y 1, eq_ix2 (y : (⟨2, ![1, 1024]⟩ : Shape).Idx)⟩
  have h7 := (flush0_7 t).mp hf
  blk_simp
  rw [after0_7]
  refine (gains_sum (fun n h => (outsAt0 m c n h).2.2) (fun t h y => (first m c t h y).trans (share m c t y))
    (fun t h y => (later m c t h y).trans (congrArg (_ + ·) (share m c t y))) t (by omega) j l).trans ?_
  blk_ext [(idx t).2.1.2.2.2]

end Cert.OddDxIdeal.Value

namespace Cert.OddDxRefIdeal.Value

open Idealize.ShloMosaic Idealize.SL.Sem Cert.OddDxRefIdeal Cert.OddDxRefIdeal.Gen Idealize.ShloMosaic.TcCoe Cert.NormBwd Cert.NormDx
open Cert.OddDxIdeal.Value (against)

/-- The reference's product, its weights set side by side. -/
theorem product_eq (a : FVec Ideal S4096x3072 .bf16) (w : FVec Ideal S4x1x1024x768 .bf16) :
    Host.dotGeneral (φ₁ := .f32) (φ₂ := .f32) dot_S4096x3072_S1024x3072_S4096x1024_1_1_0_0_n_n none (extf .f32 a bitsLt_bf16_f32) (extf .f32 ((concatenate S1024x3072 1
      [⟨S1024x768, ((shapeCast _ (extractStridedSlice S1x1x1024x768 ![0, 0, 0, 0] w slices_S4x1x1024x768_S1x1x1024x768_0_0_0_0) shapeCasts_S1x1x1024x768_S1024x768) : (⟨S1024x768, .bf16⟩ : BufTy).Contents (Elt Ideal))⟩,
       ⟨S1024x768, ((shapeCast _ (extractStridedSlice S1x1x1024x768 ![1, 0, 0, 0] w slices_S4x1x1024x768_S1x1x1024x768_1_0_0_0) shapeCasts_S1x1x1024x768_S1024x768) : (⟨S1024x768, .bf16⟩ : BufTy).Contents (Elt Ideal))⟩,
       ⟨S1024x768, ((shapeCast _ (extractStridedSlice S1x1x1024x768 ![2, 0, 0, 0] w slices_S4x1x1024x768_S1x1x1024x768_2_0_0_0) shapeCasts_S1x1x1024x768_S1024x768) : (⟨S1024x768, .bf16⟩ : BufTy).Contents (Elt Ideal))⟩,
       ⟨S1024x768, ((shapeCast _ (extractStridedSlice S1x1x1024x768 ![3, 0, 0, 0] w slices_S4x1x1024x768_S1x1x1024x768_3_0_0_0) shapeCasts_S1x1x1024x768_S1024x768) : (⟨S1024x768, .bf16⟩ : BufTy).Contents (Elt Ideal))⟩]
      concatenates_S1024x768_S1024x768_S1024x768_S1024x768_S1024x3072_d1 : (⟨S1024x3072, .bf16⟩ : BufTy).Contents (Elt Ideal))) bitsLt_bf16_f32)
      = fun y => against a w (y 0) (y 1) := by
  funext y
  obtain ⟨r, l, rfl⟩ : ∃ (r : Fin 4096) (l : Fin 1024), y = (ix2 r l : S4096x1024.Idx) := ⟨y 0, y 1, eq_ix2 (y : (⟨2, ![4096, 1024]⟩ : Shape).Idx)⟩
  pointwise [against]
  exact Finset.sum_congr rfl fun s _ => congrArg (a (ix2 r s) * ·) (side_by_side 768 (fun j k => w (ix4 j 0 l k)) s.val (by omega) (by omega) (by omega))

variable (m : (ℓ : Loc nD τ sig) → Buf (Elt Ideal) ℓ) (c : Dev nD)

/-- The reference's first result; its second is the same, narrowed. -/
theorem value : res_out0 (F := Ideal) m c = dx (against (m ((c : Thread nD τ).loc main_arg0)) (m ((c : Thread nD τ).loc main_arg1)))
    (m ((c : Thread nD τ).loc main_arg2)) (m ((c : Thread nD τ).loc main_arg3)) (m ((c : Thread nD τ).loc main_arg4)) := by
  unfold res_out0 res_main_v51
  rw [product_eq]
  exact reference_eq _ _ _ _

/-- Its second result. -/
theorem value_narrowed : res_out1 (F := Ideal) m c = res_out0 (F := Ideal) m c := by
  unfold res_out1 res_out0 res_main_v52 res_main_v51
  rfl

end Cert.OddDxRefIdeal.Value

namespace Cert.OddDxIdeal.Value

open Idealize.ShloMosaic Idealize.SL.Sem Cert.OddDxIdeal Cert.OddDxIdeal.Gen Idealize.ShloMosaic.TcCoe Cert.NormDx

/-- The kernel and the reference end with equal results. -/
theorem equal_results : Cert.algebraic_OddDxIdeal_OddDxRefIdeal (hOddDxIdeal := Cert.OddDxIdeal.Gen.facts)
    (hOddDxRefIdeal := Cert.OddDxRefIdeal.Gen.facts) := fun m ρ m' ρ' _ ha => by
  have hv (c : Dev nD) : Cert.OddDxRefIdeal.Value.res_out0 (F := Ideal) m' c = goal m c := by
    rw [Cert.OddDxRefIdeal.Value.value, (ha c).1, (ha c).2.1, (ha c).2.2.1, (ha c).2.2.2.1, (ha c).2.2.2.2]
  refine ⟨goal m, goal m, fun c => dg (full m c) (m ((c : Thread nD τ).loc main_arg2)),
    (θ_run (Cert.OddDxIdeal.defs (F := Ideal)) _ _).mono
      (fun r hr c => ⟨(hr c).1.trans (result5 m c), (hr c).2.1.trans (result6 m c), (hr c).2.2.1.trans (result7 m c), (hr c).2.2.2⟩) (run_blocks (F := Ideal) m ρ),
    (θ_run (Cert.OddDxRefIdeal.defs (F := Ideal)) _ _).mono
      (fun r hr c => ⟨(hr c).1.trans (hv c), (hr c).2.1.trans ((Cert.OddDxRefIdeal.Value.value_narrowed m' c).trans (hv c)),
        (hr c).2.2.1.trans ?_, (hr c).2.2.2⟩) (Cert.OddDxRefIdeal.Value.run (F := Ideal) m' ρ')⟩
  rw [(ha c).1, (ha c).2.1, (ha c).2.2.1, Cert.OddDxRefIdeal.Value.product_eq]
  exact reference_gain _ _

end Cert.OddDxIdeal.Value
-- ==== Proof.Columns.lean ====
/- Columns of one array against columns of another, summed over the rows: the form of every weight's gradient. -/
module

public import proofs.«01_k».proof.Proof.Products

@[expose] public section

noncomputable section

namespace Cert.Columns

open Idealize.ShloMosaic Cert.Mixer Cert.Products

variable {A B P Q : ℕ}

/-- A column of the first array against a column of the second. -/
def columns (a : FVec Ideal ⟨2, ![4096, A]⟩ .bf16) (d : FVec Ideal ⟨2, ![4096, B]⟩ .bf16) (r : Fin A) (l : Fin B) : EReal :=
  ∑ s : Fin 4096, a (ix2 s r) * d (ix2 s l)

/-- One row's term of it, at any row and columns. -/
def term (a : FVec Ideal ⟨2, ![4096, A]⟩ .bf16) (d : FVec Ideal ⟨2, ![4096, B]⟩ .bf16) (s i j : ℕ) : EReal :=
  table2 (A := 4096) (B := A) (fun r l => a (ix2 r l)) s i * table2 (A := 4096) (B := B) (fun r l => d (ix2 r l)) s j

/-- The term inside the arrays. -/
theorem term_at (a : FVec Ideal ⟨2, ![4096, A]⟩ .bf16) (d : FVec Ideal ⟨2, ![4096, B]⟩ .bf16) (s : Fin 4096) (r : Fin A) (l : Fin B) :
    term a d s r l = a (ix2 s r) * d (ix2 s l) :=
  congrArg₂ (fun u v : EReal => u * v) (table2_at (A := 4096) (B := A) _ s r) (table2_at (A := 4096) (B := B) _ s l)

/-- The terms of all rows are the columns' product. -/
theorem term_sum (a : FVec Ideal ⟨2, ![4096, A]⟩ .bf16) (d : FVec Ideal ⟨2, ![4096, B]⟩ .bf16) (i j : ℕ) (r : Fin A) (l : Fin B) (hi : i = r.val) (hj : j = l.val) :
    ∑ s : Fin 4096, term a d s i j = columns a d r l := by
  subst hi hj
  exact Finset.sum_congr rfl fun s _ => term_at a d s r l

/-- A tile's product is its rows' terms. -/
theorem share (a : FVec Ideal ⟨2, ![4096, A]⟩ .bf16) (d : FVec Ideal ⟨2, ![4096, B]⟩ .bf16) (x : FVec Ideal ⟨2, ![1024, P]⟩ .bf16) (e : FVec Ideal ⟨2, ![1024, Q]⟩ .bf16)
    (b i j : ℕ) (hb : b < 4) (hi : i + P ≤ A) (hj : j + Q ≤ B)
    (hx : ∀ (k : Fin 1024) (r : Fin P) (K : Fin 4096) (R : Fin A), K.val = 1024 * b + k → R.val = i + r → x (ix2 k r) = a (ix2 K R))
    (he : ∀ (k : Fin 1024) (l : Fin Q) (K : Fin 4096) (L : Fin B), K.val = 1024 * b + k → L.val = j + l → e (ix2 k l) = d (ix2 K L)) (r : Fin P) (l : Fin Q) :
    (∑ k : Fin 1024, x (ix2 k r) * e (ix2 k l) : EReal) = ∑ k : Fin 1024, term a d (1024 * b + k) (i + r) (j + l) := by
  refine Finset.sum_congr rfl fun k _ => ?_
  have hk := k.isLt
  have hr := r.isLt
  have hl := l.isLt
  refine Eq.trans ?_ (term_at a d ⟨1024 * b + k, by omega⟩ ⟨i + r, by omega⟩ ⟨j + l, by omega⟩).symm
  exact congrArg₂ (fun u v : EReal => u * v) (hx k r _ _ rfl rfl) (he k l _ _ rfl rfl)

/-- A tile's product, at a row and a column of the output. -/
def tile (x : FVec Ideal ⟨2, ![1024, P]⟩ .bf16) (e : FVec Ideal ⟨2, ![1024, Q]⟩ .bf16) (y : (⟨2, ![P, Q]⟩ : Shape).Idx) : EReal :=
  ∑ k : Fin 1024, x (ix2 k (y 0)) * e (ix2 k (y 1))

/-- An accumulator that takes its tile's product at the first of every four points and adds it at the others holds at the last of them a block of rows of
    the gradient, when the point's tiles hold the arrays' rows. -/
theorem run_sum {N : ℕ} (a : FVec Ideal ⟨2, ![4096, A]⟩ .bf16) (d : FVec Ideal ⟨2, ![4096, Q]⟩ .bf16) (f : (n : ℕ) → n < N → (⟨2, ![P, Q]⟩ : Shape).Idx → EReal)
    (x : Fin N → FVec Ideal ⟨2, ![1024, P]⟩ .bf16) (e : Fin N → FVec Ideal ⟨2, ![1024, Q]⟩ .bf16)
    (h0 : ∀ t : Fin N, t.val % 4 = 0 → ∀ y, f t.val t.isLt y = tile (x t) (e t) y)
    (hs : ∀ t : Fin N, ¬t.val % 4 = 0 → ∀ y, f t.val t.isLt y = f (t.val - 1) (Nat.lt_of_le_of_lt (Nat.sub_le _ _) t.isLt) y + tile (x t) (e t) y)
    (hA : ∀ t : Fin N, P * (t.val / 4) + P ≤ A)
    (hx : ∀ (t : Fin N) (k : Fin 1024) (r : Fin P) (K : Fin 4096) (R : Fin A), K.val = 1024 * (t.val % 4) + k → R.val = P * (t.val / 4) + r → x t (ix2 k r) = a (ix2 K R))
    (he : ∀ (t : Fin N) (k : Fin 1024) (l : Fin Q) (K : Fin 4096), K.val = 1024 * (t.val % 4) + k → e t (ix2 k l) = d (ix2 K l))
    (t : Fin N) (ht : t.val % 4 = 3) (r : Fin P) (l : Fin Q) (R : Fin A) (L : Fin Q) (hR : R.val = P * (t.val / 4) + r) (hL : L.val = l.val) :
    f t.val t.isLt (ix2 r l) = columns a d R L := by
  have hp (t : Fin N) (y : (⟨2, ![P, Q]⟩ : Shape).Idx) : tile (x t) (e t) y
      = ∑ k : Fin 1024, term a d (1024 * (t.val % 4) + k) (P * (t.val / 4) + (y 0).val) (0 + (y 1).val) :=
    share a d (x t) (e t) (t.val % 4) (P * (t.val / 4)) 0 (by omega) (hA t) (by omega) (hx t)
      (fun k l K L hK hL => (he t k l K hK).trans (congrArg (fun u => d (ix2 K u)) (Fin.ext (by omega)))) (y 0) (y 1)
  refine (accumulated f 4 1024 4096 (fun q s y => term a d s (P * q + (y 0).val) (0 + (y 1).val)) rfl
    (fun t h y => (h0 t h y).trans (hp t y)) (fun t h y => (hs t h y).trans (congrArg (_ + ·) (hp t y))) t (by omega) (ix2 r l)).trans ?_
  exact term_sum a d _ _ R L hR.symm (by rw [hL]; exact Nat.zero_add _)

end Cert.Columns
-- ==== Proof.DwInValue.lean ====
/- The gradient of the even layers' input projection: blocks of rows summed over the grid. -/
module

public import proofs.«01_k».proof.Proof.Columns
public import proofs.«01_k».proof.Proof.Gen.EvenDwInIdeal.Value
public import proofs.«01_k».proof.Proof.Gen.EvenDwInRefIdeal.Run
public import proofs.«01_k».proof.Defs

@[expose] public section

set_option maxRecDepth 16384

noncomputable section

namespace Cert.EvenDwInIdeal.Value

open Idealize.ShloMosaic Idealize.SL.Sem Cert.EvenDwInIdeal Cert.EvenDwInIdeal.Gen Idealize.ShloMosaic.TcCoe Cert.Products Cert.Columns
open Idealize.ShloMosaic.Pipeline (Dat)

/-- The gradient, a quarter of the columns at a time. -/
def product (a : FVec Ideal S4096x1024 .bf16) (d : FVec Ideal S4096x2048 .bf16) : FVec Ideal S4x1024x512 .bf16 :=
  fun y => columns (A := 1024) (B := 2048) a d (y 1) ⟨512 * (y 0).val + (y 2).val, by have h0 : (y 0).val < 4 := (y 0).isLt; have h2 : (y 2).val < 512 := (y 2).isLt; omega⟩

/-- Which blocks each point stages and writes. -/
theorem idx : ∀ t : Fin cfg0.N, win0_0.index t = ![t.val % 4, t.val / 4] ∧ win0_1.index t = ![t.val % 4, 0]
    ∧ win0_2.index t = ![0, t.val / 4, 0] ∧ t.val < 8 :=
  (by decide +kernel : ∀ t : Fin grid0.N, _)

variable (m : (ℓ : Loc nD τ sig) → Buf (Elt Ideal) ℓ) (c : Dev nD)

section
variable (t : Fin cfg0.N)

/-- The first point of a run leaves its share in the accumulator. -/
theorem first (h0 : t.val % 4 = 0) (y : S512x2048.Idx) :
    (outsAt0 m c t.val t.isLt).2 y = tile (P := 512) (Q := 2048) (iblk m c 0 t) (iblk m c 1 t) y := by
  obtain ⟨r, l, rfl⟩ : ∃ (r : Fin 512) (l : Fin 2048), y = (ix2 r l : S512x2048.Idx) := ⟨y 0, y 1, eq_ix2 (y : (⟨2, ![512, 2048]⟩ : Shape).Idx)⟩
  rw [outsAt0_A m c t h0 (by omega) (by omega)]
  dsimp only
  frame_open
  frame_out
  pointwise [tile, k0_pay2, k0_pay1]

/-- A later point adds its share. -/
theorem later (h0 : ¬t.val % 4 = 0) (y : S512x2048.Idx) :
    (outsAt0 m c t.val t.isLt).2 y = (outsAt0 m c (t.val - 1) (Nat.lt_of_le_of_lt (Nat.sub_le _ _) t.isLt)).2 y
      + tile (P := 512) (Q := 2048) (iblk m c 0 t) (iblk m c 1 t) y := by
  obtain ⟨r, l, rfl⟩ : ∃ (r : Fin 512) (l : Fin 2048), y = (ix2 r l : S512x2048.Idx) := ⟨y 0, y 1, eq_ix2 (y : (⟨2, ![512, 2048]⟩ : Shape).Idx)⟩
  by_cases h3 : t.val % 4 = 3
  · rw [outsAt0_C m c t h0 (by omega) h3]
    dsimp only
    frame_open
    frame_out
    rw [read_unread_whole]
    pointwise [tile, k0_pay3, k0_pay1]
  · rw [outsAt0_B m c t h0 (by omega) h3]
    dsimp only
    frame_open
    frame_out
    rw [read_unread_whole]
    pointwise [tile, k0_pay3, k0_pay1]

/-- The four column stretches of the accumulator that the last point of a run stores. -/
theorem pieces (acc : Vec Ideal S512x2048 .f32) : View.PiecesOf (Val := Elt Ideal) (s := S4x512x512) (e := .bf16)
    (fun y => acc (ix2 (y 1) ⟨512 * (y 0).val + (y 2).val, by have h0 : (y 0).val < 4 := (y 0).isLt; have h2 : (y 2).val < 512 := (y 2).isLt; omega⟩))
    [⟨Rect.unit ![3, 0, 0] ![1, 512, 512] inb_S4x512x512_S1x512x512_3_0_0, k0_pay7 (View.ld acc (Rect.unit ![0, 1536] ![512, 512] inb_S512x2048_S512x512_0_1536))⟩,
      ⟨Rect.unit ![2, 0, 0] ![1, 512, 512] inb_S4x512x512_S1x512x512_2_0_0, k0_pay6 (View.ld acc (Rect.unit ![0, 1024] ![512, 512] inb_S512x2048_S512x512_0_1024))⟩,
      ⟨Rect.unit ![1, 0, 0] ![1, 512, 512] inb_S4x512x512_S1x512x512_1_0_0, k0_pay5 (View.ld acc (Rect.unit ![0, 512] ![512, 512] inb_S512x2048_S512x512_0_512))⟩,
      ⟨Rect.unit ![0, 0, 0] ![1, 512, 512] inb_S4x512x512_S1x512x512_0_0_0, k0_pay4 (View.ld acc (Rect.unit ![0, 0] ![512, 512] inb_S512x2048_S512x512_0_0))⟩] := by
  refine ⟨fun x => ?_, fun x => ?_, fun x => ?_, fun x => ?_, trivial⟩
  all_goals
    obtain ⟨z, r, l, rfl⟩ : ∃ (z : Fin 1) (r : Fin 512) (l : Fin 512), x = (ix3 z r l : S1x512x512.Idx) := ⟨x 0, x 1, x 2, eq_ix3 (x : (⟨3, ![1, 512, 512]⟩ : Shape).Idx)⟩
    pointwise [k0_pay4, k0_pay5, k0_pay6, k0_pay7]
    refine congrArg acc ?_
    blk_ext

/-- The last point of a run writes the accumulator's column stretches. -/
theorem last (h0 : t.val % 4 = 3) (y : S4x512x512.Idx) :
    (outsAt0 m c t.val t.isLt).1 y = (outsAt0 m c t.val t.isLt).2 (ix2 (y 1) ⟨512 * (y 0).val + (y 2).val, by have h0 : (y 0).val < 4 := (y 0).isLt; have h2 : (y 2).val < 512 := (y 2).isLt; omega⟩) := by
  rw [outsAt0_C m c t (by omega) (by omega) h0]
  dsimp only
  frame_open
  simp (disch := decide) only [↓ View.readCov_skip, ↓ View.readCov_cons_toLoadRect, ↓ View.readCov_fill]
  frame_out
  exact View.canon_append_of_piecesOf _ [] [_, _, _, _] (pieces _) y
    (View.cover_of_tiledL _ ![1, 512, 512] (by sl_kernel_rfl) y)

end

/-- The array after the run. -/
theorem result : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨j, r, l, rfl⟩ : ∃ (j : Fin 4) (r : Fin 512) (l : Fin 512), y = (ix3 j r l : S4x512x512.Idx) := ⟨y 0, y 1, y 2, eq_ix3 (y : (⟨3, ![4, 512, 512]⟩ : Shape).Idx)⟩
  blk_simp
  rw [after0_2]
  refine (last m c t h3 _).trans (run_sum (P := 512) (Q := 2048) (m ((c : Thread nD τ).loc main_arg0)) (m ((c : Thread nD τ).loc main_arg1)) (fun n h => (outsAt0 m c n h).2)
    (iblk m c 0) (iblk m c 1) (first m c) (later m c) (fun t => ?_) (fun t k r K R hK hR => ?_) (fun t k l K hK => ?_) t h3 _ _ _ _ ?_ ?_)
  · have ht := (idx t).2.2.2
    omega
  · blk_ext [iblk, V, (idx t).1]
  · blk_ext [iblk, V, (idx t).2.1]
  · show ((win0_2.blk t).view.emb (ix3 j r l) 1).val = 512 * (t.val / 4) + r.val
    blk_simp
    rw [(idx t).2.2.1]
    show t.val / 4 * 512 + r.val = _
    omega
  · show 512 * ((win0_2.blk t).view.emb (ix3 j r l) 0).val + ((win0_2.blk t).view.emb (ix3 j r l) 2).val = (512 * j.val + l.val)
    blk_simp
    rw [(idx t).2.2.1]
    show 512 * (0 * 4 + j.val) + (0 * 512 + l.val) = _
    omega

end Cert.EvenDwInIdeal.Value

namespace Cert.EvenDwInRefIdeal.Value

open Idealize.ShloMosaic Idealize.SL.Sem Cert.EvenDwInRefIdeal Cert.EvenDwInRefIdeal.Gen Idealize.ShloMosaic.TcCoe

/-- The four stretches of columns, stacked. -/
theorem stacked (P : FVec Ideal S1024x2048 .f32) (j : Fin 4) (r : Fin 1024) (l : Fin 512) :
    truncf (F := Ideal) .bf16 ((concatenate S4x1024x512 0 [
      ⟨S1x1024x512, ((broadcastInDim S1x1024x512 ![1, 2] bcast_S1024x512_S1x1024x512_1_2 (extractStridedSlice S1024x512 ![0, 0] P slices_S1024x2048_S1024x512_0_0)) : (⟨S1x1024x512, .f32⟩ : BufTy).Contents (Elt Ideal))⟩,
      ⟨S1x1024x512, ((broadcastInDim S1x1024x512 ![1, 2] bcast_S1024x512_S1x1024x512_1_2 (extractStridedSlice S1024x512 ![0, 512] P slices_S1024x2048_S1024x512_0_512)) : (⟨S1x1024x512, .f32⟩ : BufTy).Contents (Elt Ideal))⟩,
      ⟨S1x1024x512, ((broadcastInDim S1x1024x512 ![1, 2] bcast_S1024x512_S1x1024x512_1_2 (extractStridedSlice S1024x512 ![0, 1024] P slices_S1024x2048_S1024x512_0_1024)) : (⟨S1x1024x512, .f32⟩ : BufTy).Contents (Elt Ideal))⟩,
      ⟨S1x1024x512, ((broadcastInDim S1x1024x512 ![1, 2] bcast_S1024x512_S1x1024x512_1_2 (extractStridedSlice S1024x512 ![0, 1536] P slices_S1024x2048_S1024x512_0_1536)) : (⟨S1x1024x512, .f32⟩ : BufTy).Contents (Elt Ideal))⟩]
      concatenates_S1x1024x512_S1x1024x512_S1x1024x512_S1x1024x512_S4x1024x512_d0) : (⟨S4x1024x512, .f32⟩ : BufTy).Contents (Elt Ideal)) bitsLt_bf16_f32 (ix3 j r l)
      = (P (ix2 r ⟨512 * j + l, by omega⟩) : EReal) := by
  have hj := j.isLt
  pointwise
  split_ifs <;> refine congrArg P (congrArg (ix2 r) (Fin.ext ?_)) <;> dsimp only <;> omega

/-- The reference's product. -/
theorem product_at (a : FVec Ideal S4096x1024 .bf16) (d : FVec Ideal S4096x2048 .bf16) (r : Fin 1024) (l : Fin 2048) :
    transpose S1024x2048 [1, 0] (Host.dotGeneral (φ₁ := .f32) (φ₂ := .f32) dot_S4096x2048_S4096x1024_S2048x1024_0_0_1_1_n_n none
        (extf .f32 d bitsLt_bf16_f32) (extf .f32 a bitsLt_bf16_f32)) transposes_S2048x1024_S1024x2048_1_0 (ix2 r l)
      = Cert.Columns.columns (A := 1024) (B := 2048) a d r l := by
  pointwise [Cert.Columns.columns]
  exact Finset.sum_congr rfl fun s _ => mul_comm _ _

end Cert.EvenDwInRefIdeal.Value

namespace Cert.EvenDwInIdeal.Value

open Idealize.ShloMosaic Idealize.SL.Sem Cert.EvenDwInIdeal Cert.EvenDwInIdeal.Gen Idealize.ShloMosaic.TcCoe

/-- The kernel and the reference end with equal results. -/
theorem equal_results : Cert.algebraic_EvenDwInIdeal_EvenDwInRefIdeal (hEvenDwInIdeal := Cert.EvenDwInIdeal.Gen.facts)
    (hEvenDwInRefIdeal := Cert.EvenDwInRefIdeal.Gen.facts) := fun m ρ m' ρ' _ ha => by
  refine ⟨fun c => product (m ((c : Thread nD τ).loc main_arg0)) (m ((c : Thread nD τ).loc main_arg1)),
    (θ_run (Cert.EvenDwInIdeal.defs (F := Ideal)) _ _).mono (fun r hr c => ⟨(hr c).1.trans (result m c), (hr c).2⟩) (run_blocks (F := Ideal) m ρ),
    (θ_run (Cert.EvenDwInRefIdeal.defs (F := Ideal)) _ _).mono (fun r hr c => ⟨(hr c).1.trans ?_, (hr c).2⟩) (Cert.EvenDwInRefIdeal.Value.run (F := Ideal) m' ρ')⟩
  rw [(ha c).1, (ha c).2]
  funext y
  obtain ⟨j, r, l, rfl⟩ : ∃ (j : Fin 4) (r : Fin 1024) (l : Fin 512), y = (ix3 j r l : S4x1024x512.Idx) := ⟨y 0, y 1, y 2, eq_ix3 (y : (⟨3, ![4, 1024, 512]⟩ : Shape).Idx)⟩
  exact (Cert.EvenDwInRefIdeal.Value.stacked _ j r l).trans (Cert.EvenDwInRefIdeal.Value.product_at _ _ r _)

end Cert.EvenDwInIdeal.Value
-- ==== Proof.DwQkvValue.lean ====
/- The gradient of the odd layers' joint projection: blocks of rows summed over the grid. -/
module

public import proofs.«01_k».proof.Proof.Columns
public import proofs.«01_k».proof.Proof.Gen.OddDwQkvIdeal.Value
public import proofs.«01_k».proof.Proof.Gen.OddDwQkvRefIdeal.Run
public import proofs.«01_k».proof.Defs

@[expose] public section

set_option maxRecDepth 16384

noncomputable section

namespace Cert.OddDwQkvIdeal.Value

open Idealize.ShloMosaic Idealize.SL.Sem Cert.OddDwQkvIdeal Cert.OddDwQkvIdeal.Gen Idealize.ShloMosaic.TcCoe Cert.Products Cert.Columns
open Idealize.ShloMosaic.Pipeline (Dat)

/-- The gradient, a quarter of the columns at a time. -/
def product (a : FVec Ideal S4096x1024 .bf16) (d : FVec Ideal S4096x3072 .bf16) : FVec Ideal S4x1024x768 .bf16 :=
  fun y => columns (A := 1024) (B := 3072) a d (y 1) ⟨768 * (y 0).val + (y 2).val, by have h0 : (y 0).val < 4 := (y 0).isLt; have h2 : (y 2).val < 768 := (y 2).isLt; omega⟩

/-- Which blocks each point stages and writes. -/
theorem idx : ∀ t : Fin cfg0.N, win0_0.index t = ![t.val % 4, t.val / 4] ∧ win0_1.index t = ![t.val % 4, 0]
    ∧ win0_2.index t = ![0, t.val / 4, 0] ∧ t.val < 8 :=
  (by decide +kernel : ∀ t : Fin grid0.N, _)

variable (m : (ℓ : Loc nD τ sig) → Buf (Elt Ideal) ℓ) (c : Dev nD)

section
variable (t : Fin cfg0.N)

/-- The first point of a run leaves its share in the accumulator. -/
theorem first (h0 : t.val % 4 = 0) (y : S512x3072.Idx) :
    (outsAt0 m c t.val t.isLt).2 y = tile (P := 512) (Q := 3072) (iblk m c 0 t) (iblk m c 1 t) y := by
  obtain ⟨r, l, rfl⟩ : ∃ (r : Fin 512) (l : Fin 3072), y = (ix2 r l : S512x3072.Idx) := ⟨y 0, y 1, eq_ix2 (y : (⟨2, ![512, 3072]⟩ : Shape).Idx)⟩
  rw [outsAt0_A m c t h0 (by omega) (by omega)]
  dsimp only
  frame_open
  frame_out
  pointwise [tile, k0_pay2, k0_pay1]

/-- A later point adds its share. -/
theorem later (h0 : ¬t.val % 4 = 0) (y : S512x3072.Idx) :
    (outsAt0 m c t.val t.isLt).2 y = (outsAt0 m c (t.val - 1) (Nat.lt_of_le_of_lt (Nat.sub_le _ _) t.isLt)).2 y
      + tile (P := 512) (Q := 3072) (iblk m c 0 t) (iblk m c 1 t) y := by
  obtain ⟨r, l, rfl⟩ : ∃ (r : Fin 512) (l : Fin 3072), y = (ix2 r l : S512x3072.Idx) := ⟨y 0, y 1, eq_ix2 (y : (⟨2, ![512, 3072]⟩ : Shape).Idx)⟩
  by_cases h3 : t.val % 4 = 3
  · rw [outsAt0_C m c t h0 (by omega) h3]
    dsimp only
    frame_open
    frame_out
    rw [read_unread_whole]
    pointwise [tile, k0_pay3, k0_pay1]
  · rw [outsAt0_B m c t h0 (by omega) h3]
    dsimp only
    frame_open
    frame_out
    rw [read_unread_whole]
    pointwise [tile, k0_pay3, k0_pay1]

/-- The four column stretches of the accumulator that the last point of a run stores. -/
theorem pieces (acc : Vec Ideal S512x3072 .f32) : View.PiecesOf (Val := Elt Ideal) (s := S4x512x768) (e := .bf16)
    (fun y => acc (ix2 (y 1) ⟨768 * (y 0).val + (y 2).val, by have h0 : (y 0).val < 4 := (y 0).isLt; have h2 : (y 2).val < 768 := (y 2).isLt; omega⟩))
    [⟨Rect.unit ![3, 0, 0] ![1, 512, 768] inb_S4x512x768_S1x512x768_3_0_0, k0_pay7 (View.ld acc (Rect.unit ![0, 2304] ![512, 768] inb_S512x3072_S512x768_0_2304))⟩,
      ⟨Rect.unit ![2, 0, 0] ![1, 512, 768] inb_S4x512x768_S1x512x768_2_0_0, k0_pay6 (View.ld acc (Rect.unit ![0, 1536] ![512, 768] inb_S512x3072_S512x768_0_1536))⟩,
      ⟨Rect.unit ![1, 0, 0] ![1, 512, 768] inb_S4x512x768_S1x512x768_1_0_0, k0_pay5 (View.ld acc (Rect.unit ![0, 768] ![512, 768] inb_S512x3072_S512x768_0_768))⟩,
      ⟨Rect.unit ![0, 0, 0] ![1, 512, 768] inb_S4x512x768_S1x512x768_0_0_0, k0_pay4 (View.ld acc (Rect.unit ![0, 0] ![512, 768] inb_S512x3072_S512x768_0_0))⟩] := by
  refine ⟨fun x => ?_, fun x => ?_, fun x => ?_, fun x => ?_, trivial⟩
  all_goals
    obtain ⟨z, r, l, rfl⟩ : ∃ (z : Fin 1) (r : Fin 512) (l : Fin 768), x = (ix3 z r l : S1x512x768.Idx) := ⟨x 0, x 1, x 2, eq_ix3 (x : (⟨3, ![1, 512, 768]⟩ : Shape).Idx)⟩
    pointwise [k0_pay4, k0_pay5, k0_pay6, k0_pay7]
    refine congrArg acc ?_
    blk_ext

/-- The last point of a run writes the accumulator's column stretches. -/
theorem last (h0 : t.val % 4 = 3) (y : S4x512x768.Idx) :
    (outsAt0 m c t.val t.isLt).1 y = (outsAt0 m c t.val t.isLt).2 (ix2 (y 1) ⟨768 * (y 0).val + (y 2).val, by have h0 : (y 0).val < 4 := (y 0).isLt; have h2 : (y 2).val < 768 := (y 2).isLt; omega⟩) := by
  rw [outsAt0_C m c t (by omega) (by omega) h0]
  dsimp only
  frame_open
  simp (disch := decide) only [↓ View.readCov_skip, ↓ View.readCov_cons_toLoadRect, ↓ View.readCov_fill]
  frame_out
  exact View.canon_append_of_piecesOf _ [] [_, _, _, _] (pieces _) y
    (View.cover_of_tiledL _ ![1, 512, 768] (by sl_kernel_rfl) y)

end

/-- The array after the run. -/
theorem result : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨j, r, l, rfl⟩ : ∃ (j : Fin 4) (r : Fin 512) (l : Fin 768), y = (ix3 j r l : S4x512x768.Idx) := ⟨y 0, y 1, y 2, eq_ix3 (y : (⟨3, ![4, 512, 768]⟩ : Shape).Idx)⟩
  blk_simp
  rw [after0_2]
  refine (last m c t h3 _).trans (run_sum (P := 512) (Q := 3072) (m ((c : Thread nD τ).loc main_arg0)) (m ((c : Thread nD τ).loc main_arg1)) (fun n h => (outsAt0 m c n h).2)
    (iblk m c 0) (iblk m c 1) (first m c) (later m c) (fun t => ?_) (fun t k r K R hK hR => ?_) (fun t k l K hK => ?_) t h3 _ _ _ _ ?_ ?_)
  · have ht := (idx t).2.2.2
    omega
  · blk_ext [iblk, V, (idx t).1]
  · blk_ext [iblk, V, (idx t).2.1]
  · show ((win0_2.blk t).view.emb (ix3 j r l) 1).val = 512 * (t.val / 4) + r.val
    blk_simp
    rw [(idx t).2.2.1]
    show t.val / 4 * 512 + r.val = _
    omega
  · show 768 * ((win0_2.blk t).view.emb (ix3 j r l) 0).val + ((win0_2.blk t).view.emb (ix3 j r l) 2).val = (768 * j.val + l.val)
    blk_simp
    rw [(idx t).2.2.1]
    show 768 * (0 * 4 + j.val) + (0 * 768 + l.val) = _
    omega

end Cert.OddDwQkvIdeal.Value

namespace Cert.OddDwQkvRefIdeal.Value

open Idealize.ShloMosaic Idealize.SL.Sem Cert.OddDwQkvRefIdeal Cert.OddDwQkvRefIdeal.Gen Idealize.ShloMosaic.TcCoe

/-- The four stretches of columns, stacked. -/
theorem stacked (P : FVec Ideal S1024x3072 .f32) (j : Fin 4) (r : Fin 1024) (l : Fin 768) :
    truncf (F := Ideal) .bf16 ((concatenate S4x1024x768 0 [
      ⟨S1x1024x768, ((broadcastInDim S1x1024x768 ![1, 2] bcast_S1024x768_S1x1024x768_1_2 (extractStridedSlice S1024x768 ![0, 0] P slices_S1024x3072_S1024x768_0_0)) : (⟨S1x1024x768, .f32⟩ : BufTy).Contents (Elt Ideal))⟩,
      ⟨S1x1024x768, ((broadcastInDim S1x1024x768 ![1, 2] bcast_S1024x768_S1x1024x768_1_2 (extractStridedSlice S1024x768 ![0, 768] P slices_S1024x3072_S1024x768_0_768)) : (⟨S1x1024x768, .f32⟩ : BufTy).Contents (Elt Ideal))⟩,
      ⟨S1x1024x768, ((broadcastInDim S1x1024x768 ![1, 2] bcast_S1024x768_S1x1024x768_1_2 (extractStridedSlice S1024x768 ![0, 1536] P slices_S1024x3072_S1024x768_0_1536)) : (⟨S1x1024x768, .f32⟩ : BufTy).Contents (Elt Ideal))⟩,
      ⟨S1x1024x768, ((broadcastInDim S1x1024x768 ![1, 2] bcast_S1024x768_S1x1024x768_1_2 (extractStridedSlice S1024x768 ![0, 2304] P slices_S1024x3072_S1024x768_0_2304)) : (⟨S1x1024x768, .f32⟩ : BufTy).Contents (Elt Ideal))⟩]
      concatenates_S1x1024x768_S1x1024x768_S1x1024x768_S1x1024x768_S4x1024x768_d0) : (⟨S4x1024x768, .f32⟩ : BufTy).Contents (Elt Ideal)) bitsLt_bf16_f32 (ix3 j r l)
      = (P (ix2 r ⟨768 * j + l, by omega⟩) : EReal) := by
  have hj := j.isLt
  pointwise
  split_ifs <;> refine congrArg P (congrArg (ix2 r) (Fin.ext ?_)) <;> dsimp only <;> omega

/-- The reference's product. -/
theorem product_at (a : FVec Ideal S4096x1024 .bf16) (d : FVec Ideal S4096x3072 .bf16) (r : Fin 1024) (l : Fin 3072) :
    transpose S1024x3072 [1, 0] (Host.dotGeneral (φ₁ := .f32) (φ₂ := .f32) dot_S4096x3072_S4096x1024_S3072x1024_0_0_1_1_n_n none
        (extf .f32 d bitsLt_bf16_f32) (extf .f32 a bitsLt_bf16_f32)) transposes_S3072x1024_S1024x3072_1_0 (ix2 r l)
      = Cert.Columns.columns (A := 1024) (B := 3072) a d r l := by
  pointwise [Cert.Columns.columns]
  exact Finset.sum_congr rfl fun s _ => mul_comm _ _

end Cert.OddDwQkvRefIdeal.Value

namespace Cert.OddDwQkvIdeal.Value

open Idealize.ShloMosaic Idealize.SL.Sem Cert.OddDwQkvIdeal Cert.OddDwQkvIdeal.Gen Idealize.ShloMosaic.TcCoe

/-- The kernel and the reference end with equal results. -/
theorem equal_results : Cert.algebraic_OddDwQkvIdeal_OddDwQkvRefIdeal (hOddDwQkvIdeal := Cert.OddDwQkvIdeal.Gen.facts)
    (hOddDwQkvRefIdeal := Cert.OddDwQkvRefIdeal.Gen.facts) := fun m ρ m' ρ' _ ha => by
  refine ⟨fun c => product (m ((c : Thread nD τ).loc main_arg0)) (m ((c : Thread nD τ).loc main_arg1)),
    (θ_run (Cert.OddDwQkvIdeal.defs (F := Ideal)) _ _).mono (fun r hr c => ⟨(hr c).1.trans (result m c), (hr c).2⟩) (run_blocks (F := Ideal) m ρ),
    (θ_run (Cert.OddDwQkvRefIdeal.defs (F := Ideal)) _ _).mono (fun r hr c => ⟨(hr c).1.trans ?_, (hr c).2⟩) (Cert.OddDwQkvRefIdeal.Value.run (F := Ideal) m' ρ')⟩
  rw [(ha c).1, (ha c).2]
  funext y
  obtain ⟨j, r, l, rfl⟩ : ∃ (j : Fin 4) (r : Fin 1024) (l : Fin 768), y = (ix3 j r l : S4x1024x768.Idx) := ⟨y 0, y 1, y 2, eq_ix3 (y : (⟨3, ![4, 1024, 768]⟩ : Shape).Idx)⟩
  exact (Cert.OddDwQkvRefIdeal.Value.stacked _ j r l).trans (Cert.OddDwQkvRefIdeal.Value.product_at _ _ r _)

end Cert.OddDwQkvIdeal.Value
-- ==== Proof.DwOutValue.lean ====
/- The gradient of the layers' output projection: blocks of rows summed over the grid. -/
module

public import proofs.«01_k».proof.Proof.Columns
public import proofs.«01_k».proof.Proof.Gen.DwOutIdeal.Value
public import proofs.«01_k».proof.Proof.Gen.DwOutRefIdeal.Run
public import proofs.«01_k».proof.Defs

@[expose] public section

set_option maxRecDepth 16384

noncomputable section

namespace Cert.DwOutIdeal.Value

open Idealize.ShloMosaic Idealize.SL.Sem Cert.DwOutIdeal Cert.DwOutIdeal.Gen Idealize.ShloMosaic.TcCoe Cert.Products Cert.Columns
open Idealize.ShloMosaic.Pipeline (Dat)

/-- The gradient, as one shard. -/
def product (a d : FVec Ideal S4096x1024 .bf16) : FVec Ideal S1x1024x1024 .bf16 := fun y => columns (A := 1024) (B := 1024) a d (y 1) (y 2)

/-- Which blocks each point stages and writes. -/
theorem idx : ∀ t : Fin cfg0.N, win0_0.index t = ![t.val % 4, t.val / 4] ∧ win0_1.index t = ![t.val % 4, 0]
    ∧ win0_2.index t = ![0, t.val / 4, 0] ∧ t.val < 8 :=
  (by decide +kernel : ∀ t : Fin grid0.N, _)

variable (m : (ℓ : Loc nD τ sig) → Buf (Elt Ideal) ℓ) (c : Dev nD)

section
variable (t : Fin cfg0.N)

/-- The first point of a run leaves its share in the accumulator. -/
theorem first (h0 : t.val % 4 = 0) (y : S512x1024.Idx) :
    (outsAt0 m c t.val t.isLt).2 y = tile (P := 512) (Q := 1024) (iblk m c 0 t) (iblk m c 1 t) y := by
  obtain ⟨r, l, rfl⟩ : ∃ (r : Fin 512) (l : Fin 1024), y = (ix2 r l : S512x1024.Idx) := ⟨y 0, y 1, eq_ix2 (y : (⟨2, ![512, 1024]⟩ : Shape).Idx)⟩
  rw [outsAt0_A m c t h0 (by omega) (by omega)]
  dsimp only
  frame_open
  frame_out
  pointwise [tile, k0_pay2, k0_pay1]

/-- A later point adds its share. -/
theorem later (h0 : ¬t.val % 4 = 0) (y : S512x1024.Idx) :
    (outsAt0 m c t.val t.isLt).2 y = (outsAt0 m c (t.val - 1) (Nat.lt_of_le_of_lt (Nat.sub_le _ _) t.isLt)).2 y
      + tile (P := 512) (Q := 1024) (iblk m c 0 t) (iblk m c 1 t) y := by
  obtain ⟨r, l, rfl⟩ : ∃ (r : Fin 512) (l : Fin 1024), y = (ix2 r l : S512x1024.Idx) := ⟨y 0, y 1, eq_ix2 (y : (⟨2, ![512, 1024]⟩ : Shape).Idx)⟩
  by_cases h3 : t.val % 4 = 3
  · rw [outsAt0_C m c t h0 (by omega) h3]
    dsimp only
    frame_open
    frame_out
    rw [read_unread_whole]
    pointwise [tile, k0_pay3, k0_pay1]
  · rw [outsAt0_B m c t h0 (by omega) h3]
    dsimp only
    frame_open
    frame_out
    rw [read_unread_whole]
    pointwise [tile, k0_pay3, k0_pay1]

/-- The last point of a run writes the accumulator. -/
theorem last (h0 : t.val % 4 = 3) (j : Fin 1) (r : Fin 512) (l : Fin 1024) :
    (outsAt0 m c t.val t.isLt).1 (ix3 j r l) = (outsAt0 m c t.val t.isLt).2 (ix2 r l) := by
  rw [outsAt0_C m c t (by omega) (by omega) h0]
  dsimp only
  frame_open
  simp (disch := decide) only [↓ View.readCov_skip, ↓ View.readCov_cons_toLoadRect, ↓ View.readCov_fill]
  frame_out
  pointwise [k0_pay4]

end

/-- The array after the run. -/
theorem result : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h3 := (flush0_2 t).mp hf
  have ht := (idx t).2.2.2
  obtain ⟨j, r, l, rfl⟩ : ∃ (j : Fin 1) (r : Fin 512) (l : Fin 1024), y = (ix3 j r l : S1x512x1024.Idx) := ⟨y 0, y 1, y 2, eq_ix3 (y : (⟨3, ![1, 512, 1024]⟩ : Shape).Idx)⟩
  blk_simp
  rw [after0_2]
  refine (last m c t h3 j r l).trans (run_sum (P := 512) (Q := 1024) (m ((c : Thread nD τ).loc main_arg0)) (m ((c : Thread nD τ).loc main_arg1)) (fun n h => (outsAt0 m c n h).2)
    (iblk m c 0) (iblk m c 1) (first m c) (later m c) (fun t => ?_) (fun t k r K R hK hR => ?_) (fun t k l K hK => ?_) t h3 _ _ _ _ ?_ ?_)
  · have ht := (idx t).2.2.2
    omega
  · blk_ext [iblk, V, (idx t).1]
  · blk_ext [iblk, V, (idx t).2.1]
  · show ((win0_2.blk t).view.emb (ix3 j r l) 1).val = 512 * (t.val / 4) + r.val
    blk_simp
    rw [(idx t).2.2.1]
    show t.val / 4 * 512 + r.val = _
    omega
  · show ((win0_2.blk t).view.emb (ix3 j r l) 2).val = l.val
    blk_simp
    rw [(idx t).2.2.1]
    show 0 * 1024 + l.val = _
    omega

/-- The reference's product. -/
theorem whole (a d : FVec Ideal Cert.DwOutRefIdeal.S4096x1024 .bf16) :
    truncf .bf16 (broadcastInDim Cert.DwOutRefIdeal.S1x1024x1024 ![1, 2] Cert.DwOutRefIdeal.Gen.bcast_S1024x1024_S1x1024x1024_1_2 (transpose Cert.DwOutRefIdeal.S1024x1024 [1, 0]
        (Host.dotGeneral (φ₁ := .f32) (φ₂ := .f32) Cert.DwOutRefIdeal.dot_S4096x1024_S4096x1024_S1024x1024_0_0_1_1_n_n none (extf .f32 d Cert.DwOutRefIdeal.Gen.bitsLt_bf16_f32)
        (extf .f32 a Cert.DwOutRefIdeal.Gen.bitsLt_bf16_f32)) Cert.DwOutRefIdeal.Gen.transposes_S1024x1024_S1024x1024_1_0)) Cert.DwOutRefIdeal.Gen.bitsLt_bf16_f32
      = product a d := by
  funext y
  obtain ⟨j, r, l, rfl⟩ : ∃ (j : Fin 1) (r l : Fin 1024), y = (ix3 j r l : S1x1024x1024.Idx) := ⟨y 0, y 1, y 2, eq_ix3 (y : (⟨3, ![1, 1024, 1024]⟩ : Shape).Idx)⟩
  pointwise [product, columns]
  exact Finset.sum_congr rfl fun s _ => mul_comm _ _

/-- The kernel and the reference end with equal results. -/
theorem equal_results : Cert.algebraic_DwOutIdeal_DwOutRefIdeal (hDwOutIdeal := Cert.DwOutIdeal.Gen.facts)
    (hDwOutRefIdeal := Cert.DwOutRefIdeal.Gen.facts) := fun m ρ m' ρ' _ ha => by
  refine ⟨fun c => product (m ((c : Thread nD τ).loc main_arg0)) (m ((c : Thread nD τ).loc main_arg1)),
    (θ_run (Cert.DwOutIdeal.defs (F := Ideal)) _ _).mono (fun r hr c => ⟨(hr c).1.trans (result m c), (hr c).2⟩) (run_blocks (F := Ideal) m ρ),
    (θ_run (Cert.DwOutRefIdeal.defs (F := Ideal)) _ _).mono (fun r hr c => ⟨(hr c).1.trans ?_, (hr c).2⟩) (Cert.DwOutRefIdeal.Value.run (F := Ideal) m' ρ')⟩
  rw [(ha c).1, (ha c).2]
  exact whole _ _

end Cert.DwOutIdeal.Value
-- ==== Proof.DmixValue.lean ====
/- The gradient through the layers' output projection: one product by rows, in the even layers and in the odd. -/
module

public import proofs.«01_k».proof.Proof.Gen.EvenDmixIdeal.Value
public import proofs.«01_k».proof.Proof.Gen.EvenDmixRefIdeal.Run
public import proofs.«01_k».proof.Proof.Gen.OddDattIdeal.Value
public import proofs.«01_k».proof.Proof.Gen.OddDattRefIdeal.Run
public import proofs.«01_k».proof.Defs
public import Idealize.ShloMosaic.Lib.Pipeline.ValueKit
public import Idealize.ShloMosaic.Lib.Pipeline.ReadBack

@[expose] public section

set_option maxRecDepth 16384

noncomputable section

namespace Cert.EvenDmixIdeal.Value

open Idealize.ShloMosaic Idealize.SL.Sem Cert.EvenDmixIdeal Cert.EvenDmixIdeal.Gen Idealize.ShloMosaic.TcCoe
open Idealize.ShloMosaic.Pipeline (Dat)

/-- Rows of gradients times the weights, transposed. -/
def product {R : ℕ} (x : FVec Ideal ⟨2, ![R, 1024]⟩ .bf16) (w : FVec Ideal ⟨4, ![1, 1, 1024, 1024]⟩ .bf16) : FVec Ideal ⟨2, ![R, 1024]⟩ .f32 :=
  fun y => ∑ k : Fin 1024, x (ix2 (y 0) k) * w (ix4 0 0 (y 1) k)

/-- A tile's row and the array's row it holds give the same product. -/
theorem product_row {R R' : ℕ} {x : FVec Ideal ⟨2, ![R, 1024]⟩ .bf16} {x' : FVec Ideal ⟨2, ![R', 1024]⟩ .bf16} {w w' : FVec Ideal ⟨4, ![1, 1, 1024, 1024]⟩ .bf16}
    {r : Fin R} {r' : Fin R'} (hx : ∀ k, x (ix2 r k) = x' (ix2 r' k)) (hw : ∀ l k, w (ix4 0 0 l k) = w' (ix4 0 0 l k)) (l : Fin 1024) :
    product x w (ix2 r l) = product x' w' (ix2 r' l) :=
  Finset.sum_congr rfl fun k _ => congrArg₂ (fun u v : EReal => u * v) (hx k) (hw l k)

/-- A tile's product. -/
theorem tile (x : FVec Ideal S512x1024 .bf16) (w : FVec Ideal S1x1x1024x1024 .bf16) : k0_pay1 (F := Ideal) x w = product x w := by
  funext i
  obtain ⟨r, l, rfl⟩ : ∃ (r : Fin 512) (l : Fin 1024), i = (ix2 r l : S512x1024.Idx) := ⟨i 0, i 1, eq_ix2 (i : (⟨2, ![512, 1024]⟩ : Shape).Idx)⟩
  pointwise [k0_pay1, product]

/-- Which blocks each point stages and writes. -/
theorem idx : ∀ t : Fin cfg0.N, win0_0.index t = ![t.val, 0] ∧ win0_1.index t = ![0, 0, 0, 0] ∧ win0_2.index t = ![t.val, 0] ∧ t.val < 8 :=
  (by decide +kernel : ∀ t : Fin grid0.N, _)

/-- The even layers' array after the run. -/
theorem result (m : (ℓ : Loc nD τ sig) → Buf (Elt Ideal) ℓ) (c : Dev nD) : (dats m 0 c).arrAt 2 cfg0.N
    = product (R := 4096) (m ((c : Thread nD τ).loc main_arg0)) (m ((c : Thread nD τ).loc main_arg1)) := by
  refine (dats m 0 c).arrAt_eq_of_covers 2 _ (by decide +kernel) fun t hf y => ?_
  have ht := (idx t).2.2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_2]
  frame_out
  refine (congrFun (tile _ _) _).trans ((product_row (x' := m ((c : Thread nD τ).loc main_arg0)) (w' := m ((c : Thread nD τ).loc main_arg1))
    (r' := (⟨512 * t.val + r, by omega⟩ : Fin 4096)) (fun k => ?_) (fun l k => ?_) l).trans ?_)
  · blk_ext [iblk, V, (idx t).1]
  · blk_ext [iblk, V, (idx t).2.1]
  · blk_ext [(idx t).2.2.1]

/-- The reference's product. -/
theorem whole (x : FVec Ideal Cert.EvenDmixRefIdeal.S4096x1024 .bf16) (w : FVec Ideal Cert.EvenDmixRefIdeal.S1x1x1024x1024 .bf16) :
    Host.dotGeneral (φ₁ := .f32) (φ₂ := .f32) Cert.EvenDmixRefIdeal.dot_S4096x1024_S1024x1024_S4096x1024_1_1_0_0_n_n none (extf .f32 x Cert.EvenDmixRefIdeal.Gen.bitsLt_bf16_f32)
        (extf .f32 (shapeCast _ w Cert.EvenDmixRefIdeal.Gen.shapeCasts_S1x1x1024x1024_S1024x1024) Cert.EvenDmixRefIdeal.Gen.bitsLt_bf16_f32)
      = product x w := by
  funext i
  obtain ⟨r, l, rfl⟩ : ∃ (r : Fin 4096) (l : Fin 1024), i = (ix2 r l : Cert.EvenDmixRefIdeal.S4096x1024.Idx) := ⟨i 0, i 1, eq_ix2 (i : (⟨2, ![4096, 1024]⟩ : Shape).Idx)⟩
  pointwise [product]

/-- The kernel and the reference end with equal results. -/
theorem equal_results : Cert.algebraic_EvenDmixIdeal_EvenDmixRefIdeal (hEvenDmixIdeal := Cert.EvenDmixIdeal.Gen.facts)
    (hEvenDmixRefIdeal := Cert.EvenDmixRefIdeal.Gen.facts) := fun m ρ m' ρ' _ ha => by
  refine ⟨fun c => product (R := 4096) (m ((c : Thread nD τ).loc main_arg0)) (m ((c : Thread nD τ).loc main_arg1)),
    (θ_run (Cert.EvenDmixIdeal.defs (F := Ideal)) _ _).mono (fun r hr c => ⟨(hr c).1.trans (result m c), (hr c).2⟩) (run_blocks (F := Ideal) m ρ),
    (θ_run (Cert.EvenDmixRefIdeal.defs (F := Ideal)) _ _).mono (fun r hr c => ⟨(hr c).1.trans ?_, (hr c).2⟩) (Cert.EvenDmixRefIdeal.Value.run (F := Ideal) m' ρ')⟩
  rw [(ha c).1, (ha c).2]
  exact whole _ _

end Cert.EvenDmixIdeal.Value

namespace Cert.OddDattIdeal.Value

open Idealize.ShloMosaic Idealize.SL.Sem Cert.OddDattIdeal Cert.OddDattIdeal.Gen Idealize.ShloMosaic.TcCoe
open Cert.EvenDmixIdeal.Value (product product_row tile whole)

/-- Which blocks each point stages and writes. -/
theorem idx : ∀ t : Fin cfg0.N, win0_0.index t = ![t.val, 0] ∧ win0_1.index t = ![0, 0, 0, 0] ∧ win0_2.index t = ![t.val, 0] ∧ t.val < 8 :=
  (by decide +kernel : ∀ t : Fin grid0.N, _)

/-- The odd layers' array after the run. -/
theorem result (m : (ℓ : Loc nD τ sig) → Buf (Elt Ideal) ℓ) (c : Dev nD) : (dats m 0 c).arrAt 2 cfg0.N
    = product (R := 4096) (m ((c : Thread nD τ).loc main_arg0)) (m ((c : Thread nD τ).loc main_arg1)) := by
  refine (dats m 0 c).arrAt_eq_of_covers 2 _ (by decide +kernel) fun t hf y => ?_
  have ht := (idx t).2.2.2
  obtain ⟨r, l, rfl⟩ : ∃ (r : Fin 512) (l : Fin 1024), y = (ix2 r l : S512x1024.Idx) := ⟨y 0, y 1, eq_ix2 (y : (⟨2, ![512, 1024]⟩ : Shape).Idx)⟩
  have hr := r.isLt
  blk_simp
  rw [after0_2]
  frame_out
  refine (congrFun (tile _ _) _).trans ((product_row (x' := m ((c : Thread nD τ).loc main_arg0)) (w' := m ((c : Thread nD τ).loc main_arg1))
    (r' := (⟨512 * t.val + r, by omega⟩ : Fin 4096)) (fun k => ?_) (fun l k => ?_) l).trans ?_)
  · blk_ext [iblk, V, (idx t).1]
  · blk_ext [iblk, V, (idx t).2.1]
  · blk_ext [(idx t).2.2.1]

/-- The kernel and the reference end with equal results. -/
theorem equal_results : Cert.algebraic_OddDattIdeal_OddDattRefIdeal (hOddDattIdeal := Cert.OddDattIdeal.Gen.facts)
    (hOddDattRefIdeal := Cert.OddDattRefIdeal.Gen.facts) := fun m ρ m' ρ' _ ha => by
  refine ⟨fun c => product (R := 4096) (m ((c : Thread nD τ).loc main_arg0)) (m ((c : Thread nD τ).loc main_arg1)),
    (θ_run (Cert.OddDattIdeal.defs (F := Ideal)) _ _).mono (fun r hr c => ⟨(hr c).1.trans (result m c), (hr c).2⟩) (run_blocks (F := Ideal) m ρ),
    (θ_run (Cert.OddDattRefIdeal.defs (F := Ideal)) _ _).mono (fun r hr c => ⟨(hr c).1.trans ?_, (hr c).2⟩) (Cert.OddDattRefIdeal.Value.run (F := Ideal) m' ρ')⟩
  rw [(ha c).1, (ha c).2]
  exact whole _ _

end Cert.OddDattIdeal.Value
-- ==== Proof.NormFwd.lean ====
/- A row plus a product, its normalization and its gain: what the forward projections share, stated once. -/
module

public import proofs.«01_k».proof.Proof.NormBwd
public import proofs.«01_k».proof.Proof.Gen.FfnDownIdeal.Value
public import proofs.«01_k».proof.Proof.Gen.FfnDownRefIdeal.Run

@[expose] public section

set_option maxRecDepth 16384

noncomputable section

namespace Cert.NormFwd

open Idealize.ShloMosaic Cert.Mixer Cert.NormBwd

/-- The residual's rows plus the product with the weights. -/
def added {R K : ℕ} (a : FVec Ideal ⟨2, ![R, K]⟩ .bf16) (w : FVec Ideal ⟨4, ![1, 1, K, 1024]⟩ .bf16) (x : FVec Ideal ⟨2, ![R, 1024]⟩ .f32) :
    FVec Ideal ⟨2, ![R, 1024]⟩ .f32 :=
  fun y => x (ix2 (y 0) (y 1)) + ∑ k : Fin K, a (ix2 (y 0) k) * w (ix4 0 0 k (y 1))

/-- Rows normalized, each column times its gain. -/
def normed {R : ℕ} (y : FVec Ideal ⟨2, ![R, 1024]⟩ .f32) (g : FVec Ideal ⟨2, ![1, 1024]⟩ .f32) : FVec Ideal ⟨2, ![R, 1024]⟩ .bf16 :=
  fun i => y (ix2 (i 0) (i 1)) * scale (fun k => y (ix2 (i 0) k)) * g (ix2 0 (i 1))

/-- A tile's row and the array's row it holds give the same sum. -/
theorem added_row {R R' K : ℕ} {a : FVec Ideal ⟨2, ![R, K]⟩ .bf16} {a' : FVec Ideal ⟨2, ![R', K]⟩ .bf16} {w w' : FVec Ideal ⟨4, ![1, 1, K, 1024]⟩ .bf16}
    {x : FVec Ideal ⟨2, ![R, 1024]⟩ .f32} {x' : FVec Ideal ⟨2, ![R', 1024]⟩ .f32} {r : Fin R} {r' : Fin R'}
    (ha : ∀ k, a (ix2 r k) = a' (ix2 r' k)) (hw : ∀ k l, w (ix4 0 0 k l) = w' (ix4 0 0 k l)) (hx : ∀ l, x (ix2 r l) = x' (ix2 r' l)) (l : Fin 1024) :
    added a w x (ix2 r l) = added a' w' x' (ix2 r' l) :=
  congrArg₂ (fun u v : EReal => u + v) (hx l) (Finset.sum_congr rfl fun k _ => congrArg₂ (fun u v : EReal => u * v) (ha k) (hw k l))

/-- Equal rows and gains normalize alike. -/
theorem normed_row {R R' : ℕ} {y : FVec Ideal ⟨2, ![R, 1024]⟩ .f32} {y' : FVec Ideal ⟨2, ![R', 1024]⟩ .f32} {g g' : FVec Ideal ⟨2, ![1, 1024]⟩ .f32}
    {r : Fin R} {r' : Fin R'} (hy : ∀ k, y (ix2 r k) = y' (ix2 r' k)) (hg : ∀ k, g (ix2 0 k) = g' (ix2 0 k)) (l : Fin 1024) :
    normed y g (ix2 r l) = normed y' g' (ix2 r' l) := by
  show y (ix2 r l) * scale (fun k => y (ix2 r k)) * g (ix2 0 l) = y' (ix2 r' l) * scale (fun k => y' (ix2 r' k)) * g' (ix2 0 l)
  rw [hy l, funext hy, hg l]

section
open Cert.FfnDownIdeal Cert.FfnDownIdeal.Gen

/-- The kernel's normalization of a tile. -/
theorem tile (y : FVec Ideal S1024x1024 .f32) (g : FVec Ideal S1x1024 .f32) :
    truncf (F := Ideal) .bf16 (mulf (mulf y (broadcastTo S1024x1024 (rsqrt (addf (divf (shapeCast S1024x1 (multiReduction .add [1] S1024 (mulf y y) 0x00000000#32 reduces_S1024x1024_S1024 (.inl rfl) rfl) shapeCasts_S1024_S1024x1)
        (broadcast S1024x1 (Scalar.ofBits .f32 0x44800000#32 : Ideal .f32))) (broadcast S1024x1 (Scalar.ofBits .f32 0x358637BD#32 : Ideal .f32)))) broadcasts_S1024x1_S1024x1024))
        (broadcastTo S1024x1024 g broadcasts_S1x1024_S1024x1024)) bitsLt_bf16_f32 = normed y g := by
  funext i
  obtain ⟨r, l, rfl⟩ : ∃ (r : Fin 1024) (l : Fin 1024), i = (ix2 r l : S1024x1024.Idx) := ⟨i 0, i 1, eq_ix2 (i : (⟨2, ![1024, 1024]⟩ : Shape).Idx)⟩
  pointwise [normed]
  rfl

end

section
open Cert.FfnDownRefIdeal Cert.FfnDownRefIdeal.Gen

/-- The reference's normalization of the whole array. -/
theorem whole (y : FVec Ideal S4096x1024 .f32) (g : FVec Ideal S1x1024 .f32) :
    truncf (F := Ideal) .bf16 (mulf (mulf y (broadcastInDim S4096x1024 ![0, 1] bcast_S4096x1_S4096x1024_0_1 (Host.rsqrt (addf (Host.divf
        (broadcastInDim S4096x1 ![0] bcast_S4096_S4096x1_0 (Host.reduceAdd (mulf y y) (constant S_ .f32 0x00000000#32) reducesTo_S4096x1024_S4096_d1 h_S_))
        (broadcastInDim S4096x1 ![] bcast_S_S4096x1 (constant S_ .f32 0x44800000#32))) (broadcastInDim S4096x1 ![] bcast_S_S4096x1 (constant S_ .f32 0x358637BD#32))))))
        (broadcastInDim S4096x1024 ![0, 1] bcast_S1x1024_S4096x1024_0_1 (broadcastInDim S1x1024 ![1] bcast_S1024_S1x1024_1 (shapeCast _ g shapeCasts_S1x1024_S1024)))) bitsLt_bf16_f32
      = normed y g := by
  funext i
  obtain ⟨r, l, rfl⟩ : ∃ (r : Fin 4096) (l : Fin 1024), i = (ix2 r l : S4096x1024.Idx) := ⟨i 0, i 1, eq_ix2 (i : (⟨2, ![4096, 1024]⟩ : Shape).Idx)⟩
  pointwise [normed]
  rfl

end

end Cert.NormFwd
-- ==== Proof.DownValue.lean ====
/- The down projection of a feed-forward with its residual and the next normalization: the kernel's tiles are the reference's rows. -/
module

public import proofs.«01_k».proof.Proof.NormFwd
public import proofs.«01_k».proof.Defs

@[expose] public section

set_option maxRecDepth 16384

noncomputable section

namespace Cert.FfnDownIdeal.Value

open Idealize.ShloMosaic Idealize.SL.Sem Cert.FfnDownIdeal Cert.FfnDownIdeal.Gen Idealize.ShloMosaic.TcCoe Cert.NormFwd
open Idealize.ShloMosaic.Pipeline (Dat)

/-- Which blocks each point stages and writes. -/
theorem idx : ∀ t : Fin cfg0.N, (win0_0.index t = ![t.val, 0] ∧ win0_1.index t = ![0, 0, 0, 0] ∧ win0_2.index t = ![t.val, 0] ∧ win0_3.index t = ![0, 0])
    ∧ win0_4.index t = ![t.val, 0] ∧ win0_5.index t = ![t.val, 0] ∧ t.val < 4 :=
  (by decide +kernel : ∀ t : Fin grid0.N, _)

/-- A tile's sum. -/
theorem tile_added (x : FVec Ideal S1024x1024 .f32) (a : FVec Ideal S1024x2816 .bf16) (w : FVec Ideal S1x1x2816x1024 .bf16) :
    k0_pay1 (F := Ideal) x a w = added a w x := by
  funext i
  obtain ⟨r, l, rfl⟩ : ∃ (r : Fin 1024) (l : Fin 1024), i = (ix2 r l : S1024x1024.Idx) := ⟨i 0, i 1, eq_ix2 (i : (⟨2, ![1024, 1024]⟩ : Shape).Idx)⟩
  pointwise [k0_pay1, added]

/-- A tile's normalized rows. -/
theorem tile_normed (x : FVec Ideal S1024x1024 .f32) (a : FVec Ideal S1024x2816 .bf16) (w : FVec Ideal S1x1x2816x1024 .bf16) (g : FVec Ideal S1x1024 .f32) :
    k0_pay2 (F := Ideal) x a w g = normed (added a w x) g :=
  (tile _ g).trans (congrArg (normed · g) (tile_added x a w))

variable (m : (ℓ : Loc nD τ sig) → Buf (Elt Ideal) ℓ) (c : Dev nD)

/-- The rows of a point's tile are the array's. -/
theorem rows (t : Fin cfg0.N) (r : Fin 1024) (R : Fin 4096) (hR : R.val = 1024 * t.val + r) (l : Fin 1024) :
    added (R := 1024) (K := 2816) (iblk m c 0 t) (iblk m c 1 t) (iblk m c 2 t) (ix2 r l)
      = added (R := 4096) (K := 2816) (m ((c : Thread nD τ).loc main_arg0)) (m ((c : Thread nD τ).loc main_arg1)) (m ((c : Thread nD τ).loc main_arg2)) (ix2 R l) := by
  refine added_row (fun k => ?_) (fun k l => ?_) (fun l => ?_) l
  · blk_ext [iblk, V, (idx t).1.1]
  · blk_ext [iblk, V, (idx t).1.2.1]
  · blk_ext [iblk, V, (idx t).1.2.2.1]

/-- The first output after the run. -/
theorem result4 : (dats m 0 c).arrAt 4 cfg0.N
    = added (R := 4096) (K := 2816) (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (idx t).2.2.2
  obtain ⟨r, l, rfl⟩ : ∃ (r : Fin 1024) (l : Fin 1024), y = (ix2 r l : S1024x1024.Idx) := ⟨y 0, y 1, eq_ix2 (y : (⟨2, ![1024, 1024]⟩ : Shape).Idx)⟩
  have hr := r.isLt
  blk_simp
  rw [after0_4]
  frame_out
  refine (congrFun (tile_added _ _ _) _).trans ((rows m c t r ⟨1024 * t.val + r, by omega⟩ rfl l).trans ?_)
  blk_ext [(idx t).2.1]

/-- The second output after the run. -/
theorem result5 : (dats m 0 c).arrAt 5 cfg0.N
    = normed (R := 4096) (added (R := 4096) (K := 2816) (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  have ht := (idx t).2.2.2
  obtain ⟨r, l, rfl⟩ : ∃ (r : Fin 1024) (l : Fin 1024), y = (ix2 r l : S1024x1024.Idx) := ⟨y 0, y 1, eq_ix2 (y : (⟨2, ![1024, 1024]⟩ : Shape).Idx)⟩
  have hr := r.isLt
  blk_simp
  rw [after0_5]
  frame_out
  refine (congrFun (tile_normed _ _ _ _) _).trans ((normed_row (g' := m ((c : Thread nD τ).loc main_arg3))
    (rows m c t r ⟨1024 * t.val + r, by omega⟩ rfl) (fun k => ?_) l).trans ?_)
  · blk_ext [iblk, V, (idx t).1.2.2.2]
  · blk_ext [(idx t).2.2.1]

end Cert.FfnDownIdeal.Value

namespace Cert.FfnDownRefIdeal.Value

open Idealize.ShloMosaic Idealize.SL.Sem Cert.FfnDownRefIdeal Cert.FfnDownRefIdeal.Gen Idealize.ShloMosaic.TcCoe Cert.NormFwd

/-- The reference's sum. -/
theorem value (a : FVec Ideal S4096x2816 .bf16) (w : FVec Ideal S1x1x2816x1024 .bf16) (x : FVec Ideal S4096x1024 .f32) :
    addf x (Host.dotGeneral (φ₁ := .f32) (φ₂ := .f32) dot_S4096x2816_S2816x1024_S4096x1024_1_0_0_1_n_n none (extf .f32 a bitsLt_bf16_f32)
      (extf .f32 (shapeCast _ w shapeCasts_S1x1x2816x1024_S2816x1024) bitsLt_bf16_f32)) = added a w x := by
  funext i
  obtain ⟨r, l, rfl⟩ : ∃ (r : Fin 4096) (l : Fin 1024), i = (ix2 r l : S4096x1024.Idx) := ⟨i 0, i 1, eq_ix2 (i : (⟨2, ![4096, 1024]⟩ : Shape).Idx)⟩
  pointwise [added]

end Cert.FfnDownRefIdeal.Value

namespace Cert.FfnDownIdeal.Value

open Idealize.ShloMosaic Idealize.SL.Sem Cert.FfnDownIdeal Cert.FfnDownIdeal.Gen Idealize.ShloMosaic.TcCoe Cert.NormFwd

/-- The kernel and the reference end with equal results. -/
theorem equal_results : Cert.algebraic_FfnDownIdeal_FfnDownRefIdeal (hFfnDownIdeal := Cert.FfnDownIdeal.Gen.facts)
    (hFfnDownRefIdeal := Cert.FfnDownRefIdeal.Gen.facts) := fun m ρ m' ρ' _ ha => by
  refine ⟨fun c => added (R := 4096) (K := 2816) (m ((c : Thread nD τ).loc main_arg0)) (m ((c : Thread nD τ).loc main_arg1)) (m ((c : Thread nD τ).loc main_arg2)),
    fun c => normed (R := 4096) (added (R := 4096) (K := 2816) (m ((c : Thread nD τ).loc main_arg0)) (m ((c : Thread nD τ).loc main_arg1)) (m ((c : Thread nD τ).loc main_arg2)))
      (m ((c : Thread nD τ).loc main_arg3)),
    (θ_run (Cert.FfnDownIdeal.defs (F := Ideal)) _ _).mono (fun r hr c => ⟨(hr c).1.trans (result4 m c), (hr c).2.1.trans (result5 m c), (hr c).2.2⟩) (run_blocks (F := Ideal) m ρ),
    (θ_run (Cert.FfnDownRefIdeal.defs (F := Ideal)) _ _).mono (fun r hr c => ⟨(hr c).1.trans ?_, (hr c).2.1.trans ?_, (hr c).2.2⟩) (Cert.FfnDownRefIdeal.Value.run (F := Ideal) m' ρ')⟩
  · rw [(ha c).1, (ha c).2.1, (ha c).2.2.1]
    exact Cert.FfnDownRefIdeal.Value.value _ _ _
  · rw [(ha c).1, (ha c).2.1, (ha c).2.2.1, (ha c).2.2.2]
    exact (whole _ _).trans (congrArg (normed · _) (Cert.FfnDownRefIdeal.Value.value _ _ _))

end Cert.FfnDownIdeal.Value
-- ==== Proof.OutValue.lean ====
/- The layers' output projection with its residual and the next normalization. -/
module

public import proofs.«01_k».proof.Proof.NormFwd
public import proofs.«01_k».proof.Proof.Gen.OutNormIdeal.Value
public import proofs.«01_k».proof.Proof.Gen.OutNormRefIdeal.Run
public import proofs.«01_k».proof.Defs

@[expose] public section

set_option maxRecDepth 16384

noncomputable section

namespace Cert.OutNormIdeal.Value

open Idealize.ShloMosaic Idealize.SL.Sem Cert.OutNormIdeal Cert.OutNormIdeal.Gen Idealize.ShloMosaic.TcCoe Cert.NormFwd
open Idealize.ShloMosaic.Pipeline (Dat)

/-- Which blocks each point stages and writes. -/
theorem idx : ∀ t : Fin cfg0.N, (win0_0.index t = ![t.val, 0] ∧ win0_1.index t = ![0, 0, 0, 0] ∧ win0_2.index t = ![t.val, 0] ∧ win0_3.index t = ![0, 0])
    ∧ win0_4.index t = ![t.val, 0] ∧ win0_5.index t = ![t.val, 0] ∧ t.val < 4 :=
  (by decide +kernel : ∀ t : Fin grid0.N, _)

/-- A tile's sum. -/
theorem tile_added (x : FVec Ideal S1024x1024 .f32) (a : FVec Ideal S1024x1024 .bf16) (w : FVec Ideal S1x1x1024x1024 .bf16) :
    k0_pay1 (F := Ideal) x a w = added a w x := by
  funext i
  obtain ⟨r, l, rfl⟩ : ∃ (r : Fin 1024) (l : Fin 1024), i = (ix2 r l : S1024x1024.Idx) := ⟨i 0, i 1, eq_ix2 (i : (⟨2, ![1024, 1024]⟩ : Shape).Idx)⟩
  pointwise [k0_pay1, added]

variable (m : (ℓ : Loc nD τ sig) → Buf (Elt Ideal) ℓ) (c : Dev nD)

/-- The residual plus the projection, over the whole array. -/
abbrev sums : FVec Ideal S4096x1024 .f32 :=
  added (R := 4096) (K := 1024) (m ((c : Thread nD τ).loc main_arg0)) (m ((c : Thread nD τ).loc main_arg1)) (m ((c : Thread nD τ).loc main_arg2))

/-- The rows of a point's tile are the array's. -/
theorem rows (t : Fin cfg0.N) (r : Fin 1024) (R : Fin 4096) (hR : R.val = 1024 * t.val + r) (l : Fin 1024) :
    added (R := 1024) (K := 1024) (iblk m c 0 t) (iblk m c 1 t) (iblk m c 2 t) (ix2 r l) = sums m c (ix2 R l) := by
  refine added_row (fun k => ?_) (fun k l => ?_) (fun l => ?_) l
  · blk_ext [iblk, V, (idx t).1.1]
  · blk_ext [iblk, V, (idx t).1.2.1]
  · blk_ext [iblk, V, (idx t).1.2.2.1]

/-- Both outputs after the run. -/
theorem results : (dats m 0 c).arrAt 4 cfg0.N = sums m c
    ∧ (dats m 0 c).arrAt 5 cfg0.N = normed (R := 4096) (sums m c) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_⟩
  all_goals
    have ht := (idx t).2.2.2
    obtain ⟨r, l, rfl⟩ : ∃ (r : Fin 1024) (l : Fin 1024), y = (ix2 r l : S1024x1024.Idx) := ⟨y 0, y 1, eq_ix2 (y : (⟨2, ![1024, 1024]⟩ : Shape).Idx)⟩
    have hr := r.isLt
    blk_simp
  · rw [after0_4]
    frame_out
    refine (congrFun (tile_added _ _ _) _).trans ((rows m c t r ⟨1024 * t.val + r, by omega⟩ rfl l).trans ?_)
    blk_ext [(idx t).2.1]
  · rw [after0_5]
    frame_out
    refine (congrFun ((tile _ _).trans (congrArg (normed · _) (tile_added _ _ _))) _).trans ((normed_row (g' := m ((c : Thread nD τ).loc main_arg3))
      (rows m c t r ⟨1024 * t.val + r, by omega⟩ rfl) (fun k => ?_) l).trans ?_)
    · blk_ext [iblk, V, (idx t).1.2.2.2]
    · blk_ext [(idx t).2.2.1]

end Cert.OutNormIdeal.Value

namespace Cert.OutNormRefIdeal.Value

open Idealize.ShloMosaic Idealize.SL.Sem Cert.OutNormRefIdeal Cert.OutNormRefIdeal.Gen Idealize.ShloMosaic.TcCoe Cert.NormFwd

/-- The reference's sum. -/
theorem value (a : FVec Ideal S4096x1024 .bf16) (w : FVec Ideal S1x1x1024x1024 .bf16) (x : FVec Ideal S4096x1024 .f32) :
    addf x (Host.dotGeneral (φ₁ := .f32) (φ₂ := .f32) dot_S4096x1024_S1024x1024_S4096x1024_1_0_0_1_n_n none (extf .f32 a bitsLt_bf16_f32)
      (extf .f32 (shapeCast _ w shapeCasts_S1x1x1024x1024_S1024x1024) bitsLt_bf16_f32)) = added a w x := by
  funext i
  obtain ⟨r, l, rfl⟩ : ∃ (r : Fin 4096) (l : Fin 1024), i = (ix2 r l : S4096x1024.Idx) := ⟨i 0, i 1, eq_ix2 (i : (⟨2, ![4096, 1024]⟩ : Shape).Idx)⟩
  pointwise [added]

end Cert.OutNormRefIdeal.Value

namespace Cert.OutNormIdeal.Value

open Idealize.ShloMosaic Idealize.SL.Sem Cert.OutNormIdeal Cert.OutNormIdeal.Gen Idealize.ShloMosaic.TcCoe Cert.NormFwd

/-- The kernel and the reference end with equal results. -/
theorem equal_results : Cert.algebraic_OutNormIdeal_OutNormRefIdeal (hOutNormIdeal := Cert.OutNormIdeal.Gen.facts)
    (hOutNormRefIdeal := Cert.OutNormRefIdeal.Gen.facts) := fun m ρ m' ρ' _ ha => by
  refine ⟨fun c => sums m c, fun c => normed (R := 4096) (sums m c) (m ((c : Thread nD τ).loc main_arg3)),
    (θ_run (Cert.OutNormIdeal.defs (F := Ideal)) _ _).mono (fun r hr c => ⟨(hr c).1.trans (results m c).1, (hr c).2.1.trans (results m c).2, (hr c).2.2⟩) (run_blocks (F := Ideal) m ρ),
    (θ_run (Cert.OutNormRefIdeal.defs (F := Ideal)) _ _).mono (fun r hr c => ⟨(hr c).1.trans ?_, (hr c).2.1.trans ?_, (hr c).2.2⟩) (Cert.OutNormRefIdeal.Value.run (F := Ideal) m' ρ')⟩
  · rw [(ha c).1, (ha c).2.1, (ha c).2.2.1]
    exact Cert.OutNormRefIdeal.Value.value _ _ _
  · rw [(ha c).1, (ha c).2.1, (ha c).2.2.1, (ha c).2.2.2]
    exact (whole _ _).trans (congrArg (normed · _) (Cert.OutNormRefIdeal.Value.value _ _ _))

end Cert.OutNormIdeal.Value
-- ==== Proof.LossValue.lean ====
/- The last down projection with the loss: the error's gradient, tile by tile, and the columns' sums of squares. -/
module

public import proofs.«01_k».proof.Proof.NormFwd
public import proofs.«01_k».proof.Proof.Gen.FfnLossIdeal.Value
public import proofs.«01_k».proof.Proof.Gen.FfnLossRefIdeal.Run
public import proofs.«01_k».proof.Defs

@[expose] public section

set_option maxRecDepth 16384

noncomputable section

namespace Cert.FfnLossIdeal.Value

open Idealize.ShloMosaic Idealize.SL.Sem Cert.FfnLossIdeal Cert.FfnLossIdeal.Gen Idealize.ShloMosaic.TcCoe Cert.Mixer Cert.Products Cert.NormBwd Cert.NormFwd
open Idealize.ShloMosaic.Pipeline (Dat)

/-- The error: the output less the target. -/
def err {R : ℕ} (a : FVec Ideal ⟨2, ![R, 2816]⟩ .bf16) (w : FVec Ideal ⟨4, ![1, 1, 2816, 1024]⟩ .bf16) (x z : FVec Ideal ⟨2, ![R, 1024]⟩ .f32) : FVec Ideal ⟨2, ![R, 1024]⟩ .f32 :=
  fun i => added a w x (ix2 (i 0) (i 1)) - z (ix2 (i 0) (i 1))

/-- The loss's gradient at an error. -/
def slope {R : ℕ} (e : FVec Ideal ⟨2, ![R, 1024]⟩ .f32) : FVec Ideal ⟨2, ![R, 1024]⟩ .f32 :=
  fun i => e (ix2 (i 0) (i 1)) * Ideal.ofBits .f32 0x3A800000#32

/-- The columns' sums of squares. -/
def squares (e : FVec Ideal S4096x1024 .f32) : FVec Ideal S1x1024 .f32 := fun i => ∑ r : Fin 4096, e (ix2 r (i 1)) * e (ix2 r (i 1))

/-- The chain rule's factors, one half and two, leave the mean's divisor. -/
theorem halved (e : EReal) : Ideal.div (Ideal.ofBits .f32 0x3F000000#32) (Ideal.ofBits .f32 0x44800000#32) * (Ideal.ofBits .f32 0x40000000#32 * e)
    = e * Ideal.ofBits .f32 0x3A800000#32 := by
  have h1 : Ideal.ofBits .f32 0x3F000000#32 = ((1 / 2 : ℝ) : EReal) := by
    simp [Ideal.ofBits, Ideal.ieee, -EReal.coe_mul, -EReal.coe_neg]
    norm_num
  have h2 : Ideal.ofBits .f32 0x40000000#32 = ((2 : ℝ) : EReal) := by
    simp [Ideal.ofBits, Ideal.ieee, -EReal.coe_mul, -EReal.coe_neg]
    norm_num
  rw [h1, h2, word_1024, word_inverse, Ideal.div_coe (by norm_num), ← mul_assoc, mul_comm e, ← EReal.coe_mul, ← EReal.coe_mul]
  exact congrArg (fun q : ℝ => (q : EReal) * e) (by norm_num)

/-- Which blocks each point stages and writes. -/
theorem idx : ∀ t : Fin cfg0.N, (win0_0.index t = ![t.val, 0] ∧ win0_1.index t = ![0, 0, 0, 0] ∧ win0_2.index t = ![t.val, 0] ∧ win0_3.index t = ![t.val, 0])
    ∧ (win0_4.index t = ![t.val, 0] ∧ win0_5.index t = ![t.val, 0] ∧ win0_6.index t = ![0, 0]) ∧ t.val < 8 :=
  (by decide +kernel : ∀ t : Fin grid0.N, _)

/-- A tile's error. -/
theorem tile_err (x z : FVec Ideal S512x1024 .f32) (a : FVec Ideal S512x2816 .bf16) (w : FVec Ideal S1x1x2816x1024 .bf16) : k0_pay1 (F := Ideal) x a w z = err a w x z := by
  funext i
  obtain ⟨r, l, rfl⟩ : ∃ (r : Fin 512) (l : Fin 1024), i = (ix2 r l : S512x1024.Idx) := ⟨i 0, i 1, eq_ix2 (i : (⟨2, ![512, 1024]⟩ : Shape).Idx)⟩
  pointwise [k0_pay1, err, added]

/-- A tile's gradient. -/
theorem tile_slope (x z : FVec Ideal S512x1024 .f32) (a : FVec Ideal S512x2816 .bf16) (w : FVec Ideal S1x1x2816x1024 .bf16) : k0_pay2 (F := Ideal) x a w z = slope (err a w x z) := by
  rw [← tile_err]
  funext i
  obtain ⟨r, l, rfl⟩ : ∃ (r : Fin 512) (l : Fin 1024), i = (ix2 r l : S512x1024.Idx) := ⟨i 0, i 1, eq_ix2 (i : (⟨2, ![512, 1024]⟩ : Shape).Idx)⟩
  pointwise [k0_pay2, slope]

/-- A tile's part of the columns' sums of squares. -/
theorem tile_squares (x z : FVec Ideal S512x1024 .f32) (a : FVec Ideal S512x2816 .bf16) (w : FVec Ideal S1x1x2816x1024 .bf16) (j : Fin 1) (l : Fin 1024) :
    k0_pay4 (F := Ideal) x a w z (ix2 j l) = (∑ r : Fin 512, err a w x z (ix2 r l) * err a w x z (ix2 r l) : EReal) := by
  rw [← tile_err]
  pointwise [k0_pay4]

variable (m : (ℓ : Loc nD τ sig) → Buf (Elt Ideal) ℓ) (c : Dev nD)

/-- The error over the whole array. -/
abbrev errors : FVec Ideal S4096x1024 .f32 :=
  err (R := 4096) (m ((c : Thread nD τ).loc main_arg0)) (m ((c : Thread nD τ).loc main_arg1)) (m ((c : Thread nD τ).loc main_arg2)) (m ((c : Thread nD τ).loc main_arg3))

section
variable (t : Fin cfg0.N)

/-- The rows of a point's tile are the array's. -/
theorem rows (r : Fin 512) (R : Fin 4096) (hR : R.val = 512 * t.val + r) (l : Fin 1024) :
    err (R := 512) (iblk m c 0 t) (iblk m c 1 t) (iblk m c 2 t) (iblk m c 3 t) (ix2 r l) = errors m c (ix2 R l) := by
  refine congrArg₂ (fun u v : EReal => u - v) (added_row (fun k => ?_) (fun k l => ?_) (fun l => ?_) l) ?_
  · blk_ext [iblk, V, (idx t).1.1]
  · blk_ext [iblk, V, (idx t).1.2.1]
  · blk_ext [iblk, V, (idx t).1.2.2.1]
  · blk_ext [iblk, V, (idx t).1.2.2.2]

/-- Each point leaves its tile in the first two outputs. -/
theorem tiles : (outsAt0 m c t.val t.isLt).1 = k0_pay2 (F := Ideal) (iblk m c 2 t) (iblk m c 0 t) (iblk m c 1 t) (iblk m c 3 t)
    ∧ (outsAt0 m c t.val t.isLt).2.1 = k0_pay3 (F := Ideal) (iblk m c 2 t) (iblk m c 0 t) (iblk m c 1 t) (iblk m c 3 t) := by
  have ht := (idx t).2.2
  constructor
  all_goals
    funext y
    by_cases h0 : t.val % 8 = 0
  · rw [outsAt0_A m c t h0 (by omega)]
    dsimp only
    frame_open
    frame_out
  · rw [outsAt0_B m c t h0 (by omega)]
    dsimp only
    frame_open
    frame_out
  · rw [outsAt0_A m c t h0 (by omega)]
    dsimp only
    frame_open
    frame_out
  · rw [outsAt0_B m c t h0 (by omega)]
    dsimp only
    frame_open
    frame_out

/-- The rows' squares, in order. -/
def parts (n : ℕ) (y : S1x1024.Idx) : EReal := table2 (A := 4096) (B := 1024) (fun r l => errors m c (ix2 r l) * errors m c (ix2 r l)) n (y 1).val

/-- A point's rows' squares. -/
theorem share (y : S1x1024.Idx) : k0_pay4 (F := Ideal) (iblk m c 2 t) (iblk m c 0 t) (iblk m c 1 t) (iblk m c 3 t) y = ∑ r : Fin 512, parts m c (512 * (t.val % 8) + r) y := by
  obtain ⟨j, l, rfl⟩ : ∃ (j : Fin 1) (l : Fin 1024), y = (ix2 j l : S1x1024.Idx) := ⟨y 0, y 1, eq_ix2 (y : (⟨2, ![1, 1024]⟩ : Shape).Idx)⟩
  have ht := (idx t).2.2
  refine (tile_squares _ _ _ _ j l).trans (Finset.sum_congr rfl fun r _ => ?_)
  have hr := r.isLt
  have hR : 512 * (t.val % 8) + r.val < 4096 := by omega
  refine Eq.trans ?_ (table2_at (A := 4096) (B := 1024) _ ⟨512 * (t.val % 8) + r, hR⟩ l).symm
  have h := rows m c t r ⟨512 * (t.val % 8) + r, hR⟩ (by dsimp only; omega) l
  exact congrArg₂ (fun u v : EReal => u * v) h h

/-- The first point leaves its rows' squares in the third output. -/
theorem first (h0 : t.val % 8 = 0) (y : S1x1024.Idx) : (outsAt0 m c t.val t.isLt).2.2 y
    = k0_pay4 (F := Ideal) (iblk m c 2 t) (iblk m c 0 t) (iblk m c 1 t) (iblk m c 3 t) y := by
  have ht := (idx t).2.2
  rw [outsAt0_A m c t h0 (by omega)]
  dsimp only
  frame_open
  frame_out

/-- A later point adds its rows' squares. -/
theorem later (h0 : ¬t.val % 8 = 0) (y : S1x1024.Idx) : (outsAt0 m c t.val t.isLt).2.2 y
    = (outsAt0 m c (t.val - 1) (Nat.lt_of_le_of_lt (Nat.sub_le _ _) t.isLt)).2.2 y
      + k0_pay4 (F := Ideal) (iblk m c 2 t) (iblk m c 0 t) (iblk m c 1 t) (iblk m c 3 t) y := by
  have ht := (idx t).2.2
  rw [outsAt0_B m c t h0 (by omega)]
  dsimp only
  frame_open
  frame_out
  pointwise [k0_pay5]

end

/-- The gradient's two outputs after the run. -/
theorem slopes : (dats m 0 c).arrAt 4 cfg0.N = slope (R := 4096) (errors m c) ∧ (dats m 0 c).arrAt 5 cfg0.N = slope (R := 4096) (errors m c) := by
  refine ⟨(dats m 0 c).arrAt_eq_of_covers 4 _ (by decide +kernel) fun t hf y => ?_, (dats m 0 c).arrAt_eq_of_covers 5 _ (by decide +kernel) fun t hf y => ?_⟩
  all_goals
    have ht := (idx t).2.2
    obtain ⟨r, l, rfl⟩ : ∃ (r : Fin 512) (l : Fin 1024), y = (ix2 r l : S512x1024.Idx) := ⟨y 0, y 1, eq_ix2 (y : (⟨2, ![512, 1024]⟩ : Shape).Idx)⟩
    have hr := r.isLt
    have h := congrArg (fun u : EReal => u * Ideal.ofBits .f32 0x3A800000#32) (rows m c t r ⟨512 * t.val + r, by omega⟩ rfl l)
    blk_simp
  · rw [after0_4, (tiles m c t).1]
    refine (congrFun (tile_slope _ _ _ _) _).trans (h.trans ?_)
    show slope (R := 4096) (errors m c) (ix2 ⟨512 * t.val + r, by omega⟩ l) = _
    blk_ext [(idx t).2.1.1]
  · rw [after0_5, (tiles m c t).2]
    refine (congrFun (tile_slope _ _ _ _) _).trans (h.trans ?_)
    show slope (R := 4096) (errors m c) (ix2 ⟨512 * t.val + r, by omega⟩ l) = _
    blk_ext [(idx t).2.1.2.1]

/-- The sums of squares after the run. -/
theorem sums : (dats m 0 c).arrAt 6 cfg0.N = squares (errors m c) := by
  refine (dats m 0 c).arrAt_eq_of_covers 6 _ (by decide +kernel) fun t hf y => ?_
  have h7 := (flush0_6 t).mp hf
  obtain ⟨j, l, rfl⟩ : ∃ (j : Fin 1) (l : Fin 1024), y = (ix2 j l : S1x1024.Idx) := ⟨y 0, y 1, eq_ix2 (y : (⟨2, ![1, 1024]⟩ : Shape).Idx)⟩
  blk_simp
  rw [after0_6]
  refine (accumulated (fun n h => (outsAt0 m c n h).2.2) 8 512 4096 (fun _ n y => parts m c n y) rfl
    (fun t h y => (first m c t h y).trans (share m c t y)) (fun t h y => (later m c t h y).trans (congrArg (_ + ·) (share m c t y))) t (by omega) _).trans ?_
  refine Finset.sum_congr rfl fun s _ => ?_
  refine (table2_at (A := 4096) (B := 1024) _ s l).trans ?_
  refine congrArg (fun q : Fin 1024 => (errors m c (ix2 s q) * errors m c (ix2 s q) : EReal)) (Fin.ext ?_)
  blk_simp
  rw [(idx t).2.1.2.2]
  simp

end Cert.FfnLossIdeal.Value

namespace Cert.FfnLossRefIdeal.Value

open Idealize.ShloMosaic Idealize.SL.Sem Cert.FfnLossRefIdeal Cert.FfnLossRefIdeal.Gen Idealize.ShloMosaic.TcCoe Cert.NormFwd
open Cert.FfnLossIdeal.Value (err slope squares halved)

/-- The reference's error. -/
theorem error (a : FVec Ideal S4096x2816 .bf16) (w : FVec Ideal S1x1x2816x1024 .bf16) (x z : FVec Ideal S4096x1024 .f32) :
    subf (addf x (Host.dotGeneral (φ₁ := .f32) (φ₂ := .f32) dot_S4096x2816_S2816x1024_S4096x1024_1_0_0_1_n_n none (extf .f32 a bitsLt_bf16_f32)
      (extf .f32 (shapeCast _ w shapeCasts_S1x1x2816x1024_S2816x1024) bitsLt_bf16_f32))) z = err a w x z := by
  funext i
  obtain ⟨r, l, rfl⟩ : ∃ (r : Fin 4096) (l : Fin 1024), i = (ix2 r l : S4096x1024.Idx) := ⟨i 0, i 1, eq_ix2 (i : (⟨2, ![4096, 1024]⟩ : Shape).Idx)⟩
  pointwise [err, added]

/-- The chain rule's gradient at an error. -/
theorem gradient (e : FVec Ideal S4096x1024 .f32) :
    mulf (broadcastInDim S4096x1024 ![0] bcast_S4096_S4096x1024_0 (Host.divf (broadcastInDim S4096 ![] bcast_S_S4096 (mulf (constant (F := Ideal) S_ .f32 0x3F000000#32) (constant S_ .f32 0x3F800000#32)))
      (broadcastInDim S4096 ![] bcast_S_S4096 (constant S_ .f32 0x44800000#32)))) (mulf (broadcastInDim S4096x1024 ![] bcast_S_S4096x1024 (constant S_ .f32 0x40000000#32)) e)
      = slope (R := 4096) e := by
  funext i
  obtain ⟨r, l, rfl⟩ : ∃ (r : Fin 4096) (l : Fin 1024), i = (ix2 r l : S4096x1024.Idx) := ⟨i 0, i 1, eq_ix2 (i : (⟨2, ![4096, 1024]⟩ : Shape).Idx)⟩
  pointwise
  exact halved _

/-- The columns' sums of an error's squares. -/
theorem sums (e : FVec Ideal S4096x1024 .f32) : broadcastInDim S1x1024 ![1] bcast_S1024_S1x1024_1 (Host.reduceAdd (mulf e e) (constant S_ .f32 0x00000000#32) reducesTo_S4096x1024_S1024_d0 h_S_)
    = squares e := by
  funext i
  obtain ⟨j, l, rfl⟩ : ∃ (j : Fin 1) (l : Fin 1024), i = (ix2 j l : S1x1024.Idx) := ⟨i 0, i 1, eq_ix2 (i : (⟨2, ![1, 1024]⟩ : Shape).Idx)⟩
  pointwise [squares]

end Cert.FfnLossRefIdeal.Value

namespace Cert.FfnLossIdeal.Value

open Idealize.ShloMosaic Idealize.SL.Sem Cert.FfnLossIdeal Cert.FfnLossIdeal.Gen Idealize.ShloMosaic.TcCoe

/-- The kernel and the reference end with equal results. -/
theorem equal_results : Cert.algebraic_FfnLossIdeal_FfnLossRefIdeal (hFfnLossIdeal := Cert.FfnLossIdeal.Gen.facts)
    (hFfnLossRefIdeal := Cert.FfnLossRefIdeal.Gen.facts) := fun m ρ m' ρ' _ ha => by
  refine ⟨fun c => slope (R := 4096) (errors m c), fun c => slope (R := 4096) (errors m c), fun c => squares (errors m c),
    (θ_run (Cert.FfnLossIdeal.defs (F := Ideal)) _ _).mono
      (fun r hr c => ⟨(hr c).1.trans (slopes m c).1, (hr c).2.1.trans (slopes m c).2, (hr c).2.2.1.trans (sums m c), (hr c).2.2.2⟩) (run_blocks (F := Ideal) m ρ),
    (θ_run (Cert.FfnLossRefIdeal.defs (F := Ideal)) _ _).mono
      (fun r hr c => ⟨(hr c).1.trans ?_, (hr c).2.1.trans ?_, (hr c).2.2.1.trans ?_, (hr c).2.2.2⟩) (Cert.FfnLossRefIdeal.Value.run (F := Ideal) m' ρ')⟩
  all_goals rw [(ha c).1, (ha c).2.1, (ha c).2.2.1, (ha c).2.2.2]
  · exact (Cert.FfnLossRefIdeal.Value.gradient _).trans (congrArg (slope (R := 4096)) (Cert.FfnLossRefIdeal.Value.error _ _ _ _))
  · exact (Cert.FfnLossRefIdeal.Value.gradient _).trans (congrArg (slope (R := 4096)) (Cert.FfnLossRefIdeal.Value.error _ _ _ _))
  · exact (Cert.FfnLossRefIdeal.Value.sums _).trans (congrArg squares (Cert.FfnLossRefIdeal.Value.error _ _ _ _))

end Cert.FfnLossIdeal.Value
-- ==== Proof.Counts.lean ====
/- The number of rows in a window, which the kernel computes on 32-bit integers from the tile's and the row's number. -/
module

public import proofs.«01_k».proof.Proof.Spec
public import proofs.«01_k».proof.Proof.Gen.KernelIdeal.Skeleton

@[expose] public section

set_option maxRecDepth 16384

noncomputable section

namespace Cert.KernelIdeal.Rows

open Idealize.ShloMosaic Idealize.SL.Sem Cert.KernelIdeal Cert.KernelIdeal.Gen Cert.Mixer

/-- The kernel's words for the counts of windows of 2, 4, 8 and 16 rows, at every tile and row, are the counts. -/
theorem counts : ∀ (i : Fin 16) (r : Fin 288),
    let u := IntOp.maxsi (1#32) (IntOp.addi (IntOp.addi
      (Scalar.subi (Scalar.muli (BitVec.ofNat 32 i) 256#32) 16#32) (BitVec.ofNat 32 r)) 1#32)
    let n := max 1 (256 * i.val + r.val - 15)
    (IntOp.minsi (2#32) u).toInt = ((min 2 n : ℕ) : ℤ) ∧ (IntOp.minsi (4#32) u).toInt = ((min 4 n : ℕ) : ℤ)
      ∧ (IntOp.minsi (8#32) u).toInt = ((min 8 n : ℕ) : ℤ) ∧ (IntOp.minsi (16#32) u).toInt = ((min 16 n : ℕ) : ℤ) := by
  decide +kernel

/-- A word that is the count, read as a number. -/
theorem count_of_int (w : BitVec 32) (k n : ℕ) (h : w.toInt = ((min k (max 1 (n - 15)) : ℕ) : ℤ)) :
    FloatOps.sitofp (F := Ideal) .f32 w = rowCount k n := by
  show ((w.toInt : ℝ) : EReal) = _
  rw [h, Int.cast_natCast, EReal.coe_natCast]; rfl

variable (i : Fin 16)

/-- Group 0's counts. -/
theorem cnt0 (r : Fin 288) (l : Fin 1) :
    k0_pay27 (F := Ideal) (BitVec.ofNat 32 i) (ix2 r l) = rowCount 2 (256 * i.val + r) := by
  pointwise [k0_pay27]
  exact count_of_int _ _ _ (counts i r).1

/-- Group 1's counts. -/
theorem cnt1 (r : Fin 288) (l : Fin 1) :
    k0_pay37 (F := Ideal) (BitVec.ofNat 32 i) 256#32 (ix2 r l) = rowCount 4 (256 * i.val + r) := by
  pointwise [k0_pay37]
  exact count_of_int _ _ _ (counts i r).2.1

/-- Group 2's counts. -/
theorem cnt2 (r : Fin 288) (l : Fin 1) :
    k0_pay45 (F := Ideal) (BitVec.ofNat 32 i) (ix2 r l) = rowCount 8 (256 * i.val + r) := by
  pointwise [k0_pay45]
  exact count_of_int _ _ _ (counts i r).2.2.1

/-- Group 3's counts. -/
theorem cnt3 (r : Fin 288) (l : Fin 1) :
    k0_pay54 (F := Ideal) (BitVec.ofNat 32 i) (ix2 r l) = rowCount 16 (256 * i.val + r) := by
  pointwise [k0_pay54]
  exact count_of_int _ _ _ (counts i r).2.2.2

end Cert.KernelIdeal.Rows
-- ==== Proof.Rows.lean ====
/- What the kernel's body computes at one tile, read row by row: the tile with its margins `X` and the
   gradient's tile `Y` hold the rows `256 i, 256 i + 1, …` of `P` and `D`. -/
module

public import proofs.«01_k».proof.Proof.Counts

@[expose] public section

set_option maxRecDepth 16384

noncomputable section

namespace Cert.KernelIdeal.Rows

open Idealize.ShloMosaic Idealize.SL.Sem Cert.KernelIdeal Cert.KernelIdeal.Gen Cert.Mixer

/-! ## Windows by doubling -/

/-- A turn of the rows by `s` reads the row `s` earlier, where there is one. -/
theorem turned (x y : FVec Ideal S288x128 .f32) (s : ℕ)
    (hy : ∀ (r : Fin 288) (l : Fin 128), y (ix2 r l) = x (ix2 ⟨(r + 288 - s) % 288, Nat.mod_lt _ (by decide)⟩ l))
    (r r' : Fin 288) (l : Fin 128) (h : (r + 288 - s) % 288 = r'.val) : y (ix2 r l) = x (ix2 r' l) := by
  rw [hy]; congr 2; exact Fin.ext h

/-- Turned by 1, a row reads the row 1 earlier, counted round the tile's end. -/
theorem turn_down1 (x : FVec Ideal S288x128 .f32) (r : Fin 288) (l : Fin 128) :
    dynamicRotate 0 1#32 none x rotates_S288x128_d0 (ix2 r l)
      = x (ix2 ⟨(r + 288 - 1) % 288, Nat.mod_lt _ (by decide)⟩ l) := by pointwise

/-- Turned by 287, a row reads the row 1 later, counted round the tile's end. -/
theorem turn_up1 (x : FVec Ideal S288x128 .f32) (r : Fin 288) (l : Fin 128) :
    dynamicRotate 0 287#32 none x rotates_S288x128_d0 (ix2 r l)
      = x (ix2 ⟨(r + 288 - 287) % 288, Nat.mod_lt _ (by decide)⟩ l) := by pointwise

/-- Turned by 2, a row reads the row 2 earlier, counted round the tile's end. -/
theorem turn_down2 (x : FVec Ideal S288x128 .f32) (r : Fin 288) (l : Fin 128) :
    dynamicRotate 0 2#32 none x rotates_S288x128_d0 (ix2 r l)
      = x (ix2 ⟨(r + 288 - 2) % 288, Nat.mod_lt _ (by decide)⟩ l) := by pointwise

/-- Turned by 286, a row reads the row 2 later, counted round the tile's end. -/
theorem turn_up2 (x : FVec Ideal S288x128 .f32) (r : Fin 288) (l : Fin 128) :
    dynamicRotate 0 286#32 none x rotates_S288x128_d0 (ix2 r l)
      = x (ix2 ⟨(r + 288 - 286) % 288, Nat.mod_lt _ (by decide)⟩ l) := by pointwise

/-- Turned by 4, a row reads the row 4 earlier, counted round the tile's end. -/
theorem turn_down4 (x : FVec Ideal S288x128 .f32) (r : Fin 288) (l : Fin 128) :
    dynamicRotate 0 4#32 none x rotates_S288x128_d0 (ix2 r l)
      = x (ix2 ⟨(r + 288 - 4) % 288, Nat.mod_lt _ (by decide)⟩ l) := by pointwise

/-- Turned by 284, a row reads the row 4 later, counted round the tile's end. -/
theorem turn_up4 (x : FVec Ideal S288x128 .f32) (r : Fin 288) (l : Fin 128) :
    dynamicRotate 0 284#32 none x rotates_S288x128_d0 (ix2 r l)
      = x (ix2 ⟨(r + 288 - 284) % 288, Nat.mod_lt _ (by decide)⟩ l) := by pointwise

/-- Turned by 8, a row reads the row 8 earlier, counted round the tile's end. -/
theorem turn_down8 (x : FVec Ideal S288x128 .f32) (r : Fin 288) (l : Fin 128) :
    dynamicRotate 0 8#32 none x rotates_S288x128_d0 (ix2 r l)
      = x (ix2 ⟨(r + 288 - 8) % 288, Nat.mod_lt _ (by decide)⟩ l) := by pointwise

/-- Turned by 280, a row reads the row 8 later, counted round the tile's end. -/
theorem turn_up8 (x : FVec Ideal S288x128 .f32) (r : Fin 288) (l : Fin 128) :
    dynamicRotate 0 280#32 none x rotates_S288x128_d0 (ix2 r l)
      = x (ix2 ⟨(r + 288 - 280) % 288, Nat.mod_lt _ (by decide)⟩ l) := by pointwise

/-- Adding the rows `k` earlier doubles a window that ends at each row. -/
theorem down (x y : FVec Ideal S288x128 .f32) (k b lo : ℕ) (p : ℕ → ℕ → EReal)
    (hy : ∀ (r : Fin 288) (l : Fin 128), y (ix2 r l) = x (ix2 ⟨(r + 288 - k) % 288, Nat.mod_lt _ (by decide)⟩ l))
    (hx : ∀ (r : Fin 288) (l : Fin 128), lo ≤ r.val → x (ix2 r l) = back k (fun n => p n l) (b + r))
    (r : Fin 288) (l : Fin 128) (h : lo + k ≤ r.val) :
    addf x y (ix2 r l) = back (k + k) (fun n => p n l) (b + r) := by
  have hr := r.isLt
  show x (ix2 r l) + y (ix2 r l) = _
  rw [turned x y k hy r ⟨r - k, by omega⟩ l (by show (r.val + 288 - k) % 288 = r.val - k; omega),
    hx r l (by omega), hx _ l (by show lo ≤ r.val - k; omega), back_double]
  congr 2
  show b + (r.val - k) = b + r.val - k
  omega

/-- Adding the rows `k` later doubles a window that begins at each row. -/
theorem up (x y : FVec Ideal S288x128 .f32) (k s b hi : ℕ) (p : ℕ → ℕ → EReal) (hs : s + k = 288) (hhi : hi ≤ 288)
    (hy : ∀ (r : Fin 288) (l : Fin 128), y (ix2 r l) = x (ix2 ⟨(r + 288 - s) % 288, Nat.mod_lt _ (by decide)⟩ l))
    (hx : ∀ (r : Fin 288) (l : Fin 128), 16 ≤ r.val → r.val < hi → x (ix2 r l) = ahead k (fun n => p n l) (b + r))
    (r : Fin 288) (l : Fin 128) (h₀ : 16 ≤ r.val) (h : r.val < hi - k) :
    addf x y (ix2 r l) = ahead (k + k) (fun n => p n l) (b + r) := by
  have hr := r.isLt
  show x (ix2 r l) + y (ix2 r l) = _
  rw [turned x y s hy r ⟨r + k, by omega⟩ l (by show (r.val + 288 - s) % 288 = r.val + k; omega),
    hx r l h₀ (by omega), hx _ l (by show 16 ≤ r.val + k; omega) (by show r.val + k < hi; omega), ahead_double]
  congr 2
  show b + (r.val + k) = b + r.val + k
  omega

/-! ## The tile with its margins -/

section
variable (P D : ℕ → ℕ → EReal) (cw : ℕ → ℕ → EReal) (pw : ℕ → ℕ → ℕ → EReal) (ps : ℕ → EReal)

variable (X : FVec Ideal S288x2048 .f32) (Y : FVec Ideal S288x1024 .f32) (i : Fin 16)
  (hX : ∀ (r : Fin 288) (l : Fin 2048), X (ix2 r l) = P (256 * i.val + r) l)
  (hY : ∀ (r : Fin 288) (l : Fin 1024), 16 ≤ r.val → Y (ix2 r l) = D (256 * i.val + r) l)

/-- The pooled rows from the window sums, the counts and the rows themselves. -/
theorem pooled_of (g : ℕ) (w x : FVec Ideal S288x128 .f32) (q : FVec Ideal S288x1 .f32)
    (hw : ∀ (r : Fin 288) (l : Fin 128), 16 ≤ r.val →
      w (ix2 r l) = back (2 ^ (g + 1)) (fun n => P n (1536 + 128 * g + l)) (256 * i.val + r))
    (hx : ∀ (r : Fin 288) (l : Fin 128), x (ix2 r l) = P (256 * i.val + r) (1536 + 128 * g + l))
    (hq : ∀ (r : Fin 288) (l : Fin 1), q (ix2 r l) = rowCount (2 ^ (g + 1)) (256 * i.val + r))
    (r : Fin 256) (l : Fin 128) :
    truncf .bf16 (extractStridedSlice S256x128 ![16, 0]
      (subf (divf w (broadcastTo S288x128 q broadcasts_S288x1_S288x128)) x) slices_S288x128_o16_0_S256x128)
      bitsLt_bf16_f32 (ix2 r l) = pooled P g (256 * i.val + 16 + r) l := by
  pointwise
  rw [hw _ _ (by show 16 ≤ 16 + r.val; omega), hx, hq]
  unfold pooled
  simp only [Nat.add_assoc]

include hX in
/-- Group 0's pooled rows. -/
theorem pooled0 (r : Fin 256) (l : Fin 128) :
    k0_pay28 (F := Ideal) (BitVec.ofNat 32 i) X (ix2 r l) = pooled P 0 (256 * i.val + 16 + r) l := by
  have h₀ : ∀ (r : Fin 288) (l : Fin 128), extractStridedSlice S288x128 ![0, 1536] X
      slices_S288x2048_o0_1536_S288x128 (ix2 r l) = P (256 * i.val + r) (1536 + 128 * 0 + l) := by
    intro r l; pointwise; rw [hX]
  have h₁ := down _ (dynamicRotate 0 1#32 none _ rotates_S288x128_d0) 1 (256 * i.val) 0
    (fun n l => P n (1536 + 128 * 0 + l)) (turn_down1 _) (fun r l _ => (h₀ r l).trans (back_one _ _).symm)
  exact pooled_of P i 0 _ _ _ (fun r l hr => h₁ r l (by omega)) h₀ (cnt0 i) r l

include hX in
/-- Group 1's columns. -/
theorem cols1 (r : Fin 288) (l : Fin 128) :
    k0_pay35 (F := Ideal) X (ix2 r l) = P (256 * i.val + r) (1536 + 128 * 1 + l) := by
  pointwise [k0_pay35]; rw [hX]

include hX in
/-- Group 1's pooled rows. -/
theorem pooled1 (r : Fin 256) (l : Fin 128) :
    k0_pay38 (F := Ideal) (BitVec.ofNat 32 i) (k0_pay35 X) (k0_pay36 X) 256#32 (ix2 r l)
      = pooled P 1 (256 * i.val + 16 + r) l := by
  have h₀ := cols1 P X i hX
  have h₁ := down _ (dynamicRotate 0 1#32 none _ rotates_S288x128_d0) 1 (256 * i.val) 0
    (fun n l => P n (1536 + 128 * 1 + l)) (turn_down1 _) (fun r l _ => (h₀ r l).trans (back_one _ _).symm)
  have h₂ := down _ (dynamicRotate 0 2#32 none _ rotates_S288x128_d0) 2 (256 * i.val) _
    (fun n l => P n (1536 + 128 * 1 + l)) (turn_down2 _) h₁
  exact pooled_of P i 1 _ _ _ (fun r l hr => h₂ r l (by omega)) h₀ (cnt1 i) r l

include hX in
/-- Group 2's pooled rows. -/
theorem pooled2 (r : Fin 256) (l : Fin 128) :
    k0_pay46 (F := Ideal) (BitVec.ofNat 32 i) X (ix2 r l) = pooled P 2 (256 * i.val + 16 + r) l := by
  have h₀ : ∀ (r : Fin 288) (l : Fin 128), extractStridedSlice S288x128 ![0, 1792] X
      slices_S288x2048_o0_1792_S288x128 (ix2 r l) = P (256 * i.val + r) (1536 + 128 * 2 + l) := by
    intro r l; pointwise; rw [hX]
  have h₁ := down _ (dynamicRotate 0 1#32 none _ rotates_S288x128_d0) 1 (256 * i.val) 0
    (fun n l => P n (1536 + 128 * 2 + l)) (turn_down1 _) (fun r l _ => (h₀ r l).trans (back_one _ _).symm)
  have h₂ := down _ (dynamicRotate 0 2#32 none _ rotates_S288x128_d0) 2 (256 * i.val) _
    (fun n l => P n (1536 + 128 * 2 + l)) (turn_down2 _) h₁
  have h₃ := down _ (dynamicRotate 0 4#32 none _ rotates_S288x128_d0) 4 (256 * i.val) _
    (fun n l => P n (1536 + 128 * 2 + l)) (turn_down4 _) h₂
  exact pooled_of P i 2 _ _ _ (fun r l hr => h₃ r l (by omega)) h₀ (cnt2 i) r l

include hX in
/-- Group 3's pooled rows. -/
theorem pooled3 (r : Fin 256) (l : Fin 128) :
    k0_pay55 (F := Ideal) (BitVec.ofNat 32 i) X (ix2 r l) = pooled P 3 (256 * i.val + 16 + r) l := by
  have h₀ : ∀ (r : Fin 288) (l : Fin 128), extractStridedSlice S288x128 ![0, 1920] X
      slices_S288x2048_o0_1920_S288x128 (ix2 r l) = P (256 * i.val + r) (1536 + 128 * 3 + l) := by
    intro r l; pointwise; rw [hX]
  have h₁ := down _ (dynamicRotate 0 1#32 none _ rotates_S288x128_d0) 1 (256 * i.val) 0
    (fun n l => P n (1536 + 128 * 3 + l)) (turn_down1 _) (fun r l _ => (h₀ r l).trans (back_one _ _).symm)
  have h₂ := down _ (dynamicRotate 0 2#32 none _ rotates_S288x128_d0) 2 (256 * i.val) _
    (fun n l => P n (1536 + 128 * 3 + l)) (turn_down2 _) h₁
  have h₃ := down _ (dynamicRotate 0 4#32 none _ rotates_S288x128_d0) 4 (256 * i.val) _
    (fun n l => P n (1536 + 128 * 3 + l)) (turn_down4 _) h₂
  have h₄ := down _ (dynamicRotate 0 8#32 none _ rotates_S288x128_d0) 8 (256 * i.val) _
    (fun n l => P n (1536 + 128 * 3 + l)) (turn_down8 _) h₃
  exact pooled_of P i 3 _ _ _ (fun r l hr => h₄ r l (by omega)) h₀ (cnt3 i) r l

/-! ## The gradient of the pool -/

include hY in
/-- Group 0's columns of the gradient. -/
theorem dcols0 (r : Fin 288) (l : Fin 128) (h : 16 ≤ r.val) :
    k0_pay29 (F := Ideal) Y (ix2 r l) = D (256 * i.val + r) (512 + 128 * 0 + l) := by
  pointwise [k0_pay29]; rw [hY _ _ h]

include hY in
/-- Group 1's columns of the gradient. -/
theorem dcols1 (r : Fin 288) (l : Fin 128) (h : 16 ≤ r.val) :
    k0_pay39 (F := Ideal) Y (ix2 r l) = D (256 * i.val + r) (512 + 128 * 1 + l) := by
  pointwise [k0_pay39]; rw [hY _ _ h]

include hY in
/-- Group 2's columns of the gradient. -/
theorem dcols2 (r : Fin 288) (l : Fin 128) (h : 16 ≤ r.val) :
    k0_pay47 (F := Ideal) Y (ix2 r l) = D (256 * i.val + r) (512 + 128 * 2 + l) := by
  pointwise [k0_pay47]; rw [hY _ _ h]

include hY in
/-- Group 3's columns of the gradient. -/
theorem dcols3 (r : Fin 288) (l : Fin 128) (h : 16 ≤ r.val) :
    k0_pay56 (F := Ideal) Y (ix2 r l) = D (256 * i.val + r) (512 + 128 * 3 + l) := by
  pointwise [k0_pay56]; rw [hY _ _ h]

/-- The scaled gradient from its columns and the scale's. -/
theorem scaled_of (g : ℕ) (y : FVec Ideal S288x128 .f32) (v : FVec Ideal S1x128 .f32)
    (hy : ∀ (r : Fin 288) (l : Fin 128), 16 ≤ r.val → y (ix2 r l) = D (256 * i.val + r) (512 + 128 * g + l))
    (hv : ∀ l : Fin 128, v (ix2 0 l) = ps (128 * g + l))
    (r : Fin 288) (l : Fin 128) (h : 16 ≤ r.val) :
    mulf y (broadcastTo S288x128 v broadcasts_S1x128_S288x128) (ix2 r l) = scaled D ps g (256 * i.val + r) l := by
  pointwise
  rw [hy _ _ h, hv]
  rfl

/-- A row's sum of products with the pool's weights, added into the scale's gradient. -/
theorem dps_of (g : ℕ) (p : FVec Ideal S256x128 .bf16) (y : FVec Ideal S288x128 .f32)
    (w : FVec Ideal S1x128x128 .bf16) (v : FVec Ideal S1x128 .f32)
    (hp : ∀ (r : Fin 256) (l : Fin 128), p (ix2 r l) = pooled P g (256 * i.val + 16 + r) l)
    (hy : ∀ (r : Fin 288) (l : Fin 128), 16 ≤ r.val → y (ix2 r l) = D (256 * i.val + r) (512 + 128 * g + l))
    (hw : ∀ a b : Fin 128, w (ix3 0 a b) = pw g a b) (z : Fin 1) (l : Fin 128) :
    k0_pay32 (F := Ideal) p y (k0_pay31 w) (constant S256x128 .f32 0x00000000#32) v (ix2 z l)
      = v (ix2 z l) + ∑ r : Fin 256, dpsRow P D pw (256 * i.val + 16 + r) (128 * g + l) := by
  have hl := l.isLt
  obtain rfl : z = 0 := Subsingleton.elim _ _
  pointwise [k0_pay32, k0_pay31]
  simp only [hp, hw, zero_add]
  congr 1
  refine Finset.sum_congr rfl fun r _ => ?_
  rw [hy _ _ (by show 16 ≤ 16 + r.val; omega)]
  unfold dpsRow mixed
  rw [show (128 * g + l.val) / 128 = g by omega, show (128 * g + l.val) % 128 = l.val by omega]
  simp only [Nat.add_assoc]

/-- The pooled rows times the scaled gradient, added into the weights' gradient. -/
theorem dpw_of (g : ℕ) (p : FVec Ideal S256x128 .bf16) (e : FVec Ideal S288x128 .f32)
    (v : FVec Ideal S1x128x128 .f32)
    (hp : ∀ (r : Fin 256) (l : Fin 128), p (ix2 r l) = pooled P g (256 * i.val + 16 + r) l)
    (he : ∀ (r : Fin 288) (l : Fin 128), 16 ≤ r.val → e (ix2 r l) = scaled D ps g (256 * i.val + r) l)
    (z : Fin 1) (a b : Fin 128) :
    k0_pay33 (F := Ideal) p e v (ix3 z a b)
      = v (ix3 z a b) + ∑ r : Fin 256, dpwRow P D ps (256 * i.val + 16 + r) g a b := by
  obtain rfl : z = 0 := Subsingleton.elim _ _
  pointwise [k0_pay33]
  simp only [hp, zero_add]
  congr 1
  refine Finset.sum_congr rfl fun r _ => ?_
  rw [he _ _ (by show 16 ≤ 16 + r.val; omega)]
  unfold dpwRow
  simp only [Nat.add_assoc]

/-- The gradient that reaches the pooled rows. -/
theorem dpooled_of (g : ℕ) (e : FVec Ideal S288x128 .f32) (w : FVec Ideal S1x128x128 .bf16)
    (he : ∀ (r : Fin 288) (l : Fin 128), 16 ≤ r.val → e (ix2 r l) = scaled D ps g (256 * i.val + r) l)
    (hw : ∀ a b : Fin 128, w (ix3 0 a b) = pw g a b) (r : Fin 288) (l : Fin 128) (h : 16 ≤ r.val) :
    matmul dot_S288x128_S128x128_S288x128_1_1_0_0_n_n none (truncf .bf16 e bitsLt_bf16_f32)
      (shapeCast S128x128 w shapeCasts_S1x128x128_S128x128) (constant S288x128 .f32 0x00000000#32) (ix2 r l)
      = dpooled D pw ps g (256 * i.val + r) l := by
  pointwise
  simp only [zero_add, hw]
  unfold dpooled
  refine Finset.sum_congr rfl fun d _ => ?_
  rw [he _ _ h]

/-- The same over the window's counts. -/
theorem dmean_of (g : ℕ) (x : FVec Ideal S288x128 .f32) (q : FVec Ideal S288x1 .f32)
    (hx : ∀ (r : Fin 288) (l : Fin 128), 16 ≤ r.val → x (ix2 r l) = dpooled D pw ps g (256 * i.val + r) l)
    (hq : ∀ (r : Fin 288) (l : Fin 1), q (ix2 r l) = rowCount (2 ^ (g + 1)) (256 * i.val + r))
    (r : Fin 288) (l : Fin 128) (h : 16 ≤ r.val) :
    divf x (broadcastTo S288x128 q broadcasts_S288x1_S288x128) (ix2 r l)
      = ahead 1 (fun n => Ideal.div (dpooled D pw ps g n l) (rowCount (2 ^ (g + 1)) n)) (256 * i.val + r) := by
  pointwise
  rw [hx _ _ h, hq, ahead_one]

/-- The gradient of a group's columns from the window sums. -/
theorem dpool_of (g : ℕ) (a x : FVec Ideal S288x128 .f32)
    (ha : ∀ (r : Fin 288) (l : Fin 128), 16 ≤ r.val → r.val < 273 → a (ix2 r l)
      = ahead (2 ^ (g + 1)) (fun n => Ideal.div (dpooled D pw ps g n l) (rowCount (2 ^ (g + 1)) n)) (256 * i.val + r))
    (hx : ∀ (r : Fin 288) (l : Fin 128), 16 ≤ r.val → x (ix2 r l) = dpooled D pw ps g (256 * i.val + r) l)
    (r : Fin 256) (l : Fin 128) :
    k0_pay1 (F := Ideal) (subf a x) (ix2 r l) = dpool D pw ps g (256 * i.val + 16 + r) l := by
  have hr := r.isLt
  pointwise [k0_pay1]
  rw [ha _ _ (by show 16 ≤ 16 + r.val; omega) (by show 16 + r.val < 273; omega),
    hx _ _ (by show 16 ≤ 16 + r.val; omega)]
  unfold dpool
  simp only [Nat.add_assoc]

/-- Group 0's gradient of the projection. -/
theorem dpool0 (e : FVec Ideal S288x128 .f32) (w : FVec Ideal S1x128x128 .bf16)
    (he : ∀ (r : Fin 288) (l : Fin 128), 16 ≤ r.val → e (ix2 r l) = scaled D ps 0 (256 * i.val + r) l)
    (hw : ∀ a b : Fin 128, w (ix3 0 a b) = pw 0 a b) (r : Fin 256) (l : Fin 128) :
    k0_pay34 (F := Ideal) (k0_pay27 (BitVec.ofNat 32 i)) e w (ix2 r l) = dpool D pw ps 0 (256 * i.val + 16 + r) l := by
  have hx := dpooled_of D pw ps i 0 e w he hw
  have h₀ := dmean_of D pw ps i 0 _ _ hx (cnt0 i)
  have h₁ := up _ (dynamicRotate 0 287#32 none _ rotates_S288x128_d0) 1 287 (256 * i.val) 288
    (fun n l => Ideal.div (dpooled D pw ps 0 n l) (rowCount (2 ^ (0 + 1)) n)) rfl (by decide) (turn_up1 _)
    (fun r l h _ => h₀ r l h)
  exact dpool_of D pw ps i 0 _ _ (fun r l h h' => h₁ r l h (by omega)) hx r l

/-- Group 1's gradient of the projection. -/
theorem dpool1 (e : FVec Ideal S288x128 .f32) (w : FVec Ideal S1x128x128 .bf16)
    (he : ∀ (r : Fin 288) (l : Fin 128), 16 ≤ r.val → e (ix2 r l) = scaled D ps 1 (256 * i.val + r) l)
    (hw : ∀ a b : Fin 128, w (ix3 0 a b) = pw 1 a b) (r : Fin 256) (l : Fin 128) :
    k0_pay44 (F := Ideal) (k0_pay37 (BitVec.ofNat 32 i) 256#32) e w (ix2 r l)
      = dpool D pw ps 1 (256 * i.val + 16 + r) l := by
  have hx := dpooled_of D pw ps i 1 e w he hw
  have h₀ := dmean_of D pw ps i 1 _ _ hx (cnt1 i)
  have h₁ := up _ (dynamicRotate 0 287#32 none _ rotates_S288x128_d0) 1 287 (256 * i.val) 288
    (fun n l => Ideal.div (dpooled D pw ps 1 n l) (rowCount (2 ^ (1 + 1)) n)) rfl (by decide) (turn_up1 _)
    (fun r l h _ => h₀ r l h)
  have h₂ := up _ (dynamicRotate 0 286#32 none _ rotates_S288x128_d0) 2 286 (256 * i.val) _
    (fun n l => Ideal.div (dpooled D pw ps 1 n l) (rowCount (2 ^ (1 + 1)) n)) rfl (by decide) (turn_up2 _) h₁
  exact dpool_of D pw ps i 1 _ _ (fun r l h h' => h₂ r l h (by omega)) hx r l

/-- Group 2's gradient of the projection, from its scaled gradient. -/
theorem dpool2 (Y : FVec Ideal S288x1024 .f32) (v : FVec Ideal S1x128 .f32) (w : FVec Ideal S1x128x128 .bf16)
    (he : ∀ (r : Fin 288) (l : Fin 128), 16 ≤ r.val → k0_pay48 Y v (ix2 r l) = scaled D ps 2 (256 * i.val + r) l)
    (hw : ∀ a b : Fin 128, w (ix3 0 a b) = pw 2 a b) (r : Fin 256) (l : Fin 128) :
    k0_pay53 (F := Ideal) (k0_pay51 Y v w) (k0_pay52 Y (k0_pay45 (BitVec.ofNat 32 i)) v w) (ix2 r l)
      = dpool D pw ps 2 (256 * i.val + 16 + r) l := by
  have hx := dpooled_of D pw ps i 2 _ w he hw
  have h₀ := dmean_of D pw ps i 2 _ _ hx (cnt2 i)
  have h₁ := up _ (dynamicRotate 0 287#32 none _ rotates_S288x128_d0) 1 287 (256 * i.val) 288
    (fun n l => Ideal.div (dpooled D pw ps 2 n l) (rowCount (2 ^ (2 + 1)) n)) rfl (by decide) (turn_up1 _)
    (fun r l h _ => h₀ r l h)
  have h₂ := up _ (dynamicRotate 0 286#32 none _ rotates_S288x128_d0) 2 286 (256 * i.val) _
    (fun n l => Ideal.div (dpooled D pw ps 2 n l) (rowCount (2 ^ (2 + 1)) n)) rfl (by decide) (turn_up2 _) h₁
  have h₃ := up _ (dynamicRotate 0 284#32 none _ rotates_S288x128_d0) 4 284 (256 * i.val) _
    (fun n l => Ideal.div (dpooled D pw ps 2 n l) (rowCount (2 ^ (2 + 1)) n)) rfl (by decide) (turn_up4 _) h₂
  exact dpool_of D pw ps i 2 _ _ (fun r l h h' => h₃ r l h (by omega)) hx r l

/-- Group 3's gradient of the projection. -/
theorem dpool3 (e : FVec Ideal S288x128 .f32) (w : FVec Ideal S1x128x128 .bf16)
    (he : ∀ (r : Fin 288) (l : Fin 128), 16 ≤ r.val → e (ix2 r l) = scaled D ps 3 (256 * i.val + r) l)
    (hw : ∀ a b : Fin 128, w (ix3 0 a b) = pw 3 a b) (r : Fin 256) (l : Fin 128) :
    k0_pay1 (F := Ideal) (k0_pay61 (k0_pay54 (BitVec.ofNat 32 i)) e w) (ix2 r l)
      = dpool D pw ps 3 (256 * i.val + 16 + r) l := by
  have hx := dpooled_of D pw ps i 3 e w he hw
  have h₀ := dmean_of D pw ps i 3 _ _ hx (cnt3 i)
  have h₁ := up _ (dynamicRotate 0 287#32 none _ rotates_S288x128_d0) 1 287 (256 * i.val) 288
    (fun n l => Ideal.div (dpooled D pw ps 3 n l) (rowCount (2 ^ (3 + 1)) n)) rfl (by decide) (turn_up1 _)
    (fun r l h _ => h₀ r l h)
  have h₂ := up _ (dynamicRotate 0 286#32 none _ rotates_S288x128_d0) 2 286 (256 * i.val) _
    (fun n l => Ideal.div (dpooled D pw ps 3 n l) (rowCount (2 ^ (3 + 1)) n)) rfl (by decide) (turn_up2 _) h₁
  have h₃ := up _ (dynamicRotate 0 284#32 none _ rotates_S288x128_d0) 4 284 (256 * i.val) _
    (fun n l => Ideal.div (dpooled D pw ps 3 n l) (rowCount (2 ^ (3 + 1)) n)) rfl (by decide) (turn_up4 _) h₂
  have h₄ := up _ (dynamicRotate 0 280#32 none _ rotates_S288x128_d0) 8 280 (256 * i.val) _
    (fun n l => Ideal.div (dpooled D pw ps 3 n l) (rowCount (2 ^ (3 + 1)) n)) rfl (by decide) (turn_up8 _) h₃
  exact dpool_of D pw ps i 3 _ _ (fun r l h h' => h₄ r l h (by omega)) hx r l

end

end Cert.KernelIdeal.Rows
-- ==== Proof.ConvRows.lean ====
/- The convolution's half of the kernel's body at one tile, read row by row. -/
module

public import proofs.«01_k».proof.Proof.Rows

@[expose] public section

set_option maxRecDepth 16384

noncomputable section

namespace Cert.KernelIdeal.Rows

open Idealize.ShloMosaic Idealize.SL.Sem Cert.KernelIdeal Cert.KernelIdeal.Gen Cert.Mixer

section
variable (P D : ℕ → ℕ → EReal) (cw : ℕ → ℕ → EReal)

variable (j : grid0.Coords) (v2 v5 : Vec Ideal S16x2048 .f32) (v8 : Vec Ideal S256x2048 .f32)
  (Y : FVec Ideal S288x1024 .f32) (w : Vec Ideal S3x512 .f32) (i : Fin 16)
  (hX : ∀ (r : Fin 288) (l : Fin 2048), k0_pay2 j v2 v5 v8 (ix2 r l) = P (256 * i.val + r) l)
  (hY : ∀ (r : Fin 288) (l : Fin 1024), 16 ≤ r.val → Y (ix2 r l) = D (256 * i.val + r) l)
  (hw : ∀ (a : Fin 3) (l : Fin 512), w (ix2 a l) = cw a l)

include hX in
/-- The values' columns. -/
theorem value_cols (r : Fin 288) (l : Fin 512) :
    k0_pay7 (F := Ideal) j v2 v5 v8 (ix2 r l) = P (256 * i.val + r) l := by
  pointwise [k0_pay7]; rw [hX]

include hX in
/-- The first gate's columns. -/
theorem gateb_cols (r : Fin 288) (l : Fin 512) :
    k0_pay8 (F := Ideal) j v2 v5 v8 (ix2 r l) = P (256 * i.val + r) (512 + l) := by
  pointwise [k0_pay8]; rw [hX]

include hX in
/-- The second gate's columns. -/
theorem gatec_cols (r : Fin 288) (l : Fin 512) :
    k0_pay9 (F := Ideal) j v2 v5 v8 (ix2 r l) = P (256 * i.val + r) (1024 + l) := by
  pointwise [k0_pay9]; rw [hX]

include hX in
/-- The convolution's input. -/
theorem gated_at (r : Fin 288) (l : Fin 512) :
    k0_pay10 (F := Ideal) j v2 v5 v8 (ix2 r l) = gated P (256 * i.val + r) l := by
  show k0_pay9 (F := Ideal) j v2 v5 v8 (ix2 r l) * k0_pay7 (F := Ideal) j v2 v5 v8 (ix2 r l) = _
  rw [gatec_cols P j v2 v5 v8 i hX, value_cols P j v2 v5 v8 i hX]; rfl

include hX in
/-- The convolution's input one row earlier. -/
theorem gated_at1 (r : Fin 288) (l : Fin 512) (h : 16 ≤ r.val) :
    k0_pay11 (F := Ideal) j v2 v5 v8 (ix2 r l) = gated P (256 * i.val + r - 1) l := by
  have hr := r.isLt
  have e : ∀ x : FVec Ideal S288x512 .f32, dynamicRotate 0 1#32 none x rotates_S288x512_d0 (ix2 r l)
      = x (ix2 ⟨(r + 288 - 1) % 288, Nat.mod_lt _ (by decide)⟩ l) := fun x => by pointwise
  show dynamicRotate 0 1#32 none (k0_pay10 (F := Ideal) j v2 v5 v8) rotates_S288x512_d0 (ix2 r l) = _
  rw [e, gated_at P j v2 v5 v8 i hX]
  congr 1
  show 256 * i.val + (r.val + 288 - 1) % 288 = _
  omega

include hX in
/-- The convolution's input two rows earlier. -/
theorem gated_at2 (r : Fin 288) (l : Fin 512) (h : 16 ≤ r.val) :
    k0_pay12 (F := Ideal) j v2 v5 v8 (ix2 r l) = gated P (256 * i.val + r - 2) l := by
  have hr := r.isLt
  have e : ∀ x : FVec Ideal S288x512 .f32, dynamicRotate 0 2#32 none x rotates_S288x512_d0 (ix2 r l)
      = x (ix2 ⟨(r + 288 - 2) % 288, Nat.mod_lt _ (by decide)⟩ l) := fun x => by pointwise
  show dynamicRotate 0 2#32 none (k0_pay10 (F := Ideal) j v2 v5 v8) rotates_S288x512_d0 (ix2 r l) = _
  rw [e, gated_at P j v2 v5 v8 i hX]
  congr 1
  show 256 * i.val + (r.val + 288 - 2) % 288 = _
  omega

include hX hY in
/-- The gradient that reaches the convolution's result. -/
theorem dconv_at (r : Fin 288) (l : Fin 512) (h : 16 ≤ r.val) :
    k0_pay16 (F := Ideal) Y (k0_pay8 j v2 v5 v8) (ix2 r l) = dconv P D (256 * i.val + r) l := by
  show k0_pay15 (F := Ideal) Y (ix2 r l) * k0_pay8 (F := Ideal) j v2 v5 v8 (ix2 r l) = _
  rw [gateb_cols P j v2 v5 v8 i hX]
  pointwise [k0_pay15]
  rw [hY _ _ h]
  rfl

include hX hY hw in
/-- The gradient that reaches the convolution's input. -/
theorem dgated_at (r : Fin 288) (l : Fin 512) (h : 16 ≤ r.val) (h' : r.val < 286) :
    k0_pay17 (F := Ideal) Y w (k0_pay8 j v2 v5 v8) (ix2 r l) = dgated P D cw (256 * i.val + r) l := by
  have hd := dconv_at P D j v2 v5 v8 Y i hX hY
  generalize k0_pay8 (F := Ideal) j v2 v5 v8 = g at hd ⊢
  have e1 : ∀ x : FVec Ideal S288x512 .f32, dynamicRotate 0 287#32 none x rotates_S288x512_d0 (ix2 r l)
      = x (ix2 ⟨r + 1, by omega⟩ l) := fun x => by
    pointwise; congr 2; exact Fin.ext (by show (r.val + 288 - 287) % 288 = r.val + 1; omega)
  have e2 : ∀ x : FVec Ideal S288x512 .f32, dynamicRotate 0 286#32 none x rotates_S288x512_d0 (ix2 r l)
      = x (ix2 ⟨r + 2, by omega⟩ l) := fun x => by
    pointwise; congr 2; exact Fin.ext (by show (r.val + 288 - 286) % 288 = r.val + 2; omega)
  have w0 : (extractStridedSlice S1x512 ![0, 0] w slices_S3x512_o0_0_S1x512 : FVec Ideal S1x512 .f32) (ix2 0 l) = cw 0 l := by
    pointwise; exact hw 0 l
  have w1 : (extractStridedSlice S1x512 ![1, 0] w slices_S3x512_o1_0_S1x512 : FVec Ideal S1x512 .f32) (ix2 0 l) = cw 1 l := by
    pointwise; exact hw 1 l
  have w2 : (extractStridedSlice S1x512 ![2, 0] w slices_S3x512_o2_0_S1x512 : FVec Ideal S1x512 .f32) (ix2 0 l) = cw 2 l := by
    pointwise; exact hw 2 l
  have eb : ∀ v : FVec Ideal S1x512 .f32, broadcastTo S288x512 v broadcasts_S1x512_S288x512 (ix2 r l) = v (ix2 0 l) :=
    fun v => by pointwise
  have h0 := hd r l h
  have h1 := hd ⟨r + 1, by omega⟩ l (by show 16 ≤ r.val + 1; omega)
  have h2 := hd ⟨r + 2, by omega⟩ l (by show 16 ≤ r.val + 2; omega)
  have key : k0_pay17 (F := Ideal) Y w g (ix2 r l)
      = (k0_pay16 Y g (ix2 r l) * broadcastTo S288x512 (extractStridedSlice S1x512 ![2, 0] w slices_S3x512_o2_0_S1x512 : FVec Ideal S1x512 .f32) broadcasts_S1x512_S288x512 (ix2 r l)
        + dynamicRotate 0 287#32 none (k0_pay16 Y g) rotates_S288x512_d0 (ix2 r l) * broadcastTo S288x512 (extractStridedSlice S1x512 ![1, 0] w slices_S3x512_o1_0_S1x512 : FVec Ideal S1x512 .f32) broadcasts_S1x512_S288x512 (ix2 r l))
        + dynamicRotate 0 286#32 none (k0_pay16 Y g) rotates_S288x512_d0 (ix2 r l) * broadcastTo S288x512 (extractStridedSlice S1x512 ![0, 0] w slices_S3x512_o0_0_S1x512 : FVec Ideal S1x512 .f32) broadcasts_S1x512_S288x512 (ix2 r l) := rfl
  rw [key, e1, e2, eb, eb, eb, w0, w1, w2, h0, h1, h2]
  rfl

include hX hY hw in
/-- The gradient of the values' columns. -/
theorem out_value (r : Fin 256) (l : Fin 512) :
    k0_pay18 (F := Ideal) Y w (k0_pay8 j v2 v5 v8) (k0_pay9 j v2 v5 v8) (ix2 r l)
      = dgated P D cw (256 * i.val + 16 + r) l * P (256 * i.val + 16 + r) (1024 + l) := by
  have hr := r.isLt
  have hd := dgated_at P D cw j v2 v5 v8 Y w i hX hY hw ⟨16 + r, by omega⟩ l (by show 16 ≤ 16 + r.val; omega)
    (by show 16 + r.val < 286; omega)
  have hc := gatec_cols P j v2 v5 v8 i hX ⟨16 + r, by omega⟩ l
  generalize k0_pay8 (F := Ideal) j v2 v5 v8 = g at hd ⊢
  generalize k0_pay9 (F := Ideal) j v2 v5 v8 = g' at hc ⊢
  pointwise [k0_pay18]
  rw [hd, hc]
  simp only [Nat.add_assoc]

include hX hY hw in
/-- The gradient of the second gate's columns. -/
theorem out_gatec (r : Fin 256) (l : Fin 512) :
    k0_pay20 (F := Ideal) Y w (k0_pay7 j v2 v5 v8) (k0_pay8 j v2 v5 v8) (ix2 r l)
      = dgated P D cw (256 * i.val + 16 + r) l * P (256 * i.val + 16 + r) l := by
  have hr := r.isLt
  have hd := dgated_at P D cw j v2 v5 v8 Y w i hX hY hw ⟨16 + r, by omega⟩ l (by show 16 ≤ 16 + r.val; omega)
    (by show 16 + r.val < 286; omega)
  have hc := value_cols P j v2 v5 v8 i hX ⟨16 + r, by omega⟩ l
  generalize k0_pay8 (F := Ideal) j v2 v5 v8 = g at hd ⊢
  generalize k0_pay7 (F := Ideal) j v2 v5 v8 = g' at hc ⊢
  pointwise [k0_pay20]
  rw [hd, hc]
  simp only [Nat.add_assoc]

include hX hY hw in
/-- The gradient of the first gate's columns. -/
theorem out_gateb (r : Fin 256) (l : Fin 512) :
    k0_pay19 (F := Ideal) Y (k0_pay13 j v2 v5 v8 w) (k0_pay14 j v2 v5 v8 w) (ix2 r l)
      = D (256 * i.val + 16 + r) l * conv P cw (256 * i.val + 16 + r) l := by
  have hr := r.isLt
  have h0 := gated_at P j v2 v5 v8 i hX ⟨16 + r, by omega⟩ l
  have h1 := gated_at1 P j v2 v5 v8 i hX ⟨16 + r, by omega⟩ l (by show 16 ≤ 16 + r.val; omega)
  have h2 := gated_at2 P j v2 v5 v8 i hX ⟨16 + r, by omega⟩ l (by show 16 ≤ 16 + r.val; omega)
  unfold k0_pay13 k0_pay14
  generalize k0_pay10 (F := Ideal) j v2 v5 v8 = g at h0 ⊢
  generalize k0_pay11 (F := Ideal) j v2 v5 v8 = g' at h1 ⊢
  generalize k0_pay12 (F := Ideal) j v2 v5 v8 = g'' at h2 ⊢
  pointwise [k0_pay19, k0_pay15]
  rw [h0, h1, h2, hY _ _ (by show 16 ≤ 16 + r.val; omega), hw, hw, hw]
  unfold conv
  simp only [Nat.add_assoc]
  rfl

include hX hY in
/-- The sum over the tile's rows for the weights' tap two rows back. -/
theorem dcw0 (v : Vec Ideal S1x512 .f32) (z : Fin 1) (l : Fin 512) :
    k0_pay22 (F := Ideal) Y (k0_pay8 j v2 v5 v8) (k0_pay12 j v2 v5 v8) v (ix2 z l)
      = v (ix2 z l) + ∑ r : Fin 256, dcwRow P D (256 * i.val + 16 + r) 0 l := by
  have hd := dconv_at P D j v2 v5 v8 Y i hX hY
  have hg := gated_at2 P j v2 v5 v8 i hX
  generalize k0_pay8 (F := Ideal) j v2 v5 v8 = g at hd ⊢
  generalize k0_pay12 (F := Ideal) j v2 v5 v8 = g' at hg ⊢
  unfold k0_pay22 k0_pay21
  generalize k0_pay16 (F := Ideal) Y g = d at hd ⊢
  obtain rfl : z = 0 := Subsingleton.elim _ _
  pointwise
  congr 1
  refine Finset.sum_congr rfl fun r _ => ?_
  rw [hd _ _ (by show 16 ≤ 16 + r.val; omega), hg _ _ (by show 16 ≤ 16 + r.val; omega)]
  unfold dcwRow
  simp only [Nat.add_assoc]

include hX hY in
/-- The sum over the tile's rows for the weights' tap one row back. -/
theorem dcw1 (v : Vec Ideal S1x512 .f32) (z : Fin 1) (l : Fin 512) :
    k0_pay25 (F := Ideal) (k0_pay23 v) (k0_pay24 Y (k0_pay8 j v2 v5 v8) (k0_pay11 j v2 v5 v8)) (ix2 z l)
      = v (ix2 z l) + ∑ r : Fin 256, dcwRow P D (256 * i.val + 16 + r) 1 l := by
  have hd := dconv_at P D j v2 v5 v8 Y i hX hY
  have hg := gated_at1 P j v2 v5 v8 i hX
  generalize k0_pay8 (F := Ideal) j v2 v5 v8 = g at hd ⊢
  generalize k0_pay11 (F := Ideal) j v2 v5 v8 = g' at hg ⊢
  unfold k0_pay25 k0_pay24 k0_pay23 k0_pay21
  generalize k0_pay16 (F := Ideal) Y g = d at hd ⊢
  obtain rfl : z = 0 := Subsingleton.elim _ _
  pointwise
  congr 1
  refine Finset.sum_congr rfl fun r _ => ?_
  rw [hd _ _ (by show 16 ≤ 16 + r.val; omega), hg _ _ (by show 16 ≤ 16 + r.val; omega)]
  unfold dcwRow
  simp only [Nat.add_assoc]

include hX hY in
/-- The sum over the tile's rows for the weights' tap at the row itself. -/
theorem dcw2 (v : Vec Ideal S1x512 .f32) (z : Fin 1) (l : Fin 512) :
    k0_pay26 (F := Ideal) (k0_pay10 j v2 v5 v8) (k0_pay21 Y (k0_pay8 j v2 v5 v8)) v (ix2 z l)
      = v (ix2 z l) + ∑ r : Fin 256, dcwRow P D (256 * i.val + 16 + r) 2 l := by
  have hd := dconv_at P D j v2 v5 v8 Y i hX hY
  have hg := gated_at P j v2 v5 v8 i hX
  generalize k0_pay8 (F := Ideal) j v2 v5 v8 = g at hd ⊢
  generalize k0_pay10 (F := Ideal) j v2 v5 v8 = g' at hg ⊢
  unfold k0_pay26 k0_pay21
  generalize k0_pay16 (F := Ideal) Y g = d at hd ⊢
  obtain rfl : z = 0 := Subsingleton.elim _ _
  pointwise
  congr 1
  refine Finset.sum_congr rfl fun r _ => ?_
  rw [hd _ _ (by show 16 ≤ 16 + r.val; omega), hg]
  unfold dcwRow
  simp only [Nat.add_assoc, Nat.sub_self, Nat.sub_zero]

end

end Cert.KernelIdeal.Rows
-- ==== Proof.Tiles.lean ====
/- The blocks that a grid point stages, as rows of the arguments, and the tile with its margins that the body builds of them. -/
module

public import proofs.«01_k».proof.Proof.ConvRows
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Tiles

open Idealize.ShloMosaic Idealize.SL.Sem Cert.KernelIdeal Cert.KernelIdeal.Gen Idealize.ShloMosaic.TcCoe Cert.Mixer
open Idealize.ShloMosaic.Pipeline (Dat)

variable (m : (ℓ : Loc nD τ sig) → Buf (Elt Ideal) ℓ) (c : Dev nD)

/-- The projection's rows. -/
def rowsP : ℕ → ℕ → EReal :=
  padRows (R := 4096) (C := 2048) fun r l => (m ((c : Thread nD τ).loc main_arg0) : FVec Ideal S4096x2048 .f32) (ix2 r l)

/-- The mixer gradient's rows. -/
def rowsD : ℕ → ℕ → EReal :=
  padRows (R := 4096) (C := 1024) fun r l => (m ((c : Thread nD τ).loc main_arg1) : FVec Ideal S4096x1024 .f32) (ix2 r l)

/-- The convolution's weights. -/
def convW : ℕ → ℕ → EReal :=
  table2 (A := 3) (B := 512) fun a l => (m ((c : Thread nD τ).loc main_arg2) : FVec Ideal S3x512 .f32) (ix2 a l)

/-- The pool's weights. -/
def poolW : ℕ → ℕ → ℕ → EReal :=
  table3 (A := 4) (B := 128) (C := 128) fun g a b =>
    (m ((c : Thread nD τ).loc main_arg3) : FVec Ideal S4x128x128 .bf16) (ix3 g a b)

/-- The pool's scale. -/
def poolS : ℕ → EReal := fun l =>
  table2 (A := 1) (B := 512) (fun a l => (m ((c : Thread nD τ).loc main_arg4) : FVec Ideal S1x512 .f32) (ix2 a l)) 0 l

/-- Which blocks each point stages and writes, and the point's coordinate. -/
theorem idx : ∀ t : Fin cfg0.N, win0_0.index t = ![t.val, 0] ∧ win0_1.index t = ![t.val * 16 - 1, 0]
    ∧ win0_2.index t = ![min (t.val * 16 + 16) 255, 0] ∧ win0_3.index t = ![t.val, 0]
    ∧ win0_4.index t = ![min (t.val * 16 + 16) 255, 0] ∧ win0_5.index t = ![0, 0] ∧ win0_6.index t = ![0, 0, 0]
    ∧ win0_7.index t = ![0, 0] ∧ win0_8.index t = ![t.val, 0] ∧ (grid0.coords t 0).val = t.val ∧ t.val < 16 :=
  (by decide +kernel : ∀ t : Fin grid0.N, _)

section
variable (t : Fin cfg0.N)

/-- The tile's rows of the projection. -/
theorem main_block (r : Fin 256) (l : Fin 2048) (h : 256 * t.val + r.val < 4096) :
    (iblk m c 0 t : Vec Ideal S256x2048 .f32) (ix2 r l)
      = (m ((c : Thread nD τ).loc main_arg0) : FVec Ideal S4096x2048 .f32) (ix2 ⟨256 * t.val + r.val, h⟩ l) := by
  blk_ext [iblk, V, (idx t).1]

/-- The sixteen rows before the tile. -/
theorem before_block (r : Fin 16) (l : Fin 2048) (h0 : 0 < t.val) (h : 256 * t.val + r.val - 16 < 4096) :
    (iblk m c 1 t : Vec Ideal S16x2048 .f32) (ix2 r l)
      = (m ((c : Thread nD τ).loc main_arg0) : FVec Ideal S4096x2048 .f32) (ix2 ⟨256 * t.val + r.val - 16, h⟩ l) := by
  blk_ext [iblk, V, (idx t).2.1]

/-- The sixteen rows after the tile. -/
theorem after_block (r : Fin 16) (l : Fin 2048) (h0 : t.val < 15) (h : 256 * t.val + r.val + 256 < 4096) :
    (iblk m c 2 t : Vec Ideal S16x2048 .f32) (ix2 r l)
      = (m ((c : Thread nD τ).loc main_arg0) : FVec Ideal S4096x2048 .f32) (ix2 ⟨256 * t.val + r.val + 256, h⟩ l) := by
  blk_ext [iblk, V, (idx t).2.2.1]

/-- The tile's rows of the gradient. -/
theorem dmain_block (r : Fin 256) (l : Fin 1024) (h : 256 * t.val + r.val < 4096) :
    (iblk m c 3 t : Vec Ideal S256x1024 .f32) (ix2 r l)
      = (m ((c : Thread nD τ).loc main_arg1) : FVec Ideal S4096x1024 .f32) (ix2 ⟨256 * t.val + r.val, h⟩ l) := by
  blk_ext [iblk, V, (idx t).2.2.2.1]

/-- The gradient's sixteen rows after the tile. -/
theorem dafter_block (r : Fin 16) (l : Fin 1024) (h0 : t.val < 15) (h : 256 * t.val + r.val + 256 < 4096) :
    (iblk m c 4 t : Vec Ideal S16x1024 .f32) (ix2 r l)
      = (m ((c : Thread nD τ).loc main_arg1) : FVec Ideal S4096x1024 .f32) (ix2 ⟨256 * t.val + r.val + 256, h⟩ l) := by
  blk_ext [iblk, V, (idx t).2.2.2.2.1]

/-- The convolution's weights are staged whole. -/
theorem convW_block (a : Fin 3) (l : Fin 512) :
    (iblk m c 5 t : Vec Ideal S3x512 .f32) (ix2 a l) = convW m c a l := by
  unfold convW
  rw [table2_at]
  blk_ext [iblk, V, (idx t).2.2.2.2.2.1]

/-- The pool's weights are staged whole. -/
theorem poolW_block (g : Fin 4) (a b : Fin 128) :
    (iblk m c 6 t : Vec Ideal S4x128x128 .bf16) (ix3 g a b) = poolW m c g a b := by
  unfold poolW
  rw [table3_at]
  blk_ext [iblk, V, (idx t).2.2.2.2.2.2.1]

/-- The pool's scale is staged whole. -/
theorem poolS_block (z : Fin 1) (l : Fin 512) :
    (iblk m c 7 t : Vec Ideal S1x512 .f32) (ix2 z l) = poolS m c l := by
  obtain rfl : z = 0 := Subsingleton.elim _ _
  refine Eq.trans ?_ (table2_at (A := 1) (B := 512) _ 0 l).symm
  blk_ext [iblk, V, (idx t).2.2.2.2.2.2.2.1]

/-- The test for the last point. -/
theorem is_last : ∀ n : Fin 16, Scalar.cmpi .eq (BitVec.ofNat 32 n.val) 15#32 = (if n.val = 15 then 1#1 else 0#1) := by
  decide +kernel

/-- The test for a point after the first. -/
theorem is_later : ∀ n : Fin 16, Scalar.cmpi .sgt (BitVec.ofNat 32 n.val) 0#32 = (if n.val = 0 then 0#1 else 1#1) := by
  decide +kernel

/-- The tile with its margins holds the rows `256 t, 256 t + 1, …`. -/
theorem tileP (i : Fin 16) (hi : i.val = t.val) (r : Fin 288) (l : Fin 2048) :
    k0_pay2 (grid0.coords t) (iblk m c 1 t) (iblk m c 2 t) (iblk m c 0 t) (ix2 r l)
      = rowsP m c (256 * i.val + r) l := by
  have hr := r.isLt
  have hi' := i.isLt
  pointwise [k0_pay2]
  rw [(idx t).2.2.2.2.2.2.2.2.2.1, ← hi, is_last i, is_later i]
  unfold rowsP
  by_cases h1 : r.val < 16
  · rw [dif_pos h1]
    by_cases h2 : i.val = 0
    · rw [if_pos h2, padRows_out _ _ _ (by omega)]
      rfl
    · rw [if_neg h2]
      refine (before_block m c t _ _ (by omega) (by show 256 * t.val + r.val - 16 < 4096; omega)).trans ?_
      exact Eq.symm (padRows_row (R := 4096) (C := 2048) _ _ _ _ _ (by show 256 * i.val + r.val = 16 + (256 * t.val + r.val - 16); omega) rfl)
  · rw [dif_neg h1]
    by_cases h2 : r.val - 16 < 256
    · rw [dif_pos h2]
      refine (main_block m c t _ _ (by show 256 * t.val + (r.val - 16) < 4096; omega)).trans ?_
      exact Eq.symm (padRows_row (R := 4096) (C := 2048) _ _ _ _ _ (by show 256 * i.val + r.val = 16 + (256 * t.val + (r.val - 16)); omega) rfl)
    · rw [dif_neg h2]
      by_cases h3 : i.val = 15
      · rw [if_pos h3, padRows_out _ _ _ (by omega)]
        rfl
      · rw [if_neg h3]
        refine (after_block m c t _ _ (by omega) (by show 256 * t.val + (r.val - 16 - 256) + 256 < 4096; omega)).trans ?_
        exact Eq.symm (padRows_row (R := 4096) (C := 2048) _ _ _ _ _ (by show 256 * i.val + r.val = 16 + (256 * t.val + (r.val - 16 - 256) + 256); omega) rfl)

/-- The gradient's tile holds its rows from the sixteenth on. -/
theorem tileD (i : Fin 16) (hi : i.val = t.val) (r : Fin 288) (l : Fin 1024) (h1 : 16 ≤ r.val) :
    k0_pay3 (grid0.coords t) (iblk m c 4 t) (iblk m c 3 t) (ix2 r l) = rowsD m c (256 * i.val + r) l := by
  have hr := r.isLt
  have hi' := i.isLt
  pointwise [k0_pay3]
  rw [(idx t).2.2.2.2.2.2.2.2.2.1, ← hi, is_last i]
  unfold rowsD
  rw [dif_neg (by omega)]
  by_cases h2 : r.val - 16 < 256
  · rw [dif_pos h2]
    refine (dmain_block m c t _ _ (by show 256 * t.val + (r.val - 16) < 4096; omega)).trans ?_
    exact Eq.symm (padRows_row (R := 4096) (C := 1024) _ _ _ _ _ (by show 256 * i.val + r.val = 16 + (256 * t.val + (r.val - 16)); omega) rfl)
  · rw [dif_neg h2]
    by_cases h3 : i.val = 15
    · rw [if_pos h3, padRows_out _ _ _ (by omega)]
      rfl
    · rw [if_neg h3]
      refine (dafter_block m c t _ _ (by omega) (by show 256 * t.val + (r.val - 16 - 256) + 256 < 4096; omega)).trans ?_
      exact Eq.symm (padRows_row (R := 4096) (C := 1024) _ _ _ _ _ (by show 256 * i.val + r.val = 16 + (256 * t.val + (r.val - 16 - 256) + 256); omega) rfl)

end

end Cert.KernelIdeal.Tiles
-- ==== Proof.AccumConv.lean ====
/- The gradient of the convolution's weights, added up over the grid. -/
module

public import proofs.«01_k».proof.Proof.Tiles

@[expose] public section

set_option maxRecDepth 16384

noncomputable section

namespace Cert.KernelIdeal.Tiles

open Idealize.ShloMosaic Idealize.SL.Sem Cert.KernelIdeal Cert.KernelIdeal.Gen Idealize.ShloMosaic.TcCoe Cert.Mixer Rows
open Idealize.ShloMosaic.Pipeline (Dat)

variable (m : (ℓ : Loc nD τ sig) → Buf (Elt Ideal) ℓ) (c : Dev nD)

/-- The grid's last point. -/
def last : Fin cfg0.N := ⟨15, by decide⟩

/-- A point's number among sixteen. -/
def num (t : Fin cfg0.N) : Fin 16 := ⟨t.val, (idx t).2.2.2.2.2.2.2.2.2.2⟩

/-- A tile's share of the gradient of the convolution's weights. -/
def tileDcw (t : ℕ) (y : S3x512.Idx) : EReal :=
  ∑ r : Fin 256, dcwRow (rowsP m c) (rowsD m c) (256 * t + 16 + r) (y 0).val (y 1).val

section
variable (t : Fin cfg0.N) (prev : Vec Ideal S3x512 .f32)

/-- The three rows that a point stores are its share added to what it found. -/
theorem pieces9 : View.PiecesOf (Val := Elt Ideal) (s := S3x512) (e := .f32) (fun y => prev y + tileDcw m c t.val y)
      [⟨Rect.unit ![2, 0] ![1, 512] inb_S3x512_S1x512_2_0,
          k0_pay26 (k0_pay10 (grid0.coords t) (iblk m c 1 t) (iblk m c 2 t) (iblk m c 0 t))
            (k0_pay21 (k0_pay3 (grid0.coords t) (iblk m c 4 t) (iblk m c 3 t))
              (k0_pay8 (grid0.coords t) (iblk m c 1 t) (iblk m c 2 t) (iblk m c 0 t)))
            (View.ld prev (Rect.unit ![2, 0] ![1, 512] inb_S3x512_S1x512_2_0))⟩,
        ⟨Rect.unit ![1, 0] ![1, 512] inb_S3x512_S1x512_1_0,
          k0_pay25 (k0_pay23 (View.ld prev (Rect.unit ![1, 0] ![1, 512] inb_S3x512_S1x512_1_0)))
            (k0_pay24 (k0_pay3 (grid0.coords t) (iblk m c 4 t) (iblk m c 3 t))
              (k0_pay8 (grid0.coords t) (iblk m c 1 t) (iblk m c 2 t) (iblk m c 0 t))
              (k0_pay11 (grid0.coords t) (iblk m c 1 t) (iblk m c 2 t) (iblk m c 0 t)))⟩,
        ⟨Rect.unit ![0, 0] ![1, 512] inb_S3x512_S1x512_0_0,
          k0_pay22 (k0_pay3 (grid0.coords t) (iblk m c 4 t) (iblk m c 3 t))
            (k0_pay8 (grid0.coords t) (iblk m c 1 t) (iblk m c 2 t) (iblk m c 0 t))
            (k0_pay12 (grid0.coords t) (iblk m c 1 t) (iblk m c 2 t) (iblk m c 0 t))
            (View.ld prev (Rect.unit ![0, 0] ![1, 512] inb_S3x512_S1x512_0_0))⟩] := by
  have hX := tileP m c t (num t) rfl
  have hY := tileD m c t (num t) rfl
  refine ⟨fun x => ?_, fun x => ?_, fun x => ?_, trivial⟩
  · obtain ⟨z, l, rfl⟩ : ∃ (z : Fin 1) (l : Fin 512), x = (ix2 z l : S1x512.Idx) := ⟨x 0, x 1, eq_ix2 (x : (⟨2, ![1, 512]⟩ : Shape).Idx)⟩
    have e : (Rect.unit (s := S3x512) ![2, 0] ![1, 512] inb_S3x512_S1x512_2_0).emb (ix2 z l : S1x512.Idx) = ix2 2 l := by blk_ext
    refine (dcw2 _ _ _ _ _ _ _ (num t) hX hY _ z l).trans ?_
    show prev ((Rect.unit (s := S3x512) ![2, 0] ![1, 512] inb_S3x512_S1x512_2_0).emb (ix2 z l : S1x512.Idx)) + _ = prev _ + _
    rw [e]
    rfl
  · obtain ⟨z, l, rfl⟩ : ∃ (z : Fin 1) (l : Fin 512), x = (ix2 z l : S1x512.Idx) := ⟨x 0, x 1, eq_ix2 (x : (⟨2, ![1, 512]⟩ : Shape).Idx)⟩
    have e : (Rect.unit (s := S3x512) ![1, 0] ![1, 512] inb_S3x512_S1x512_1_0).emb (ix2 z l : S1x512.Idx) = ix2 1 l := by blk_ext
    refine (dcw1 _ _ _ _ _ _ _ (num t) hX hY _ z l).trans ?_
    show prev ((Rect.unit (s := S3x512) ![1, 0] ![1, 512] inb_S3x512_S1x512_1_0).emb (ix2 z l : S1x512.Idx)) + _ = prev _ + _
    rw [e]
    rfl
  · obtain ⟨z, l, rfl⟩ : ∃ (z : Fin 1) (l : Fin 512), x = (ix2 z l : S1x512.Idx) := ⟨x 0, x 1, eq_ix2 (x : (⟨2, ![1, 512]⟩ : Shape).Idx)⟩
    have e : (Rect.unit (s := S3x512) ![0, 0] ![1, 512] inb_S3x512_S1x512_0_0).emb (ix2 z l : S1x512.Idx) = ix2 0 l := by blk_ext
    refine (dcw0 _ _ _ _ _ _ _ (num t) hX hY _ z l).trans ?_
    show prev ((Rect.unit (s := S3x512) ![0, 0] ![1, 512] inb_S3x512_S1x512_0_0).emb (ix2 z l : S1x512.Idx)) + _ = prev _ + _
    rw [e]
    rfl

/-- The first point leaves its share. -/
theorem first9 (h0 : t.val % 16 = 0) (y : S3x512.Idx) :
    (outsAt0 m c t.val t.isLt).2.1 y = 0 + tileDcw m c t.val y := by
  rw [outsAt0_A m c t h0]
  dsimp only
  frame_open
  simp (disch := decide) only [↓ View.readCov_skip, ↓ View.readCov_cons_toLoadRect, ↓ View.readCov_fill]
  frame_out
  refine (View.canon_append_of_piecesOf _ [_] [_, _, _] (pieces9 m c t (k0_pay4 (F := Ideal))) y
    (View.cover_of_tiledL _ ![1, 512] (by sl_kernel_rfl) y)).trans ?_
  congr 1
  pointwise [k0_pay4]

/-- A later point adds its share. -/
theorem later9 (h0 : ¬t.val % 16 = 0) (y : S3x512.Idx) :
    (outsAt0 m c t.val t.isLt).2.1 y
      = (outsAt0 m c (t.val - 1) (Nat.lt_of_le_of_lt (Nat.sub_le _ _) t.isLt)).2.1 y + tileDcw m c t.val y := by
  rw [outsAt0_B m c t h0]
  dsimp only
  frame_out
  exact View.canon_append_of_piecesOf _ [] [_, _, _] (pieces9 m c t _) y
    (View.cover_of_tiledL _ ![1, 512] (by sl_kernel_rfl) y)

end

/-- A sum over the tiles of sums over a tile's rows is the sum over all rows. -/
theorem sum_tiles (f : ℕ → EReal) :
    (∑ k ∈ Finset.range 16, ∑ r : Fin 256, f (256 * k + 16 + r)) = ∑ s : Fin 4096, f (16 + s) := by
  rw [Fin.sum_univ_eq_sum_range (fun s => f (16 + s)) 4096, show 4096 = 16 * 256 from rfl, Finset.sum_range_mul_split]
  refine Finset.sum_congr rfl fun k _ => ?_
  rw [Fin.sum_univ_eq_sum_range (fun r => f (256 * k + 16 + r)) 256]
  exact Finset.sum_congr rfl fun r _ => congrArg f (by ring)

/-- The gradient of the convolution's weights after the run. -/
theorem result9 : (dats m 0 c).arrAt 9 cfg0.N = fun y : S3x512.Idx =>
    ∑ s : Fin 4096, dcwRow (rowsP m c) (rowsD m c) (16 + s) (y 0).val (y 1).val := by
  refine (dats m 0 c).arrAt_eq_of_after_last 9 last (by decide +kernel) _ fun j => ?_
  blk_simp
  rw [after0_9]
  have h := Pipeline.eq_sum_of_reset_step_apply_single (fun n h => (outsAt0 m c n h).2.1) 16 (fun _ => 0) (tileDcw m c)
    (first9 m c) (later9 m c) (by decide) last j
  refine h.trans ((zero_add _).trans ?_)
  exact sum_tiles (fun n => dcwRow (rowsP m c) (rowsD m c) n (j 0).val (j 1).val)

end Cert.KernelIdeal.Tiles
-- ==== Proof.AccumPool.lean ====
/- The gradients of the pool's scale and of its weights, added up over the grid. -/
module

public import proofs.«01_k».proof.Proof.AccumConv

@[expose] public section

set_option maxRecDepth 16384

noncomputable section

namespace Cert.KernelIdeal.Tiles

open Idealize.ShloMosaic Idealize.SL.Sem Cert.KernelIdeal Cert.KernelIdeal.Gen Idealize.ShloMosaic.TcCoe Cert.Mixer Rows
open Idealize.ShloMosaic.Pipeline (Dat)

variable (m : (ℓ : Loc nD τ sig) → Buf (Elt Ideal) ℓ) (c : Dev nD)

section
variable (t : Fin cfg0.N)

/-- The point's coordinate is its number. -/
theorem coord : (grid0.coords t 0).val = (num t).val := (idx t).2.2.2.2.2.2.2.2.2.1

/-- The weights of group 0. -/
theorem groupW0 (a b : Fin 128) :
    View.ld (Val := Elt Ideal) (iblk m c 6 t : Vec Ideal S4x128x128 .bf16)
        (Rect.unit ![0, 0, 0] ![1, 128, 128] inb_S4x128x128_S1x128x128_0_0_0) (ix3 0 a b : S1x128x128.Idx)
      = poolW m c 0 a b := by
  have e : (Rect.unit (s := S4x128x128) ![0, 0, 0] ![1, 128, 128] inb_S4x128x128_S1x128x128_0_0_0).emb
      (ix3 0 a b : S1x128x128.Idx) = ix3 0 a b := by blk_ext
  exact (congrArg (iblk m c 6 t : Vec Ideal S4x128x128 .bf16) e).trans (poolW_block m c t 0 a b)

/-- The scale of group 0. -/
theorem groupS0 (l : Fin 128) :
    View.ld (Val := Elt Ideal) (iblk m c 7 t : Vec Ideal S1x512 .f32)
        (Rect.unit ![0, 0] ![1, 128] inb_S1x512_S1x128_0_0) (ix2 0 l : S1x128.Idx)
      = poolS m c (128 * 0 + l) := by
  have hl := l.isLt
  have e : (Rect.unit (s := S1x512) ![0, 0] ![1, 128] inb_S1x512_S1x128_0_0).emb
      (ix2 0 l : S1x128.Idx) = ix2 0 ⟨128 * 0 + l, by omega⟩ := by blk_ext
  exact (congrArg (iblk m c 7 t : Vec Ideal S1x512 .f32) e).trans (poolS_block m c t 0 _)

/-- The weights of group 1. -/
theorem groupW1 (a b : Fin 128) :
    View.ld (Val := Elt Ideal) (iblk m c 6 t : Vec Ideal S4x128x128 .bf16)
        (Rect.unit ![1, 0, 0] ![1, 128, 128] inb_S4x128x128_S1x128x128_1_0_0) (ix3 0 a b : S1x128x128.Idx)
      = poolW m c 1 a b := by
  have e : (Rect.unit (s := S4x128x128) ![1, 0, 0] ![1, 128, 128] inb_S4x128x128_S1x128x128_1_0_0).emb
      (ix3 0 a b : S1x128x128.Idx) = ix3 1 a b := by blk_ext
  exact (congrArg (iblk m c 6 t : Vec Ideal S4x128x128 .bf16) e).trans (poolW_block m c t 1 a b)

/-- The scale of group 1. -/
theorem groupS1 (l : Fin 128) :
    View.ld (Val := Elt Ideal) (iblk m c 7 t : Vec Ideal S1x512 .f32)
        (Rect.unit ![0, 128] ![1, 128] inb_S1x512_S1x128_0_128) (ix2 0 l : S1x128.Idx)
      = poolS m c (128 * 1 + l) := by
  have hl := l.isLt
  have e : (Rect.unit (s := S1x512) ![0, 128] ![1, 128] inb_S1x512_S1x128_0_128).emb
      (ix2 0 l : S1x128.Idx) = ix2 0 ⟨128 * 1 + l, by omega⟩ := by blk_ext
  exact (congrArg (iblk m c 7 t : Vec Ideal S1x512 .f32) e).trans (poolS_block m c t 0 _)

/-- The weights of group 2. -/
theorem groupW2 (a b : Fin 128) :
    View.ld (Val := Elt Ideal) (iblk m c 6 t : Vec Ideal S4x128x128 .bf16)
        (Rect.unit ![2, 0, 0] ![1, 128, 128] inb_S4x128x128_S1x128x128_2_0_0) (ix3 0 a b : S1x128x128.Idx)
      = poolW m c 2 a b := by
  have e : (Rect.unit (s := S4x128x128) ![2, 0, 0] ![1, 128, 128] inb_S4x128x128_S1x128x128_2_0_0).emb
      (ix3 0 a b : S1x128x128.Idx) = ix3 2 a b := by blk_ext
  exact (congrArg (iblk m c 6 t : Vec Ideal S4x128x128 .bf16) e).trans (poolW_block m c t 2 a b)

/-- The scale of group 2. -/
theorem groupS2 (l : Fin 128) :
    View.ld (Val := Elt Ideal) (iblk m c 7 t : Vec Ideal S1x512 .f32)
        (Rect.unit ![0, 256] ![1, 128] inb_S1x512_S1x128_0_256) (ix2 0 l : S1x128.Idx)
      = poolS m c (128 * 2 + l) := by
  have hl := l.isLt
  have e : (Rect.unit (s := S1x512) ![0, 256] ![1, 128] inb_S1x512_S1x128_0_256).emb
      (ix2 0 l : S1x128.Idx) = ix2 0 ⟨128 * 2 + l, by omega⟩ := by blk_ext
  exact (congrArg (iblk m c 7 t : Vec Ideal S1x512 .f32) e).trans (poolS_block m c t 0 _)

/-- The weights of group 3. -/
theorem groupW3 (a b : Fin 128) :
    View.ld (Val := Elt Ideal) (iblk m c 6 t : Vec Ideal S4x128x128 .bf16)
        (Rect.unit ![3, 0, 0] ![1, 128, 128] inb_S4x128x128_S1x128x128_3_0_0) (ix3 0 a b : S1x128x128.Idx)
      = poolW m c 3 a b := by
  have e : (Rect.unit (s := S4x128x128) ![3, 0, 0] ![1, 128, 128] inb_S4x128x128_S1x128x128_3_0_0).emb
      (ix3 0 a b : S1x128x128.Idx) = ix3 3 a b := by blk_ext
  exact (congrArg (iblk m c 6 t : Vec Ideal S4x128x128 .bf16) e).trans (poolW_block m c t 3 a b)

/-- The scale of group 3. -/
theorem groupS3 (l : Fin 128) :
    View.ld (Val := Elt Ideal) (iblk m c 7 t : Vec Ideal S1x512 .f32)
        (Rect.unit ![0, 384] ![1, 128] inb_S1x512_S1x128_0_384) (ix2 0 l : S1x128.Idx)
      = poolS m c (128 * 3 + l) := by
  have hl := l.isLt
  have e : (Rect.unit (s := S1x512) ![0, 384] ![1, 128] inb_S1x512_S1x128_0_384).emb
      (ix2 0 l : S1x128.Idx) = ix2 0 ⟨128 * 3 + l, by omega⟩ := by blk_ext
  exact (congrArg (iblk m c 7 t : Vec Ideal S1x512 .f32) e).trans (poolS_block m c t 0 _)

end

/-- A tile's share of the gradient of the pool's scale. -/
def tileDps (t : ℕ) (y : S1x512.Idx) : EReal :=
  ∑ r : Fin 256, dpsRow (rowsP m c) (rowsD m c) (poolW m c) (256 * t + 16 + r) (y 1).val

/-- A tile's share of the gradient of the pool's weights. -/
def tileDpw (t : ℕ) (y : S4x128x128.Idx) : EReal :=
  ∑ r : Fin 256, dpwRow (rowsP m c) (rowsD m c) (poolS m c) (256 * t + 16 + r) (y 0).val (y 1).val (y 2).val

section
variable (t : Fin cfg0.N) (prev : Vec Ideal S1x512 .f32) (prev' : Vec Ideal S4x128x128 .f32)

/-- The four stretches of the scale's gradient that a point stores are its share added to what it found. -/
theorem pieces11 : View.PiecesOf (Val := Elt Ideal) (s := S1x512) (e := .f32) (fun y => prev y + tileDps m c t.val y)
      [⟨Rect.unit ![0, 384] ![1, 128] inb_S1x512_S1x128_0_384,
          k0_pay59 (k0_pay56 (k0_pay3 (grid0.coords t) (iblk m c 4 t) (iblk m c 3 t)))
            (k0_pay58 (BitVec.ofNat 32 (grid0.coords t 0).val)
              (k0_pay2 (grid0.coords t) (iblk m c 1 t) (iblk m c 2 t) (iblk m c 0 t))
              (View.ld (iblk m c 6 t) (Rect.unit ![3, 0, 0] ![1, 128, 128] inb_S4x128x128_S1x128x128_3_0_0)))
            (View.ld prev (Rect.unit ![0, 384] ![1, 128] inb_S1x512_S1x128_0_384))⟩,
        ⟨Rect.unit ![0, 256] ![1, 128] inb_S1x512_S1x128_0_256,
          k0_pay49 (k0_pay3 (grid0.coords t) (iblk m c 4 t) (iblk m c 3 t))
            (k0_pay46 (BitVec.ofNat 32 (grid0.coords t 0).val)
              (k0_pay2 (grid0.coords t) (iblk m c 1 t) (iblk m c 2 t) (iblk m c 0 t)))
            (View.ld (iblk m c 6 t) (Rect.unit ![2, 0, 0] ![1, 128, 128] inb_S4x128x128_S1x128x128_2_0_0))
            (View.ld prev (Rect.unit ![0, 256] ![1, 128] inb_S1x512_S1x128_0_256))⟩,
        ⟨Rect.unit ![0, 128] ![1, 128] inb_S1x512_S1x128_0_128,
          k0_pay41 (BitVec.ofNat 32 (grid0.coords t 0).val) (k0_pay3 (grid0.coords t) (iblk m c 4 t) (iblk m c 3 t))
            (k0_pay35 (k0_pay2 (grid0.coords t) (iblk m c 1 t) (iblk m c 2 t) (iblk m c 0 t)))
            (k0_pay36 (k0_pay2 (grid0.coords t) (iblk m c 1 t) (iblk m c 2 t) (iblk m c 0 t))) 256#32
            (View.ld (iblk m c 6 t) (Rect.unit ![1, 0, 0] ![1, 128, 128] inb_S4x128x128_S1x128x128_1_0_0))
            (View.ld prev (Rect.unit ![0, 128] ![1, 128] inb_S1x512_S1x128_0_128))⟩,
        ⟨Rect.unit ![0, 0] ![1, 128] inb_S1x512_S1x128_0_0,
          k0_pay32
            (k0_pay28 (BitVec.ofNat 32 (grid0.coords t 0).val)
              (k0_pay2 (grid0.coords t) (iblk m c 1 t) (iblk m c 2 t) (iblk m c 0 t)))
            (k0_pay29 (k0_pay3 (grid0.coords t) (iblk m c 4 t) (iblk m c 3 t)))
            (k0_pay31 (View.ld (iblk m c 6 t) (Rect.unit ![0, 0, 0] ![1, 128, 128] inb_S4x128x128_S1x128x128_0_0_0)))
            (constant S256x128 FTy.f32 0#32) (View.ld prev (Rect.unit ![0, 0] ![1, 128] inb_S1x512_S1x128_0_0))⟩] := by
  rw [coord t]
  have hX := tileP m c t (num t) rfl
  have hY := tileD m c t (num t) rfl
  refine ⟨fun x => ?_, fun x => ?_, fun x => ?_, fun x => ?_, trivial⟩
  · obtain ⟨z, l, rfl⟩ : ∃ (z : Fin 1) (l : Fin 128), x = (ix2 z l : S1x128.Idx) :=
      ⟨x 0, x 1, eq_ix2 (x : (⟨2, ![1, 128]⟩ : Shape).Idx)⟩
    have hl := l.isLt
    have e : (Rect.unit (s := S1x512) ![0, 384] ![1, 128] inb_S1x512_S1x128_0_384).emb
        (ix2 z l : S1x128.Idx) = ix2 z ⟨128 * 3 + l, by omega⟩ := by blk_ext
    refine (dps_of (rowsP m c) (rowsD m c) (poolW m c) (num t) 3 _ _ _ _ (pooled3 _ _ _ hX)
      (dcols3 _ _ _ hY) (groupW3 m c t) z l).trans ?_
    show prev ((Rect.unit (s := S1x512) ![0, 384] ![1, 128] inb_S1x512_S1x128_0_384).emb (ix2 z l : S1x128.Idx)) + _
      = prev _ + _
    rw [e]
    rfl
  · obtain ⟨z, l, rfl⟩ : ∃ (z : Fin 1) (l : Fin 128), x = (ix2 z l : S1x128.Idx) :=
      ⟨x 0, x 1, eq_ix2 (x : (⟨2, ![1, 128]⟩ : Shape).Idx)⟩
    have hl := l.isLt
    have e : (Rect.unit (s := S1x512) ![0, 256] ![1, 128] inb_S1x512_S1x128_0_256).emb
        (ix2 z l : S1x128.Idx) = ix2 z ⟨128 * 2 + l, by omega⟩ := by blk_ext
    refine (dps_of (rowsP m c) (rowsD m c) (poolW m c) (num t) 2 _ _ _ _ (pooled2 _ _ _ hX)
      (dcols2 _ _ _ hY) (groupW2 m c t) z l).trans ?_
    show prev ((Rect.unit (s := S1x512) ![0, 256] ![1, 128] inb_S1x512_S1x128_0_256).emb (ix2 z l : S1x128.Idx)) + _
      = prev _ + _
    rw [e]
    rfl
  · obtain ⟨z, l, rfl⟩ : ∃ (z : Fin 1) (l : Fin 128), x = (ix2 z l : S1x128.Idx) :=
      ⟨x 0, x 1, eq_ix2 (x : (⟨2, ![1, 128]⟩ : Shape).Idx)⟩
    have hl := l.isLt
    have e : (Rect.unit (s := S1x512) ![0, 128] ![1, 128] inb_S1x512_S1x128_0_128).emb
        (ix2 z l : S1x128.Idx) = ix2 z ⟨128 * 1 + l, by omega⟩ := by blk_ext
    refine (dps_of (rowsP m c) (rowsD m c) (poolW m c) (num t) 1 _ _ _ _ (pooled1 _ _ _ hX)
      (dcols1 _ _ _ hY) (groupW1 m c t) z l).trans ?_
    show prev ((Rect.unit (s := S1x512) ![0, 128] ![1, 128] inb_S1x512_S1x128_0_128).emb (ix2 z l : S1x128.Idx)) + _
      = prev _ + _
    rw [e]
    rfl
  · obtain ⟨z, l, rfl⟩ : ∃ (z : Fin 1) (l : Fin 128), x = (ix2 z l : S1x128.Idx) :=
      ⟨x 0, x 1, eq_ix2 (x : (⟨2, ![1, 128]⟩ : Shape).Idx)⟩
    have hl := l.isLt
    have e : (Rect.unit (s := S1x512) ![0, 0] ![1, 128] inb_S1x512_S1x128_0_0).emb
        (ix2 z l : S1x128.Idx) = ix2 z ⟨128 * 0 + l, by omega⟩ := by blk_ext
    refine (dps_of (rowsP m c) (rowsD m c) (poolW m c) (num t) 0 _ _ _ _ (pooled0 _ _ _ hX)
      (dcols0 _ _ _ hY) (groupW0 m c t) z l).trans ?_
    show prev ((Rect.unit (s := S1x512) ![0, 0] ![1, 128] inb_S1x512_S1x128_0_0).emb (ix2 z l : S1x128.Idx)) + _
      = prev _ + _
    rw [e]
    rfl

/-- The four groups of the weights' gradient that a point stores are its share added to what it found. -/
theorem pieces10 : View.PiecesOf (Val := Elt Ideal) (s := S4x128x128) (e := .f32) (fun y => prev' y + tileDpw m c t.val y)
      [⟨Rect.unit ![3, 0, 0] ![1, 128, 128] inb_S4x128x128_S1x128x128_3_0_0,
          k0_pay60
            (k0_pay55 (BitVec.ofNat 32 (grid0.coords t 0).val)
              (k0_pay2 (grid0.coords t) (iblk m c 1 t) (iblk m c 2 t) (iblk m c 0 t)))
            (k0_pay57 (k0_pay3 (grid0.coords t) (iblk m c 4 t) (iblk m c 3 t))
              (View.ld (iblk m c 7 t) (Rect.unit ![0, 384] ![1, 128] inb_S1x512_S1x128_0_384)))
            (View.ld prev' (Rect.unit ![3, 0, 0] ![1, 128, 128] inb_S4x128x128_S1x128x128_3_0_0))⟩,
        ⟨Rect.unit ![2, 0, 0] ![1, 128, 128] inb_S4x128x128_S1x128x128_2_0_0,
          k0_pay50 (k0_pay3 (grid0.coords t) (iblk m c 4 t) (iblk m c 3 t))
            (k0_pay46 (BitVec.ofNat 32 (grid0.coords t 0).val)
              (k0_pay2 (grid0.coords t) (iblk m c 1 t) (iblk m c 2 t) (iblk m c 0 t)))
            (View.ld (iblk m c 7 t) (Rect.unit ![0, 256] ![1, 128] inb_S1x512_S1x128_0_256))
            (View.ld prev' (Rect.unit ![2, 0, 0] ![1, 128, 128] inb_S4x128x128_S1x128x128_2_0_0))⟩,
        ⟨Rect.unit ![1, 0, 0] ![1, 128, 128] inb_S4x128x128_S1x128x128_1_0_0,
          k0_pay43
            (k0_pay42 (BitVec.ofNat 32 (grid0.coords t 0).val) (k0_pay3 (grid0.coords t) (iblk m c 4 t) (iblk m c 3 t))
              (k0_pay35 (k0_pay2 (grid0.coords t) (iblk m c 1 t) (iblk m c 2 t) (iblk m c 0 t)))
              (k0_pay36 (k0_pay2 (grid0.coords t) (iblk m c 1 t) (iblk m c 2 t) (iblk m c 0 t))) 256#32
              (View.ld (iblk m c 7 t) (Rect.unit ![0, 128] ![1, 128] inb_S1x512_S1x128_0_128))
              (View.ld prev' (Rect.unit ![1, 0, 0] ![1, 128, 128] inb_S4x128x128_S1x128x128_1_0_0)))⟩,
        ⟨Rect.unit ![0, 0, 0] ![1, 128, 128] inb_S4x128x128_S1x128x128_0_0_0,
          k0_pay33
            (k0_pay28 (BitVec.ofNat 32 (grid0.coords t 0).val)
              (k0_pay2 (grid0.coords t) (iblk m c 1 t) (iblk m c 2 t) (iblk m c 0 t)))
            (k0_pay30 (k0_pay3 (grid0.coords t) (iblk m c 4 t) (iblk m c 3 t))
              (View.ld (iblk m c 7 t) (Rect.unit ![0, 0] ![1, 128] inb_S1x512_S1x128_0_0)))
            (View.ld prev' (Rect.unit ![0, 0, 0] ![1, 128, 128] inb_S4x128x128_S1x128x128_0_0_0))⟩] := by
  rw [coord t]
  have hX := tileP m c t (num t) rfl
  have hY := tileD m c t (num t) rfl
  refine ⟨fun x => ?_, fun x => ?_, fun x => ?_, fun x => ?_, trivial⟩
  · obtain ⟨z, a, b, rfl⟩ : ∃ (z : Fin 1) (a b : Fin 128), x = (ix3 z a b : S1x128x128.Idx) :=
      ⟨x 0, x 1, x 2, eq_ix3 (x : (⟨3, ![1, 128, 128]⟩ : Shape).Idx)⟩
    have e : (Rect.unit (s := S4x128x128) ![3, 0, 0] ![1, 128, 128] inb_S4x128x128_S1x128x128_3_0_0).emb
        (ix3 z a b : S1x128x128.Idx) = ix3 3 a b := by blk_ext
    refine (dpw_of (rowsP m c) (rowsD m c) (poolS m c) (num t) 3 _ _ _ (pooled3 _ _ _ hX)
      (scaled_of (rowsD m c) (poolS m c) (num t) 3 _ _ (dcols3 _ _ _ hY) (groupS3 m c t)) z a b).trans ?_
    show prev' ((Rect.unit (s := S4x128x128) ![3, 0, 0] ![1, 128, 128] inb_S4x128x128_S1x128x128_3_0_0).emb
      (ix3 z a b : S1x128x128.Idx)) + _ = prev' _ + _
    rw [e]
    rfl
  · obtain ⟨z, a, b, rfl⟩ : ∃ (z : Fin 1) (a b : Fin 128), x = (ix3 z a b : S1x128x128.Idx) :=
      ⟨x 0, x 1, x 2, eq_ix3 (x : (⟨3, ![1, 128, 128]⟩ : Shape).Idx)⟩
    have e : (Rect.unit (s := S4x128x128) ![2, 0, 0] ![1, 128, 128] inb_S4x128x128_S1x128x128_2_0_0).emb
        (ix3 z a b : S1x128x128.Idx) = ix3 2 a b := by blk_ext
    refine (dpw_of (rowsP m c) (rowsD m c) (poolS m c) (num t) 2 _ _ _ (pooled2 _ _ _ hX)
      (scaled_of (rowsD m c) (poolS m c) (num t) 2 _ _ (dcols2 _ _ _ hY) (groupS2 m c t)) z a b).trans ?_
    show prev' ((Rect.unit (s := S4x128x128) ![2, 0, 0] ![1, 128, 128] inb_S4x128x128_S1x128x128_2_0_0).emb
      (ix3 z a b : S1x128x128.Idx)) + _ = prev' _ + _
    rw [e]
    rfl
  · obtain ⟨z, a, b, rfl⟩ : ∃ (z : Fin 1) (a b : Fin 128), x = (ix3 z a b : S1x128x128.Idx) :=
      ⟨x 0, x 1, x 2, eq_ix3 (x : (⟨3, ![1, 128, 128]⟩ : Shape).Idx)⟩
    have e : (Rect.unit (s := S4x128x128) ![1, 0, 0] ![1, 128, 128] inb_S4x128x128_S1x128x128_1_0_0).emb
        (ix3 z a b : S1x128x128.Idx) = ix3 1 a b := by blk_ext
    refine (dpw_of (rowsP m c) (rowsD m c) (poolS m c) (num t) 1 _ _ _ (pooled1 _ _ _ hX)
      (scaled_of (rowsD m c) (poolS m c) (num t) 1 _ _ (dcols1 _ _ _ hY) (groupS1 m c t)) z a b).trans ?_
    show prev' ((Rect.unit (s := S4x128x128) ![1, 0, 0] ![1, 128, 128] inb_S4x128x128_S1x128x128_1_0_0).emb
      (ix3 z a b : S1x128x128.Idx)) + _ = prev' _ + _
    rw [e]
    rfl
  · obtain ⟨z, a, b, rfl⟩ : ∃ (z : Fin 1) (a b : Fin 128), x = (ix3 z a b : S1x128x128.Idx) :=
      ⟨x 0, x 1, x 2, eq_ix3 (x : (⟨3, ![1, 128, 128]⟩ : Shape).Idx)⟩
    have e : (Rect.unit (s := S4x128x128) ![0, 0, 0] ![1, 128, 128] inb_S4x128x128_S1x128x128_0_0_0).emb
        (ix3 z a b : S1x128x128.Idx) = ix3 0 a b := by blk_ext
    refine (dpw_of (rowsP m c) (rowsD m c) (poolS m c) (num t) 0 _ _ _ (pooled0 _ _ _ hX)
      (scaled_of (rowsD m c) (poolS m c) (num t) 0 _ _ (dcols0 _ _ _ hY) (groupS0 m c t)) z a b).trans ?_
    show prev' ((Rect.unit (s := S4x128x128) ![0, 0, 0] ![1, 128, 128] inb_S4x128x128_S1x128x128_0_0_0).emb
      (ix3 z a b : S1x128x128.Idx)) + _ = prev' _ + _
    rw [e]
    rfl

/-- The first point leaves its share. -/
theorem first11 (h0 : t.val % 16 = 0) (y : S1x512.Idx) :
    (outsAt0 m c t.val t.isLt).2.2.2 y = 0 + tileDps m c t.val y := by
  rw [outsAt0_A m c t h0]
  dsimp only
  frame_open
  simp (disch := decide) only [↓ View.readCov_skip, ↓ View.readCov_cons_toLoadRect, ↓ View.readCov_fill]
  frame_out
  refine (View.canon_append_of_piecesOf _ [_] [_, _, _, _] (pieces11 m c t (k0_pay6 (F := Ideal))) y
    (View.cover_of_tiledL _ ![1, 128] (by sl_kernel_rfl) y)).trans ?_
  congr 1
  pointwise [k0_pay6]

/-- A later point adds its share. -/
theorem later11 (h0 : ¬t.val % 16 = 0) (y : S1x512.Idx) :
    (outsAt0 m c t.val t.isLt).2.2.2 y
      = (outsAt0 m c (t.val - 1) (Nat.lt_of_le_of_lt (Nat.sub_le _ _) t.isLt)).2.2.2 y + tileDps m c t.val y := by
  rw [outsAt0_B m c t h0]
  dsimp only
  frame_out
  exact View.canon_append_of_piecesOf _ [] [_, _, _, _] (pieces11 m c t _) y
    (View.cover_of_tiledL _ ![1, 128] (by sl_kernel_rfl) y)

/-- The first point leaves its share. -/
theorem first10 (h0 : t.val % 16 = 0) (y : S4x128x128.Idx) :
    (outsAt0 m c t.val t.isLt).2.2.1 y = 0 + tileDpw m c t.val y := by
  rw [outsAt0_A m c t h0]
  dsimp only
  frame_open
  simp (disch := decide) only [↓ View.readCov_skip, ↓ View.readCov_cons_toLoadRect, ↓ View.readCov_fill]
  frame_out
  refine (View.canon_append_of_piecesOf _ [_] [_, _, _, _] (pieces10 m c t (k0_pay5 (F := Ideal))) y
    (View.cover_of_tiledL _ ![1, 128, 128] (by sl_kernel_rfl) y)).trans ?_
  congr 1
  pointwise [k0_pay5]

/-- A later point adds its share. -/
theorem later10 (h0 : ¬t.val % 16 = 0) (y : S4x128x128.Idx) :
    (outsAt0 m c t.val t.isLt).2.2.1 y
      = (outsAt0 m c (t.val - 1) (Nat.lt_of_le_of_lt (Nat.sub_le _ _) t.isLt)).2.2.1 y + tileDpw m c t.val y := by
  rw [outsAt0_B m c t h0]
  dsimp only
  frame_out
  exact View.canon_append_of_piecesOf _ [] [_, _, _, _] (pieces10 m c t _) y
    (View.cover_of_tiledL _ ![1, 128, 128] (by sl_kernel_rfl) y)

end

/-- The gradient of the pool's scale after the run. -/
theorem result11 : (dats m 0 c).arrAt 11 cfg0.N = fun y : S1x512.Idx =>
    ∑ s : Fin 4096, dpsRow (rowsP m c) (rowsD m c) (poolW m c) (16 + s) (y 1).val := by
  refine (dats m 0 c).arrAt_eq_of_after_last 11 last (by decide +kernel) _ fun j => ?_
  blk_simp
  rw [after0_11]
  have h := Pipeline.eq_sum_of_reset_step_apply_single (fun n h => (outsAt0 m c n h).2.2.2) 16 (fun _ => 0) (tileDps m c)
    (first11 m c) (later11 m c) (by decide) last j
  refine h.trans ((zero_add _).trans ?_)
  exact sum_tiles (fun n => dpsRow (rowsP m c) (rowsD m c) (poolW m c) n (j 1).val)

/-- The gradient of the pool's weights after the run. -/
theorem result10 : (dats m 0 c).arrAt 10 cfg0.N = fun y : S4x128x128.Idx =>
    ∑ s : Fin 4096, dpwRow (rowsP m c) (rowsD m c) (poolS m c) (16 + s) (y 0).val (y 1).val (y 2).val := by
  refine (dats m 0 c).arrAt_eq_of_after_last 10 last (by decide +kernel) _ fun j => ?_
  blk_simp
  rw [after0_10]
  have h := Pipeline.eq_sum_of_reset_step_apply_single (fun n h => (outsAt0 m c n h).2.2.1) 16 (fun _ => 0) (tileDpw m c)
    (first10 m c) (later10 m c) (by decide) last j
  refine h.trans ((zero_add _).trans ?_)
  exact sum_tiles (fun n => dpwRow (rowsP m c) (rowsD m c) (poolS m c) n (j 0).val (j 1).val (j 2).val)

end Cert.KernelIdeal.Tiles
-- ==== Proof.Out8.lean ====
/- The gradient of the projection, tile by tile. -/
module

public import proofs.«01_k».proof.Proof.AccumPool

@[expose] public section

set_option maxRecDepth 16384

noncomputable section

namespace Cert.KernelIdeal.Tiles

open Idealize.ShloMosaic Idealize.SL.Sem Cert.KernelIdeal Cert.KernelIdeal.Gen Idealize.ShloMosaic.TcCoe Cert.Mixer Rows
open Idealize.ShloMosaic.Pipeline (Dat)

variable (m : (ℓ : Loc nD τ sig) → Buf (Elt Ideal) ℓ) (c : Dev nD)

/-- The gradient of the projection at a numbered row and column. -/
def gradP (n l : ℕ) : EReal := dproj (rowsP m c) (rowsD m c) (convW m c) (poolW m c) (poolS m c) n l

/-- Its first 512 columns. -/
theorem gradP_value (n l : ℕ) (h : l < 512) :
    gradP m c n l = dgated (rowsP m c) (rowsD m c) (convW m c) n l * rowsP m c n (1024 + l) := by
  rw [gradP, dproj, if_pos h]

/-- Its second 512 columns. -/
theorem gradP_gateb (n l : ℕ) (h : l < 512) :
    gradP m c n (512 + l) = rowsD m c n l * conv (rowsP m c) (convW m c) n l := by
  rw [gradP, dproj, if_neg (by omega), if_pos (by omega), Nat.add_sub_cancel_left]

/-- Its third 512 columns. -/
theorem gradP_gatec (n l : ℕ) (h : l < 512) :
    gradP m c n (1024 + l) = dgated (rowsP m c) (rowsD m c) (convW m c) n l * rowsP m c n l := by
  rw [gradP, dproj, if_neg (by omega), if_neg (by omega), if_pos (by omega), Nat.add_sub_cancel_left]

/-- Its last 512 columns, 128 to a group. -/
theorem gradP_pool (n g l : ℕ) (h : l < 128) :
    gradP m c n (1536 + 128 * g + l) = dpool (rowsD m c) (poolW m c) (poolS m c) g n l := by
  rw [gradP, dproj, if_neg (by omega), if_neg (by omega), if_neg (by omega),
    show 1536 + 128 * g + l - 1536 = l + 128 * g by omega, Nat.add_mul_div_left _ _ (by omega),
    Nat.div_eq_of_lt h, Nat.zero_add, Nat.add_mul_mod_self_left, Nat.mod_eq_of_lt h]

section
variable (t : Fin cfg0.N)

/-- The seven column stretches that a point stores are the gradient of the tile's rows. -/
theorem pieces8 : View.PiecesOf (Val := Elt Ideal) (s := S256x2048) (e := .bf16)
      (fun y => gradP m c (256 * t.val + 16 + (y 0).val) (y 1).val)
      [⟨Rect.unit ![0, 1920] ![256, 128] inb_S256x2048_S256x128_0_1920,
          k0_pay1
            (k0_pay61 (k0_pay54 (BitVec.ofNat 32 (grid0.coords t 0).val))
              (k0_pay57 (k0_pay3 (grid0.coords t) (iblk m c 4 t) (iblk m c 3 t))
                (View.ld (iblk m c 7 t) (Rect.unit ![0, 384] ![1, 128] inb_S1x512_S1x128_0_384)))
              (View.ld (iblk m c 6 t) (Rect.unit ![3, 0, 0] ![1, 128, 128] inb_S4x128x128_S1x128x128_3_0_0)))⟩,
        ⟨Rect.unit ![0, 1792] ![256, 128] inb_S256x2048_S256x128_0_1792,
          k0_pay53
            (k0_pay51 (k0_pay3 (grid0.coords t) (iblk m c 4 t) (iblk m c 3 t))
              (View.ld (iblk m c 7 t) (Rect.unit ![0, 256] ![1, 128] inb_S1x512_S1x128_0_256))
              (View.ld (iblk m c 6 t) (Rect.unit ![2, 0, 0] ![1, 128, 128] inb_S4x128x128_S1x128x128_2_0_0)))
            (k0_pay52 (k0_pay3 (grid0.coords t) (iblk m c 4 t) (iblk m c 3 t))
              (k0_pay45 (BitVec.ofNat 32 (grid0.coords t 0).val))
              (View.ld (iblk m c 7 t) (Rect.unit ![0, 256] ![1, 128] inb_S1x512_S1x128_0_256))
              (View.ld (iblk m c 6 t) (Rect.unit ![2, 0, 0] ![1, 128, 128] inb_S4x128x128_S1x128x128_2_0_0)))⟩,
        ⟨Rect.unit ![0, 1664] ![256, 128] inb_S256x2048_S256x128_0_1664,
          k0_pay44 (k0_pay37 (BitVec.ofNat 32 (grid0.coords t 0).val) 256#32)
            (k0_pay40 (k0_pay3 (grid0.coords t) (iblk m c 4 t) (iblk m c 3 t))
              (View.ld (iblk m c 7 t) (Rect.unit ![0, 128] ![1, 128] inb_S1x512_S1x128_0_128)))
            (View.ld (iblk m c 6 t) (Rect.unit ![1, 0, 0] ![1, 128, 128] inb_S4x128x128_S1x128x128_1_0_0))⟩,
        ⟨Rect.unit ![0, 1536] ![256, 128] inb_S256x2048_S256x128_0_1536,
          k0_pay34 (k0_pay27 (BitVec.ofNat 32 (grid0.coords t 0).val))
            (k0_pay30 (k0_pay3 (grid0.coords t) (iblk m c 4 t) (iblk m c 3 t))
              (View.ld (iblk m c 7 t) (Rect.unit ![0, 0] ![1, 128] inb_S1x512_S1x128_0_0)))
            (View.ld (iblk m c 6 t) (Rect.unit ![0, 0, 0] ![1, 128, 128] inb_S4x128x128_S1x128x128_0_0_0))⟩,
        ⟨Rect.unit ![0, 1024] ![256, 512] inb_S256x2048_S256x512_0_1024,
          k0_pay20 (k0_pay3 (grid0.coords t) (iblk m c 4 t) (iblk m c 3 t)) (iblk m c 5 t)
            (k0_pay7 (grid0.coords t) (iblk m c 1 t) (iblk m c 2 t) (iblk m c 0 t))
            (k0_pay8 (grid0.coords t) (iblk m c 1 t) (iblk m c 2 t) (iblk m c 0 t))⟩,
        ⟨Rect.unit ![0, 512] ![256, 512] inb_S256x2048_S256x512_0_512,
          k0_pay19 (k0_pay3 (grid0.coords t) (iblk m c 4 t) (iblk m c 3 t))
            (k0_pay13 (grid0.coords t) (iblk m c 1 t) (iblk m c 2 t) (iblk m c 0 t) (iblk m c 5 t))
            (k0_pay14 (grid0.coords t) (iblk m c 1 t) (iblk m c 2 t) (iblk m c 0 t) (iblk m c 5 t))⟩,
        ⟨Rect.unit ![0, 0] ![256, 512] inb_S256x2048_S256x512_0_0,
          k0_pay18 (k0_pay3 (grid0.coords t) (iblk m c 4 t) (iblk m c 3 t)) (iblk m c 5 t)
            (k0_pay8 (grid0.coords t) (iblk m c 1 t) (iblk m c 2 t) (iblk m c 0 t))
            (k0_pay9 (grid0.coords t) (iblk m c 1 t) (iblk m c 2 t) (iblk m c 0 t))⟩] := by
  rw [coord t]
  have hX := tileP m c t (num t) rfl
  have hY := tileD m c t (num t) rfl
  refine ⟨fun x => ?_, fun x => ?_, fun x => ?_, fun x => ?_, fun x => ?_, fun x => ?_, fun x => ?_, trivial⟩
  · obtain ⟨r, l, rfl⟩ : ∃ (r : Fin 256) (l : Fin 128), x = (ix2 r l : S256x128.Idx) :=
      ⟨x 0, x 1, eq_ix2 (x : (⟨2, ![256, 128]⟩ : Shape).Idx)⟩
    have hl := l.isLt
    have e : (Rect.unit (s := S256x2048) ![0, 1920] ![256, 128] inb_S256x2048_S256x128_0_1920).emb
        (ix2 r l : S256x128.Idx) = ix2 r ⟨1536 + 128 * 3 + l, by omega⟩ := by blk_ext
    refine (dpool3 (rowsD m c) (poolW m c) (poolS m c) (num t) _ _
      (scaled_of (rowsD m c) (poolS m c) (num t) 3 _ _ (dcols3 _ _ _ hY) (groupS3 m c t)) (groupW3 m c t) r l).trans ?_
    rw [e]
    exact (gradP_pool m c _ 3 l.val hl).symm
  · obtain ⟨r, l, rfl⟩ : ∃ (r : Fin 256) (l : Fin 128), x = (ix2 r l : S256x128.Idx) :=
      ⟨x 0, x 1, eq_ix2 (x : (⟨2, ![256, 128]⟩ : Shape).Idx)⟩
    have hl := l.isLt
    have e : (Rect.unit (s := S256x2048) ![0, 1792] ![256, 128] inb_S256x2048_S256x128_0_1792).emb
        (ix2 r l : S256x128.Idx) = ix2 r ⟨1536 + 128 * 2 + l, by omega⟩ := by blk_ext
    refine (dpool2 (rowsD m c) (poolW m c) (poolS m c) (num t) _ _ _
      (scaled_of (rowsD m c) (poolS m c) (num t) 2 _ _ (dcols2 _ _ _ hY) (groupS2 m c t)) (groupW2 m c t) r l).trans ?_
    rw [e]
    exact (gradP_pool m c _ 2 l.val hl).symm
  · obtain ⟨r, l, rfl⟩ : ∃ (r : Fin 256) (l : Fin 128), x = (ix2 r l : S256x128.Idx) :=
      ⟨x 0, x 1, eq_ix2 (x : (⟨2, ![256, 128]⟩ : Shape).Idx)⟩
    have hl := l.isLt
    have e : (Rect.unit (s := S256x2048) ![0, 1664] ![256, 128] inb_S256x2048_S256x128_0_1664).emb
        (ix2 r l : S256x128.Idx) = ix2 r ⟨1536 + 128 * 1 + l, by omega⟩ := by blk_ext
    refine (dpool1 (rowsD m c) (poolW m c) (poolS m c) (num t) _ _
      (scaled_of (rowsD m c) (poolS m c) (num t) 1 _ _ (dcols1 _ _ _ hY) (groupS1 m c t)) (groupW1 m c t) r l).trans ?_
    rw [e]
    exact (gradP_pool m c _ 1 l.val hl).symm
  · obtain ⟨r, l, rfl⟩ : ∃ (r : Fin 256) (l : Fin 128), x = (ix2 r l : S256x128.Idx) :=
      ⟨x 0, x 1, eq_ix2 (x : (⟨2, ![256, 128]⟩ : Shape).Idx)⟩
    have hl := l.isLt
    have e : (Rect.unit (s := S256x2048) ![0, 1536] ![256, 128] inb_S256x2048_S256x128_0_1536).emb
        (ix2 r l : S256x128.Idx) = ix2 r ⟨1536 + 128 * 0 + l, by omega⟩ := by blk_ext
    refine (dpool0 (rowsD m c) (poolW m c) (poolS m c) (num t) _ _
      (scaled_of (rowsD m c) (poolS m c) (num t) 0 _ _ (dcols0 _ _ _ hY) (groupS0 m c t)) (groupW0 m c t) r l).trans ?_
    rw [e]
    exact (gradP_pool m c _ 0 l.val hl).symm
  · obtain ⟨r, l, rfl⟩ : ∃ (r : Fin 256) (l : Fin 512), x = (ix2 r l : S256x512.Idx) :=
      ⟨x 0, x 1, eq_ix2 (x : (⟨2, ![256, 512]⟩ : Shape).Idx)⟩
    have hl := l.isLt
    have e : (Rect.unit (s := S256x2048) ![0, 1024] ![256, 512] inb_S256x2048_S256x512_0_1024).emb
        (ix2 r l : S256x512.Idx) = ix2 r ⟨1024 + l, by omega⟩ := by blk_ext
    refine (out_gatec (rowsP m c) (rowsD m c) (convW m c) _ _ _ _ _ _ (num t) hX hY (convW_block m c t) r l).trans ?_
    rw [e]
    exact (gradP_gatec m c _ l.val hl).symm
  · obtain ⟨r, l, rfl⟩ : ∃ (r : Fin 256) (l : Fin 512), x = (ix2 r l : S256x512.Idx) :=
      ⟨x 0, x 1, eq_ix2 (x : (⟨2, ![256, 512]⟩ : Shape).Idx)⟩
    have hl := l.isLt
    have e : (Rect.unit (s := S256x2048) ![0, 512] ![256, 512] inb_S256x2048_S256x512_0_512).emb
        (ix2 r l : S256x512.Idx) = ix2 r ⟨512 + l, by omega⟩ := by blk_ext
    refine (out_gateb (rowsP m c) (rowsD m c) (convW m c) _ _ _ _ _ _ (num t) hX hY (convW_block m c t) r l).trans ?_
    rw [e]
    exact (gradP_gateb m c _ l.val hl).symm
  · obtain ⟨r, l, rfl⟩ : ∃ (r : Fin 256) (l : Fin 512), x = (ix2 r l : S256x512.Idx) :=
      ⟨x 0, x 1, eq_ix2 (x : (⟨2, ![256, 512]⟩ : Shape).Idx)⟩
    have hl := l.isLt
    have e : (Rect.unit (s := S256x2048) ![0, 0] ![256, 512] inb_S256x2048_S256x512_0_0).emb
        (ix2 r l : S256x512.Idx) = ix2 r ⟨l, by omega⟩ := by blk_ext
    refine (out_value (rowsP m c) (rowsD m c) (convW m c) _ _ _ _ _ _ (num t) hX hY (convW_block m c t) r l).trans ?_
    rw [e]
    exact (gradP_value m c _ l.val hl).symm

/-- What a point leaves in its block of the projection's gradient. -/
theorem block8 (y : S256x2048.Idx) :
    (outsAt0 m c t.val t.isLt).1 y = gradP m c (256 * t.val + 16 + (y 0).val) (y 1).val := by
  by_cases h0 : t.val % 16 = 0
  · rw [outsAt0_A m c t h0]
    dsimp only
    frame_open
    frame_out
    exact View.canon_append_of_piecesOf _ [] [_, _, _, _, _, _, _] (pieces8 m c t) y
      (View.cover_of_tiledBy _ ![256, 128] (by sl_kernel_rfl) y)
  · rw [outsAt0_B m c t h0]
    dsimp only
    frame_out
    exact View.canon_append_of_piecesOf _ [] [_, _, _, _, _, _, _] (pieces8 m c t) y
      (View.cover_of_tiledBy _ ![256, 128] (by sl_kernel_rfl) y)

end

/-- The gradient of the projection after the run. -/
theorem result8 : (dats m 0 c).arrAt 8 cfg0.N = fun y : S4096x2048.Idx => gradP m c (16 + (y 0).val) (y 1).val := by
  refine (dats m 0 c).arrAt_eq_of_covers 8 _ (by decide +kernel) fun t hf y => ?_
  blk_simp
  rw [after0_8]
  refine (block8 m c t y).trans ?_
  rw [(idx t).2.2.2.2.2.2.2.2.1]
  show gradP m c (256 * t.val + 16 + (y 0).val) (y 1).val = gradP m c (16 + (t.val * 256 + (y 0).val)) (0 * 2048 + (y 1).val)
  congr 1 <;> omega

end Cert.KernelIdeal.Tiles
-- ==== Proof.Window.lean ====
/- Running sums down the rows and up the rows, and their differences. -/
module

public import proofs.«01_k».proof.Proof.Spec
public import Idealize.ShloMosaic.Lib.IdealHost

@[expose] public section

set_option maxRecDepth 16384

noncomputable section

namespace Cert.Mixer

open Idealize.ShloMosaic

/-- The shape of a running sum's operand. -/
abbrev Group : Shape := ⟨3, ![1, 4096, 128]⟩

/-- Adding the terms of a list to a number, one after another, adds their sum. -/
theorem foldl_add {n : ℕ} (g : Fin n → EReal) (v : EReal) :
    (List.finRange n).foldl (fun r k => r + g k) v = v + ∑ k, g k := by
  rw [← List.sum_ofFn, List.ofFn_eq_map]
  generalize List.finRange n = L
  induction L generalizing v with
  | nil => simp
  | cons a L ih => rw [List.foldl_cons, ih, List.map_cons, List.sum_cons, add_assoc]

/-- A window sum of height 4096 over one column, as a sum over the window's rows. -/
theorem window_sum (lo hi : ℕ) (x : Group.Idx → EReal) (init : (⟨0, ![]⟩ : Shape).Idx → EReal) (f : ℕ → EReal)
    (h : Shape.ReduceWindows Group ![1, 4096, 1] ![1, 1, 1] ![0, lo, 0] ![0, hi, 0] Group) (hu : 0 < (⟨0, ![]⟩ : Shape).numel)
    (s : Fin 4096) (l : Fin 128) (hx : ∀ r : Fin 4096, x (ix3 0 r l) = f r) (hi0 : ∀ i, init i = 0) :
    Host.reduceWindow (s := Group) (t := Group) (· + ·) ![1, 4096, 1] ![1, 1, 1] ![0, lo, 0] ![0, hi, 0] x init h hu (ix3 0 s l)
      = ∑ k : Fin 4096, if lo ≤ s.val + k.val ∧ s.val + k.val - lo < 4096 then f (s.val + k.val - lo) else 0 := by
  have hl := l.isLt
  unfold Host.reduceWindow
  refine (foldl_add _ _).trans ?_
  rw [hi0, zero_add]
  refine Eq.trans ?_ ((Equiv.sum_comp (⟨3, ![1, 4096, 1]⟩ : Shape).rowMajor.symm (fun q : (⟨3, ![1, 4096, 1]⟩ : Shape).Idx =>
    if lo ≤ s.val + (q 1).val ∧ s.val + (q 1).val - lo < 4096 then f (s.val + (q 1).val - lo) else 0)).trans ?_)
  · refine Finset.sum_congr rfl fun n _ => ?_
    dsimp only
    have q0 : ((⟨3, ![1, 4096, 1]⟩ : Shape).rowMajor.symm n 0).val = 0 :=
      Nat.lt_one_iff.mp ((⟨3, ![1, 4096, 1]⟩ : Shape).rowMajor.symm n 0).isLt
    have q2 : ((⟨3, ![1, 4096, 1]⟩ : Shape).rowMajor.symm n 2).val = 0 :=
      Nat.lt_one_iff.mp ((⟨3, ![1, 4096, 1]⟩ : Shape).rowMajor.symm n 2).isLt
    split
    · next hin =>
      have h1 := hin 1
      change lo ≤ s.val * 1 + ((⟨3, ![1, 4096, 1]⟩ : Shape).rowMajor.symm n 1).val ∧ s.val * 1 + ((⟨3, ![1, 4096, 1]⟩ : Shape).rowMajor.symm n 1).val - lo < 4096 at h1
      rw [Nat.mul_one] at h1
      rw [if_pos h1, ← hx ⟨_, h1.2⟩]
      refine congrArg x (funext fun a => Fin.ext ?_)
      match a with
      | ⟨0, _⟩ => show 0 * 1 + ((⟨3, ![1, 4096, 1]⟩ : Shape).rowMajor.symm n 0).val - 0 = 0; omega
      | ⟨1, _⟩ => show s.val * 1 + ((⟨3, ![1, 4096, 1]⟩ : Shape).rowMajor.symm n 1).val - lo = s.val + ((⟨3, ![1, 4096, 1]⟩ : Shape).rowMajor.symm n 1).val - lo; omega
      | ⟨2, _⟩ => show l.val * 1 + ((⟨3, ![1, 4096, 1]⟩ : Shape).rowMajor.symm n 2).val - 0 = l.val; omega
    · next hin =>
      rw [if_neg]
      intro h1
      refine hin fun a => ?_
      match a with
      | ⟨0, _⟩ => show 0 ≤ 0 * 1 + ((⟨3, ![1, 4096, 1]⟩ : Shape).rowMajor.symm n 0).val ∧ 0 * 1 + ((⟨3, ![1, 4096, 1]⟩ : Shape).rowMajor.symm n 0).val - 0 < 1; omega
      | ⟨1, _⟩ => show lo ≤ s.val * 1 + ((⟨3, ![1, 4096, 1]⟩ : Shape).rowMajor.symm n 1).val ∧ s.val * 1 + ((⟨3, ![1, 4096, 1]⟩ : Shape).rowMajor.symm n 1).val - lo < 4096; omega
      | ⟨2, _⟩ => show 0 ≤ l.val * 1 + ((⟨3, ![1, 4096, 1]⟩ : Shape).rowMajor.symm n 2).val ∧ l.val * 1 + ((⟨3, ![1, 4096, 1]⟩ : Shape).rowMajor.symm n 2).val - 0 < 128; omega
  · rw [sum_idx3]
    simp only [Fin.sum_univ_one]
    rfl

/-- The running sum down the rows. -/
theorem sum_down (x : FVec Ideal Group .f32) (init : FVec Ideal ⟨0, ![]⟩ .f32) (f : ℕ → EReal)
    (h : Shape.ReduceWindows Group ![1, 4096, 1] ![1, 1, 1] ![0, 4095, 0] ![0, 0, 0] Group) (hu : 0 < (⟨0, ![]⟩ : Shape).numel)
    (s : Fin 4096) (l : Fin 128) (hx : ∀ r : Fin 4096, x (ix3 0 r l) = f r) (hi0 : ∀ i, init i = 0) :
    Host.reduceWindowAdd (F := Ideal) (s := Group) (t := Group) ![1, 4096, 1] ![1, 1, 1] ![0, 4095, 0] ![0, 0, 0] x init h hu (ix3 0 s l)
      = ∑ r ∈ Finset.range (s.val + 1), f r := by
  have hs := s.isLt
  unfold Host.reduceWindowAdd
  rw [Ideal.hostReduceWindowAdd_def]
  unfold Ideal.hostReduceWindowAdd
  rw [window_sum 4095 0 x (fun _ => init (Shape.Idx.first hu)) f h _ s l hx (fun _ => hi0 _),
    Fin.sum_univ_eq_sum_range (fun k => if 4095 ≤ s.val + k ∧ s.val + k - 4095 < 4096 then f (s.val + k - 4095) else 0) 4096,
    ← Finset.sum_filter]
  refine Finset.sum_bij' (fun k _ => s.val + k - 4095) (fun r _ => r + 4095 - s.val) ?_ ?_ ?_ ?_ ?_
  all_goals intro k hk
  all_goals simp only [Finset.mem_filter, Finset.mem_range] at hk ⊢
  all_goals omega

/-- The running sum up the rows. -/
theorem sum_up (x : FVec Ideal Group .f32) (init : FVec Ideal ⟨0, ![]⟩ .f32) (f : ℕ → EReal)
    (h : Shape.ReduceWindows Group ![1, 4096, 1] ![1, 1, 1] ![0, 0, 0] ![0, 4095, 0] Group) (hu : 0 < (⟨0, ![]⟩ : Shape).numel)
    (s : Fin 4096) (l : Fin 128) (hx : ∀ r : Fin 4096, x (ix3 0 r l) = f r) (hi0 : ∀ i, init i = 0) :
    Host.reduceWindowAdd (F := Ideal) (s := Group) (t := Group) ![1, 4096, 1] ![1, 1, 1] ![0, 0, 0] ![0, 4095, 0] x init h hu (ix3 0 s l)
      = ∑ j ∈ Finset.range (4096 - s.val), f (s.val + j) := by
  have hs := s.isLt
  unfold Host.reduceWindowAdd
  rw [Ideal.hostReduceWindowAdd_def]
  unfold Ideal.hostReduceWindowAdd
  rw [window_sum 0 4095 x (fun _ => init (Shape.Idx.first hu)) f h _ s l hx (fun _ => hi0 _),
    Fin.sum_univ_eq_sum_range (fun k => if 0 ≤ s.val + k ∧ s.val + k - 0 < 4096 then f (s.val + k - 0) else 0) 4096,
    ← Finset.sum_filter]
  refine Finset.sum_congr (Finset.ext fun n => ?_) fun _ _ => rfl
  rw [Finset.mem_filter, Finset.mem_range, Finset.mem_range]
  omega

/-- A sum of reals among the extended reals. -/
theorem coe_sum_range (n : ℕ) (φ : ℕ → ℝ) : ((∑ i ∈ Finset.range n, φ i : ℝ) : EReal) = ∑ i ∈ Finset.range n, (φ i : EReal) := by
  induction n with
  | zero => simp
  | succ n ih => rw [Finset.sum_range_succ, Finset.sum_range_succ, EReal.coe_add, ih]

/-- The difference of two running sums down finite rows is the window between them. -/
theorem down_diff (k : ℕ) (hk : k ≤ 16) (f : ℕ → EReal) (hf : ∀ n, ∃ a : ℝ, f n = a) (h0 : ∀ n, n < 16 → f n = 0) (s : ℕ) :
    (∑ r ∈ Finset.range (s + 1), f (16 + r)) - (if s < k then 0 else ∑ r ∈ Finset.range (s - k + 1), f (16 + r))
      = back k f (16 + s) := by
  choose φ hφ using hf
  have z : ∀ n, n < 16 → φ n = 0 := fun n hn => EReal.coe_injective ((hφ n).symm.trans (h0 n hn))
  obtain rfl : f = fun n => (φ n : EReal) := funext hφ
  have key : (∑ r ∈ Finset.range (s + 1), φ (16 + r)) - (if s < k then 0 else ∑ r ∈ Finset.range (s - k + 1), φ (16 + r))
      = ∑ j ∈ Finset.range k, φ (16 + s - j) := by
    have e : (∑ j ∈ Finset.range k, φ (16 + s - j)) = ∑ j ∈ Finset.range (min k (s + 1)), φ (16 + s - j) := by
      refine (Finset.sum_subset (Finset.range_mono (min_le_left _ _)) fun j hj hn => z _ ?_).symm
      rw [Finset.mem_range] at hj hn
      omega
    rw [e]
    by_cases h : s < k
    · rw [if_pos h, sub_zero, min_eq_right (by omega), ← Finset.sum_range_reflect (fun r => φ (16 + r)) (s + 1)]
      refine Finset.sum_congr rfl fun j hj => congrArg φ ?_
      rw [Finset.mem_range] at hj
      omega
    · rw [if_neg h, min_eq_left (by omega), show s + 1 = (s - k + 1) + k by omega, Finset.sum_range_add, add_sub_cancel_left,
        ← Finset.sum_range_reflect _ k]
      refine Finset.sum_congr rfl fun j hj => congrArg φ ?_
      rw [Finset.mem_range] at hj
      omega
  unfold back
  have key' := congrArg (fun a : ℝ => (a : EReal)) key
  dsimp only at key' ⊢
  rw [EReal.coe_sub, coe_sum_range, coe_sum_range] at key'
  rw [← key']
  congr 1
  split
  · rfl
  · exact (coe_sum_range _ _).symm

/-- The running sum up the rows of a finite row less the row `k` rows on is the window of `k` rows. -/
theorem up_diff (k : ℕ) (f : ℕ → EReal) (hf : ∀ n, ∃ a : ℝ, f n = a) (N : ℕ) (h0 : ∀ n, N ≤ n → f n = 0) (s : ℕ) (hs : s ≤ N) :
    (∑ j ∈ Finset.range (N - s), (f (s + j) + -f (s + j + k))) = ahead k f s := by
  choose φ hφ using hf
  have z : ∀ n, N ≤ n → φ n = 0 := fun n hn => EReal.coe_injective ((hφ n).symm.trans (h0 n hn))
  obtain rfl : f = fun n => (φ n : EReal) := funext hφ
  have key : (∑ j ∈ Finset.range (N - s), (φ (s + j) + -φ (s + j + k))) = ∑ j ∈ Finset.range k, φ (s + j) := by
    rw [Finset.sum_add_distrib, Finset.sum_neg_distrib, add_neg_eq_iff_eq_add]
    have e1 : (∑ j ∈ Finset.range (N - s + k), φ (s + j)) = ∑ j ∈ Finset.range (N - s), φ (s + j) := by
      refine (Finset.sum_subset (Finset.range_mono (by omega)) fun j hj hn => z _ ?_).symm
      rw [Finset.mem_range] at hj hn
      omega
    rw [← e1, Nat.add_comm, Finset.sum_range_add]
    congr 1
    exact Finset.sum_congr rfl fun j _ => congrArg φ (by omega)
  unfold ahead
  have key' := congrArg (fun a : ℝ => (a : EReal)) key
  dsimp only at key' ⊢
  rw [coe_sum_range, coe_sum_range] at key'
  simp only [EReal.coe_add, EReal.coe_neg] at key'
  exact key'

end Cert.Mixer
-- ==== Proof.RefConv.lean ====
/- The reference's conv half, row by row. -/
module

public import proofs.«01_k».proof.Proof.Window
public import proofs.«01_k».proof.Proof.Gen.ReferenceIdeal.Run

@[expose] public section

set_option maxRecDepth 16384

noncomputable section

namespace Cert.ReferenceIdeal.Rows

open Idealize.ShloMosaic Idealize.SL.Sem Cert.ReferenceIdeal Cert.ReferenceIdeal.Gen Cert.ReferenceIdeal.Value Idealize.ShloMosaic.TcCoe Cert.Mixer

variable (V0 : Valuation τ sig (Elt Ideal))
variable (P D : ℕ → ℕ → EReal) (cw : ℕ → ℕ → EReal) (pw : ℕ → ℕ → ℕ → EReal) (ps : ℕ → EReal)
variable (hP : ∀ (r : Fin 4096) (l : Fin 2048), (V0 (Proc.devRef .tc main_arg0) : FVec Ideal S4096x2048 .f32) (ix2 r l) = P (16 + r) l)
variable (hD : ∀ (r : Fin 4096) (l : Fin 1024), (V0 (Proc.devRef .tc main_arg1) : FVec Ideal S4096x1024 .f32) (ix2 r l) = D (16 + r) l)
variable (hcw : ∀ (a : Fin 3) (l : Fin 512), (V0 (Proc.devRef .tc main_arg2) : FVec Ideal S3x512 .f32) (ix2 a l) = cw a l)
variable (hpw : ∀ (g : Fin 4) (a b : Fin 128), (V0 (Proc.devRef .tc main_arg3) : FVec Ideal S4x128x128 .bf16) (ix3 g a b) = pw g a b)
variable (hps : ∀ (l : Fin 512), (V0 (Proc.devRef .tc main_arg4) : FVec Ideal S1x512 .f32) (ix2 0 l) = ps l)
variable (hP0 : ∀ n l, n < 16 ∨ 4112 ≤ n → P n l = 0)
variable (hD0 : ∀ n l, n < 16 ∨ 4112 ≤ n → D n l = 0)

include hP in
/-- The value columns of the projection. -/
theorem value_at (s : Fin 4096) (l : Fin 512) : (res_main_v3 V0 : FVec Ideal S1x4096x512 .f32) (ix3 0 s l) = P (16 + s) l := by
  pointwise [res_main_v3, res_main_v0]
  exact hP s ⟨l, _⟩

include hP in
/-- The second gate's columns. -/
theorem gateb_at (s : Fin 4096) (l : Fin 512) :
    (res_main_v4 V0 : FVec Ideal S1x4096x512 .f32) (ix3 0 s l) = P (16 + s) (512 + l) := by
  pointwise [res_main_v4, res_main_v0]
  exact hP s ⟨512 + l, _⟩

include hP in
/-- The first gate's columns. -/
theorem gatec_at (s : Fin 4096) (l : Fin 512) :
    (res_main_v5 V0 : FVec Ideal S1x4096x512 .f32) (ix3 0 s l) = P (16 + s) (1024 + l) := by
  pointwise [res_main_v5, res_main_v0]
  exact hP s ⟨1024 + l, _⟩

include hP hP0 in
/-- The gated input with two rows of zeros before it. -/
theorem padded_at (s : Fin 4098) (l : Fin 512) :
    (res_main_v9 V0 : FVec Ideal S1x4098x512 .f32) (ix3 0 s l) = gated P (14 + s) l := by
  have hs := s.isLt
  pointwise [res_main_v9]
  split
  · rw [gated, hP0 (14 + s) _ (by omega), zero_mul]
  · rw [gatec_at V0 P hP ⟨s - 2, by omega⟩ l, value_at V0 P hP ⟨s - 2, by omega⟩ l, gated,
      show 16 + (⟨s - 2, by omega⟩ : Fin 4096).val = 14 + s.val by show 16 + (s.val - 2) = 14 + s.val; omega]

include hP hP0 in
/-- The gated input two rows before. -/
theorem tap0_at (s : Fin 4096) (l : Fin 512) :
    (res_main_v11 V0 : FVec Ideal S1x4096x512 .f32) (ix3 0 s l) = gated P (16 + s - 2) l := by
  have hs := s.isLt
  pointwise [res_main_v11]
  refine (padded_at V0 P hP hP0 ⟨s, by omega⟩ l).trans ?_
  rw [show 14 + (⟨s, by omega⟩ : Fin 4098).val = 16 + s.val - 2 by show 14 + s.val = _; omega]

include hP hP0 in
/-- The gated input one row before. -/
theorem tap1_at (s : Fin 4096) (l : Fin 512) :
    (res_main_v17 V0 : FVec Ideal S1x4096x512 .f32) (ix3 0 s l) = gated P (16 + s - 1) l := by
  have hs := s.isLt
  pointwise [res_main_v17]
  refine (padded_at V0 P hP hP0 ⟨1 + s, by omega⟩ l).trans ?_
  rw [show 14 + (⟨1 + s, by omega⟩ : Fin 4098).val = 16 + s.val - 1 by show 14 + (1 + s.val) = _; omega]

include hP hP0 in
/-- The gated input. -/
theorem tap2_at (s : Fin 4096) (l : Fin 512) :
    (res_main_v24 V0 : FVec Ideal S1x4096x512 .f32) (ix3 0 s l) = gated P (16 + s) l := by
  have hs := s.isLt
  pointwise [res_main_v24]
  refine (padded_at V0 P hP hP0 ⟨2 + s, by omega⟩ l).trans ?_
  rw [show 14 + (⟨2 + s, by omega⟩ : Fin 4098).val = 16 + s.val by show 14 + (2 + s.val) = _; omega]

include hcw in
/-- The convolution's first weights. -/
theorem weight0_at (l : Fin 512) : (res_main_v14 V0 : FVec Ideal S1x1x512 .f32) (ix3 0 0 l) = cw 0 l := by
  pointwise [res_main_v14]
  exact hcw 0 l

include hcw in
/-- The convolution's second weights. -/
theorem weight1_at (l : Fin 512) : (res_main_v20 V0 : FVec Ideal S1x1x512 .f32) (ix3 0 0 l) = cw 1 l := by
  pointwise [res_main_v20]
  exact hcw 1 l

include hcw in
/-- The convolution's third weights. -/
theorem weight2_at (l : Fin 512) : (res_main_v27 V0 : FVec Ideal S1x1x512 .f32) (ix3 0 0 l) = cw 2 l := by
  pointwise [res_main_v27]
  exact hcw 2 l

include hP hP0 hcw in
/-- The convolution's result. -/
theorem conv_at (s : Fin 4096) (l : Fin 512) :
    (res_main_v30 V0 : FVec Ideal S1x4096x512 .f32) (ix3 0 s l) = conv P cw (16 + s) l := by
  pointwise [res_main_v30]
  rw [tap0_at V0 P hP hP0, tap1_at V0 P hP hP0, tap2_at V0 P hP hP0, weight0_at V0 cw hcw, weight1_at V0 cw hcw,
    weight2_at V0 cw hcw]
  rfl

include hD in
/-- The gradient's columns of the convolution. -/
theorem gradA_at (s : Fin 4096) (l : Fin 512) : (res_main_v115 V0 : FVec Ideal S1x4096x512 .f32) (ix3 0 s l) = D (16 + s) l := by
  pointwise [res_main_v115, res_main_v114]
  exact hD s ⟨l, _⟩

include hD in
/-- The gradient's columns of the pool. -/
theorem gradB_at (s : Fin 4096) (l : Fin 512) :
    (res_main_v116 V0 : FVec Ideal S1x4096x512 .f32) (ix3 0 s l) = D (16 + s) (512 + l) := by
  pointwise [res_main_v116, res_main_v114]
  exact hD s ⟨512 + l, _⟩

include hP hD in
/-- The gradient that reaches the convolution's result. -/
theorem dconv_at (s : Fin 4096) (l : Fin 512) :
    (res_main_v183 V0 : FVec Ideal S1x4096x512 .f32) (ix3 0 s l) = dconv P D (16 + s) l := by
  pointwise [res_main_v183]
  rw [gateb_at V0 P hP, gradA_at V0 D hD, dconv, mul_comm]

/-- Three arrays laid down two, one and no rows late, added, and cut to the rows from the third on. -/
theorem three_pads (x0 x1 x2 : FVec Ideal S1x4096x512 .f32) (f0 f1 f2 : ℕ → EReal) (l : Fin 512)
    (h0 : ∀ r : Fin 4096, x0 (ix3 0 r l) = f0 r) (h1 : ∀ r : Fin 4096, x1 (ix3 0 r l) = f1 r)
    (h2 : ∀ r : Fin 4096, x2 (ix3 0 r l) = f2 r) (z0 : ∀ r, 4096 ≤ r → f0 r = 0) (z1 : ∀ r, 4096 ≤ r → f1 r = 0)
    (s : Fin 4096) :
    extractStridedSlice S1x4096x512 ![0, 2, 0] (addf (addf
        (pad S1x4098x512 ![0, 2, 0] ![0, 0, 0] ![0, 0, 0] x2 (constant (F := Ideal) S_ .f32 0x00000000#32) pads_S1x4096x512_S1x4098x512_000_200_000 h_S_)
        (pad S1x4098x512 ![0, 1, 0] ![0, 1, 0] ![0, 0, 0] x1 (constant (F := Ideal) S_ .f32 0x00000000#32) pads_S1x4096x512_S1x4098x512_000_110_000 h_S_))
        (pad S1x4098x512 ![0, 0, 0] ![0, 2, 0] ![0, 0, 0] x0 (constant (F := Ideal) S_ .f32 0x00000000#32) pads_S1x4096x512_S1x4098x512_000_020_000 h_S_))
      slices_S1x4098x512_S1x4096x512_0_2_0 (ix3 0 s l) = f2 s + f1 (s + 1) + f0 (s + 2) := by
  have hs := s.isLt
  pointwise
  rw [h2]
  congr 1
  · congr 1
    split
    · rw [h1]
      exact congrArg f1 (by show 2 + s.val - 1 = s.val + 1; omega)
    · rw [z1 _ (by omega)]
  · split
    · rw [h0]
      exact congrArg f0 (by show 2 + s.val = s.val + 2; omega)
    · rw [z0 _ (by omega)]

include hP hD hcw hD0 in
/-- The gradient that reaches the convolution's input. -/
theorem dgated_at (s : Fin 4096) (l : Fin 512) :
    (res_main_v217 V0 : FVec Ideal S1x4096x512 .f32) (ix3 0 s l) = dgated P D cw (16 + s) l := by
  have hz : ∀ r : ℕ, 4096 ≤ r → dconv P D (16 + r) l = 0 := fun r hr => by
    rw [dconv, hD0 _ _ (Or.inr (by omega)), zero_mul]
  refine (three_pads _ _ _ (fun r => dconv P D (16 + r) l * cw 0 l) (fun r => dconv P D (16 + r) l * cw 1 l)
    (fun r => dconv P D (16 + r) l * cw 2 l) l (fun r => ?_) (fun r => ?_) (fun r => ?_)
    (fun r hr => by rw [hz r hr, zero_mul]) (fun r hr => by rw [hz r hr, zero_mul]) s).trans rfl
  · pointwise
    rw [dconv_at V0 P D hP hD, weight0_at V0 cw hcw]
  · pointwise
    rw [dconv_at V0 P D hP hD, weight1_at V0 cw hcw]
  · pointwise
    rw [dconv_at V0 P D hP hD, weight2_at V0 cw hcw]

/-- A sum over two axes of one position each. -/
theorem one_row (h : S1x1x512.ReducesTo [0, 1] S512) (v : S1x1x512.Idx → EReal) (l : Fin 512) :
    Ideal.hostReduceAdd h v 0 (ix1 l) = v (ix3 0 0 l) := by
  unfold Ideal.hostReduceAdd
  dsimp only
  rw [zero_add]
  refine Finset.sum_eq_single_of_mem _ (Finset.mem_filter.2 ⟨Finset.mem_univ _, ?_⟩) fun i hi hn => absurd ?_ hn
  · funext b
    match b with
    | ⟨0, _⟩ => rfl
  · have e := (Finset.mem_filter.1 hi).2
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))

/-- A sum over the rows, laid out as a row of a matrix. -/
theorem sum_rows (x : FVec Ideal S1x4096x512 .f32) (f : ℕ → EReal) (z : Fin 1) (l : Fin 512)
    (hx : ∀ r : Fin 4096, x (ix3 0 r l) = f r) :
    broadcastInDim S1x512 ![1] bcast_S512_S1x512_1 (Host.reduceAdd (shapeCast _ (Host.reduceAdd x
        (constant (F := Ideal) S_ .f32 0x00000000#32) reducesTo_S1x4096x512_S1x512_d1 h_S_) shapeCasts_S1x512_S1x1x512)
      (constant (F := Ideal) S_ .f32 0x00000000#32) reducesTo_S1x1x512_S512_d0_1 h_S_) (ix2 z l) = ∑ s : Fin 4096, f s := by
  obtain rfl : z = 0 := Subsingleton.elim _ _
  pointwise
  refine (one_row _ _ l).trans ?_
  pointwise
  exact Finset.sum_congr rfl fun r _ => hx r

/-- Three rows laid into a matrix, and added. -/
theorem three_rows (y0 y1 y2 : FVec Ideal S1x512 .f32) (f : ℕ → ℕ → EReal)
    (h0 : ∀ (l : Fin 512), y0 (ix2 0 l) = f 0 l) (h1 : ∀ (l : Fin 512), y1 (ix2 0 l) = f 1 l)
    (h2 : ∀ (l : Fin 512), y2 (ix2 0 l) = f 2 l) (a : Fin 3) (l : Fin 512) :
    addf (addf (pad S3x512 ![2, 0] ![0, 0] ![0, 0] y2 (constant (F := Ideal) S_ .f32 0x00000000#32) pads_S1x512_S3x512_200_000 h_S_)
        (pad S3x512 ![1, 0] ![1, 0] ![0, 0] y1 (constant (F := Ideal) S_ .f32 0x00000000#32) pads_S1x512_S3x512_110_000 h_S_))
        (pad S3x512 ![0, 0] ![2, 0] ![0, 0] y0 (constant (F := Ideal) S_ .f32 0x00000000#32) pads_S1x512_S3x512_020_000 h_S_) (ix2 a l)
      = f a l := by
  fin_cases a
  all_goals pointwise
  all_goals simp only [h0, h1, h2]

end Cert.ReferenceIdeal.Rows
-- ==== Proof.RefCounts.lean ====
/- The number of rows in a window, which the reference computes on 32-bit integers from the row's number. -/
module

public import proofs.«01_k».proof.Proof.Counts

@[expose] public section

set_option maxRecDepth 16384

noncomputable section

namespace Cert.Mixer

open Idealize.ShloMosaic

/-- The reference's words for the counts of windows of 2, 4, 8 and 16 rows, at every row, are the counts. -/
theorem refCounts : ∀ s : Fin 4096,
    let u := IntOp.addi (1#32) (BitVec.ofNat 32 s)
    let n := max 1 (16 + s.val - 15)
    (IntOp.minsi u (2#32)).toInt = ((min 2 n : ℕ) : ℤ) ∧ (IntOp.minsi u (4#32)).toInt = ((min 4 n : ℕ) : ℤ)
      ∧ (IntOp.minsi u (8#32)).toInt = ((min 8 n : ℕ) : ℤ) ∧ (IntOp.minsi u (16#32)).toInt = ((min 16 n : ℕ) : ℤ) := by
  decide +kernel

end Cert.Mixer
-- ==== Proof.RefPool.lean ====
/- The reference's pool half, row by row. -/
module

public import proofs.«01_k».proof.Proof.RefConv
public import proofs.«01_k».proof.Proof.RefCounts
public import proofs.«01_k».proof.Proof.Gen.ReferenceIdeal.Run

@[expose] public section

set_option maxRecDepth 16384

noncomputable section

namespace Cert.ReferenceIdeal.Rows

open Idealize.ShloMosaic Idealize.SL.Sem Cert.ReferenceIdeal Cert.ReferenceIdeal.Gen Cert.ReferenceIdeal.Value Idealize.ShloMosaic.TcCoe Cert.Mixer

variable (V0 : Valuation τ sig (Elt Ideal))
variable (P D : ℕ → ℕ → EReal) (cw : ℕ → ℕ → EReal) (pw : ℕ → ℕ → ℕ → EReal) (ps : ℕ → EReal)
variable (hP : ∀ (r : Fin 4096) (l : Fin 2048), (V0 (Proc.devRef .tc main_arg0) : FVec Ideal S4096x2048 .f32) (ix2 r l) = P (16 + r) l)
variable (hD : ∀ (r : Fin 4096) (l : Fin 1024), (V0 (Proc.devRef .tc main_arg1) : FVec Ideal S4096x1024 .f32) (ix2 r l) = D (16 + r) l)
variable (hcw : ∀ (a : Fin 3) (l : Fin 512), (V0 (Proc.devRef .tc main_arg2) : FVec Ideal S3x512 .f32) (ix2 a l) = cw a l)
variable (hpw : ∀ (g : Fin 4) (a b : Fin 128), (V0 (Proc.devRef .tc main_arg3) : FVec Ideal S4x128x128 .bf16) (ix3 g a b) = pw g a b)
variable (hps : ∀ (l : Fin 512), (V0 (Proc.devRef .tc main_arg4) : FVec Ideal S1x512 .f32) (ix2 0 l) = ps l)
variable (hP0 : ∀ n l, n < 16 ∨ 4112 ≤ n → P n l = 0)
variable (hD0 : ∀ n l, n < 16 ∨ 4112 ≤ n → D n l = 0)

variable (hPf : ∀ n l, 1536 ≤ l → ∃ a : ℝ, P n l = a)
variable (hQf : ∀ g n l, ∃ a : ℝ, dpooled D pw ps g n l = a)

include hP in
/-- The pool's columns of the projection, 128 to a group. -/
theorem group_at (s : Fin 4096) (g : Fin 4) (l : Fin 128) :
    (res_main_v32 V0 : FVec Ideal S1x4096x4x128 .f32) (ix4 0 s g l) = P (16 + s) (1536 + 128 * g + l) := by
  pointwise [res_main_v32, res_main_v0]
  refine (hP s ⟨1536 + (g * 128 + l), _⟩).trans (congrArg (P (16 + s)) ?_)
  show 1536 + (g.val * 128 + l.val) = _
  omega

include hP0 hPf in
/-- From running sums to the pooled rows of a group. -/
theorem pooled_from (g k : ℕ) (hk : k = 2 ^ (g + 1)) (hk' : k ≤ 16) (x : FVec Ideal S1x4096x128 .f32) (l : Fin 128)
    (hx : ∀ r : Fin 4096, x (ix3 0 r l) = ∑ i ∈ Finset.range (r.val + 1), P (16 + i) (1536 + 128 * g + l))
    (s : Fin 4096) (hb : ¬s.val < k → s.val - k < 4096) :
    Ideal.div (x (ix3 0 s l) - (if h : s.val < k then 0 else x (ix3 0 ⟨s.val - k, hb h⟩ l))) (rowCount k (16 + s))
      - P (16 + s) (1536 + 128 * g + l) = pooled P g (16 + s) l := by
  subst hk
  rw [hx, pooled]
  congr 2
  rw [← down_diff _ hk' (fun n => P n (1536 + 128 * g + l)) (fun n => hPf n _ (by omega)) (fun n hn => hP0 n _ (Or.inl hn)) s]
  congr 1
  split
  · rfl
  · rw [hx]

/-- Group 0's counts. -/
theorem count0_at (s : Fin 4096) : (res_main_v46 V0 : FVec Ideal S1x4096x1 .f32) (ix3 0 s 0) = rowCount 2 (16 + s) := by
  pointwise [res_main_v46]
  exact KernelIdeal.Rows.count_of_int _ _ _ (refCounts s).1

include hP in
/-- Group 0's running sums. -/
theorem run0_at (l : Fin 128) (s : Fin 4096) :
    (res_main_v35 V0 : FVec Ideal S1x4096x128 .f32) (ix3 0 s l)
      = ∑ r ∈ Finset.range (s.val + 1), P (16 + r) (1536 + 128 * 0 + l) := by
  unfold res_main_v35
  refine sum_down _ _ (fun r => P (16 + r) (1536 + 128 * 0 + l)) _ h_S_ s l (fun r => ?_) (fun i => ?_)
  · pointwise
    exact group_at V0 P hP r 0 l
  · pointwise

include hP hP0 hPf in
/-- Group 0's pooled rows. -/
theorem pooled0_at (s : Fin 4096) (l : Fin 128) :
    (res_main_v106 V0 : FVec Ideal S1x4096x4x128 .f32) (ix4 0 s 0 l) = pooled P 0 (16 + s) l := by
  pointwise [res_main_v106]
  rw [group_at V0 P hP s 0 l, count0_at]
  exact pooled_from P hP0 hPf 0 2 rfl (by decide) _ l (run0_at V0 P hP l) s _

/-- Group 1's counts. -/
theorem count1_at (s : Fin 4096) : (res_main_v63 V0 : FVec Ideal S1x4096x1 .f32) (ix3 0 s 0) = rowCount 4 (16 + s) := by
  pointwise [res_main_v63]
  exact KernelIdeal.Rows.count_of_int _ _ _ (refCounts s).2.1

include hP in
/-- Group 1's running sums. -/
theorem run1_at (l : Fin 128) (s : Fin 4096) :
    (res_main_v52 V0 : FVec Ideal S1x4096x128 .f32) (ix3 0 s l)
      = ∑ r ∈ Finset.range (s.val + 1), P (16 + r) (1536 + 128 * 1 + l) := by
  unfold res_main_v52
  refine sum_down _ _ (fun r => P (16 + r) (1536 + 128 * 1 + l)) _ h_S_ s l (fun r => ?_) (fun i => ?_)
  · pointwise
    exact group_at V0 P hP r 1 l
  · pointwise

include hP hP0 hPf in
/-- Group 1's pooled rows. -/
theorem pooled1_at (s : Fin 4096) (l : Fin 128) :
    (res_main_v106 V0 : FVec Ideal S1x4096x4x128 .f32) (ix4 0 s 1 l) = pooled P 1 (16 + s) l := by
  pointwise [res_main_v106]
  rw [group_at V0 P hP s 1 l, count1_at]
  exact pooled_from P hP0 hPf 1 4 rfl (by decide) _ l (run1_at V0 P hP l) s _

/-- Group 2's counts. -/
theorem count2_at (s : Fin 4096) : (res_main_v80 V0 : FVec Ideal S1x4096x1 .f32) (ix3 0 s 0) = rowCount 8 (16 + s) := by
  pointwise [res_main_v80]
  exact KernelIdeal.Rows.count_of_int _ _ _ (refCounts s).2.2.1

include hP in
/-- Group 2's running sums. -/
theorem run2_at (l : Fin 128) (s : Fin 4096) :
    (res_main_v69 V0 : FVec Ideal S1x4096x128 .f32) (ix3 0 s l)
      = ∑ r ∈ Finset.range (s.val + 1), P (16 + r) (1536 + 128 * 2 + l) := by
  unfold res_main_v69
  refine sum_down _ _ (fun r => P (16 + r) (1536 + 128 * 2 + l)) _ h_S_ s l (fun r => ?_) (fun i => ?_)
  · pointwise
    exact group_at V0 P hP r 2 l
  · pointwise

include hP hP0 hPf in
/-- Group 2's pooled rows. -/
theorem pooled2_at (s : Fin 4096) (l : Fin 128) :
    (res_main_v106 V0 : FVec Ideal S1x4096x4x128 .f32) (ix4 0 s 2 l) = pooled P 2 (16 + s) l := by
  pointwise [res_main_v106]
  rw [group_at V0 P hP s 2 l, count2_at]
  exact pooled_from P hP0 hPf 2 8 rfl (by decide) _ l (run2_at V0 P hP l) s _

/-- Group 3's counts. -/
theorem count3_at (s : Fin 4096) : (res_main_v97 V0 : FVec Ideal S1x4096x1 .f32) (ix3 0 s 0) = rowCount 16 (16 + s) := by
  pointwise [res_main_v97]
  exact KernelIdeal.Rows.count_of_int _ _ _ (refCounts s).2.2.2

include hP in
/-- Group 3's running sums. -/
theorem run3_at (l : Fin 128) (s : Fin 4096) :
    (res_main_v86 V0 : FVec Ideal S1x4096x128 .f32) (ix3 0 s l)
      = ∑ r ∈ Finset.range (s.val + 1), P (16 + r) (1536 + 128 * 3 + l) := by
  unfold res_main_v86
  refine sum_down _ _ (fun r => P (16 + r) (1536 + 128 * 3 + l)) _ h_S_ s l (fun r => ?_) (fun i => ?_)
  · pointwise
    exact group_at V0 P hP r 3 l
  · pointwise

include hP hP0 hPf in
/-- Group 3's pooled rows. -/
theorem pooled3_at (s : Fin 4096) (l : Fin 128) :
    (res_main_v106 V0 : FVec Ideal S1x4096x4x128 .f32) (ix4 0 s 3 l) = pooled P 3 (16 + s) l := by
  pointwise [res_main_v106]
  rw [group_at V0 P hP s 3 l, count3_at]
  exact pooled_from P hP0 hPf 3 16 rfl (by decide) _ l (run3_at V0 P hP l) s _

include hP hP0 hPf in
/-- The pooled rows. -/
theorem pooled_at (s : Fin 4096) (g : Fin 4) (l : Fin 128) :
    (res_main_v106 V0 : FVec Ideal S1x4096x4x128 .f32) (ix4 0 s g l) = pooled P g (16 + s) l := by
  match g with
  | 0 => exact pooled0_at V0 P hP hP0 hPf s l
  | 1 => exact pooled1_at V0 P hP hP0 hPf s l
  | 2 => exact pooled2_at V0 P hP hP0 hPf s l
  | 3 => exact pooled3_at V0 P hP hP0 hPf s l

include hpw in
/-- The pool's weights. -/
theorem poolW_at (g : Fin 4) (a b : Fin 128) : (res_main_v1 V0 : FVec Ideal S4x128x128 .f32) (ix3 g a b) = pw g a b := by
  pointwise [res_main_v1]
  exact hpw g a b

include hP hP0 hPf hpw in
/-- The products before the scale. -/
theorem mixed_at (s : Fin 4096) (l : Fin 512) :
    (res_main_v109 V0 : FVec Ideal S1x4096x512 .f32) (ix3 0 s l) = mixed P pw (l.val / 128) (16 + s) (l.val % 128) := by
  have hl := l.isLt
  pointwise [res_main_v109]
  refine (Finset.sum_congr rfl fun x _ => ?_ : _ = ∑ e : Fin 128, pooled P (l.val / 128) (16 + s) e * pw (l.val / 128) e (l.val % 128))
  rw [poolW_at V0 pw hpw ⟨l / 128, by omega⟩ x ⟨l % 128, by omega⟩, pooled_at V0 P hP hP0 hPf s ⟨l / 128, by omega⟩ x, mul_comm]

include hD hps in
/-- The scaled gradient. -/
theorem scaled_at (g : Fin 4) (d : Fin 128) (s : Fin 4096) :
    (res_main_v124 V0 : FVec Ideal S4x128x1x4096 .f32) (ix4 g d 0 s) = scaled D ps g (16 + s) d := by
  have hg := g.isLt
  have hd := d.isLt
  pointwise [res_main_v124, res_main_v110]
  rw [gradB_at V0 D hD s ⟨g * 128 + d, by omega⟩, hps ⟨g * 128 + d, by omega⟩, scaled]
  congr 2
  · show 512 + (g.val * 128 + d.val) = _
    omega
  · show g.val * 128 + d.val = _
    omega

include hD hps hpw in
/-- The gradient that reaches the pooled rows. -/
theorem dpooled_at (s : Fin 4096) (g : Fin 4) (l : Fin 128) :
    (res_main_v126 V0 : FVec Ideal S1x4096x4x128 .f32) (ix4 0 s g l) = dpooled D pw ps g (16 + s) l := by
  pointwise [res_main_v126]
  refine (Finset.sum_congr rfl fun x _ => ?_ : _ = ∑ d : Fin 128, scaled D ps g (16 + s) d * pw g l d)
  rw [scaled_at V0 D ps hD hps, poolW_at V0 pw hpw]

/-- A window holds a row. -/
theorem rowCount_pos (k n : ℕ) (hk : 0 < k) : rowCount k n ≠ 0 := by
  unfold rowCount
  have h : min k (max 1 (n - 15)) ≠ 0 := by omega
  exact_mod_cast h

/-- A group's gradient of the means. -/
def dmean (g n l : ℕ) : EReal := Ideal.div (dpooled D pw ps g n l) (rowCount (2 ^ (g + 1)) n)

include hD0 in
/-- It is zero after the last row. -/
theorem dmean_out (g n l : ℕ) (h : 4112 ≤ n) : dmean D pw ps g n l = 0 := by
  have e : dpooled D pw ps g n l = 0 := Finset.sum_eq_zero fun d _ => by
    rw [scaled, hD0 n _ (Or.inr h), zero_mul, zero_mul]
  rw [dmean, e, Ideal.zero_div (rowCount_pos _ _ (by positivity))]

include hQf in
/-- It is finite. -/
theorem dmean_finite (g n l : ℕ) : ∃ a : ℝ, dmean D pw ps g n l = a := by
  obtain ⟨a, ha⟩ := hQf g n l
  have hc : ((min (2 ^ (g + 1)) (max 1 (n - 15)) : ℕ) : ℝ) ≠ 0 := by
    have h2 : 0 < 2 ^ (g + 1) := by positivity
    have : min (2 ^ (g + 1)) (max 1 (n - 15)) ≠ 0 := by omega
    exact_mod_cast this
  refine ⟨a * (1 / ((min (2 ^ (g + 1)) (max 1 (n - 15)) : ℕ) : ℝ)), ?_⟩
  rw [dmean, ha, rowCount, ← EReal.coe_natCast, Ideal.div_coe hc, ← EReal.coe_mul]

include hD0 hQf in
/-- The running sum up the rows of the means' gradient, each less the one a window later, is the window's sum. -/
theorem ahead_from (g k : ℕ) (hk : k = 2 ^ (g + 1)) (y q : FVec Ideal S1x4096x128 .f32) (l : Fin 128)
    (init : FVec Ideal S_ .f32) (hi : ∀ i, init i = 0)
    (hq : ∀ r : Fin 4096, q (ix3 0 r l) = dmean D pw ps g (16 + r) l)
    (hy : ∀ r : Fin 4096, y (ix3 0 r l) = q (ix3 0 r l) + if h : k + r.val < 4096 then -q (ix3 0 ⟨k + r.val, h⟩ l) else 0)
    (s : Fin 4096) :
    Host.reduceWindowAdd ![1, 4096, 1] ![1, 1, 1] ![0, 0, 0] ![0, 4095, 0] y init
      reduceWindows_S1x4096x128_S1x4096x128_w1s1p0_0_w4096s1p0_4095_w1s1p0_0 h_S_ (ix3 0 s l)
      = ahead k (fun n => dmean D pw ps g n l) (16 + s) := by
  have hs := s.isLt
  rw [← up_diff k (fun n => dmean D pw ps g n l) (fun n => dmean_finite D pw ps hQf g n l) 4112
    (fun n hn => dmean_out D pw ps hD0 g n l hn) (16 + s) (by omega)]
  refine (sum_up y init (fun r => dmean D pw ps g (16 + r) l + -dmean D pw ps g (16 + r + k) l) _ h_S_ s l (fun r => ?_) hi).trans ?_
  · rw [hy, hq]
    congr 1
    split
    · next h =>
      rw [hq, show 16 + (⟨k + r.val, h⟩ : Fin 4096).val = 16 + r.val + k by show 16 + (k + r.val) = _; omega]
    · rw [dmean_out D pw ps hD0 g _ l (by omega), neg_zero]
  · rw [show 4112 - (16 + s.val) = 4096 - s.val by omega]
    exact Finset.sum_congr rfl fun j _ => by simp only [Nat.add_assoc]

/-- Rows less the rows 2 later. -/
theorem less0 (q : FVec Ideal S1x4096x128 .f32) (l : Fin 128) (r : Fin 4096) :
    addf q (extractStridedSlice S1x4096x128 ![0, 2, 0] (pad S1x4098x128 ![0, 0, 0] ![0, 2, 0] ![0, 0, 0] (Host.negf q)
        (constant (F := Ideal) S_ .f32 0x00000000#32) pads_S1x4096x128_S1x4098x128_000_020_000 h_S_) slices_S1x4098x128_S1x4096x128_0_2_0) (ix3 0 r l)
      = q (ix3 0 r l) + if h : 2 + r.val < 4096 then -q (ix3 0 ⟨2 + r.val, h⟩ l) else 0 := by
  pointwise

include hD hps hpw in
/-- Group 0's gradient of the means. -/
theorem dmean0_at (l : Fin 128) (s : Fin 4096) :
    (res_main_v172 V0 : FVec Ideal S1x4096x128 .f32) (ix3 0 s l) = dmean D pw ps 0 (16 + s) l := by
  pointwise [res_main_v172]
  rw [dpooled_at V0 D pw ps hD hpw hps s 0 l, count0_at]
  rfl

include hD hps hpw hD0 hQf in
/-- Group 0's sum over the windows that hold a row. -/
theorem ahead0_at (s : Fin 4096) (l : Fin 128) :
    Host.reduceWindowAdd ![1, 4096, 1] ![1, 1, 1] ![0, 0, 0] ![0, 4095, 0]
      (addf (res_main_v172 V0 : FVec Ideal S1x4096x128 .f32) (extractStridedSlice S1x4096x128 ![0, 2, 0] (res_main_v174 V0) slices_S1x4098x128_S1x4096x128_0_2_0))
      (broadcastInDim S_ ![] bcast_S_S_ (constant (F := Ideal) S_ .f32 0x00000000#32))
      reduceWindows_S1x4096x128_S1x4096x128_w1s1p0_0_w4096s1p0_4095_w1s1p0_0 h_S_ (ix3 0 s l)
      = ahead 2 (fun n => dmean D pw ps 0 n l) (16 + s) :=
  ahead_from D pw ps hD0 hQf 0 2 rfl _ _ l _ (fun i => by pointwise) (dmean0_at V0 D pw ps hD hpw hps l) (less0 _ l) s

/-- Rows less the rows 4 later. -/
theorem less1 (q : FVec Ideal S1x4096x128 .f32) (l : Fin 128) (r : Fin 4096) :
    addf q (extractStridedSlice S1x4096x128 ![0, 4, 0] (pad S1x4100x128 ![0, 0, 0] ![0, 4, 0] ![0, 0, 0] (Host.negf q)
        (constant (F := Ideal) S_ .f32 0x00000000#32) pads_S1x4096x128_S1x4100x128_000_040_000 h_S_) slices_S1x4100x128_S1x4096x128_0_4_0) (ix3 0 r l)
      = q (ix3 0 r l) + if h : 4 + r.val < 4096 then -q (ix3 0 ⟨4 + r.val, h⟩ l) else 0 := by
  pointwise

include hD hps hpw in
/-- Group 1's gradient of the means. -/
theorem dmean1_at (l : Fin 128) (s : Fin 4096) :
    (res_main_v161 V0 : FVec Ideal S1x4096x128 .f32) (ix3 0 s l) = dmean D pw ps 1 (16 + s) l := by
  pointwise [res_main_v161]
  rw [dpooled_at V0 D pw ps hD hpw hps s 1 l, count1_at]
  rfl

include hD hps hpw hD0 hQf in
/-- Group 1's sum over the windows that hold a row. -/
theorem ahead1_at (s : Fin 4096) (l : Fin 128) :
    Host.reduceWindowAdd ![1, 4096, 1] ![1, 1, 1] ![0, 0, 0] ![0, 4095, 0]
      (addf (res_main_v161 V0 : FVec Ideal S1x4096x128 .f32) (extractStridedSlice S1x4096x128 ![0, 4, 0] (res_main_v163 V0) slices_S1x4100x128_S1x4096x128_0_4_0))
      (broadcastInDim S_ ![] bcast_S_S_ (constant (F := Ideal) S_ .f32 0x00000000#32))
      reduceWindows_S1x4096x128_S1x4096x128_w1s1p0_0_w4096s1p0_4095_w1s1p0_0 h_S_ (ix3 0 s l)
      = ahead 4 (fun n => dmean D pw ps 1 n l) (16 + s) :=
  ahead_from D pw ps hD0 hQf 1 4 rfl _ _ l _ (fun i => by pointwise) (dmean1_at V0 D pw ps hD hpw hps l) (less1 _ l) s

/-- Rows less the rows 8 later. -/
theorem less2 (q : FVec Ideal S1x4096x128 .f32) (l : Fin 128) (r : Fin 4096) :
    addf q (extractStridedSlice S1x4096x128 ![0, 8, 0] (pad S1x4104x128 ![0, 0, 0] ![0, 8, 0] ![0, 0, 0] (Host.negf q)
        (constant (F := Ideal) S_ .f32 0x00000000#32) pads_S1x4096x128_S1x4104x128_000_080_000 h_S_) slices_S1x4104x128_S1x4096x128_0_8_0) (ix3 0 r l)
      = q (ix3 0 r l) + if h : 8 + r.val < 4096 then -q (ix3 0 ⟨8 + r.val, h⟩ l) else 0 := by
  pointwise

include hD hps hpw in
/-- Group 2's gradient of the means. -/
theorem dmean2_at (l : Fin 128) (s : Fin 4096) :
    (res_main_v150 V0 : FVec Ideal S1x4096x128 .f32) (ix3 0 s l) = dmean D pw ps 2 (16 + s) l := by
  pointwise [res_main_v150]
  rw [dpooled_at V0 D pw ps hD hpw hps s 2 l, count2_at]
  rfl

include hD hps hpw hD0 hQf in
/-- Group 2's sum over the windows that hold a row. -/
theorem ahead2_at (s : Fin 4096) (l : Fin 128) :
    Host.reduceWindowAdd ![1, 4096, 1] ![1, 1, 1] ![0, 0, 0] ![0, 4095, 0]
      (addf (res_main_v150 V0 : FVec Ideal S1x4096x128 .f32) (extractStridedSlice S1x4096x128 ![0, 8, 0] (res_main_v152 V0) slices_S1x4104x128_S1x4096x128_0_8_0))
      (broadcastInDim S_ ![] bcast_S_S_ (constant (F := Ideal) S_ .f32 0x00000000#32))
      reduceWindows_S1x4096x128_S1x4096x128_w1s1p0_0_w4096s1p0_4095_w1s1p0_0 h_S_ (ix3 0 s l)
      = ahead 8 (fun n => dmean D pw ps 2 n l) (16 + s) :=
  ahead_from D pw ps hD0 hQf 2 8 rfl _ _ l _ (fun i => by pointwise) (dmean2_at V0 D pw ps hD hpw hps l) (less2 _ l) s

/-- Rows less the rows 16 later. -/
theorem less3 (q : FVec Ideal S1x4096x128 .f32) (l : Fin 128) (r : Fin 4096) :
    addf q (extractStridedSlice S1x4096x128 ![0, 16, 0] (pad S1x4112x128 ![0, 0, 0] ![0, 16, 0] ![0, 0, 0] (Host.negf q)
        (constant (F := Ideal) S_ .f32 0x00000000#32) pads_S1x4096x128_S1x4112x128_000_0160_000 h_S_) slices_S1x4112x128_S1x4096x128_0_16_0) (ix3 0 r l)
      = q (ix3 0 r l) + if h : 16 + r.val < 4096 then -q (ix3 0 ⟨16 + r.val, h⟩ l) else 0 := by
  pointwise

include hD hps hpw in
/-- Group 3's gradient of the means. -/
theorem dmean3_at (l : Fin 128) (s : Fin 4096) :
    (res_main_v139 V0 : FVec Ideal S1x4096x128 .f32) (ix3 0 s l) = dmean D pw ps 3 (16 + s) l := by
  pointwise [res_main_v139]
  rw [dpooled_at V0 D pw ps hD hpw hps s 3 l, count3_at]
  rfl

include hD hps hpw hD0 hQf in
/-- Group 3's sum over the windows that hold a row. -/
theorem ahead3_at (s : Fin 4096) (l : Fin 128) :
    Host.reduceWindowAdd ![1, 4096, 1] ![1, 1, 1] ![0, 0, 0] ![0, 4095, 0]
      (addf (res_main_v139 V0 : FVec Ideal S1x4096x128 .f32) (extractStridedSlice S1x4096x128 ![0, 16, 0] (res_main_v141 V0) slices_S1x4112x128_S1x4096x128_0_16_0))
      (broadcastInDim S_ ![] bcast_S_S_ (constant (F := Ideal) S_ .f32 0x00000000#32))
      reduceWindows_S1x4096x128_S1x4096x128_w1s1p0_0_w4096s1p0_4095_w1s1p0_0 h_S_ (ix3 0 s l)
      = ahead 16 (fun n => dmean D pw ps 3 n l) (16 + s) :=
  ahead_from D pw ps hD0 hQf 3 16 rfl _ _ l _ (fun i => by pointwise) (dmean3_at V0 D pw ps hD hpw hps l) (less3 _ l) s

end Cert.ReferenceIdeal.Rows
-- ==== Proof.RefOut.lean ====
/- The reference's four results, element by element. -/
module

public import proofs.«01_k».proof.Proof.RefPool

@[expose] public section

set_option maxRecDepth 16384

noncomputable section

namespace Cert.ReferenceIdeal.Rows

open Idealize.ShloMosaic Idealize.SL.Sem Cert.ReferenceIdeal Cert.ReferenceIdeal.Gen Cert.ReferenceIdeal.Value Idealize.ShloMosaic.TcCoe Cert.Mixer

/-- Four stretches of 512 columns side by side. -/
theorem four_columns (x0 x1 x2 x3 : FVec Ideal S1x4096x512 .f32) (f : ℕ → ℕ → EReal)
    (h0 : ∀ (s : Fin 4096) (l : Fin 512), x0 (ix3 0 s l) = f s l)
    (h1 : ∀ (s : Fin 4096) (l : Fin 512), x1 (ix3 0 s l) = f s (512 + l))
    (h2 : ∀ (s : Fin 4096) (l : Fin 512), x2 (ix3 0 s l) = f s (1024 + l))
    (h3 : ∀ (s : Fin 4096) (l : Fin 512), x3 (ix3 0 s l) = f s (1536 + l)) (s : Fin 4096) (c : Fin 2048) :
    truncf (F := Ideal) .bf16 (shapeCast S4096x2048 (concatenate S1x4096x2048 2 [⟨S1x4096x512, x0⟩, ⟨S1x4096x512, x1⟩, ⟨S1x4096x512, x2⟩,
      ⟨S1x4096x512, x3⟩] concatenates_S1x4096x512_S1x4096x512_S1x4096x512_S1x4096x512_S1x4096x2048_d2 : FVec Ideal S1x4096x2048 .f32)
      shapeCasts_S1x4096x2048_S4096x2048) bitsLt_bf16_f32 (ix2 s c) = f s c := by
  have hc := c.isLt
  pointwise
  split
  · exact h0 _ _
  · split
    · exact (h1 _ _).trans (congrArg (f s) (show 512 + (c.val - 512) = c.val by omega))
    · split
      · exact (h2 _ _).trans (congrArg (f s) (show 1024 + (c.val - 512 - 512) = c.val by omega))
      · exact (h3 _ _).trans (congrArg (f s) (show 1536 + (c.val - 512 - 512 - 512) = c.val by omega))

/-- Each group's columns come from its own array, added to what was there. -/
theorem four_groups (y : FVec Ideal S1x4096x4x128 .f32) (x0 x1 x2 x3 : FVec Ideal S1x4096x128 .f32) (f : ℕ → ℕ → ℕ → EReal)
    (h0 : ∀ (s : Fin 4096) (l : Fin 128), y (ix4 0 s 0 l) + x0 (ix3 0 s l) = f 0 s l)
    (h1 : ∀ (s : Fin 4096) (l : Fin 128), y (ix4 0 s 1 l) + x1 (ix3 0 s l) = f 1 s l)
    (h2 : ∀ (s : Fin 4096) (l : Fin 128), y (ix4 0 s 2 l) + x2 (ix3 0 s l) = f 2 s l)
    (h3 : ∀ (s : Fin 4096) (l : Fin 128), y (ix4 0 s 3 l) + x3 (ix3 0 s l) = f 3 s l) (s : Fin 4096) (l : Fin 512) :
    shapeCast S1x4096x512 (addf (addf (addf (addf y
      (pad S1x4096x4x128 ![0, 0, 3, 0] ![0, 0, 0, 0] ![0, 0, 0, 0] (broadcastInDim S1x4096x1x128 ![0, 1, 3] bcast_S1x4096x128_S1x4096x1x128_0_1_3 x3)
        (constant (F := Ideal) S_ .f32 0x00000000#32) pads_S1x4096x1x128_S1x4096x4x128_000_000_300_000 h_S_))
      (pad S1x4096x4x128 ![0, 0, 2, 0] ![0, 0, 1, 0] ![0, 0, 0, 0] (broadcastInDim S1x4096x1x128 ![0, 1, 3] bcast_S1x4096x128_S1x4096x1x128_0_1_3 x2)
        (constant (F := Ideal) S_ .f32 0x00000000#32) pads_S1x4096x1x128_S1x4096x4x128_000_000_210_000 h_S_))
      (pad S1x4096x4x128 ![0, 0, 1, 0] ![0, 0, 2, 0] ![0, 0, 0, 0] (broadcastInDim S1x4096x1x128 ![0, 1, 3] bcast_S1x4096x128_S1x4096x1x128_0_1_3 x1)
        (constant (F := Ideal) S_ .f32 0x00000000#32) pads_S1x4096x1x128_S1x4096x4x128_000_000_120_000 h_S_))
      (pad S1x4096x4x128 ![0, 0, 0, 0] ![0, 0, 3, 0] ![0, 0, 0, 0] (broadcastInDim S1x4096x1x128 ![0, 1, 3] bcast_S1x4096x128_S1x4096x1x128_0_1_3 x0)
        (constant (F := Ideal) S_ .f32 0x00000000#32) pads_S1x4096x1x128_S1x4096x4x128_000_000_030_000 h_S_))
      shapeCasts_S1x4096x4x128_S1x4096x512 (ix3 0 s l) = f (l.val / 128) s (l.val % 128) := by
  have hl := l.isLt
  have hm : l.val % 128 < 128 := by omega
  obtain ⟨g, hg⟩ : ∃ g : Fin 4, g.val = l.val / 128 := ⟨⟨l.val / 128, by omega⟩, rfl⟩
  pointwise
  have e : (⟨l.val / 128, by omega⟩ : Fin 4) = g := Fin.ext hg.symm
  simp only [hm, and_true, ← hg]
  fin_cases g
  · simpa using h0 s ⟨l.val % 128, hm⟩
  · simpa using h1 s ⟨l.val % 128, hm⟩
  · simpa using h2 s ⟨l.val % 128, hm⟩
  · simpa using h3 s ⟨l.val % 128, hm⟩

/-- The product over the rows, transposed. -/
theorem rows_product (x : FVec Ideal S4x128x1x4096 .f32) (y : FVec Ideal S1x4096x4x128 .f32) (g : Fin 4) (c d : Fin 128) :
    transpose S4x128x128 [0, 2, 1] (Host.dotGeneral dot_S4x128x1x4096_S1x4096x4x128_S4x128x128_23_01_1_3_0_2 none x y)
      transposes_S4x128x128_S4x128x128_0_2_1 (ix3 g c d) = ∑ s : Fin 4096, y (ix4 0 s g c) * x (ix4 g d 0 s) := by
  pointwise
  rw [Fin.sum_univ_one]
  exact Finset.sum_congr rfl fun s _ => mul_comm _ _

variable (V0 : Valuation τ sig (Elt Ideal))
variable (P D : ℕ → ℕ → EReal) (cw : ℕ → ℕ → EReal) (pw : ℕ → ℕ → ℕ → EReal) (ps : ℕ → EReal)
variable (hP : ∀ (r : Fin 4096) (l : Fin 2048), (V0 (Proc.devRef .tc main_arg0) : FVec Ideal S4096x2048 .f32) (ix2 r l) = P (16 + r) l)
variable (hD : ∀ (r : Fin 4096) (l : Fin 1024), (V0 (Proc.devRef .tc main_arg1) : FVec Ideal S4096x1024 .f32) (ix2 r l) = D (16 + r) l)
variable (hcw : ∀ (a : Fin 3) (l : Fin 512), (V0 (Proc.devRef .tc main_arg2) : FVec Ideal S3x512 .f32) (ix2 a l) = cw a l)
variable (hpw : ∀ (g : Fin 4) (a b : Fin 128), (V0 (Proc.devRef .tc main_arg3) : FVec Ideal S4x128x128 .bf16) (ix3 g a b) = pw g a b)
variable (hps : ∀ (l : Fin 512), (V0 (Proc.devRef .tc main_arg4) : FVec Ideal S1x512 .f32) (ix2 0 l) = ps l)
variable (hP0 : ∀ n l, n < 16 ∨ 4112 ≤ n → P n l = 0)
variable (hD0 : ∀ n l, n < 16 ∨ 4112 ≤ n → D n l = 0)

variable (hPf : ∀ n l, 1536 ≤ l → ∃ a : ℝ, P n l = a)
variable (hQf : ∀ g n l, ∃ a : ℝ, dpooled D pw ps g n l = a)

include hP hD hcw hpw hps hP0 hD0 hQf in
/-- The gradient of the projection. -/
theorem result0 (s : Fin 4096) (l : Fin 2048) :
    (truncf .bf16 (shapeCast _ ((concatenate S1x4096x2048 2 [⟨S1x4096x512, ((mulf (res_main_v5 V0) (res_main_v217 V0)) : (⟨S1x4096x512, .f32⟩ : BufTy).Contents (Elt Ideal))⟩, ⟨S1x4096x512, ((mulf (res_main_v115 V0) (res_main_v30 V0)) : (⟨S1x4096x512, .f32⟩ : BufTy).Contents (Elt Ideal))⟩, ⟨S1x4096x512, ((mulf (res_main_v217 V0) (res_main_v3 V0)) : (⟨S1x4096x512, .f32⟩ : BufTy).Contents (Elt Ideal))⟩, ⟨S1x4096x512, ((shapeCast _ (addf (addf (addf (addf (Host.negf (res_main_v126 V0)) (pad S1x4096x4x128 ![0, 0, 3, 0] ![0, 0, 0, 0] ![0, 0, 0, 0] (broadcastInDim S1x4096x1x128 ![0, 1, 3] bcast_S1x4096x128_S1x4096x1x128_0_1_3 (Host.reduceWindowAdd ![1, 4096, 1] ![1, 1, 1] ![0, 0, 0] ![0, 4095, 0] (addf (res_main_v139 V0) (extractStridedSlice S1x4096x128 ![0, 16, 0] (res_main_v141 V0) slices_S1x4112x128_S1x4096x128_0_16_0)) (broadcastInDim S_ ![] bcast_S_S_ (constant (F := Ideal) S_ .f32 0x00000000#32)) reduceWindows_S1x4096x128_S1x4096x128_w1s1p0_0_w4096s1p0_4095_w1s1p0_0 h_S_)) (constant (F := Ideal) S_ .f32 0x00000000#32) pads_S1x4096x1x128_S1x4096x4x128_000_000_300_000 h_S_)) (pad S1x4096x4x128 ![0, 0, 2, 0] ![0, 0, 1, 0] ![0, 0, 0, 0] (broadcastInDim S1x4096x1x128 ![0, 1, 3] bcast_S1x4096x128_S1x4096x1x128_0_1_3 (Host.reduceWindowAdd ![1, 4096, 1] ![1, 1, 1] ![0, 0, 0] ![0, 4095, 0] (addf (res_main_v150 V0) (extractStridedSlice S1x4096x128 ![0, 8, 0] (res_main_v152 V0) slices_S1x4104x128_S1x4096x128_0_8_0)) (broadcastInDim S_ ![] bcast_S_S_ (constant (F := Ideal) S_ .f32 0x00000000#32)) reduceWindows_S1x4096x128_S1x4096x128_w1s1p0_0_w4096s1p0_4095_w1s1p0_0 h_S_)) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (Host.reduceWindowAdd ![1, 4096, 1] ![1, 1, 1] ![0, 0, 0] ![0, 4095, 0] (addf (res_main_v161 V0) (extractStridedSlice S1x4096x128 ![0, 4, 0] (res_main_v163 V0) slices_S1x4100x128_S1x4096x128_0_4_0)) (broadcastInDim S_ ![] bcast_S_S_ (constant (F := Ideal) S_ .f32 0x00000000#32)) reduceWindows_S1x4096x128_S1x4096x128_w1s1p0_0_w4096s1p0_4095_w1s1p0_0 h_S_)) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (Host.reduceWindowAdd ![1, 4096, 1] ![1, 1, 1] ![0, 0, 0] ![0, 4095, 0] (addf (res_main_v172 V0) (extractStridedSlice S1x4096x128 ![0, 2, 0] (res_main_v174 V0) slices_S1x4098x128_S1x4096x128_0_2_0)) (broadcastInDim S_ ![] bcast_S_S_ (constant (F := Ideal) S_ .f32 0x00000000#32)) reduceWindows_S1x4096x128_S1x4096x128_w1s1p0_0_w4096s1p0_4095_w1s1p0_0 h_S_)) (constant (F := Ideal) S_ .f32 0x00000000#32) pads_S1x4096x1x128_S1x4096x4x128_000_000_030_000 h_S_)) shapeCasts_S1x4096x4x128_S1x4096x512) : (⟨S1x4096x512, .f32⟩ : BufTy).Contents (Elt Ideal))⟩] concatenates_S1x4096x512_S1x4096x512_S1x4096x512_S1x4096x512_S1x4096x2048_d2 : (⟨S1x4096x2048, .f32⟩ : BufTy).Contents (Elt Ideal))) shapeCasts_S1x4096x2048_S4096x2048) bitsLt_bf16_f32 : FVec Ideal S4096x2048 .bf16) (ix2 s l)
      = dproj P D cw pw ps (16 + s) l := by
  refine four_columns _ _ _ _ (fun s c => dproj P D cw pw ps (16 + s) c) (fun s l => ?_) (fun s l => ?_) (fun s l => ?_) (fun s l => ?_) s l
  · have hl := l.isLt
    pointwise
    rw [gatec_at V0 P hP, dgated_at V0 P D cw hP hD hcw hD0, mul_comm, dproj, if_pos hl]
  · have hl := l.isLt
    pointwise
    rw [gradA_at V0 D hD, conv_at V0 P cw hP hcw hP0, dproj, if_neg (by omega), if_pos (by omega), Nat.add_sub_cancel_left]
  · have hl := l.isLt
    pointwise
    rw [value_at V0 P hP, dgated_at V0 P D cw hP hD hcw hD0, dproj, if_neg (by omega), if_neg (by omega), if_pos (by omega),
      Nat.add_sub_cancel_left]
  · rw [dproj, if_neg (by omega), if_neg (by omega), if_neg (by omega), Nat.add_sub_cancel_left]
    refine four_groups _ _ _ _ _ (fun g s c => dpool D pw ps g (16 + s) c) (fun s l => ?_) (fun s l => ?_) (fun s l => ?_) (fun s l => ?_) s l
    · rw [ahead0_at V0 D pw ps hD hpw hps hD0 hQf, dpool, sub_eq_add_neg, add_comm]
      exact congrArg (_ + ·) (congrArg Neg.neg (dpooled_at V0 D pw ps hD hpw hps s 0 l))
    · rw [ahead1_at V0 D pw ps hD hpw hps hD0 hQf, dpool, sub_eq_add_neg, add_comm]
      exact congrArg (_ + ·) (congrArg Neg.neg (dpooled_at V0 D pw ps hD hpw hps s 1 l))
    · rw [ahead2_at V0 D pw ps hD hpw hps hD0 hQf, dpool, sub_eq_add_neg, add_comm]
      exact congrArg (_ + ·) (congrArg Neg.neg (dpooled_at V0 D pw ps hD hpw hps s 2 l))
    · rw [ahead3_at V0 D pw ps hD hpw hps hD0 hQf, dpool, sub_eq_add_neg, add_comm]
      exact congrArg (_ + ·) (congrArg Neg.neg (dpooled_at V0 D pw ps hD hpw hps s 3 l))

include hP hD hP0 in
/-- The gradient of the convolution's weights. -/
theorem result1 (a : Fin 3) (l : Fin 512) :
    (addf (addf (pad S3x512 ![2, 0] ![0, 0] ![0, 0] (broadcastInDim S1x512 ![1] bcast_S512_S1x512_1 (Host.reduceAdd (shapeCast _ (Host.reduceAdd (mulf (res_main_v24 V0) (res_main_v183 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (res_main_v17 V0) (res_main_v183 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (res_main_v11 V0) (res_main_v183 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_020_000 h_S_) : FVec Ideal S3x512 .f32) (ix2 a l)
      = ∑ s : Fin 4096, dcwRow P D (16 + s) a l := by
  refine three_rows _ _ _ (fun a l => ∑ s : Fin 4096, dcwRow P D (16 + s) a l) (fun l => ?_) (fun l => ?_) (fun l => ?_) a l
  · refine sum_rows _ (fun r => dcwRow P D (16 + r) 0 l) 0 l fun r => ?_
    pointwise
    rw [tap0_at V0 P hP hP0, dconv_at V0 P D hP hD, mul_comm]
    rfl
  · refine sum_rows _ (fun r => dcwRow P D (16 + r) 1 l) 0 l fun r => ?_
    pointwise
    rw [tap1_at V0 P hP hP0, dconv_at V0 P D hP hD, mul_comm]
    rfl
  · refine sum_rows _ (fun r => dcwRow P D (16 + r) 2 l) 0 l fun r => ?_
    pointwise
    rw [tap2_at V0 P hP hP0, dconv_at V0 P D hP hD, mul_comm]
    rfl

include hP hD hps hP0 hPf in
/-- The gradient of the pool's weights. -/
theorem result2 (g : Fin 4) (a b : Fin 128) :
    (transpose S4x128x128 [0, 2, 1] (Host.dotGeneral (φ₁ := .f32) (φ₂ := .f32) dot_S4x128x1x4096_S1x4096x4x128_S4x128x128_23_01_1_3_0_2 none (res_main_v124 V0 : FVec Ideal S4x128x1x4096 .f32) (res_main_v106 V0 : FVec Ideal S1x4096x4x128 .f32)) transposes_S4x128x128_S4x128x128_0_2_1 : FVec Ideal S4x128x128 .f32) (ix3 g a b)
      = ∑ s : Fin 4096, dpwRow P D ps (16 + s) g a b := by
  refine (rows_product _ _ g a b).trans (Finset.sum_congr rfl fun s _ => ?_)
  rw [pooled_at V0 P hP hP0 hPf, scaled_at V0 D ps hD hps, dpwRow]

include hP hD hpw hP0 hPf in
/-- The gradient of the pool's scale. -/
theorem result3 (z : Fin 1) (l : Fin 512) :
    (broadcastInDim S1x512 ![1] bcast_S512_S1x512_1 (Host.reduceAdd (shapeCast _ (Host.reduceAdd (mulf (res_main_v109 V0) (res_main_v116 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_) : FVec Ideal S1x512 .f32) (ix2 z l)
      = ∑ s : Fin 4096, dpsRow P D pw (16 + s) l := by
  refine sum_rows _ (fun r => dpsRow P D pw (16 + r) l) z l fun r => ?_
  pointwise
  rw [mixed_at V0 P pw hP hpw hP0 hPf, gradB_at V0 D hD, mul_comm, dpsRow]

end Cert.ReferenceIdeal.Rows
-- ==== Proof.Finite.lean ====
/- What the precondition says of the arguments: the entries that the pool reads are finite. -/
module

public import proofs.«01_k».proof.Defs
public import proofs.«01_k».proof.Proof.Gen.Pre_pool_finite
public import proofs.«01_k».proof.Proof.Spec
public import Idealize.ShloMosaic.Lib.ReduceAll

@[expose] public section

set_option maxRecDepth 16384

noncomputable section

namespace Cert.Mixer

open Idealize.ShloMosaic Cert.Pre_pool_finite Cert.Pre_pool_finite.Gen

/-- An entry whose magnitude is below infinity is a real number. -/
theorem finite_entry {x : EReal} (h : max x (-x) < ⊤) : ∃ a : ℝ, x = a := by
  induction x with
  | bot => simp at h
  | top => simp at h
  | coe a => exact ⟨a, rfl⟩

/-- The word that the comparison is made with stands for infinity. -/
theorem infinity : (FloatOps.ofBits (F := Ideal) .f32 0x7F800000#32 : EReal) = ⊤ := by
  show Ideal.ofBits .f32 0x7F800000#32 = ⊤
  simp [Ideal.ofBits, Ideal.ieee]

/-- Every entry is below infinity in magnitude, when the conjunction of the comparisons is one. -/
theorem finite_all {s u : Shape} {axes : List (Fin s.rank)} (x : FVec Ideal s .f32) (b : FVec Ideal s .f32)
    (hb : ∀ i, b i = (⊤ : EReal)) (init : IVec u 1) (h : s.ReducesTo axes S_) (hu : 0 < u.numel) (j : S_.Idx)
    (e : Host.reduce IntOp.andi (cmpf .olt (Host.absf x) b) init h hu j = 1#1) (i : s.Idx) : ∃ a : ℝ, x i = (a : EReal) := by
  haveI : Subsingleton S_.Idx := ⟨fun a b => funext fun k => k.elim0⟩
  have e' := Host.reduce_andi_all _ _ _ _ j e i
  refine finite_entry ?_
  have : (BitVec.ofBool (decide (max (x i) (-x i) < b i))) = 1#1 := e'
  rw [hb] at this
  by_contra hn
  rw [decide_eq_false hn] at this
  exact absurd this (by decide)

variable (a0 : FVec Ideal S4096x2048 .f32) (a1 : FVec Ideal S4096x1024 .f32) (a2 : FVec Ideal S3x512 .f32)
  (a3 : FVec Ideal S4x128x128 .bf16) (a4 : FVec Ideal S1x512 .f32)

/-- The precondition of the five arguments. -/
theorem finite_args (h : fn (F := Ideal) a0 a1 a2 a3 a4 = fun _ => 1#1) :
    (∀ (s : Fin 4096) (l : Fin 512), ∃ a : ℝ, a0 (ix2 s ⟨1536 + l.val, by omega⟩) = (a : EReal))
      ∧ (∀ (s : Fin 4096) (l : Fin 512), ∃ a : ℝ, a1 (ix2 s ⟨512 + l.val, by omega⟩) = (a : EReal))
      ∧ (∀ i, ∃ a : ℝ, a3 i = (a : EReal)) ∧ ∀ i, ∃ a : ℝ, a4 i = (a : EReal) := by
  have h' := congrFun h ix0
  simp only [fn, fn_part1] at h'
  obtain ⟨h1, e4⟩ := IntOp.andi_eq_one.1 h'
  obtain ⟨h2, e3⟩ := IntOp.andi_eq_one.1 h1
  obtain ⟨e1, e2⟩ := IntOp.andi_eq_one.1 h2
  refine ⟨fun s l => ?_, fun s l => ?_, fun i => ?_, fun i => ?_⟩
  · have := finite_all _ _ (fun i => infinity) _ _ _ _ e1 (ix2 s l)
    rwa [show extractStridedSlice S4096x512 ![0, 1536] a0 _ (ix2 s l) = a0 (ix2 s ⟨1536 + l.val, by omega⟩) by pointwise] at this
  · have := finite_all _ _ (fun i => infinity) _ _ _ _ e2 (ix2 s l)
    rwa [show extractStridedSlice S4096x512 ![0, 512] a1 _ (ix2 s l) = a1 (ix2 s ⟨512 + l.val, by omega⟩) by pointwise] at this
  · exact finite_all _ _ (fun i => infinity) _ _ _ _ e3 i
  · exact finite_all _ _ (fun i => infinity) _ _ _ _ e4 i

end Cert.Mixer
-- ==== Proof.Equation.lean ====
/- The kernel's results are the reference's. -/
module

public import proofs.«01_k».proof.Proof.AccumConv
public import proofs.«01_k».proof.Proof.AccumPool
public import proofs.«01_k».proof.Proof.Out8
public import proofs.«01_k».proof.Proof.RefOut
public import proofs.«01_k».proof.Proof.Finite
public import proofs.«01_k».proof.Proof.Gen.KernelIdeal.Value

@[expose] public section

set_option maxRecDepth 16384

noncomputable section

namespace Cert.Mixer

open Idealize.ShloMosaic Idealize.SL.Sem Idealize.ShloMosaic.TcCoe Cert.KernelIdeal.Tiles

/-- A finite sum of real numbers is a real number. -/
theorem finite_sum {n : ℕ} (f : Fin n → EReal) (h : ∀ i, ∃ a : ℝ, f i = a) : ∃ a : ℝ, ∑ i, f i = a := by
  choose g hg using h
  refine ⟨∑ i, g i, ?_⟩
  rw [Finset.sum_congr rfl fun i _ => hg i]
  induction n with
  | zero => simp
  | succ n ih =>
    rw [Fin.sum_univ_succ, Fin.sum_univ_succ, EReal.coe_add, ih (fun i => f i.succ) (fun i => g i.succ) fun i => hg i.succ]

/-- A product of real numbers is a real number. -/
theorem finite_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

/-- Rows with zeros around them are finite where the rows are. -/
theorem finite_rows {R C : ℕ} (x : Fin R → Fin C → EReal) (n l : ℕ) (h : ∀ (r : Fin R) (hl : l < C), ∃ a : ℝ, x r ⟨l, hl⟩ = a) :
    ∃ a : ℝ, padRows x n l = a := by
  unfold padRows
  split
  · exact h _ _
  · exact ⟨0, rfl⟩

variable (m : (ℓ : Loc KernelIdeal.nD KernelIdeal.τ KernelIdeal.sig) → Buf (Elt Ideal) ℓ)

/-- The entries that the pool reads are finite. -/
theorem finite_inputs (h : Pre_KernelIdeal_pool_finite m) (c : Dev KernelIdeal.nD) :
    (∀ n l, 1536 ≤ l → ∃ a : ℝ, rowsP m c n l = a)
      ∧ ∀ g n l, ∃ a : ℝ, dpooled (rowsD m c) (poolW m c) (poolS m c) g n l = a := by
  obtain ⟨h0, h1, h3, h4⟩ := finite_args _ _ _ _ _ (h c)
  refine ⟨fun n l hl => finite_rows _ _ _ fun r hl' => ?_, fun g n l => finite_sum _ fun d => finite_mul (finite_mul ?_ ?_) ?_⟩
  · obtain ⟨a, ha⟩ := h0 r ⟨l - 1536, by omega⟩
    refine ⟨a, Eq.trans (congrArg _ ?_) ha⟩
    exact congrArg (ix2 r) (Fin.ext (show l = 1536 + (l - 1536) by omega))
  · refine finite_rows _ _ _ fun r hl' => ?_
    obtain ⟨a, ha⟩ := h1 r ⟨128 * g + d - 0, by omega⟩
    refine ⟨a, Eq.trans (congrArg _ ?_) ha⟩
    exact congrArg (ix2 r) (Fin.ext (show 512 + 128 * g + d.val = 512 + (128 * g + d.val - 0) by omega))
  · unfold poolS table2
    split
    · exact h4 _
    · exact ⟨0, rfl⟩
  · unfold poolW table3
    split
    · exact h3 _
    · exact ⟨0, rfl⟩

variable (m' : (ℓ : Loc ReferenceIdeal.nD ReferenceIdeal.τ ReferenceIdeal.sig) → Buf (Elt Ideal) ℓ) (c : Dev KernelIdeal.nD)

/-- The gradient of the projection. -/
def out0 : KernelIdeal.S4096x2048.Idx → EReal := fun y => gradP m c (16 + (y 0).val) (y 1).val

/-- The gradient of the convolution's weights. -/
def out1 : KernelIdeal.S3x512.Idx → EReal := fun y =>
  ∑ s : Fin 4096, dcwRow (rowsP m c) (rowsD m c) (16 + s) (y 0).val (y 1).val

/-- The gradient of the pool's weights. -/
def out2 : KernelIdeal.S4x128x128.Idx → EReal := fun y =>
  ∑ s : Fin 4096, dpwRow (rowsP m c) (rowsD m c) (poolS m c) (16 + s) (y 0).val (y 1).val (y 2).val

/-- The gradient of the pool's scale. -/
def out3 : KernelIdeal.S1x512.Idx → EReal := fun y =>
  ∑ s : Fin 4096, dpsRow (rowsP m c) (rowsD m c) (poolW m c) (16 + s) (y 1).val

variable (ρ' : Dev ReferenceIdeal.nD → PrngReg)

open Cert.ReferenceIdeal Cert.ReferenceIdeal.Rows in
/-- The reference ends with those results. -/
theorem reference_run (h : Pre_KernelIdeal_pool_finite m)
    (ha : ∀ c : Dev KernelIdeal.nD,
      m' ((c.tc : Thread nD τ).loc main_arg0) = m ((c.tc : Thread KernelIdeal.nD KernelIdeal.τ).loc KernelIdeal.main_arg0)
      ∧ m' ((c.tc : Thread nD τ).loc main_arg1) = m ((c.tc : Thread KernelIdeal.nD KernelIdeal.τ).loc KernelIdeal.main_arg1)
      ∧ m' ((c.tc : Thread nD τ).loc main_arg2) = m ((c.tc : Thread KernelIdeal.nD KernelIdeal.τ).loc KernelIdeal.main_arg2)
      ∧ m' ((c.tc : Thread nD τ).loc main_arg3) = m ((c.tc : Thread KernelIdeal.nD KernelIdeal.τ).loc KernelIdeal.main_arg3)
      ∧ m' ((c.tc : Thread nD τ).loc main_arg4) = m ((c.tc : Thread KernelIdeal.nD KernelIdeal.τ).loc KernelIdeal.main_arg4)) :
    θ_run (defs (F := Ideal)) (onTc (τ := τ) (main (F := Ideal))) ⟨m', fun _ => 0, ρ'⟩ fun r => ∀ c : Dev nD,
      r.2.mem ((c.tc : Thread nD τ).loc main_v222) = out0 m c
      ∧ r.2.mem ((c.tc : Thread nD τ).loc main_v213) = out1 m c
      ∧ r.2.mem ((c.tc : Thread nD τ).loc main_v128) = out2 m c
      ∧ r.2.mem ((c.tc : Thread nD τ).loc main_v223) = out3 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run (defs (F := Ideal)) _ _).mono (fun r hr c => ?_) (Value.run (F := Ideal) m' ρ')
  obtain ⟨hPf, hQf⟩ := finite_inputs m h c
  obtain ⟨h0, h1, h2, h3, hk⟩ := hr c
  have hP : ∀ (r : Fin 4096) (l : Fin 2048), (StableHlo.launchContents m' c (Proc.devRef .tc main_arg0) : FVec Ideal S4096x2048 .f32) (ix2 r l)
      = rowsP m c (16 + r) l := fun r l => by
    rw [rowsP, padRows_row _ r l _ _ rfl rfl]
    exact congrFun (ha c).1 (ix2 r l)
  have hD : ∀ (r : Fin 4096) (l : Fin 1024), (StableHlo.launchContents m' c (Proc.devRef .tc main_arg1) : FVec Ideal S4096x1024 .f32) (ix2 r l)
      = rowsD m c (16 + r) l := fun r l => by
    rw [rowsD, padRows_row _ r l _ _ rfl rfl]
    exact congrFun (ha c).2.1 (ix2 r l)
  have hcw : ∀ (a : Fin 3) (l : Fin 512), (StableHlo.launchContents m' c (Proc.devRef .tc main_arg2) : FVec Ideal S3x512 .f32) (ix2 a l)
      = convW m c a l := fun a l => by
    rw [convW, table2_at _ a l]
    exact congrFun (ha c).2.2.1 (ix2 a l)
  have hpw : ∀ (g : Fin 4) (a b : Fin 128), (StableHlo.launchContents m' c (Proc.devRef .tc main_arg3) : FVec Ideal S4x128x128 .bf16) (ix3 g a b)
      = poolW m c g a b := fun g a b => by
    rw [poolW, table3_at _ g a b]
    exact congrFun (ha c).2.2.2.1 (ix3 g a b)
  have hps : ∀ (l : Fin 512), (StableHlo.launchContents m' c (Proc.devRef .tc main_arg4) : FVec Ideal S1x512 .f32) (ix2 0 l)
      = poolS m c l := fun l =>
    (congrFun (ha c).2.2.2.2 (ix2 0 l)).trans (table2_at (fun (a : Fin 1) (l : Fin 512) => (m ((c.tc : Thread KernelIdeal.nD KernelIdeal.τ).loc KernelIdeal.main_arg4) : FVec Ideal S1x512 .f32) (ix2 a l)) 0 l).symm
  have hP0 : ∀ n l, n < 16 ∨ 4112 ≤ n → rowsP m c n l = 0 := fun n l hn => padRows_out _ n l hn
  have hD0 : ∀ n l, n < 16 ∨ 4112 ≤ n → rowsD m c n l = 0 := fun n l hn => padRows_out _ n l hn
  refine ⟨h0.trans (funext fun y => ?_), h1.trans (funext fun y => ?_), h2.trans (funext fun y => ?_), h3.trans (funext fun y => ?_), hk⟩
  · obtain ⟨s, l, rfl⟩ : ∃ (s : Fin 4096) (l : Fin 2048), y = ix2 s l := ⟨_, _, eq_ix2 y⟩
    exact result0 _ _ _ _ _ _ hP hD hcw hpw hps hP0 hD0 hQf s l
  · obtain ⟨a, l, rfl⟩ : ∃ (a : Fin 3) (l : Fin 512), y = ix2 a l := ⟨_, _, eq_ix2 y⟩
    exact result1 _ _ _ hP hD hP0 a l
  · obtain ⟨g, a, b, rfl⟩ : ∃ (g : Fin 4) (a b : Fin 128), y = ix3 g a b := ⟨_, _, _, eq_ix3 y⟩
    exact result2 _ _ _ _ hP hD hps hP0 hPf g a b
  · obtain ⟨z, l, rfl⟩ : ∃ (z : Fin 1) (l : Fin 512), y = ix2 z l := ⟨_, _, eq_ix2 y⟩
    exact result3 _ _ _ _ hP hD hpw hP0 hPf z l

end Cert.Mixer
-- ==== Proof.lean ====
/- The claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pool_finite
public import proofs.«01_k».proof.Proof.Gen.KernelIdeal.Value
public import proofs.«01_k».proof.Proof.Gen.ReferenceIdeal.Run
public import proofs.«01_k».proof.Proof.Gen.FfnDx.Frame
public import proofs.«01_k».proof.Proof.Gen.FfnDwUp.Frame
public import proofs.«01_k».proof.Proof.Gen.FfnDwDown.Frame
public import proofs.«01_k».proof.Proof.Gen.FfnDact.Frame
public import proofs.«01_k».proof.Proof.Gen.EvenDx.Frame
public import proofs.«01_k».proof.Proof.Gen.EvenDxIdeal.Value
public import proofs.«01_k».proof.Proof.Gen.EvenDxRefIdeal.Run
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.OddDx.Frame
public import proofs.«01_k».proof.Proof.Gen.OddDxIdeal.Value
public import proofs.«01_k».proof.Proof.Gen.OddDxRefIdeal.Run
public import proofs.«01_k».proof.Proof.Gen.EvenDwIn.Frame
public import proofs.«01_k».proof.Proof.Gen.EvenDwInIdeal.Value
public import proofs.«01_k».proof.Proof.Gen.EvenDwInRefIdeal.Run
public import proofs.«01_k».proof.Proof.Gen.OddDwQkv.Frame
public import proofs.«01_k».proof.Proof.Gen.OddDwQkvIdeal.Value
public import proofs.«01_k».proof.Proof.Gen.OddDwQkvRefIdeal.Run
public import proofs.«01_k».proof.Proof.Gen.DwOut.Frame
public import proofs.«01_k».proof.Proof.Gen.DwOutIdeal.Value
public import proofs.«01_k».proof.Proof.Gen.DwOutRefIdeal.Run
public import proofs.«01_k».proof.Proof.Gen.EvenDmix.Frame
public import proofs.«01_k».proof.Proof.Gen.EvenDmixIdeal.Value
public import proofs.«01_k».proof.Proof.Gen.EvenDmixRefIdeal.Run
public import proofs.«01_k».proof.Proof.Gen.OddDatt.Frame
public import proofs.«01_k».proof.Proof.Gen.OddDattIdeal.Value
public import proofs.«01_k».proof.Proof.Gen.OddDattRefIdeal.Run
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.OddQkv.Frame
public import proofs.«01_k».proof.Proof.Gen.OddQkvIdeal.Value
public import proofs.«01_k».proof.Proof.Gen.OddQkvRefIdeal.Run
public import proofs.«01_k».proof.Proof.OddQkvValue
public import proofs.«01_k».proof.Proof.Gen.OutNorm.Frame
public import proofs.«01_k».proof.Proof.Gen.OutNormIdeal.Value
public import proofs.«01_k».proof.Proof.Gen.OutNormRefIdeal.Run
public import proofs.«01_k».proof.Proof.Gen.FfnLoss.Frame
public import proofs.«01_k».proof.Proof.Gen.FfnLossIdeal.Value
public import proofs.«01_k».proof.Proof.Gen.FfnLossRefIdeal.Run
public import proofs.«01_k».proof.Proof.DxValue
public import proofs.«01_k».proof.Proof.DwUpValue
public import proofs.«01_k».proof.Proof.DwDownValue
public import proofs.«01_k».proof.Proof.DactValue
public import proofs.«01_k».proof.Proof.EvenDxValue
public import proofs.«01_k».proof.Proof.UpValue
public import proofs.«01_k».proof.Proof.OddDxValue
public import proofs.«01_k».proof.Proof.DwInValue
public import proofs.«01_k».proof.Proof.DwQkvValue
public import proofs.«01_k».proof.Proof.DwOutValue
public import proofs.«01_k».proof.Proof.DmixValue
public import proofs.«01_k».proof.Proof.DownValue
public import proofs.«01_k».proof.Proof.OutValue
public import proofs.«01_k».proof.Proof.LossValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's arguments end unchanged and its counters at zero. -/
theorem kernel_frame : Cert.quiescent_Kernel (hKernel := Cert.Kernel.Gen.facts) := fun m ρ _ => Cert.Kernel.Gen.frame m ρ

/-- So do the idealized kernel's. -/
theorem ideal_frame : Cert.quiescent_KernelIdeal (hKernelIdeal := Cert.KernelIdeal.Gen.facts) := fun m ρ _ => Cert.KernelIdeal.Gen.frame m ρ

/-- So do the reference's, from any memory. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run (F := Ideal) m ρ)

/-- The kernel and the reference end with equal results where the entries that the pool reads are finite. -/
theorem equal_results : Cert.algebraic_KernelIdeal_ReferenceIdeal_pre_pool_finite (hKernelIdeal := Cert.KernelIdeal.Gen.facts)
    (hReferenceIdeal := Cert.ReferenceIdeal.Gen.facts) (hPre_pool_finite := Cert.Pre_pool_finite.Gen.facts) := fun m ρ m' ρ' h ha => by
  refine ⟨Cert.Mixer.out0 m, Cert.Mixer.out1 m, Cert.Mixer.out2 m, Cert.Mixer.out3 m, ?_, Cert.Mixer.reference_run m m' ρ' h ha⟩
  refine (θ_run (Cert.KernelIdeal.defs (F := Ideal)) _ _).mono (fun r hr c => ?_) (Cert.KernelIdeal.Value.run_blocks (F := Ideal) m ρ)
  obtain ⟨h0, h1, h2, h3, hk⟩ := hr c
  exact ⟨h0.trans (Cert.KernelIdeal.Tiles.result8 m c), h1.trans (Cert.KernelIdeal.Tiles.result9 m c),
    h2.trans (Cert.KernelIdeal.Tiles.result10 m c), h3.trans (Cert.KernelIdeal.Tiles.result11 m c), hk⟩

/-- The reference of the gradient through the up projection ends with its arguments unchanged and its counters at zero. -/
theorem dx_reference_frame : Cert.quiescent_FfnDxRefIdeal (hFfnDxRefIdeal := Cert.FfnDxRefIdeal.Gen.facts) := fun m ρ _ =>
  (θ_run (Cert.FfnDxRefIdeal.defs (F := Ideal)) _ _).mono (fun r h => ⟨fun c => (h c).2.2.2, Idealize.ShloMosaic.sem_eq_zero_of_no_sems (by decide) r.2⟩)
    (Cert.FfnDxRefIdeal.Value.run (F := Ideal) m ρ)

/-- So does that of the up projection's weights. -/
theorem dwup_reference_frame : Cert.quiescent_FfnDwUpRefIdeal (hFfnDwUpRefIdeal := Cert.FfnDwUpRefIdeal.Gen.facts) := fun m ρ _ =>
  (θ_run (Cert.FfnDwUpRefIdeal.defs (F := Ideal)) _ _).mono (fun r h => ⟨fun c => (h c).2, Idealize.ShloMosaic.sem_eq_zero_of_no_sems (by decide) r.2⟩)
    (Cert.FfnDwUpRefIdeal.Value.run (F := Ideal) m ρ)

/-- So does that of the down projection's weights. -/
theorem dwdown_reference_frame : Cert.quiescent_FfnDwDownRefIdeal (hFfnDwDownRefIdeal := Cert.FfnDwDownRefIdeal.Gen.facts) := fun m ρ _ =>
  (θ_run (Cert.FfnDwDownRefIdeal.defs (F := Ideal)) _ _).mono (fun r h => ⟨fun c => (h c).2, Idealize.ShloMosaic.sem_eq_zero_of_no_sems (by decide) r.2⟩)
    (Cert.FfnDwDownRefIdeal.Value.run (F := Ideal) m ρ)

/-- So does that of the gradient through the down projection. -/
theorem dact_reference_frame : Cert.quiescent_FfnDactRefIdeal (hFfnDactRefIdeal := Cert.FfnDactRefIdeal.Gen.facts) := fun m ρ _ =>
  (θ_run (Cert.FfnDactRefIdeal.defs (F := Ideal)) _ _).mono (fun r h => ⟨fun c => (h c).2, Idealize.ShloMosaic.sem_eq_zero_of_no_sems (by decide) r.2⟩)
    (Cert.FfnDactRefIdeal.Value.run (F := Ideal) m ρ)

/-- So does that of the gradient through the even layers' projection. -/
theorem even_reference_frame : Cert.quiescent_EvenDxRefIdeal (hEvenDxRefIdeal := Cert.EvenDxRefIdeal.Gen.facts) := fun m ρ _ =>
  (θ_run (Cert.EvenDxRefIdeal.defs (F := Ideal)) _ _).mono (fun r h => ⟨fun c => (h c).2.2.2, Idealize.ShloMosaic.sem_eq_zero_of_no_sems (by decide) r.2⟩)
    (Cert.EvenDxRefIdeal.Value.run (F := Ideal) m ρ)

/-- So does that of the feed-forward's first half. -/
theorem up_reference_frame : Cert.quiescent_FfnUpRefIdeal (hFfnUpRefIdeal := Cert.FfnUpRefIdeal.Gen.facts) := fun m ρ _ =>
  (θ_run (Cert.FfnUpRefIdeal.defs (F := Ideal)) _ _).mono (fun r h => ⟨fun c => (h c).2.2.2.2.2, Idealize.ShloMosaic.sem_eq_zero_of_no_sems (by decide) r.2⟩)
    (Cert.FfnUpRefIdeal.Value.run (F := Ideal) m ρ)

/-- So does that of the gradient through the odd layers' projection. -/
theorem odd_dx_reference_frame : Cert.quiescent_OddDxRefIdeal (hOddDxRefIdeal := Cert.OddDxRefIdeal.Gen.facts) := fun m ρ _ =>
  (θ_run (Cert.OddDxRefIdeal.defs (F := Ideal)) _ _).mono (fun r h => ⟨fun c => (h c).2.2.2, Idealize.ShloMosaic.sem_eq_zero_of_no_sems (by decide) r.2⟩)
    (Cert.OddDxRefIdeal.Value.run (F := Ideal) m ρ)

/-- So does that of the gradient of the even layers' input projection. -/
theorem dw_in_reference_frame : Cert.quiescent_EvenDwInRefIdeal (hEvenDwInRefIdeal := Cert.EvenDwInRefIdeal.Gen.facts) := fun m ρ _ =>
  (θ_run (Cert.EvenDwInRefIdeal.defs (F := Ideal)) _ _).mono (fun r h => ⟨fun c => (h c).2, Idealize.ShloMosaic.sem_eq_zero_of_no_sems (by decide) r.2⟩)
    (Cert.EvenDwInRefIdeal.Value.run (F := Ideal) m ρ)

/-- So does that of the gradient of the odd layers' joint projection. -/
theorem dw_qkv_reference_frame : Cert.quiescent_OddDwQkvRefIdeal (hOddDwQkvRefIdeal := Cert.OddDwQkvRefIdeal.Gen.facts) := fun m ρ _ =>
  (θ_run (Cert.OddDwQkvRefIdeal.defs (F := Ideal)) _ _).mono (fun r h => ⟨fun c => (h c).2, Idealize.ShloMosaic.sem_eq_zero_of_no_sems (by decide) r.2⟩)
    (Cert.OddDwQkvRefIdeal.Value.run (F := Ideal) m ρ)

/-- So does that of the gradient of the layers' output projection. -/
theorem dw_out_reference_frame : Cert.quiescent_DwOutRefIdeal (hDwOutRefIdeal := Cert.DwOutRefIdeal.Gen.facts) := fun m ρ _ =>
  (θ_run (Cert.DwOutRefIdeal.defs (F := Ideal)) _ _).mono (fun r h => ⟨fun c => (h c).2, Idealize.ShloMosaic.sem_eq_zero_of_no_sems (by decide) r.2⟩)
    (Cert.DwOutRefIdeal.Value.run (F := Ideal) m ρ)

/-- So does that of the gradient through the even layers' output projection. -/
theorem dmix_reference_frame : Cert.quiescent_EvenDmixRefIdeal (hEvenDmixRefIdeal := Cert.EvenDmixRefIdeal.Gen.facts) := fun m ρ _ =>
  (θ_run (Cert.EvenDmixRefIdeal.defs (F := Ideal)) _ _).mono (fun r h => ⟨fun c => (h c).2, Idealize.ShloMosaic.sem_eq_zero_of_no_sems (by decide) r.2⟩)
    (Cert.EvenDmixRefIdeal.Value.run (F := Ideal) m ρ)

/-- So does that of the gradient through the odd layers' output projection. -/
theorem datt_reference_frame : Cert.quiescent_OddDattRefIdeal (hOddDattRefIdeal := Cert.OddDattRefIdeal.Gen.facts) := fun m ρ _ =>
  (θ_run (Cert.OddDattRefIdeal.defs (F := Ideal)) _ _).mono (fun r h => ⟨fun c => (h c).2, Idealize.ShloMosaic.sem_eq_zero_of_no_sems (by decide) r.2⟩)
    (Cert.OddDattRefIdeal.Value.run (F := Ideal) m ρ)

/-- So does that of the down projection and the norm after it. -/
theorem down_reference_frame : Cert.quiescent_FfnDownRefIdeal (hFfnDownRefIdeal := Cert.FfnDownRefIdeal.Gen.facts) := fun m ρ _ =>
  (θ_run (Cert.FfnDownRefIdeal.defs (F := Ideal)) _ _).mono (fun r h => ⟨fun c => (h c).2.2, Idealize.ShloMosaic.sem_eq_zero_of_no_sems (by decide) r.2⟩)
    (Cert.FfnDownRefIdeal.Value.run (F := Ideal) m ρ)

/-- So does that of the output projection and the norm after it. -/
theorem out_norm_reference_frame : Cert.quiescent_OutNormRefIdeal (hOutNormRefIdeal := Cert.OutNormRefIdeal.Gen.facts) := fun m ρ _ =>
  (θ_run (Cert.OutNormRefIdeal.defs (F := Ideal)) _ _).mono (fun r h => ⟨fun c => (h c).2.2, Idealize.ShloMosaic.sem_eq_zero_of_no_sems (by decide) r.2⟩)
    (Cert.OutNormRefIdeal.Value.run (F := Ideal) m ρ)

/-- So does that of the last down projection and the loss. -/
theorem loss_reference_frame : Cert.quiescent_FfnLossRefIdeal (hFfnLossRefIdeal := Cert.FfnLossRefIdeal.Gen.facts) := fun m ρ _ =>
  (θ_run (Cert.FfnLossRefIdeal.defs (F := Ideal)) _ _).mono (fun r h => ⟨fun c => (h c).2.2.2, Idealize.ShloMosaic.sem_eq_zero_of_no_sems (by decide) r.2⟩)
    (Cert.FfnLossRefIdeal.Value.run (F := Ideal) m ρ)

/-- So does that of the odd layers' joint projection and its heads' norms. -/
theorem qkv_reference_frame : Cert.quiescent_OddQkvRefIdeal (hOddQkvRefIdeal := Cert.OddQkvRefIdeal.Gen.facts) := fun m ρ _ =>
  (θ_run (Cert.OddQkvRefIdeal.defs (F := Ideal)) _ _).mono (fun r h => ⟨fun c => (h c).2.2, Idealize.ShloMosaic.sem_eq_zero_of_no_sems (by decide) r.2⟩)
    (Cert.OddQkvRefIdeal.Value.run (F := Ideal) m ρ)

/-- Every claim of the certificate. -/
theorem claim : Cert.Claim := ⟨Cert.Kernel.Gen.facts, Cert.KernelIdeal.Gen.facts, Cert.ReferenceIdeal.Gen.facts,
  Cert.FfnDx.Gen.facts, Cert.FfnDxIdeal.Gen.facts, Cert.FfnDxRefIdeal.Gen.facts, Cert.FfnDwUp.Gen.facts, Cert.FfnDwUpIdeal.Gen.facts, Cert.FfnDwUpRefIdeal.Gen.facts,
  Cert.FfnDwDown.Gen.facts, Cert.FfnDwDownIdeal.Gen.facts, Cert.FfnDwDownRefIdeal.Gen.facts, Cert.FfnDact.Gen.facts, Cert.FfnDactIdeal.Gen.facts, Cert.FfnDactRefIdeal.Gen.facts,
  Cert.EvenDx.Gen.facts, Cert.EvenDxIdeal.Gen.facts, Cert.EvenDxRefIdeal.Gen.facts, Cert.FfnUp.Gen.facts, Cert.FfnUpIdeal.Gen.facts, Cert.FfnUpRefIdeal.Gen.facts,
  Cert.OddDx.Gen.facts, Cert.OddDxIdeal.Gen.facts, Cert.OddDxRefIdeal.Gen.facts,
  Cert.EvenDwIn.Gen.facts, Cert.EvenDwInIdeal.Gen.facts, Cert.EvenDwInRefIdeal.Gen.facts,
  Cert.OddDwQkv.Gen.facts, Cert.OddDwQkvIdeal.Gen.facts, Cert.OddDwQkvRefIdeal.Gen.facts,
  Cert.DwOut.Gen.facts, Cert.DwOutIdeal.Gen.facts, Cert.DwOutRefIdeal.Gen.facts,
  Cert.EvenDmix.Gen.facts, Cert.EvenDmixIdeal.Gen.facts, Cert.EvenDmixRefIdeal.Gen.facts,
  Cert.OddDatt.Gen.facts, Cert.OddDattIdeal.Gen.facts, Cert.OddDattRefIdeal.Gen.facts,
  Cert.FfnDown.Gen.facts, Cert.FfnDownIdeal.Gen.facts, Cert.FfnDownRefIdeal.Gen.facts,
  Cert.OutNorm.Gen.facts, Cert.OutNormIdeal.Gen.facts, Cert.OutNormRefIdeal.Gen.facts,
  Cert.FfnLoss.Gen.facts, Cert.FfnLossIdeal.Gen.facts, Cert.FfnLossRefIdeal.Gen.facts,
  Cert.OddQkv.Gen.facts, Cert.OddQkvIdeal.Gen.facts, Cert.OddQkvRefIdeal.Gen.facts,
  Cert.Pre_pool_finite.Gen.facts,
  kernel_frame, ideal_frame, fun m ρ _ => ideal_frame m ρ trivial, reference_frame, fun m ρ _ => reference_frame m ρ trivial,
  fun m ρ _ => Cert.FfnDx.Gen.frame m ρ, fun m ρ _ => Cert.FfnDxIdeal.Gen.frame m ρ, dx_reference_frame,
  fun m ρ _ => Cert.FfnDwUp.Gen.frame m ρ, fun m ρ _ => Cert.FfnDwUpIdeal.Gen.frame m ρ, dwup_reference_frame,
  fun m ρ _ => Cert.FfnDwDown.Gen.frame m ρ, fun m ρ _ => Cert.FfnDwDownIdeal.Gen.frame m ρ, dwdown_reference_frame,
  fun m ρ _ => Cert.FfnDact.Gen.frame m ρ, fun m ρ _ => Cert.FfnDactIdeal.Gen.frame m ρ, dact_reference_frame,
  fun m ρ _ => Cert.EvenDx.Gen.frame m ρ, fun m ρ _ => Cert.EvenDxIdeal.Gen.frame m ρ, even_reference_frame,
  fun m ρ _ => Cert.FfnUp.Gen.frame m ρ, fun m ρ _ => Cert.FfnUpIdeal.Gen.frame m ρ, up_reference_frame,
  fun m ρ _ => Cert.OddDx.Gen.frame m ρ, fun m ρ _ => Cert.OddDxIdeal.Gen.frame m ρ, odd_dx_reference_frame,
  fun m ρ _ => Cert.EvenDwIn.Gen.frame m ρ, fun m ρ _ => Cert.EvenDwInIdeal.Gen.frame m ρ, dw_in_reference_frame,
  fun m ρ _ => Cert.OddDwQkv.Gen.frame m ρ, fun m ρ _ => Cert.OddDwQkvIdeal.Gen.frame m ρ, dw_qkv_reference_frame,
  fun m ρ _ => Cert.DwOut.Gen.frame m ρ, fun m ρ _ => Cert.DwOutIdeal.Gen.frame m ρ, dw_out_reference_frame,
  fun m ρ _ => Cert.EvenDmix.Gen.frame m ρ, fun m ρ _ => Cert.EvenDmixIdeal.Gen.frame m ρ, dmix_reference_frame,
  fun m ρ _ => Cert.OddDatt.Gen.frame m ρ, fun m ρ _ => Cert.OddDattIdeal.Gen.frame m ρ, datt_reference_frame,
  fun m ρ _ => Cert.FfnDown.Gen.frame m ρ, fun m ρ _ => Cert.FfnDownIdeal.Gen.frame m ρ, down_reference_frame,
  fun m ρ _ => Cert.OutNorm.Gen.frame m ρ, fun m ρ _ => Cert.OutNormIdeal.Gen.frame m ρ, out_norm_reference_frame,
  fun m ρ _ => Cert.FfnLoss.Gen.frame m ρ, fun m ρ _ => Cert.FfnLossIdeal.Gen.frame m ρ, loss_reference_frame,
  fun m ρ _ => Cert.OddQkv.Gen.frame m ρ, fun m ρ _ => Cert.OddQkvIdeal.Gen.frame m ρ, qkv_reference_frame,
  trivial, equal_results, trivial, Cert.FfnDxIdeal.Value.equal_results, trivial, Cert.FfnDwUpIdeal.Value.equal_results,
  trivial, Cert.FfnDwDownIdeal.Value.equal_results, trivial, Cert.FfnDactIdeal.Value.equal_results,
  trivial, Cert.EvenDxIdeal.Value.equal_results, trivial, Cert.FfnUpIdeal.Value.equal_results,
  trivial, Cert.OddDxIdeal.Value.equal_results, trivial, Cert.EvenDwInIdeal.Value.equal_results,
  trivial, Cert.OddDwQkvIdeal.Value.equal_results, trivial, Cert.DwOutIdeal.Value.equal_results,
  trivial, Cert.EvenDmixIdeal.Value.equal_results, trivial, Cert.OddDattIdeal.Value.equal_results,
  trivial, Cert.FfnDownIdeal.Value.equal_results, trivial, Cert.OutNormIdeal.Value.equal_results,
  trivial, Cert.FfnLossIdeal.Value.equal_results, trivial, Cert.OddQkvIdeal.Value.equal_results⟩

end Cert.Proof

end
